-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite2 [hPre_finite2 : Cert.Pre_finite2.Facts] (m : (ℓ : Loc Cert.AttnIdeal.nD Cert.AttnIdeal.τ Cert.AttnIdeal.sig) → Buf (Elt Ideal) ℓ) : Prop :=
  ∀ c : Dev Cert.AttnIdeal.nD,
    (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.1 = (fun _ => 1#1)
    ∧ (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.1 = (fun _ => 1#1)
    ∧ (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.2.1 = (fun _ => 1#1)
    ∧ (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite2 [hPre_finite2 : Cert.Pre_finite2.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.1 = (fun _ => 1#1)
    ∧ (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.1 = (fun _ => 1#1)
    ∧ (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.2.1 = (fun _ => 1#1)
    ∧ (Cert.Pre_finite2.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2.2.2 = (fun _ => 1#1)

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_BwdMid (m : (ℓ : Loc Cert.BwdMid.nD Cert.BwdMid.τ Cert.BwdMid.sig) → Buf (Elt Bits) ℓ) : Prop :=
  True

def Pre_BwdMidIdeal (m : (ℓ : Loc Cert.BwdMidIdeal.nD Cert.BwdMidIdeal.τ Cert.BwdMidIdeal.sig) → Buf (Elt Ideal) ℓ) : Prop :=
  True

def Pre_BwdMidRefIdeal (m : (ℓ : Loc Cert.BwdMidRefIdeal.nD Cert.BwdMidRefIdeal.τ Cert.BwdMidRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite2 [hAttnIdeal : Cert.AttnIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite2 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite2 [hAttnRefIdeal : Cert.AttnRefIdeal.Facts] [hPre_finite2 : Cert.Pre_finite2.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite2 m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6)
      ∧ r.2.mem ((c.tc : Thread Cert.BwdIn.nD Cert.BwdIn.τ).loc Cert.BwdIn.main_arg7) = m ((c.tc : Thread Cert.BwdIn.nD Cert.BwdIn.τ).loc Cert.BwdIn.main_arg7)
      ∧ r.2.mem ((c.tc : Thread Cert.BwdIn.nD Cert.BwdIn.τ).loc Cert.BwdIn.main_arg8) = m ((c.tc : Thread Cert.BwdIn.nD Cert.BwdIn.τ).loc Cert.BwdIn.main_arg8)
      ∧ r.2.mem ((c.tc : Thread Cert.BwdIn.nD Cert.BwdIn.τ).loc Cert.BwdIn.main_arg9) = m ((c.tc : Thread Cert.BwdIn.nD Cert.BwdIn.τ).loc Cert.BwdIn.main_arg9)
      ∧ r.2.mem ((c.tc : Thread Cert.BwdIn.nD Cert.BwdIn.τ).loc Cert.BwdIn.main_arg10) = m ((c.tc : Thread Cert.BwdIn.nD Cert.BwdIn.τ).loc Cert.BwdIn.main_arg10))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
      ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
      ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
      ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5)
      ∧ r.2.mem ((c.tc : Thread Cert.BwdInRefIdeal.nD Cert.BwdInRefIdeal.τ).loc Cert.BwdInRefIdeal.main_arg6) = m ((c.tc : Thread Cert.BwdInRefIdeal.nD Cert.BwdInRefIdeal.τ).loc Cert.BwdInRefIdeal.main_arg6)
      ∧ r.2.mem ((c.tc : Thread Cert.BwdInRefIdeal.nD Cert.BwdInRefIdeal.τ).loc Cert.BwdInRefIdeal.main_arg7) = m ((c.tc : Thread Cert.BwdInRefIdeal.nD Cert.BwdInRefIdeal.τ).loc Cert.BwdInRefIdeal.main_arg7)
      ∧ r.2.mem ((c.tc : Thread Cert.BwdInRefIdeal.nD Cert.BwdInRefIdeal.τ).loc Cert.BwdInRefIdeal.main_arg8) = m ((c.tc : Thread Cert.BwdInRefIdeal.nD Cert.BwdInRefIdeal.τ).loc Cert.BwdInRefIdeal.main_arg8)
      ∧ r.2.mem ((c.tc : Thread Cert.BwdInRefIdeal.nD Cert.BwdInRefIdeal.τ).loc Cert.BwdInRefIdeal.main_arg9) = m ((c.tc : Thread Cert.BwdInRefIdeal.nD Cert.BwdInRefIdeal.τ).loc Cert.BwdInRefIdeal.main_arg9)
      ∧ r.2.mem ((c.tc : Thread Cert.BwdInRefIdeal.nD Cert.BwdInRefIdeal.τ).loc Cert.BwdInRefIdeal.main_arg10) = m ((c.tc : Thread Cert.BwdInRefIdeal.nD Cert.BwdInRefIdeal.τ).loc Cert.BwdInRefIdeal.main_arg10))
      ∧ r.2.sem = fun _ => 0)

def quiescent_BwdMid [hBwdMid : Cert.BwdMid.Facts] : Prop :=
  ∀ (m : (ℓ : Loc Cert.BwdMid.nD Cert.BwdMid.τ Cert.BwdMid.sig) → Buf (Elt Bits) ℓ) (g : Dev Cert.BwdMid.nD → PrngReg), Pre_BwdMid m →
    θ_run (Cert.BwdMid.defs (F := Bits)) (onTc (τ := Cert.BwdMid.τ) (Cert.BwdMid.main (F := Bits))) ⟨m, fun _ => 0, g⟩ (fun r => (∀ c : Dev Cert.BwdMid.nD,
      r.2.mem ((c.tc : Thread Cert.BwdMid.nD Cert.BwdMid.τ).loc Cert.BwdMid.main_arg0) = m ((c.tc : Thread Cert.BwdMid.nD Cert.BwdMid.τ).loc Cert.BwdMid.main_arg0)
      ∧ r.2.mem ((c.tc : Thread Cert.BwdMid.nD Cert.BwdMid.τ).loc Cert.BwdMid.main_arg1) = m ((c.tc : Thread Cert.BwdMid.nD Cert.BwdMid.τ).loc Cert.BwdMid.main_arg1)
      ∧ r.2.mem ((c.tc : Thread Cert.BwdMid.nD Cert.BwdMid.τ).loc Cert.BwdMid.main_arg2) = m ((c.tc : Thread Cert.BwdMid.nD Cert.BwdMid.τ).loc Cert.BwdMid.main_arg2)
      ∧ r.2.mem ((c.tc : Thread Cert.BwdMid.nD Cert.BwdMid.τ).loc Cert.BwdMid.main_arg3) = m ((c.tc : Thread Cert.BwdMid.nD Cert.BwdMid.τ).loc Cert.BwdMid.main_arg3)
      ∧ r.2.mem ((c.tc : Thread Cert.BwdMid.nD Cert.BwdMid.τ).loc Cert.BwdMid.main_arg4) = m ((c.tc : Thread Cert.BwdMid.nD Cert.BwdMid.τ).loc Cert.BwdMid.main_arg4)
      ∧ r.2.mem ((c.tc : Thread Cert.BwdMid.nD Cert.BwdMid.τ).loc Cert.BwdMid.main_arg5) = m ((c.tc : Thread Cert.BwdMid.nD Cert.BwdMid.τ).loc Cert.BwdMid.main_arg5)
      ∧ r.2.mem ((c.tc : Thread Cert.BwdMid.nD Cert.BwdMid.τ).loc Cert.BwdMid.main_arg6) = m ((c.tc : Thread Cert.BwdMid.nD Cert.BwdMid.τ).loc Cert.BwdMid.main_arg6)
      ∧ r.2.mem ((c.tc : Thread Cert.BwdMid.nD Cert.BwdMid.τ).loc Cert.BwdMid.main_arg7) = m ((c.tc : Thread Cert.BwdMid.nD Cert.BwdMid.τ).loc Cert.BwdMid.main_arg7)
      ∧ r.2.mem ((c.tc : Thread Cert.BwdMid.nD Cert.BwdMid.τ).loc Cert.BwdMid.main_arg8) = m ((c.tc : Thread Cert.BwdMid.nD Cert.BwdMid.τ).loc Cert.BwdMid.main_arg8)
      ∧ r.2.mem ((c.tc : Thread Cert.BwdMid.nD Cert.BwdMid.τ).loc Cert.BwdMid.main_arg9) = m ((c.tc : Thread Cert.BwdMid.nD Cert.BwdMid.τ).loc Cert.BwdMid.main_arg9)
      ∧ r.2.mem ((c.tc : Thread Cert.BwdMid.nD Cert.BwdMid.τ).loc Cert.BwdMid.main_arg10) = m ((c.tc : Thread Cert.BwdMid.nD Cert.BwdMid.τ).loc Cert.BwdMid.main_arg10)
      ∧ r.2.mem ((c.tc : Thread Cert.BwdMid.nD Cert.BwdMid.τ).loc Cert.BwdMid.main_arg11) = m ((c.tc : Thread Cert.BwdMid.nD Cert.BwdMid.τ).loc Cert.BwdMid.main_arg11))
      ∧ r.2.sem = fun _ => 0)

def quiescent_BwdMidIdeal [hBwdMidIdeal : Cert.BwdMidIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
      ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
      ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
      ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9)
      ∧ r.2.mem ((c.tc : Thread Cert.BwdMidIdeal.nD Cert.BwdMidIdeal.τ).loc Cert.BwdMidIdeal.main_arg10) = m ((c.tc : Thread Cert.BwdMidIdeal.nD Cert.BwdMidIdeal.τ).loc Cert.BwdMidIdeal.main_arg10)
      ∧ r.2.mem ((c.tc : Thread Cert.BwdMidIdeal.nD Cert.BwdMidIdeal.τ).loc Cert.BwdMidIdeal.main_arg11) = m ((c.tc : Thread Cert.BwdMidIdeal.nD Cert.BwdMidIdeal.τ).loc Cert.BwdMidIdeal.main_arg11))
      ∧ r.2.sem = fun _ => 0)

def quiescent_BwdMidRefIdeal [hBwdMidRefIdeal : Cert.BwdMidRefIdeal.Facts] : Prop :=
  ∀ (m : (ℓ : Loc Cert.BwdMidRefIdeal.nD Cert.BwdMidRefIdeal.τ Cert.BwdMidRefIdeal.sig) → Buf (Elt Ideal) ℓ) (g : Dev Cert.BwdMidRefIdeal.nD → PrngReg), Pre_BwdMidRefIdeal m →
    θ_run (Cert.BwdMidRefIdeal.defs (F := Ideal)) (onTc (τ := Cert.BwdMidRefIdeal.τ) (Cert.BwdMidRefIdeal.main (F := Ideal))) ⟨m, fun _ => 0, g⟩ (fun r => (∀ c : Dev Cert.BwdMidRefIdeal.nD,
      r.2.mem ((c.tc : Thread Cert.BwdMidRefIdeal.nD Cert.BwdMidRefIdeal.τ).loc Cert.BwdMidRefIdeal.main_arg0) = m ((c.tc : Thread Cert.BwdMidRefIdeal.nD Cert.BwdMidRefIdeal.τ).loc Cert.BwdMidRefIdeal.main_arg0)
      ∧ r.2.mem ((c.tc : Thread Cert.BwdMidRefIdeal.nD Cert.BwdMidRefIdeal.τ).loc Cert.BwdMidRefIdeal.main_arg1) = m ((c.tc : Thread Cert.BwdMidRefIdeal.nD Cert.BwdMidRefIdeal.τ).loc Cert.BwdMidRefIdeal.main_arg1)
      ∧ r.2.mem ((c.tc : Thread Cert.BwdMidRefIdeal.nD Cert.BwdMidRefIdeal.τ).loc Cert.BwdMidRefIdeal.main_arg2) = m ((c.tc : Thread Cert.BwdMidRefIdeal.nD Cert.BwdMidRefIdeal.τ).loc Cert.BwdMidRefIdeal.main_arg2)
      ∧ r.2.mem ((c.tc : Thread Cert.BwdMidRefIdeal.nD Cert.BwdMidRefIdeal.τ).loc Cert.BwdMidRefIdeal.main_arg3) = m ((c.tc : Thread Cert.BwdMidRefIdeal.nD Cert.BwdMidRefIdeal.τ).loc Cert.BwdMidRefIdeal.main_arg3)
      ∧ r.2.mem ((c.tc : Thread Cert.BwdMidRefIdeal.nD Cert.BwdMidRefIdeal.τ).loc Cert.BwdMidRefIdeal.main_arg4) = m ((c.tc : Thread Cert.BwdMidRefIdeal.nD Cert.BwdMidRefIdeal.τ).loc Cert.BwdMidRefIdeal.main_arg4)
      ∧ r.2.mem ((c.tc : Thread Cert.BwdMidRefIdeal.nD Cert.BwdMidRefIdeal.τ).loc Cert.BwdMidRefIdeal.main_arg5) = m ((c.tc : Thread Cert.BwdMidRefIdeal.nD Cert.BwdMidRefIdeal.τ).loc Cert.BwdMidRefIdeal.main_arg5)
      ∧ r.2.mem ((c.tc : Thread Cert.BwdMidRefIdeal.nD Cert.BwdMidRefIdeal.τ).loc Cert.BwdMidRefIdeal.main_arg6) = m ((c.tc : Thread Cert.BwdMidRefIdeal.nD Cert.BwdMidRefIdeal.τ).loc Cert.BwdMidRefIdeal.main_arg6)
      ∧ r.2.mem ((c.tc : Thread Cert.BwdMidRefIdeal.nD Cert.BwdMidRefIdeal.τ).loc Cert.BwdMidRefIdeal.main_arg7) = m ((c.tc : Thread Cert.BwdMidRefIdeal.nD Cert.BwdMidRefIdeal.τ).loc Cert.BwdMidRefIdeal.main_arg7)
      ∧ r.2.mem ((c.tc : Thread Cert.BwdMidRefIdeal.nD Cert.BwdMidRefIdeal.τ).loc Cert.BwdMidRefIdeal.main_arg8) = m ((c.tc : Thread Cert.BwdMidRefIdeal.nD Cert.BwdMidRefIdeal.τ).loc Cert.BwdMidRefIdeal.main_arg8)
      ∧ r.2.mem ((c.tc : Thread Cert.BwdMidRefIdeal.nD Cert.BwdMidRefIdeal.τ).loc Cert.BwdMidRefIdeal.main_arg9) = m ((c.tc : Thread Cert.BwdMidRefIdeal.nD Cert.BwdMidRefIdeal.τ).loc Cert.BwdMidRefIdeal.main_arg9)
      ∧ r.2.mem ((c.tc : Thread Cert.BwdMidRefIdeal.nD Cert.BwdMidRefIdeal.τ).loc Cert.BwdMidRefIdeal.main_arg10) = m ((c.tc : Thread Cert.BwdMidRefIdeal.nD Cert.BwdMidRefIdeal.τ).loc Cert.BwdMidRefIdeal.main_arg10)
      ∧ r.2.mem ((c.tc : Thread Cert.BwdMidRefIdeal.nD Cert.BwdMidRefIdeal.τ).loc Cert.BwdMidRefIdeal.main_arg11) = m ((c.tc : Thread Cert.BwdMidRefIdeal.nD Cert.BwdMidRefIdeal.τ).loc Cert.BwdMidRefIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v11_0)) (v4 : (c : Dev Cert.KernelIdeal.nD) → Buf (Elt Ideal) ((c.tc : Thread Cert.KernelIdeal.nD Cert.KernelIdeal.τ).loc Cert.KernelIdeal.main_v11_1)) (v5 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v11_0) = v3 c
          ∧ r.2.mem ((c.tc : Thread Cert.KernelIdeal.nD Cert.KernelIdeal.τ).loc Cert.KernelIdeal.main_v11_1) = v4 c
          ∧ r.2.mem ((c.tc : Thread Cert.KernelIdeal.nD Cert.KernelIdeal.τ).loc Cert.KernelIdeal.main_v11_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attn_AttnIdeal : Prop :=
  IdealRules.named_const.Statement Cert.AttnIdeal.κ "exit" .f32 0xC2B00000#32 ⊥

def algebraic_AttnIdeal_AttnRefIdeal_pre_finite2 [hAttnIdeal : Cert.AttnIdeal.Facts] [hAttnRefIdeal : Cert.AttnRefIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite2 m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v131)) (v1 : (c : Dev Cert.AttnIdeal.nD) → Buf (Elt Ideal) ((c.tc : Thread Cert.AttnIdeal.nD Cert.AttnIdeal.τ).loc Cert.AttnIdeal.main_v132)) (v2 : (c : Dev Cert.AttnIdeal.nD) → Buf (Elt Ideal) ((c.tc : Thread Cert.AttnIdeal.nD Cert.AttnIdeal.τ).loc Cert.AttnIdeal.main_v137)) (v3 : (c : Dev Cert.AttnIdeal.nD) → Buf (Elt Ideal) ((c.tc : Thread Cert.AttnIdeal.nD Cert.AttnIdeal.τ).loc Cert.AttnIdeal.main_v128_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v131) = v0 c
          ∧ r.2.mem ((c.tc : Thread Cert.AttnIdeal.nD Cert.AttnIdeal.τ).loc Cert.AttnIdeal.main_v132) = v1 c
          ∧ r.2.mem ((c.tc : Thread Cert.AttnIdeal.nD Cert.AttnIdeal.τ).loc Cert.AttnIdeal.main_v137) = v2 c
          ∧ r.2.mem ((c.tc : Thread Cert.AttnIdeal.nD Cert.AttnIdeal.τ).loc Cert.AttnIdeal.main_v128_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v97) = v0 c
          ∧ r.2.mem ((c.tc : Thread Cert.AttnRefIdeal.nD Cert.AttnRefIdeal.τ).loc Cert.AttnRefIdeal.main_v96) = v1 c
          ∧ r.2.mem ((c.tc : Thread Cert.AttnRefIdeal.nD Cert.AttnRefIdeal.τ).loc Cert.AttnRefIdeal.main_v93) = v2 c
          ∧ r.2.mem ((c.tc : Thread Cert.AttnRefIdeal.nD Cert.AttnRefIdeal.τ).loc Cert.AttnRefIdeal.main_v100) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)
      ∧ m' ((c.tc : Thread Cert.BwdInRefIdeal.nD Cert.BwdInRefIdeal.τ).loc Cert.BwdInRefIdeal.main_arg6) = m ((c.tc : Thread Cert.BwdInIdeal.nD Cert.BwdInIdeal.τ).loc Cert.BwdInIdeal.main_arg6)
      ∧ m' ((c.tc : Thread Cert.BwdInRefIdeal.nD Cert.BwdInRefIdeal.τ).loc Cert.BwdInRefIdeal.main_arg7) = m ((c.tc : Thread Cert.BwdInIdeal.nD Cert.BwdInIdeal.τ).loc Cert.BwdInIdeal.main_arg7)
      ∧ m' ((c.tc : Thread Cert.BwdInRefIdeal.nD Cert.BwdInRefIdeal.τ).loc Cert.BwdInRefIdeal.main_arg8) = m ((c.tc : Thread Cert.BwdInIdeal.nD Cert.BwdInIdeal.τ).loc Cert.BwdInIdeal.main_arg8)
      ∧ m' ((c.tc : Thread Cert.BwdInRefIdeal.nD Cert.BwdInRefIdeal.τ).loc Cert.BwdInRefIdeal.main_arg9) = m ((c.tc : Thread Cert.BwdInIdeal.nD Cert.BwdInIdeal.τ).loc Cert.BwdInIdeal.main_arg9)
      ∧ m' ((c.tc : Thread Cert.BwdInRefIdeal.nD Cert.BwdInRefIdeal.τ).loc Cert.BwdInRefIdeal.main_arg10) = m ((c.tc : Thread Cert.BwdInIdeal.nD Cert.BwdInIdeal.τ).loc Cert.BwdInIdeal.main_arg10)) →
    ∃ (v0 : (c : Dev Cert.BwdInIdeal.nD) → Buf (Elt Ideal) ((c.tc : Thread Cert.BwdInIdeal.nD Cert.BwdInIdeal.τ).loc Cert.BwdInIdeal.main_v16_0)) (v1 : (c : Dev Cert.BwdInIdeal.nD) → Buf (Elt Ideal) ((c.tc : Thread Cert.BwdInIdeal.nD Cert.BwdInIdeal.τ).loc Cert.BwdInIdeal.main_v20)) (v2 : (c : Dev Cert.BwdInIdeal.nD) → Buf (Elt Ideal) ((c.tc : Thread Cert.BwdInIdeal.nD Cert.BwdInIdeal.τ).loc Cert.BwdInIdeal.main_v24)) (v3 : (c : Dev Cert.BwdInIdeal.nD) → Buf (Elt Ideal) ((c.tc : Thread Cert.BwdInIdeal.nD Cert.BwdInIdeal.τ).loc Cert.BwdInIdeal.main_v28)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v16_0) = v0 c
          ∧ r.2.mem ((c.tc : Thread Cert.BwdInIdeal.nD Cert.BwdInIdeal.τ).loc Cert.BwdInIdeal.main_v20) = v1 c
          ∧ r.2.mem ((c.tc : Thread Cert.BwdInIdeal.nD Cert.BwdInIdeal.τ).loc Cert.BwdInIdeal.main_v24) = v2 c
          ∧ r.2.mem ((c.tc : Thread Cert.BwdInIdeal.nD Cert.BwdInIdeal.τ).loc Cert.BwdInIdeal.main_v28) = v3 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
          ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
          ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8)
          ∧ r.2.mem ((c.tc : Thread Cert.BwdInIdeal.nD Cert.BwdInIdeal.τ).loc Cert.BwdInIdeal.main_arg9) = m ((c.tc : Thread Cert.BwdInIdeal.nD Cert.BwdInIdeal.τ).loc Cert.BwdInIdeal.main_arg9)
          ∧ r.2.mem ((c.tc : Thread Cert.BwdInIdeal.nD Cert.BwdInIdeal.τ).loc Cert.BwdInIdeal.main_arg10) = m ((c.tc : Thread Cert.BwdInIdeal.nD Cert.BwdInIdeal.τ).loc Cert.BwdInIdeal.main_arg10))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v65) = v0 c
          ∧ r.2.mem ((c.tc : Thread Cert.BwdInRefIdeal.nD Cert.BwdInRefIdeal.τ).loc Cert.BwdInRefIdeal.main_v40) = v1 c
          ∧ r.2.mem ((c.tc : Thread Cert.BwdInRefIdeal.nD Cert.BwdInRefIdeal.τ).loc Cert.BwdInRefIdeal.main_v43) = v2 c
          ∧ r.2.mem ((c.tc : Thread Cert.BwdInRefIdeal.nD Cert.BwdInRefIdeal.τ).loc Cert.BwdInRefIdeal.main_v48) = v3 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5)
          ∧ r.2.mem ((c.tc : Thread Cert.BwdInRefIdeal.nD Cert.BwdInRefIdeal.τ).loc Cert.BwdInRefIdeal.main_arg6) = m' ((c.tc : Thread Cert.BwdInRefIdeal.nD Cert.BwdInRefIdeal.τ).loc Cert.BwdInRefIdeal.main_arg6)
          ∧ r.2.mem ((c.tc : Thread Cert.BwdInRefIdeal.nD Cert.BwdInRefIdeal.τ).loc Cert.BwdInRefIdeal.main_arg7) = m' ((c.tc : Thread Cert.BwdInRefIdeal.nD Cert.BwdInRefIdeal.τ).loc Cert.BwdInRefIdeal.main_arg7)
          ∧ r.2.mem ((c.tc : Thread Cert.BwdInRefIdeal.nD Cert.BwdInRefIdeal.τ).loc Cert.BwdInRefIdeal.main_arg8) = m' ((c.tc : Thread Cert.BwdInRefIdeal.nD Cert.BwdInRefIdeal.τ).loc Cert.BwdInRefIdeal.main_arg8)
          ∧ r.2.mem ((c.tc : Thread Cert.BwdInRefIdeal.nD Cert.BwdInRefIdeal.τ).loc Cert.BwdInRefIdeal.main_arg9) = m' ((c.tc : Thread Cert.BwdInRefIdeal.nD Cert.BwdInRefIdeal.τ).loc Cert.BwdInRefIdeal.main_arg9)
          ∧ r.2.mem ((c.tc : Thread Cert.BwdInRefIdeal.nD Cert.BwdInRefIdeal.τ).loc Cert.BwdInRefIdeal.main_arg10) = m' ((c.tc : Thread Cert.BwdInRefIdeal.nD Cert.BwdInRefIdeal.τ).loc Cert.BwdInRefIdeal.main_arg10))

def preserves_BwdMid_BwdMidIdeal : Prop :=
  True

def algebraic_BwdMidIdeal_BwdMidRefIdeal [hBwdMidIdeal : Cert.BwdMidIdeal.Facts] [hBwdMidRefIdeal : Cert.BwdMidRefIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg)
    (m' : (ℓ : Loc Cert.BwdMidRefIdeal.nD Cert.BwdMidRefIdeal.τ Cert.BwdMidRefIdeal.sig) → Buf (Elt Ideal) ℓ) (g' : Dev Cert.BwdMidRefIdeal.nD → PrngReg), Pre_BwdMidIdeal m →
    (∀ c : Dev Cert.BwdMidIdeal.nD,
      m' ((c.tc : Thread Cert.BwdMidRefIdeal.nD Cert.BwdMidRefIdeal.τ).loc Cert.BwdMidRefIdeal.main_arg0) = m ((c.tc : Thread Cert.BwdMidIdeal.nD Cert.BwdMidIdeal.τ).loc Cert.BwdMidIdeal.main_arg0)
      ∧ m' ((c.tc : Thread Cert.BwdMidRefIdeal.nD Cert.BwdMidRefIdeal.τ).loc Cert.BwdMidRefIdeal.main_arg1) = m ((c.tc : Thread Cert.BwdMidIdeal.nD Cert.BwdMidIdeal.τ).loc Cert.BwdMidIdeal.main_arg1)
      ∧ m' ((c.tc : Thread Cert.BwdMidRefIdeal.nD Cert.BwdMidRefIdeal.τ).loc Cert.BwdMidRefIdeal.main_arg2) = m ((c.tc : Thread Cert.BwdMidIdeal.nD Cert.BwdMidIdeal.τ).loc Cert.BwdMidIdeal.main_arg2)
      ∧ m' ((c.tc : Thread Cert.BwdMidRefIdeal.nD Cert.BwdMidRefIdeal.τ).loc Cert.BwdMidRefIdeal.main_arg3) = m ((c.tc : Thread Cert.BwdMidIdeal.nD Cert.BwdMidIdeal.τ).loc Cert.BwdMidIdeal.main_arg3)
      ∧ m' ((c.tc : Thread Cert.BwdMidRefIdeal.nD Cert.BwdMidRefIdeal.τ).loc Cert.BwdMidRefIdeal.main_arg4) = m ((c.tc : Thread Cert.BwdMidIdeal.nD Cert.BwdMidIdeal.τ).loc Cert.BwdMidIdeal.main_arg4)
      ∧ m' ((c.tc : Thread Cert.BwdMidRefIdeal.nD Cert.BwdMidRefIdeal.τ).loc Cert.BwdMidRefIdeal.main_arg5) = m ((c.tc : Thread Cert.BwdMidIdeal.nD Cert.BwdMidIdeal.τ).loc Cert.BwdMidIdeal.main_arg5)
      ∧ m' ((c.tc : Thread Cert.BwdMidRefIdeal.nD Cert.BwdMidRefIdeal.τ).loc Cert.BwdMidRefIdeal.main_arg6) = m ((c.tc : Thread Cert.BwdMidIdeal.nD Cert.BwdMidIdeal.τ).loc Cert.BwdMidIdeal.main_arg6)
      ∧ m' ((c.tc : Thread Cert.BwdMidRefIdeal.nD Cert.BwdMidRefIdeal.τ).loc Cert.BwdMidRefIdeal.main_arg7) = m ((c.tc : Thread Cert.BwdMidIdeal.nD Cert.BwdMidIdeal.τ).loc Cert.BwdMidIdeal.main_arg7)
      ∧ m' ((c.tc : Thread Cert.BwdMidRefIdeal.nD Cert.BwdMidRefIdeal.τ).loc Cert.BwdMidRefIdeal.main_arg8) = m ((c.tc : Thread Cert.BwdMidIdeal.nD Cert.BwdMidIdeal.τ).loc Cert.BwdMidIdeal.main_arg8)
      ∧ m' ((c.tc : Thread Cert.BwdMidRefIdeal.nD Cert.BwdMidRefIdeal.τ).loc Cert.BwdMidRefIdeal.main_arg9) = m ((c.tc : Thread Cert.BwdMidIdeal.nD Cert.BwdMidIdeal.τ).loc Cert.BwdMidIdeal.main_arg9)
      ∧ m' ((c.tc : Thread Cert.BwdMidRefIdeal.nD Cert.BwdMidRefIdeal.τ).loc Cert.BwdMidRefIdeal.main_arg10) = m ((c.tc : Thread Cert.BwdMidIdeal.nD Cert.BwdMidIdeal.τ).loc Cert.BwdMidIdeal.main_arg10)
      ∧ m' ((c.tc : Thread Cert.BwdMidRefIdeal.nD Cert.BwdMidRefIdeal.τ).loc Cert.BwdMidRefIdeal.main_arg11) = m ((c.tc : Thread Cert.BwdMidIdeal.nD Cert.BwdMidIdeal.τ).loc Cert.BwdMidIdeal.main_arg11)) →
    ∃ (v0 : (c : Dev Cert.BwdMidIdeal.nD) → Buf (Elt Ideal) ((c.tc : Thread Cert.BwdMidIdeal.nD Cert.BwdMidIdeal.τ).loc Cert.BwdMidIdeal.main_v72_0)) (v1 : (c : Dev Cert.BwdMidIdeal.nD) → Buf (Elt Ideal) ((c.tc : Thread Cert.BwdMidIdeal.nD Cert.BwdMidIdeal.τ).loc Cert.BwdMidIdeal.main_v72_2)) (v2 : (c : Dev Cert.BwdMidIdeal.nD) → Buf (Elt Ideal) ((c.tc : Thread Cert.BwdMidIdeal.nD Cert.BwdMidIdeal.τ).loc Cert.BwdMidIdeal.main_v76)) (v3 : (c : Dev Cert.BwdMidIdeal.nD) → Buf (Elt Ideal) ((c.tc : Thread Cert.BwdMidIdeal.nD Cert.BwdMidIdeal.τ).loc Cert.BwdMidIdeal.main_v80)) (v4 : (c : Dev Cert.BwdMidIdeal.nD) → Buf (Elt Ideal) ((c.tc : Thread Cert.BwdMidIdeal.nD Cert.BwdMidIdeal.τ).loc Cert.BwdMidIdeal.main_v84)) (v5 : (c : Dev Cert.BwdMidIdeal.nD) → Buf (Elt Ideal) ((c.tc : Thread Cert.BwdMidIdeal.nD Cert.BwdMidIdeal.τ).loc Cert.BwdMidIdeal.main_v88)) (v6 : (c : Dev Cert.BwdMidIdeal.nD) → Buf (Elt Ideal) ((c.tc : Thread Cert.BwdMidIdeal.nD Cert.BwdMidIdeal.τ).loc Cert.BwdMidIdeal.main_v92)) (v7 : (c : Dev Cert.BwdMidIdeal.nD) → Buf (Elt Ideal) ((c.tc : Thread Cert.BwdMidIdeal.nD Cert.BwdMidIdeal.τ).loc Cert.BwdMidIdeal.main_v96)),
      θ_run (Cert.BwdMidIdeal.defs (F := Ideal)) (onTc (τ := Cert.BwdMidIdeal.τ) (Cert.BwdMidIdeal.main (F := Ideal))) ⟨m, fun _ => 0, g⟩ (fun r => ∀ c : Dev Cert.BwdMidIdeal.nD,
          r.2.mem ((c.tc : Thread Cert.BwdMidIdeal.nD Cert.BwdMidIdeal.τ).loc Cert.BwdMidIdeal.main_v72_0) = v0 c
          ∧ r.2.mem ((c.tc : Thread Cert.BwdMidIdeal.nD Cert.BwdMidIdeal.τ).loc Cert.BwdMidIdeal.main_v72_2) = v1 c
          ∧ r.2.mem ((c.tc : Thread Cert.BwdMidIdeal.nD Cert.BwdMidIdeal.τ).loc Cert.BwdMidIdeal.main_v76) = v2 c
          ∧ r.2.mem ((c.tc : Thread Cert.BwdMidIdeal.nD Cert.BwdMidIdeal.τ).loc Cert.BwdMidIdeal.main_v80) = v3 c
          ∧ r.2.mem ((c.tc : Thread Cert.BwdMidIdeal.nD Cert.BwdMidIdeal.τ).loc Cert.BwdMidIdeal.main_v84) = v4 c
          ∧ r.2.mem ((c.tc : Thread Cert.BwdMidIdeal.nD Cert.BwdMidIdeal.τ).loc Cert.BwdMidIdeal.main_v88) = v5 c
          ∧ r.2.mem ((c.tc : Thread Cert.BwdMidIdeal.nD Cert.BwdMidIdeal.τ).loc Cert.BwdMidIdeal.main_v92) = v6 c
          ∧ r.2.mem ((c.tc : Thread Cert.BwdMidIdeal.nD Cert.BwdMidIdeal.τ).loc Cert.BwdMidIdeal.main_v96) = v7 c
          ∧ r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
          ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
          ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
          ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
          ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
          ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
          ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6)
          ∧ r.2.mem ((c.tc : Thread Cert.BwdMidIdeal.nD Cert.BwdMidIdeal.τ).loc Cert.BwdMidIdeal.main_arg7) = m ((c.tc : Thread Cert.BwdMidIdeal.nD Cert.BwdMidIdeal.τ).loc Cert.BwdMidIdeal.main_arg7)
          ∧ r.2.mem ((c.tc : Thread Cert.BwdMidIdeal.nD Cert.BwdMidIdeal.τ).loc Cert.BwdMidIdeal.main_arg8) = m ((c.tc : Thread Cert.BwdMidIdeal.nD Cert.BwdMidIdeal.τ).loc Cert.BwdMidIdeal.main_arg8)
          ∧ r.2.mem ((c.tc : Thread Cert.BwdMidIdeal.nD Cert.BwdMidIdeal.τ).loc Cert.BwdMidIdeal.main_arg9) = m ((c.tc : Thread Cert.BwdMidIdeal.nD Cert.BwdMidIdeal.τ).loc Cert.BwdMidIdeal.main_arg9)
          ∧ r.2.mem ((c.tc : Thread Cert.BwdMidIdeal.nD Cert.BwdMidIdeal.τ).loc Cert.BwdMidIdeal.main_arg10) = m ((c.tc : Thread Cert.BwdMidIdeal.nD Cert.BwdMidIdeal.τ).loc Cert.BwdMidIdeal.main_arg10)
          ∧ r.2.mem ((c.tc : Thread Cert.BwdMidIdeal.nD Cert.BwdMidIdeal.τ).loc Cert.BwdMidIdeal.main_arg11) = m ((c.tc : Thread Cert.BwdMidIdeal.nD Cert.BwdMidIdeal.τ).loc Cert.BwdMidIdeal.main_arg11))
      ∧ θ_run (Cert.BwdMidRefIdeal.defs (F := Ideal)) (onTc (τ := Cert.BwdMidRefIdeal.τ) (Cert.BwdMidRefIdeal.main (F := Ideal))) ⟨m', fun _ => 0, g'⟩ (fun r => ∀ c : Dev Cert.BwdMidRefIdeal.nD,
          r.2.mem ((c.tc : Thread Cert.BwdMidRefIdeal.nD Cert.BwdMidRefIdeal.τ).loc Cert.BwdMidRefIdeal.main_v110) = v0 c
          ∧ r.2.mem ((c.tc : Thread Cert.BwdMidRefIdeal.nD Cert.BwdMidRefIdeal.τ).loc Cert.BwdMidRefIdeal.main_v142) = v1 c
          ∧ r.2.mem ((c.tc : Thread Cert.BwdMidRefIdeal.nD Cert.BwdMidRefIdeal.τ).loc Cert.BwdMidRefIdeal.main_v85) = v2 c
          ∧ r.2.mem ((c.tc : Thread Cert.BwdMidRefIdeal.nD Cert.BwdMidRefIdeal.τ).loc Cert.BwdMidRefIdeal.main_v88) = v3 c
          ∧ r.2.mem ((c.tc : Thread Cert.BwdMidRefIdeal.nD Cert.BwdMidRefIdeal.τ).loc Cert.BwdMidRefIdeal.main_v93) = v4 c
          ∧ r.2.mem ((c.tc : Thread Cert.BwdMidRefIdeal.nD Cert.BwdMidRefIdeal.τ).loc Cert.BwdMidRefIdeal.main_v116) = v5 c
          ∧ r.2.mem ((c.tc : Thread Cert.BwdMidRefIdeal.nD Cert.BwdMidRefIdeal.τ).loc Cert.BwdMidRefIdeal.main_v125) = v6 c
          ∧ r.2.mem ((c.tc : Thread Cert.BwdMidRefIdeal.nD Cert.BwdMidRefIdeal.τ).loc Cert.BwdMidRefIdeal.main_v122) = v7 c
          ∧ r.2.mem ((c.tc : Thread Cert.BwdMidRefIdeal.nD Cert.BwdMidRefIdeal.τ).loc Cert.BwdMidRefIdeal.main_arg0) = m' ((c.tc : Thread Cert.BwdMidRefIdeal.nD Cert.BwdMidRefIdeal.τ).loc Cert.BwdMidRefIdeal.main_arg0)
          ∧ r.2.mem ((c.tc : Thread Cert.BwdMidRefIdeal.nD Cert.BwdMidRefIdeal.τ).loc Cert.BwdMidRefIdeal.main_arg1) = m' ((c.tc : Thread Cert.BwdMidRefIdeal.nD Cert.BwdMidRefIdeal.τ).loc Cert.BwdMidRefIdeal.main_arg1)
          ∧ r.2.mem ((c.tc : Thread Cert.BwdMidRefIdeal.nD Cert.BwdMidRefIdeal.τ).loc Cert.BwdMidRefIdeal.main_arg2) = m' ((c.tc : Thread Cert.BwdMidRefIdeal.nD Cert.BwdMidRefIdeal.τ).loc Cert.BwdMidRefIdeal.main_arg2)
          ∧ r.2.mem ((c.tc : Thread Cert.BwdMidRefIdeal.nD Cert.BwdMidRefIdeal.τ).loc Cert.BwdMidRefIdeal.main_arg3) = m' ((c.tc : Thread Cert.BwdMidRefIdeal.nD Cert.BwdMidRefIdeal.τ).loc Cert.BwdMidRefIdeal.main_arg3)
          ∧ r.2.mem ((c.tc : Thread Cert.BwdMidRefIdeal.nD Cert.BwdMidRefIdeal.τ).loc Cert.BwdMidRefIdeal.main_arg4) = m' ((c.tc : Thread Cert.BwdMidRefIdeal.nD Cert.BwdMidRefIdeal.τ).loc Cert.BwdMidRefIdeal.main_arg4)
          ∧ r.2.mem ((c.tc : Thread Cert.BwdMidRefIdeal.nD Cert.BwdMidRefIdeal.τ).loc Cert.BwdMidRefIdeal.main_arg5) = m' ((c.tc : Thread Cert.BwdMidRefIdeal.nD Cert.BwdMidRefIdeal.τ).loc Cert.BwdMidRefIdeal.main_arg5)
          ∧ r.2.mem ((c.tc : Thread Cert.BwdMidRefIdeal.nD Cert.BwdMidRefIdeal.τ).loc Cert.BwdMidRefIdeal.main_arg6) = m' ((c.tc : Thread Cert.BwdMidRefIdeal.nD Cert.BwdMidRefIdeal.τ).loc Cert.BwdMidRefIdeal.main_arg6)
          ∧ r.2.mem ((c.tc : Thread Cert.BwdMidRefIdeal.nD Cert.BwdMidRefIdeal.τ).loc Cert.BwdMidRefIdeal.main_arg7) = m' ((c.tc : Thread Cert.BwdMidRefIdeal.nD Cert.BwdMidRefIdeal.τ).loc Cert.BwdMidRefIdeal.main_arg7)
          ∧ r.2.mem ((c.tc : Thread Cert.BwdMidRefIdeal.nD Cert.BwdMidRefIdeal.τ).loc Cert.BwdMidRefIdeal.main_arg8) = m' ((c.tc : Thread Cert.BwdMidRefIdeal.nD Cert.BwdMidRefIdeal.τ).loc Cert.BwdMidRefIdeal.main_arg8)
          ∧ r.2.mem ((c.tc : Thread Cert.BwdMidRefIdeal.nD Cert.BwdMidRefIdeal.τ).loc Cert.BwdMidRefIdeal.main_arg9) = m' ((c.tc : Thread Cert.BwdMidRefIdeal.nD Cert.BwdMidRefIdeal.τ).loc Cert.BwdMidRefIdeal.main_arg9)
          ∧ r.2.mem ((c.tc : Thread Cert.BwdMidRefIdeal.nD Cert.BwdMidRefIdeal.τ).loc Cert.BwdMidRefIdeal.main_arg10) = m' ((c.tc : Thread Cert.BwdMidRefIdeal.nD Cert.BwdMidRefIdeal.τ).loc Cert.BwdMidRefIdeal.main_arg10)
          ∧ r.2.mem ((c.tc : Thread Cert.BwdMidRefIdeal.nD Cert.BwdMidRefIdeal.τ).loc Cert.BwdMidRefIdeal.main_arg11) = m' ((c.tc : Thread Cert.BwdMidRefIdeal.nD Cert.BwdMidRefIdeal.τ).loc Cert.BwdMidRefIdeal.main_arg11))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hBwdIn : Cert.BwdIn.Facts) (hBwdInIdeal : Cert.BwdInIdeal.Facts) (hBwdInRefIdeal : Cert.BwdInRefIdeal.Facts) (hBwdMid : Cert.BwdMid.Facts) (hBwdMidIdeal : Cert.BwdMidIdeal.Facts) (hBwdMidRefIdeal : Cert.BwdMidRefIdeal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn)
    ∧ quiescent_AttnIdeal (hAttnIdeal := hAttnIdeal)
    ∧ quiescent_AttnIdeal_pre_finite2 (hAttnIdeal := hAttnIdeal) (hPre_finite2 := hPre_finite2)
    ∧ quiescent_AttnRefIdeal (hAttnRefIdeal := hAttnRefIdeal)
    ∧ quiescent_AttnRefIdeal_pre_finite2 (hAttnRefIdeal := hAttnRefIdeal) (hPre_finite2 := hPre_finite2)
    ∧ quiescent_BwdIn (hBwdIn := hBwdIn)
    ∧ quiescent_BwdInIdeal (hBwdInIdeal := hBwdInIdeal)
    ∧ quiescent_BwdInRefIdeal (hBwdInRefIdeal := hBwdInRefIdeal)
    ∧ quiescent_BwdMid (hBwdMid := hBwdMid)
    ∧ quiescent_BwdMidIdeal (hBwdMidIdeal := hBwdMidIdeal)
    ∧ quiescent_BwdMidRefIdeal (hBwdMidRefIdeal := hBwdMidRefIdeal)
    ∧ preserves_Kernel_KernelIdeal
    ∧ algebraic_KernelIdeal_ReferenceIdeal (hKernelIdeal := hKernelIdeal) (hReferenceIdeal := hReferenceIdeal)
    ∧ preserves_Attn_AttnIdeal
    ∧ algebraic_AttnIdeal_AttnRefIdeal_pre_finite2 (hAttnIdeal := hAttnIdeal) (hAttnRefIdeal := hAttnRefIdeal) (hPre_finite2 := hPre_finite2)
    ∧ preserves_BwdIn_BwdInIdeal
    ∧ algebraic_BwdInIdeal_BwdInRefIdeal (hBwdInIdeal := hBwdInIdeal) (hBwdInRefIdeal := hBwdInRefIdeal)
    ∧ preserves_BwdMid_BwdMidIdeal
    ∧ algebraic_BwdMidIdeal_BwdMidRefIdeal (hBwdMidIdeal := hBwdMidIdeal) (hBwdMidRefIdeal := hBwdMidRefIdeal)
-- ==== Pre_finite2.lean ====
abbrev S16384x512 : Shape := ⟨2, ![16384, 512]⟩
abbrev S16384x8 : Shape := ⟨2, ![16384, 8]⟩
abbrev S1x64 : Shape := ⟨2, ![1, 64]⟩
abbrev S1x8 : Shape := ⟨2, ![1, 8]⟩
abbrev S_ : Shape := ⟨0, ![]⟩

class Facts : Prop where
  bcast_S_S16384x512 : S_.BroadcastsInDim S16384x512 (![] : Fin 0 → Fin S16384x512.rank)
  bcast_S_S16384x8 : S_.BroadcastsInDim S16384x8 (![] : Fin 0 → Fin S16384x8.rank)
  bcast_S_S1x64 : S_.BroadcastsInDim S1x64 (![] : Fin 0 → Fin S1x64.rank)
  bcast_S_S1x8 : S_.BroadcastsInDim S1x8 (![] : Fin 0 → Fin S1x8.rank)

variable [Facts]

def fn_part1 {F : FTy → Type} [FloatOps F] (main_arg6 : FVec F S1x8 .f32) (main_arg7 : FVec F S16384x512 .f32) (main_v2 : IVec S16384x512 1) (main_v5 : IVec S16384x512 1) (main_v8 : IVec S16384x512 1) (main_v11 : IVec S16384x8 1) (main_v14 : IVec S1x64 1) (main_v17 : IVec S1x64 1) : IVec S16384x512 1 × IVec S16384x512 1 × IVec S16384x512 1 × IVec S16384x8 1 × IVec S1x64 1 × IVec S1x64 1 × IVec S1x8 1 × IVec S16384x512 1 :=
  let main_v18 : FVec F S1x8 .f32 := Host.absf main_arg6
  let main_cst_5 : FVec F S_ .f32 := constant S_ .f32 0x7F800000#32
  let main_v19 : FVec F S1x8 .f32 := broadcastInDim S1x8 ![] bcast_S_S1x8 main_cst_5
  let main_v20 : IVec S1x8 1 := cmpf .olt main_v18 main_v19
  let main_v21 : FVec F S16384x512 .f32 := Host.absf main_arg7
  let main_cst_6 : FVec F S_ .f32 := constant S_ .f32 0x7F800000#32
  let main_v22 : FVec F S16384x512 .f32 := broadcastInDim S16384x512 ![] bcast_S_S16384x512 main_cst_6
  let main_v23 : IVec S16384x512 1 := cmpf .olt main_v21 main_v22
  (main_v2, main_v5, main_v8, main_v11, main_v14, main_v17, main_v20, main_v23)

def fn {F : FTy → Type} [FloatOps F] (main_arg0 : FVec F S16384x512 .f32) (main_arg1 : FVec F S16384x512 .f32) (main_arg2 : FVec F S16384x512 .f32) (main_arg3 : FVec F S16384x8 .f32) (main_arg4 : FVec F S1x64 .f32) (main_arg5 : FVec F S1x64 .f32) (main_arg6 : FVec F S1x8 .f32) (main_arg7 : FVec F S16384x512 .f32) : IVec S16384x512 1 × IVec S16384x512 1 × IVec S16384x512 1 × IVec S16384x8 1 × IVec S1x64 1 × IVec S1x64 1 × IVec S1x8 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_arg7 main_v2 main_v5 main_v8 main_v11 main_v14 main_v17
-- ==== Kernel.lean ====
abbrev S16384x1024 : Shape := ⟨2, ![16384, 1024]⟩
abbrev S1x1024x4096 : Shape := ⟨3, ![1, 1024, 4096]⟩
abbrev S1x4096x1024 : Shape := ⟨3, ![1, 4096, 1024]⟩
abbrev S1x6144 : Shape := ⟨2, ![1, 6144]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S6x1024 : Shape := ⟨2, ![6, 1024]⟩
abbrev S_ : Shape := ⟨0, ![]⟩
abbrev S8x1024 : Shape := ⟨2, ![8, 1024]⟩
abbrev S16384x4096 : Shape := ⟨2, ![16384, 4096]⟩
abbrev S8x128 : Shape := ⟨2, ![8, 128]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x8x1024 : Shape := ⟨3, ![64, 8, 1024]⟩
abbrev S1024 : Shape := ⟨1, ![1024]⟩

abbrev nBuf : Space → Nat
  | .hbm => 30
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1x1024x4096, .f32⟩
  | .hbm, ⟨2, _⟩ => ⟨S1x4096x1024, .f32⟩
  | .hbm, ⟨3, _⟩ => ⟨S16384x1024, .f32⟩
  | .hbm, ⟨4, _⟩ => ⟨S16384x1024, .f32⟩
  | .hbm, ⟨5, _⟩ => ⟨S1x6144, .f32⟩
  | .hbm, ⟨6, _⟩ => ⟨S1024x4096, .f32⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S4096x1024, .f32⟩
  | .hbm, ⟨11, _⟩ => ⟨S4096x1024, .bf16⟩
  | .hbm, ⟨12, _⟩ => ⟨S4x1024x1024, .bf16⟩
  | .hbm, ⟨13, _⟩ => ⟨S6x1024, .f32⟩
  | .hbm, ⟨14, _⟩ => ⟨S_, .i32⟩
  | .hbm, ⟨15, _⟩ => ⟨S_, .f32⟩
  | .hbm, ⟨16, _⟩ => ⟨S8x1024, .f32⟩
  | .hbm, ⟨17, _⟩ => ⟨S16384x1024, .bf16⟩
  | .hbm, ⟨18, _⟩ => ⟨S16384x4096, .bf16⟩
  | .hbm, ⟨19, _⟩ => ⟨S16384x1024, .f32⟩
  | .hbm, ⟨20, _⟩ => ⟨S8x128, .f32⟩
  | .hbm, ⟨21, _⟩ => ⟨S8x1024, .f32⟩
  | .hbm, ⟨22, _⟩ => ⟨S16384x1024, .bf16⟩
  | .hbm, ⟨23, _⟩ => ⟨S16384x4096, .bf16⟩
  | .hbm, ⟨24, _⟩ => ⟨S16384x1024, .f32⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S1024, .f32⟩
  | .hbm, ⟨29, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S8x128, .f32⟩
  | .local _ .vmem, ⟨14, _⟩ => ⟨S8x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S512x4096, .bf16⟩
  | .local _ .vmem, ⟨19, _⟩ => ⟨S512x4096, .bf16⟩
  | .local _ .vmem, ⟨20, _⟩ => ⟨S4x1024x1024, .bf16⟩
  | .local _ .vmem, ⟨21, _⟩ => ⟨S4x1024x1024, .bf16⟩
  | .local _ .vmem, ⟨22, _⟩ => ⟨S512x1024, .bf16⟩
  | .local _ .vmem, ⟨23, _⟩ => ⟨S512x1024, .bf16⟩
  | .local _ .vmem, ⟨24, _⟩ => ⟨S512x4096, .bf16⟩
  | .local _ .vmem, ⟨25, _⟩ => ⟨S512x4096, .bf16⟩
  | .local _ .vmem, ⟨26, _⟩ => ⟨S512x1024, .f32⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S16384x1024 : Shape := ⟨2, ![16384, 1024]⟩
abbrev S1x1024x4096 : Shape := ⟨3, ![1, 1024, 4096]⟩
abbrev S1x4096x1024 : Shape := ⟨3, ![1, 4096, 1024]⟩
abbrev S1x6144 : Shape := ⟨2, ![1, 6144]⟩
abbrev S1x1024 : Shape := ⟨2, ![1, 1024]⟩
abbrev S_ : Shape := ⟨0, ![]⟩
abbrev S16384x4096 : Shape := ⟨2, ![16384, 4096]⟩
abbrev S1024x4096 : Shape := ⟨2, ![1024, 4096]⟩
abbrev S4096x1024 : Shape := ⟨2, ![4096, 1024]⟩
abbrev S16384 : Shape := ⟨1, ![16384]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x4096, .f32⟩
  | .hbm, ⟨2, _⟩ => ⟨S1x4096x1024, .f32⟩
  | .hbm, ⟨3, _⟩ => ⟨S16384x1024, .f32⟩
  | .hbm, ⟨4, _⟩ => ⟨S16384x1024, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S16384x4096, .f32⟩
  | .hbm, ⟨14, _⟩ => ⟨S_, .f32⟩
  | .hbm, ⟨15, _⟩ => ⟨S16384x1024, .f32⟩
  | .hbm, ⟨16, _⟩ => ⟨S1024x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .i1⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S4096x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S16384x4096, .f32⟩
  | .hbm, ⟨67, _⟩ => ⟨S16384x4096, .f32⟩
  | .hbm, ⟨68, _⟩ => ⟨S_, .f32⟩
  | .hbm, ⟨69, _⟩ => ⟨S16384x4096, .f32⟩
  | .hbm, ⟨70, _⟩ => ⟨S16384x4096, .f32⟩
  | .hbm, ⟨71, _⟩ => ⟨S16384x1024, .f32⟩
  | .hbm, ⟨72, _⟩ => ⟨S16384x1024, .bf16⟩
  | .hbm, ⟨73, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_cst_9 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Attn.lean ====
abbrev S16384x512 : Shape := ⟨2, ![16384, 512]⟩
abbrev S16384x8 : Shape := ⟨2, ![16384, 8]⟩
abbrev S1x64 : Shape := ⟨2, ![1, 64]⟩
abbrev S1x8 : Shape := ⟨2, ![1, 8]⟩
abbrev S16384x8x64 : Shape := ⟨3, ![16384, 8, 64]⟩
abbrev S8x16384x64 : Shape := ⟨3, ![8, 16384, 64]⟩
abbrev S_ : Shape := ⟨0, ![]⟩
abbrev S8x16384 : Shape := ⟨2, ![8, 16384]⟩
abbrev S8x16384x1 : Shape := ⟨3, ![8, 16384, 1]⟩
abbrev S1x1x64 : Shape := ⟨3, ![1, 1, 64]⟩
abbrev S1x1 : Shape := ⟨2, ![1, 1]⟩
abbrev S8x16384x3 : Shape := ⟨3, ![8, 16384, 3]⟩
abbrev S1x1x1 : Shape := ⟨3, ![1, 1, 1]⟩
abbrev S1x1x3 : Shape := ⟨3, ![1, 1, 3]⟩
abbrev S8x16384x55 : Shape := ⟨3, ![8, 16384, 55]⟩
abbrev S8x16384x128 : Shape := ⟨3, ![8, 16384, 128]⟩
abbrev S32x8 : Shape := ⟨2, ![32, 8]⟩
abbrev S8x32 : Shape := ⟨2, ![8, 32]⟩
abbrev S8x16384x16384 : Shape := ⟨3, ![8, 16384, 16384]⟩
abbrev S8x1x16384 : Shape := ⟨3, ![8, 1, 16384]⟩
abbrev S4x2x32x512 : Shape := ⟨4, ![4, 2, 32, 512]⟩
abbrev S4x32x2x512 : Shape := ⟨4, ![4, 32, 2, 512]⟩
abbrev S4x32x8x512 : Shape := ⟨4, ![4, 32, 8, 512]⟩
abbrev S2x512x128 : Shape := ⟨3, ![2, 512, 128]⟩
abbrev S512x128 : Shape := ⟨2, ![512, 128]⟩
abbrev S1x32x8x512 : Shape := ⟨4, ![1, 32, 8, 512]⟩
abbrev S2x16384x128 : Shape := ⟨3, ![2, 16384, 128]⟩
abbrev S16384x128 : Shape := ⟨2, ![16384, 128]⟩
abbrev S1x1x8x512 : Shape := ⟨4, ![1, 1, 8, 512]⟩
abbrev S8x512 : Shape := ⟨2, ![8, 512]⟩
abbrev S1x512x128 : Shape := ⟨3, ![1, 512, 128]⟩
abbrev S512x512 : Shape := ⟨2, ![512, 512]⟩
abbrev S1x512 : Shape := ⟨2, ![1, 512]⟩

abbrev nBuf : Space → Nat
  | .hbm => 195
  | .vmem => 17
  | .smem => 3
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8, .f32⟩
  | 4 => ⟨S1x64, .f32⟩
  | 5 => ⟨S1x64, .f32⟩
  | 6 => ⟨S1x8, .f32⟩
  | 7 => ⟨S16384x512, .f32⟩
  | 8 => ⟨S16384x8x64, .f32⟩
  | 9 => ⟨S8x16384x64, .f32⟩
  | 10 => ⟨S8x16384x64, .f32⟩
  | 11 => ⟨S_, .f32⟩
  | 12 => ⟨S8x16384, .f32⟩
  | 13 => ⟨S8x16384x1, .f32⟩
  | 14 => ⟨S_, .f32⟩
  | 15 => ⟨S8x16384x1, .f32⟩
  | 16 => ⟨S8x16384x1, .f32⟩
  | 17 => ⟨S_, .f32⟩
  | 18 => ⟨S8x16384x1, .f32⟩
  | 19 => ⟨S8x16384x1, .f32⟩
  | 20 => ⟨S8x16384x1, .f32⟩
  | 21 => ⟨S8x16384x64, .f32⟩
  | 22 => ⟨S8x16384x64, .f32⟩
  | 23 => ⟨S1x1x64, .f32⟩
  | 24 => ⟨S8x16384x64, .f32⟩
  | 25 => ⟨S8x16384x64, .f32⟩
  | 26 => ⟨S16384x8x64, .f32⟩
  | 27 => ⟨S8x16384x64, .f32⟩
  | 28 => ⟨S8x16384x64, .f32⟩
  | 29 => ⟨S_, .f32⟩
  | 30 => ⟨S8x16384, .f32⟩
  | 31 => ⟨S8x16384x1, .f32⟩
  | 32 => ⟨S_, .f32⟩
  | 33 => ⟨S8x16384x1, .f32⟩
  | 34 => ⟨S8x16384x1, .f32⟩
  | 35 => ⟨S_, .f32⟩
  | 36 => ⟨S8x16384x1, .f32⟩
  | 37 => ⟨S8x16384x1, .f32⟩
  | 38 => ⟨S8x16384x1, .f32⟩
  | 39 => ⟨S8x16384x64, .f32⟩
  | 40 => ⟨S8x16384x64, .f32⟩
  | 41 => ⟨S1x1x64, .f32⟩
  | 42 => ⟨S8x16384x64, .f32⟩
  | 43 => ⟨S8x16384x64, .f32⟩
  | 44 => ⟨S16384x8, .f32⟩
  | 45 => ⟨S16384x8, .f32⟩
  | 46 => ⟨S16384x8, .f32⟩
  | 47 => ⟨S_, .f32⟩
  | 48 => ⟨S16384x8, .f32⟩
  | 49 => ⟨S16384x8, .f32⟩
  | 50 => ⟨S16384x8, .f32⟩
  | 51 => ⟨S16384x8, .f32⟩
  | 52 => ⟨S16384x8, .i1⟩
  | 53 => ⟨S16384x8, .f32⟩
  | 54 => ⟨S16384x8, .f32⟩
  | 55 => ⟨S16384x8, .f32⟩
  | 56 => ⟨S16384x8, .f32⟩
  | 57 => ⟨S16384x8, .f32⟩
  | 58 => ⟨S16384x8, .f32⟩
  | 59 => ⟨S16384x8, .f32⟩
  | 60 => ⟨S16384x8, .f32⟩
  | 61 => ⟨S16384x8, .f32⟩
  | 62 => ⟨S_, .f32⟩
  | 63 => ⟨S_, .f32⟩
  | 64 => ⟨S16384x8, .f32⟩
  | 65 => ⟨S8x16384, .f32⟩
  | 66 => ⟨S1x64, .f32⟩
  | 67 => ⟨S_, .f32⟩
  | 68 => ⟨S_, .f32⟩
  | 69 => ⟨S_, .f32⟩
  | 70 => ⟨S_, .f32⟩
  | 71 => ⟨S1x64, .f32⟩
  | 72 => ⟨S_, .f32⟩
  | 73 => ⟨S_, .f32⟩
  | 74 => ⟨S_, .f32⟩
  | 75 => ⟨S1x1, .f32⟩
  | 76 => ⟨S_, .f32⟩
  | 77 => ⟨S1x1, .f32⟩
  | 78 => ⟨S1x1, .i1⟩
  | 79 => ⟨S_, .f32⟩
  | 80 => ⟨S1x1, .f32⟩
  | 81 => ⟨S1x1, .f32⟩
  | 82 => ⟨S_, .f32⟩
  | 83 => ⟨S_, .f32⟩
  | 84 => ⟨S1x1, .f32⟩
  | 85 => ⟨S1x1, .f32⟩
  | 86 => ⟨S_, .f32⟩
  | 87 => ⟨S8x16384x64, .f32⟩
  | 88 => ⟨S8x16384x64, .f32⟩
  | 89 => ⟨S8x16384, .bf16⟩
  | 90 => ⟨S8x16384, .f32⟩
  | 91 => ⟨S8x16384, .f32⟩
  | 92 => ⟨S8x16384, .bf16⟩
  | 93 => ⟨S8x16384, .f32⟩
  | 94 => ⟨S8x16384, .f32⟩
  | 95 => ⟨S8x16384, .f32⟩
  | 96 => ⟨S8x16384x1, .f32⟩
  | 97 => ⟨S8x16384x1, .f32⟩
  | 98 => ⟨S8x16384x1, .f32⟩
  | 99 => ⟨S8x16384x3, .f32⟩
  | 100 => ⟨S_, .f32⟩
  | 101 => ⟨S1x1, .f32⟩
  | 102 => ⟨S1x1, .f32⟩
  | 103 => ⟨S1x1, .bf16⟩
  | 104 => ⟨S1x1, .f32⟩
  | 105 => ⟨S1x1, .f32⟩
  | 106 => ⟨S1x1, .bf16⟩
  | 107 => ⟨S1x1, .f32⟩
  | 108 => ⟨S1x1, .f32⟩
  | 109 => ⟨S1x1, .f32⟩
  | 110 => ⟨S1x1x1, .f32⟩
  | 111 => ⟨S1x1x1, .f32⟩
  | 112 => ⟨S1x1x1, .f32⟩
  | 113 => ⟨S1x1x3, .f32⟩
  | 114 => ⟨S8x16384x3, .f32⟩
  | 115 => ⟨S_, .f32⟩
  | 116 => ⟨S8x16384x3, .f32⟩
  | 117 => ⟨S_, .f32⟩
  | 118 => ⟨S8x16384x55, .f32⟩
  | 119 => ⟨S8x16384x128, .f32⟩
  | 120 => ⟨S8x16384x128, .bf16⟩
  | 121 => ⟨S8x16384x3, .f32⟩
  | 122 => ⟨S8x16384x128, .f32⟩
  | 123 => ⟨S8x16384x128, .bf16⟩
  | 124 => ⟨S16384x8, .f32⟩
  | 125 => ⟨S32x8, .f32⟩
  | 126 => ⟨S8x32, .f32⟩
  | 127 => ⟨S32x8, .f32⟩
  | _ => ⟨S16384x512, .f32⟩

abbrev hbmTy0_1 (i : Nat) : BufTy := match i % 128 with
  | 0 => ⟨S8x32, .f32⟩
  | 1 => ⟨S8x16384x16384, .f32⟩
  | 2 => ⟨S_, .f32⟩
  | 3 => ⟨S8x16384x16384, .f32⟩
  | 4 => ⟨S8x16384x16384, .f32⟩
  | 5 => ⟨S8x16384x1, .f32⟩
  | 6 => ⟨S8x16384x16384, .f32⟩
  | 7 => ⟨S8x16384x16384, .f32⟩
  | 8 => ⟨S8x1x16384, .f32⟩
  | 9 => ⟨S8x16384x16384, .f32⟩
  | 10 => ⟨S8x16384x16384, .f32⟩
  | 11 => ⟨S8x16384x16384, .i32⟩
  | 12 => ⟨S8x16384x16384, .i32⟩
  | 13 => ⟨S8x16384x16384, .i1⟩
  | 14 => ⟨S_, .f32⟩
  | 15 => ⟨S_, .f32⟩
  | 16 => ⟨S8x16384x16384, .f32⟩
  | 17 => ⟨S8x16384x16384, .f32⟩
  | 18 => ⟨S_, .f32⟩
  | 19 => ⟨S8x16384, .f32⟩
  | 20 => ⟨S8x16384x1, .f32⟩
  | 21 => ⟨S8x16384x16384, .f32⟩
  | 22 => ⟨S8x16384x16384, .f32⟩
  | 23 => ⟨S8x16384x16384, .f32⟩
  | 24 => ⟨S_, .f32⟩
  | 25 => ⟨S8x16384, .f32⟩
  | 26 => ⟨S8x16384x1, .f32⟩
  | 27 => ⟨S8x16384x1, .f32⟩
  | 28 => ⟨S8x16384x1, .f32⟩
  | 29 => ⟨S8x16384, .f32⟩
  | 30 => ⟨S8x16384, .f32⟩
  | 31 => ⟨S8x16384, .f32⟩
  | 32 => ⟨S16384x8x64, .f32⟩
  | 33 => ⟨S8x16384x64, .f32⟩
  | 34 => ⟨S8x16384x16384, .f32⟩
  | 35 => ⟨S8x16384x16384, .f32⟩
  | 36 => ⟨S16384x8x64, .f32⟩
  | 37 => ⟨S8x16384x64, .f32⟩
  | 38 => ⟨S8x16384x64, .f32⟩
  | 39 => ⟨S8x16384x64, .f32⟩
  | 40 => ⟨S_, .f32⟩
  | 41 => ⟨S8x16384, .f32⟩
  | 42 => ⟨S16384x512, .bf16⟩
  | 43 => ⟨S16384x512, .bf16⟩
  | 44 => ⟨S4x2x32x512, .f32⟩
  | 45 => ⟨S4x32x2x512, .f32⟩
  | 46 => ⟨S_, .i32⟩
  | 47 => ⟨S_, .f32⟩
  | 48 => ⟨S4x32x8x512, .f32⟩
  | 49 => ⟨S4x2x32x512, .f32⟩
  | 50 => ⟨S4x32x2x512, .f32⟩
  | 51 => ⟨S_, .i32⟩
  | 52 => ⟨S_, .f32⟩
  | 53 => ⟨S4x32x8x512, .f32⟩
  | 54 => ⟨S8x16384x128, .f32⟩
  | 55 => ⟨S8x16384x128, .f32⟩
  | 56 => ⟨S16384x512, .bf16⟩
  | 57 => ⟨S8x16384x64, .f32⟩
  | 58 => ⟨S_, .f32⟩
  | 59 => ⟨S8x16384x64, .f32⟩
  | 60 => ⟨S8x16384x64, .f32⟩
  | 61 => ⟨S8x16384x64, .f32⟩
  | 62 => ⟨S8x16384x1, .f32⟩
  | 63 => ⟨S8x16384, .f32⟩
  | 64 => ⟨S8x16384x1, .f32⟩
  | 65 => ⟨S8x16384, .f32⟩
  | 66 => ⟨S8x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S2x512x128, .bf16⟩
  | .local _ .vmem, ⟨1, _⟩ => ⟨S2x512x128, .bf16⟩
  | .local _ .vmem, ⟨2, _⟩ => ⟨S512x128, .bf16⟩
  | .local _ .vmem, ⟨3, _⟩ => ⟨S512x128, .bf16⟩
  | .local _ .vmem, ⟨4, _⟩ => ⟨S1x32x8x512, .f32⟩
  | .local _ .vmem, ⟨5, _⟩ => ⟨S1x32x8x512, .f32⟩
  | .local _ .vmem, ⟨6, _⟩ => ⟨S2x16384x128, .bf16⟩
  | .local _ .vmem, ⟨7, _⟩ => ⟨S16384x128, .bf16⟩
  | .local _ .vmem, ⟨8, _⟩ => ⟨S1x32x8x512, .f32⟩
  | .local _ .vmem, ⟨9, _⟩ => ⟨S1x32x8x512, .f32⟩
  | .local _ .vmem, ⟨10, _⟩ => ⟨S2x512x128, .f32⟩
  | .local _ .vmem, ⟨11, _⟩ => ⟨S2x512x128, .f32⟩
  | .local _ .vmem, ⟨12, _⟩ => ⟨S512x128, .bf16⟩
  | .local _ .vmem, ⟨13, _⟩ => ⟨S512x128, .bf16⟩
  | .local _ .vmem, ⟨14, _⟩ => ⟨S2x16384x128, .f32⟩
  | .local _ .vmem, ⟨15, _⟩ => ⟨S2x512x128, .f32⟩
  | .local _ .vmem, ⟨16, _⟩ => ⟨S2x512x128, .f32⟩
  | .local _ .smem, ⟨0, _⟩ => ⟨S8x32, .f32⟩
  | .local _ .smem, ⟨1, _⟩ => ⟨S8x32, .f32⟩
  | .local _ .smem, ⟨2, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v32 : Ref sig .tc := ⟨.hbm, 61, rfl⟩
abbrev main_call1_call0_cst : Ref sig .tc := ⟨.hbm, 62, rfl⟩
abbrev main_call1_call0_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_8 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_v45 : Ref sig .tc := ⟨.hbm, 81, rfl⟩
abbrev main_cst_10 : Ref sig .tc := ⟨.hbm, 82, rfl⟩
abbrev main_call2_v0 : Ref sig .tc := ⟨.hbm, 83, rfl⟩
abbrev main_call2_v1 : Ref sig .tc := ⟨.hbm, 84, rfl⟩
abbrev main_v46 : Ref sig .tc := ⟨.hbm, 85, rfl⟩
abbrev main_cst_11 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_12 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_13 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_16 : Ref sig .tc := ⟨.hbm, 142, rfl⟩
abbrev main_call3_v0 : Ref sig .tc := ⟨.hbm, 143, rfl⟩
abbrev main_call3_v1 : Ref sig .tc := ⟨.hbm, 144, rfl⟩
abbrev main_v98 : Ref sig .tc := ⟨.hbm, 145, rfl⟩
abbrev main_cst_17 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_18 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_19 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c : Ref sig .tc := ⟨.hbm, 174, rfl⟩
abbrev main_call4_v0 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_20 : Ref sig .tc := ⟨.hbm, 179, rfl⟩
abbrev main_call5_v0 : Ref sig .tc := ⟨.hbm, 180, rfl⟩
abbrev main_v127 : Ref sig .tc := ⟨.hbm, 181, rfl⟩
abbrev main_v128_0 : Ref sig .tc := ⟨.hbm, 182, rfl⟩
abbrev main_v128_1 : Ref sig .tc := ⟨.hbm, 183, rfl⟩
abbrev main_v128_2 : Ref sig .tc := ⟨.hbm, 184, rfl⟩
abbrev main_v129 : Ref sig .tc := ⟨.hbm, 185, rfl⟩
abbrev main_cst_21 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_10 : Index := 0#32
  ![v21.toNat, 0]
def k0_off2 (i : grid0.Coords) : Fin 4 → Nat :=
  let c0_11 : Index := 0#32
  let arg1 : BitVec 32 := BitVec.ofNat 32 (i 1).val
  let v24 : Index := Scalar.indexCast arg1
  let c0_12 : Index := 0#32
  let c0_13 : Index := 0#32
  ![0, v24.toNat, 0, 0]
def k0_off3 (i : grid0.Coords) : Fin 3 → Nat :=
  let c0_17 : Index := 0#32
  let arg1 : BitVec 32 := BitVec.ofNat 32 (i 1).val
  let c512_i32 : BitVec 32 := 512#32
  let v19 : BitVec 32 := Scalar.muli arg1 c512_i32
  let v20 : BitVec 32 := v19
  let v30 : Index := Scalar.indexCast v20
  let c0_18 : Index := 0#32
  ![0, v30.toNat, 0]
def k0_off4 (i : grid0.Coords) : Fin 3 → Nat :=
  let c1 : Index := 1#32
  let arg1 : BitVec 32 := BitVec.ofNat 32 (i 1).val
  let c512_i32 : BitVec 32 := 512#32
  let v19 : BitVec 32 := Scalar.muli arg1 c512_i32
  let v20 : BitVec 32 := v19
  let v75 : Index := Scalar.indexCast v20
  let c0_44 : Index := 0#32
  ![1, v75.toNat, 0]
def k0_off5 (i : grid0.Coords) (arg18 : BitVec 32) (c0_i32_85 : BitVec 32) : Fin 2 → Nat :=
  let c2_i32 : BitVec 32 := 2#32
  let arg0 : BitVec 32 := BitVec.ofNat 32 (i 0).val
  let v136 : BitVec 32 := Scalar.muli c2_i32 arg0
  let v137 : BitVec 32 := Scalar.addi v136 c0_i32_85
  let v139 : Index := Scalar.indexCast v137
  let c31_i32_86 : BitVec 32 := 31#32
  let v138 : BitVec 32 := Scalar.minsi arg18 c31_i32_86
  let v140 : Index := Scalar.indexCast v138
  ![v139.toNat, v140.toNat]

def k0_chk1 (i : grid0.Coords) (arg18 : BitVec 32) : Prop :=
  (∀ (r : Fin 2), ∀ a, (k0_off5 i arg18 (BitVec.ofNat 32 r.val)) a + S1x1.size a ≤ S8x32.size a)
theorem k0_off5_inb : ∀ (i : grid0.Coords) (arg18 : BitVec 32) (k0_hw1 : k0_chk1 i arg18), ∀ (r : Fin 2), ∀ a, (k0_off5 i arg18 (BitVec.ofNat 32 r.val)) a + S1x1.size a ≤ S8x32.size a := fun i arg18 k0_hw1 r => k0_hw1 r

def k0_off6 (i : grid0.Coords) (c0_i32_90 : BitVec 32) : Fin 2 → Nat :=
  let c2_i32_89 : BitVec 32 := 2#32
  let arg0 : BitVec 32 := BitVec.ofNat 32 (i 0).val
  let v145 : BitVec 32 := Scalar.muli c2_i32_89 arg0
  let v146 : BitVec 32 := Scalar.addi v145 c0_i32_90
  let v147 : Index := Scalar.indexCast v146
  let arg1 : BitVec 32 := BitVec.ofNat 32 (i 1).val
  let v148 : Index := Scalar.indexCast arg1
  ![v147.toNat, v148.toNat]
def k0_mult2 (arg18 : BitVec 32) : BitVec 32 :=
  let c512_i32_85 : BitVec 32 := 512#32
  let v136 : BitVec 32 := Scalar.muli arg18 c512_i32_85
  v136

def k0_off7 (arg18 : BitVec 32) : Fin 2 → Nat :=
  let c512_i32_85 : BitVec 32 := 512#32
  let v136 : BitVec 32 := Scalar.muli arg18 c512_i32_85
  let v137 : BitVec 32 := v136
  let v138 : Index := Scalar.indexCast v137
  let c0_86 : Index := 0#32
  ![v138.toNat, 0]
def k0_off8 (arg18 : BitVec 32) : Fin 4 → Nat :=
  let c0_87 : Index := 0#32
  let v141 : Index := Scalar.indexCast arg18
  let c0_88 : Index := 0#32
  let c0_89 : Index := 0#32
  ![0, v141.toNat, 0, 0]
def k0_off9 (arg18 : BitVec 32) : Fin 3 → Nat :=
  let c0_93 : Index := 0#32
  let c512_i32_85 : BitVec 32 := 512#32
  let v136 : BitVec 32 := Scalar.muli arg18 c512_i32_85
  let v137 : BitVec 32 := v136
  let v147 : Index := Scalar.indexCast v137
  let c0_94 : Index := 0#32
  ![0, v147.toNat, 0]
def k0_off10 (arg18 : BitVec 32) : Fin 3 → Nat :=
  let c1_119 : Index := 1#32
  let c512_i32_85 : BitVec 32 := 512#32
  let v136 : BitVec 32 := Scalar.muli arg18 c512_i32_85
  let v137 : BitVec 32 := v136
  let v187 : Index := Scalar.indexCast v137
  let c0_120 : Index := 0#32
  ![1, v187.toNat, 0]

def k0_chk2 (arg18 : BitVec 32) : Prop :=
  (512 ∣ (k0_mult2 arg18).toNat) ∧
  (∀ a, (k0_off7 arg18) a + S512x128.size a ≤ S16384x128.size a) ∧
  (∀ a, (k0_off8 arg18) a + S1x1x8x512.size a ≤ S1x32x8x512.size a) ∧
  (∀ a, (k0_off9 arg18) a + S1x512x128.size a ≤ S2x16384x128.size a) ∧
  (∀ a, (k0_off10 arg18) a + S1x512x128.size a ≤ S2x16384x128.size a)
theorem k0_mult2_dvd : ∀ (arg18 : BitVec 32) (k0_hw2 : k0_chk2 arg18), 512 ∣ (k0_mult2 arg18).toNat := fun arg18 k0_hw2 => k0_hw2.1
theorem k0_off7_inb : ∀ (arg18 : BitVec 32) (k0_hw2 : k0_chk2 arg18), ∀ a, (k0_off7 arg18) a + S512x128.size a ≤ S16384x128.size a := fun arg18 k0_hw2 => k0_hw2.2.1
theorem k0_off8_inb : ∀ (arg18 : BitVec 32) (k0_hw2 : k0_chk2 arg18), ∀ a, (k0_off8 arg18) a + S1x1x8x512.size a ≤ S1x32x8x512.size a := fun arg18 k0_hw2 => k0_hw2.2.2.1
theorem k0_off9_inb : ∀ (arg18 : BitVec 32) (k0_hw2 : k0_chk2 arg18), ∀ a, (k0_off9 arg18) a + S1x512x128.size a ≤ S2x16384x128.size a := fun arg18 k0_hw2 => k0_hw2.2.2.2.1
theorem k0_off10_inb : ∀ (arg18 : BitVec 32) (k0_hw2 : k0_chk2 arg18), ∀ a, (k0_off10 arg18) a + S1x512x128.size a ≤ S2x16384x128.size a := fun arg18 k0_hw2 => k0_hw2.2.2.2.2

def k0_off11 (i : grid0.Coords) (arg18 : BitVec 32) : Fin 2 → Nat :=
  let c2_i32 : BitVec 32 := 2#32
  let arg0 : BitVec 32 := BitVec.ofNat 32 (i 0).val
  let v136 : BitVec 32 := Scalar.muli c2_i32 arg0
  let c0_i32_85 : BitVec 32 := 0#32
  let v137 : BitVec 32 := Scalar.addi v136 c0_i32_85
  let v139 : Index := Scalar.indexCast v137
  let c31_i32_86 : BitVec 32 := 31#32
  let v138 : BitVec 32 := Scalar.minsi arg18 c31_i32_86
  let v140 : Index := Scalar.indexCast v138
  ![v139.toNat, v140.toNat]

def k0_chk3 (i : grid0.Coords) (arg18 : BitVec 32) : Prop :=
  (∀ a, (k0_off11 i arg18) a + S1x1.size a ≤ S8x32.size a)
theorem k0_off11_inb : ∀ (i : grid0.Coords) (arg18 : BitVec 32) (k0_hw3 : k0_chk3 i arg18), ∀ a, (k0_off11 i arg18) a + S1x1.size a ≤ S8x32.size a := fun i arg18 k0_hw3 => k0_hw3

def k0_off12 (i : grid0.Coords) : Fin 2 → Nat :=
  let c2_i32_89 : BitVec 32 := 2#32
  let arg0 : BitVec 32 := BitVec.ofNat 32 (i 0).val
  let v145 : BitVec 32 := Scalar.muli c2_i32_89 arg0
  let c0_i32_90 : BitVec 32 := 0#32
  let v146 : BitVec 32 := Scalar.addi v145 c0_i32_90
  let v147 : Index := Scalar.indexCast v146
  let arg1 : BitVec 32 := BitVec.ofNat 32 (i 1).val
  let v148 : Index := Scalar.indexCast arg1
  ![v147.toNat, v148.toNat]
def k0_mult3 (arg18 : BitVec 32) : BitVec 32 :=
  let c512_i32_85 : BitVec 32 := 512#32
  let v136 : BitVec 32 := Scalar.muli arg18 c512_i32_85
  v136

def k0_off13 (arg18 : BitVec 32) : Fin 2 → Nat :=
  let c512_i32_85 : BitVec 32 := 512#32
  let v136 : BitVec 32 := Scalar.muli arg18 c512_i32_85
  let v137 : BitVec 32 := v136
  let v138 : Index := Scalar.indexCast v137
  let c0_86 : Index := 0#32
  ![v138.toNat, 0]
def k0_off14 (arg18 : BitVec 32) : Fin 4 → Nat :=
  let c0_87 : Index := 0#32
  let v141 : Index := Scalar.indexCast arg18
  let c0_88 : Index := 0#32
  let c0_89 : Index := 0#32
  ![0, v141.toNat, 0, 0]
def k0_off15 (arg18 : BitVec 32) : Fin 3 → Nat :=
  let c0_93 : Index := 0#32
  let c512_i32_85 : BitVec 32 := 512#32
  let v136 : BitVec 32 := Scalar.muli arg18 c512_i32_85
  let v137 : BitVec 32 := v136
  let v147 : Index := Scalar.indexCast v137
  let c0_94 : Index := 0#32
  ![0, v147.toNat, 0]

def k0_chk4 (arg18 : BitVec 32) : Prop :=
  (512 ∣ (k0_mult3 arg18).toNat) ∧
  (∀ a, (k0_off13 arg18) a + S512x128.size a ≤ S16384x128.size a) ∧
  (∀ a, (k0_off14 arg18) a + S1x1x8x512.size a ≤ S1x32x8x512.size a) ∧
  (∀ a, (k0_off15 arg18) a + S1x512x128.size a ≤ S2x16384x128.size a)
theorem k0_mult3_dvd : ∀ (arg18 : BitVec 32) (k0_hw4 : k0_chk4 arg18), 512 ∣ (k0_mult3 arg18).toNat := fun arg18 k0_hw4 => k0_hw4.1
theorem k0_off13_inb : ∀ (arg18 : BitVec 32) (k0_hw4 : k0_chk4 arg18), ∀ a, (k0_off13 arg18) a + S512x128.size a ≤ S16384x128.size a := fun arg18 k0_hw4 => k0_hw4.2.1
theorem k0_off14_inb : ∀ (arg18 : BitVec 32) (k0_hw4 : k0_chk4 arg18), ∀ a, (k0_off14 arg18) a + S1x1x8x512.size a ≤ S1x32x8x512.size a := fun arg18 k0_hw4 => k0_hw4.2.2.1
theorem k0_off15_inb : ∀ (arg18 : BitVec 32) (k0_hw4 : k0_chk4 arg18), ∀ a, (k0_off15 arg18) a + S1x512x128.size a ≤ S2x16384x128.size a := fun arg18 k0_hw4 => k0_hw4.2.2.2

def k0_off16 (i : grid0.Coords) (arg18 : BitVec 32) : Fin 2 → Nat :=
  let c2_i32 : BitVec 32 := 2#32
  let arg0 : BitVec 32 := BitVec.ofNat 32 (i 0).val
  let v136 : BitVec 32 := Scalar.muli c2_i32 arg0
  let c1_i32_85 : BitVec 32 := 1#32
  let v137 : BitVec 32 := Scalar.addi v136 c1_i32_85
  let v139 : Index := Scalar.indexCast v137
  let c31_i32_86 : BitVec 32 := 31#32
  let v138 : BitVec 32 := Scalar.minsi arg18 c31_i32_86
  let v140 : Index := Scalar.indexCast v138
  ![v139.toNat, v140.toNat]

def k0_chk5 (i : grid0.Coords) (arg18 : BitVec 32) : Prop :=
  (∀ a, (k0_off16 i arg18) a + S1x1.size a ≤ S8x32.size a)
theorem k0_off16_inb : ∀ (i : grid0.Coords) (arg18 : BitVec 32) (k0_hw5 : k0_chk5 i arg18), ∀ a, (k0_off16 i arg18) a + S1x1.size a ≤ S8x32.size a := fun i arg18 k0_hw5 => k0_hw5

def k0_off17 (i : grid0.Coords) : Fin 2 → Nat :=
  let c2_i32_89 : BitVec 32 := 2#32
  let arg0 : BitVec 32 := BitVec.ofNat 32 (i 0).val
  let v145 : BitVec 32 := Scalar.muli c2_i32_89 arg0
  let c1_i32_90 : BitVec 32 := 1#32
  let v146 : BitVec 32 := Scalar.addi v145 c1_i32_90
  let v147 : Index := Scalar.indexCast v146
  let arg1 : BitVec 32 := BitVec.ofNat 32 (i 1).val
  let v148 : Index := Scalar.indexCast arg1
  ![v147.toNat, v148.toNat]
def k0_mult4 (arg18 : BitVec 32) : BitVec 32 :=
  let c512_i32_85 : BitVec 32 := 512#32
  let v136 : BitVec 32 := Scalar.muli arg18 c512_i32_85
  v136

def k0_off18 (arg18 : BitVec 32) : Fin 2 → Nat :=
  let c512_i32_85 : BitVec 32 := 512#32
  let v136 : BitVec 32 := Scalar.muli arg18 c512_i32_85
  let v137 : BitVec 32 := v136
  let v138 : Index := Scalar.indexCast v137
  let c0_86 : Index := 0#32
  ![v138.toNat, 0]
def k0_off19 (arg18 : BitVec 32) : Fin 4 → Nat :=
  let c0_87 : Index := 0#32
  let v141 : Index := Scalar.indexCast arg18
  let c0_88 : Index := 0#32
  let c0_89 : Index := 0#32
  ![0, v141.toNat, 0, 0]
def k0_off20 (arg18 : BitVec 32) : Fin 3 → Nat :=
  let c1_93 : Index := 1#32
  let c512_i32_85 : BitVec 32 := 512#32
  let v136 : BitVec 32 := Scalar.muli arg18 c512_i32_85
  let v137 : BitVec 32 := v136
  let v147 : Index := Scalar.indexCast v137
  let c0_94 : Index := 0#32
  ![1, v147.toNat, 0]

def k0_chk6 (arg18 : BitVec 32) : Prop :=
  (512 ∣ (k0_mult4 arg18).toNat) ∧
  (∀ a, (k0_off18 arg18) a + S512x128.size a ≤ S16384x128.size a) ∧
  (∀ a, (k0_off19 arg18) a + S1x1x8x512.size a ≤ S1x32x8x512.size a) ∧
  (∀ a, (k0_off20 arg18) a + S1x512x128.size a ≤ S2x16384x128.size a)
theorem k0_mult4_dvd : ∀ (arg18 : BitVec 32) (k0_hw6 : k0_chk6 arg18), 512 ∣ (k0_mult4 arg18).toNat := fun arg18 k0_hw6 => k0_hw6.1
theorem k0_off18_inb : ∀ (arg18 : BitVec 32) (k0_hw6 : k0_chk6 arg18), ∀ a, (k0_off18 arg18) a + S512x128.size a ≤ S16384x128.size a := fun arg18 k0_hw6 => k0_hw6.2.1
theorem k0_off19_inb : ∀ (arg18 : BitVec 32) (k0_hw6 : k0_chk6 arg18), ∀ a, (k0_off19 arg18) a + S1x1x8x512.size a ≤ S1x32x8x512.size a := fun arg18 k0_hw6 => k0_hw6.2.2.1
theorem k0_off20_inb : ∀ (arg18 : BitVec 32) (k0_hw6 : k0_chk6 arg18), ∀ a, (k0_off20 arg18) a + S1x512x128.size a ≤ S2x16384x128.size a := fun arg18 k0_hw6 => k0_hw6.2.2.2

def k0_cond2 (i : grid0.Coords) : BitVec 1 :=
  let arg1 : BitVec 32 := BitVec.ofNat 32 (i 1).val
  let c31_i32 : BitVec 32 := 31#32
  let v133 : BitVec 1 := Scalar.cmpi .eq arg1 c31_i32
  let v134 : BitVec 32 := Scalar.extui v133
  let c0_i32_84 : BitVec 32 := 0#32
  let v135 : BitVec 1 := Scalar.cmpi .ne v134 c0_i32_84
  v135

def k0_off21 (i : grid0.Coords) : Fin 3 → Nat :=
  let c2_i32 : BitVec 32 := 2#32
  let arg0 : BitVec 32 := BitVec.ofNat 32 (i 0).val
  let v136 : BitVec 32 := Scalar.muli c2_i32 arg0
  let c0_i32_85 : BitVec 32 := 0#32
  let c0_i32_86 : BitVec 32 := 0#32
  ![v136.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x16384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S16384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1x32x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "exit" => some ⊥
  | _ => none
-- ==== AttnRefIdeal.lean ====
abbrev S16384x512 : Shape := ⟨2, ![16384, 512]⟩
abbrev S16384x8 : Shape := ⟨2, ![16384, 8]⟩
abbrev S1x64 : Shape := ⟨2, ![1, 64]⟩
abbrev S1x8 : Shape := ⟨2, ![1, 8]⟩
abbrev S16384x8x64 : Shape := ⟨3, ![16384, 8, 64]⟩
abbrev S8x16384x64 : Shape := ⟨3, ![8, 16384, 64]⟩
abbrev S_ : Shape := ⟨0, ![]⟩
abbrev S8x16384 : Shape := ⟨2, ![8, 16384]⟩
abbrev S8x16384x1 : Shape := ⟨3, ![8, 16384, 1]⟩
abbrev S1x1x64 : Shape := ⟨3, ![1, 1, 64]⟩
abbrev S8x16384x16384 : Shape := ⟨3, ![8, 16384, 16384]⟩
abbrev S8x1x16384 : Shape := ⟨3, ![8, 1, 16384]⟩
abbrev S8x64x16384 : Shape := ⟨3, ![8, 64, 16384]⟩

abbrev nBuf : Space → Nat
  | .hbm => 151
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8, .f32⟩
  | 4 => ⟨S1x64, .f32⟩
  | 5 => ⟨S1x64, .f32⟩
  | 6 => ⟨S1x8, .f32⟩
  | 7 => ⟨S16384x512, .f32⟩
  | 8 => ⟨S16384x8x64, .f32⟩
  | 9 => ⟨S8x16384x64, .f32⟩
  | 10 => ⟨S8x16384x64, .f32⟩
  | 11 => ⟨S_, .f32⟩
  | 12 => ⟨S8x16384, .f32⟩
  | 13 => ⟨S8x16384x1, .f32⟩
  | 14 => ⟨S_, .f32⟩
  | 15 => ⟨S8x16384x1, .f32⟩
  | 16 => ⟨S8x16384x1, .f32⟩
  | 17 => ⟨S_, .f32⟩
  | 18 => ⟨S8x16384x1, .f32⟩
  | 19 => ⟨S8x16384x1, .f32⟩
  | 20 => ⟨S8x16384x1, .f32⟩
  | 21 => ⟨S8x16384x64, .f32⟩
  | 22 => ⟨S8x16384x64, .f32⟩
  | 23 => ⟨S1x1x64, .f32⟩
  | 24 => ⟨S8x16384x64, .f32⟩
  | 25 => ⟨S8x16384x64, .f32⟩
  | 26 => ⟨S16384x8x64, .f32⟩
  | 27 => ⟨S8x16384x64, .f32⟩
  | 28 => ⟨S8x16384x64, .f32⟩
  | 29 => ⟨S_, .f32⟩
  | 30 => ⟨S8x16384, .f32⟩
  | 31 => ⟨S8x16384x1, .f32⟩
  | 32 => ⟨S_, .f32⟩
  | 33 => ⟨S8x16384x1, .f32⟩
  | 34 => ⟨S8x16384x1, .f32⟩
  | 35 => ⟨S_, .f32⟩
  | 36 => ⟨S8x16384x1, .f32⟩
  | 37 => ⟨S8x16384x1, .f32⟩
  | 38 => ⟨S8x16384x1, .f32⟩
  | 39 => ⟨S8x16384x64, .f32⟩
  | 40 => ⟨S8x16384x64, .f32⟩
  | 41 => ⟨S1x1x64, .f32⟩
  | 42 => ⟨S8x16384x64, .f32⟩
  | 43 => ⟨S8x16384x64, .f32⟩
  | 44 => ⟨S16384x8, .f32⟩
  | 45 => ⟨S16384x8, .f32⟩
  | 46 => ⟨S16384x8, .f32⟩
  | 47 => ⟨S_, .f32⟩
  | 48 => ⟨S16384x8, .f32⟩
  | 49 => ⟨S16384x8, .f32⟩
  | 50 => ⟨S16384x8, .f32⟩
  | 51 => ⟨S16384x8, .f32⟩
  | 52 => ⟨S16384x8, .i1⟩
  | 53 => ⟨S16384x8, .f32⟩
  | 54 => ⟨S16384x8, .f32⟩
  | 55 => ⟨S16384x8, .f32⟩
  | 56 => ⟨S16384x8, .f32⟩
  | 57 => ⟨S16384x8, .f32⟩
  | 58 => ⟨S16384x8, .f32⟩
  | 59 => ⟨S16384x8, .f32⟩
  | 60 => ⟨S16384x8, .f32⟩
  | 61 => ⟨S16384x8, .f32⟩
  | 62 => ⟨S_, .f32⟩
  | 63 => ⟨S_, .f32⟩
  | 64 => ⟨S16384x8, .f32⟩
  | 65 => ⟨S8x16384, .f32⟩
  | 66 => ⟨S16384x8x64, .f32⟩
  | 67 => ⟨S8x16384x64, .f32⟩
  | 68 => ⟨S8x16384x16384, .f32⟩
  | 69 => ⟨S_, .f32⟩
  | 70 => ⟨S8x16384x16384, .f32⟩
  | 71 => ⟨S8x16384x16384, .f32⟩
  | 72 => ⟨S8x16384x1, .f32⟩
  | 73 => ⟨S8x16384x16384, .f32⟩
  | 74 => ⟨S8x16384x16384, .f32⟩
  | 75 => ⟨S8x1x16384, .f32⟩
  | 76 => ⟨S8x16384x16384, .f32⟩
  | 77 => ⟨S8x16384x16384, .f32⟩
  | 78 => ⟨S8x16384x16384, .i32⟩
  | 79 => ⟨S8x16384x16384, .i32⟩
  | 80 => ⟨S8x16384x16384, .i1⟩
  | 81 => ⟨S_, .f32⟩
  | 82 => ⟨S_, .f32⟩
  | 83 => ⟨S8x16384x16384, .f32⟩
  | 84 => ⟨S8x16384x16384, .f32⟩
  | 85 => ⟨S_, .f32⟩
  | 86 => ⟨S8x16384x16384, .f32⟩
  | 87 => ⟨S_, .f32⟩
  | 88 => ⟨S8x16384, .f32⟩
  | 89 => ⟨S8x16384x1, .f32⟩
  | 90 => ⟨S8x16384x16384, .f32⟩
  | 91 => ⟨S8x16384x16384, .i1⟩
  | 92 => ⟨S8x16384x16384, .f32⟩
  | 93 => ⟨S_, .f32⟩
  | 94 => ⟨S8x16384, .f32⟩
  | 95 => ⟨S8x16384x1, .f32⟩
  | 96 => ⟨S8x16384x16384, .f32⟩
  | 97 => ⟨S8x16384x16384, .f32⟩
  | 98 => ⟨S8x16384x16384, .f32⟩
  | 99 => ⟨S_, .f32⟩
  | 100 => ⟨S8x16384, .f32⟩
  | 101 => ⟨S8x16384x1, .f32⟩
  | 102 => ⟨S8x16384x16384, .f32⟩
  | 103 => ⟨S8x16384x16384, .f32⟩
  | 104 => ⟨S8x16384x1, .f32⟩
  | 105 => ⟨S_, .f32⟩
  | 106 => ⟨S8x16384x1, .f32⟩
  | 107 => ⟨S8x16384x1, .f32⟩
  | 108 => ⟨S8x16384x64, .f32⟩
  | 109 => ⟨S16384x8x64, .f32⟩
  | 110 => ⟨S8x16384x64, .f32⟩
  | 111 => ⟨S8x64x16384, .f32⟩
  | 112 => ⟨S8x16384x64, .f32⟩
  | 113 => ⟨S8x16384x16384, .f32⟩
  | 114 => ⟨S8x16384x16384, .f32⟩
  | 115 => ⟨S8x16384x16384, .f32⟩
  | 116 => ⟨S8x16384x16384, .f32⟩
  | 117 => ⟨S_, .f32⟩
  | 118 => ⟨S8x16384, .f32⟩
  | 119 => ⟨S8x16384x1, .f32⟩
  | 120 => ⟨S8x16384x1, .f32⟩
  | 121 => ⟨S8x16384x16384, .f32⟩
  | 122 => ⟨S8x16384x16384, .f32⟩
  | 123 => ⟨S_, .f32⟩
  | 124 => ⟨S8x16384, .f32⟩
  | 125 => ⟨S8x16384x16384, .f32⟩
  | 126 => ⟨S8x16384x16384, .f32⟩
  | 127 => ⟨S8x16384x16384, .f32⟩
  | _ => ⟨S16384x512, .f32⟩

abbrev hbmTy0_1 (i : Nat) : BufTy := match i % 128 with
  | 0 => ⟨S_, .f32⟩
  | 1 => ⟨S8x16384x16384, .f32⟩
  | 2 => ⟨S8x16384x16384, .f32⟩
  | 3 => ⟨S8x16384x16384, .f32⟩
  | 4 => ⟨S_, .f32⟩
  | 5 => ⟨S8x16384, .f32⟩
  | 6 => ⟨S8x1x16384, .f32⟩
  | 7 => ⟨S_, .f32⟩
  | 8 => ⟨S8x16384, .f32⟩
  | 9 => ⟨S_, .f32⟩
  | 10 => ⟨S8x16384, .f32⟩
  | 11 => ⟨S8x16384x1, .f32⟩
  | 12 => ⟨S_, .f32⟩
  | 13 => ⟨S8x16384, .f32⟩
  | 14 => ⟨S8x16384, .f32⟩
  | 15 => ⟨S_, .f32⟩
  | 16 => ⟨S8x16384x16384, .f32⟩
  | 17 => ⟨S8x16384x16384, .f32⟩
  | 18 => ⟨S8x16384x64, .f32⟩
  | 19 => ⟨S8x16384x64, .f32⟩
  | 20 => ⟨S16384x8x64, .f32⟩
  | 21 => ⟨S16384x512, .f32⟩
  | 22 => ⟨S16384x512, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v32 : Ref sig .tc := ⟨.hbm, 61, rfl⟩
abbrev main_call1_call0_cst : Ref sig .tc := ⟨.hbm, 62, rfl⟩
abbrev main_call1_call0_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_6 : Ref sig .tc := ⟨.hbm, 81, rfl⟩
abbrev main_call2_v0 : Ref sig .tc := ⟨.hbm, 82, rfl⟩
abbrev main_call2_v1 : Ref sig .tc := ⟨.hbm, 83, rfl⟩
abbrev main_v49_0 : Ref sig .tc := ⟨.hbm, 84, rfl⟩
abbrev main_call2_cst : Ref sig .tc := ⟨.hbm, 85, rfl⟩
abbrev main_v49_1 : Ref sig .tc := ⟨.hbm, 86, rfl⟩
abbrev main_cst_7 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_8 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_9 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_10 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_11 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_12 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_call3_cst : Ref sig .tc := ⟨.hbm, 128, rfl⟩
abbrev main_call3_v0 : Ref sig .tc := ⟨.hbm, 129, rfl⟩
abbrev main_v85 : Ref sig .tc := ⟨.hbm, 130, rfl⟩
abbrev main_v86 : Ref sig .tc := ⟨.hbm, 131, rfl⟩
abbrev main_cst_13 : Ref sig .tc := ⟨.hbm, 132, rfl⟩
abbrev main_v87 : Ref sig .tc := ⟨.hbm, 133, rfl⟩
abbrev main_v88 : Ref sig .tc := ⟨.hbm, 134, rfl⟩
abbrev main_cst_14 : Ref sig .tc := ⟨.hbm, 135, rfl⟩
abbrev main_v89 : Ref sig .tc := ⟨.hbm, 136, rfl⟩
abbrev main_cst_15 : Ref sig .tc := ⟨.hbm, 137, rfl⟩
abbrev main_v90 : Ref sig .tc := ⟨.hbm, 138, rfl⟩
abbrev main_v91 : Ref sig .tc := ⟨.hbm, 139, rfl⟩
abbrev main_cst_16 : Ref sig .tc := ⟨.hbm, 140, rfl⟩
abbrev main_v92 : Ref sig .tc := ⟨.hbm, 141, rfl⟩
abbrev main_v93 : Ref sig .tc := ⟨.hbm, 142, rfl⟩
abbrev main_cst_17 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩

abbrev nD : Nat := 1
abbrev τ : Topo := Topo.v7x

variable {F : FTy → Type} [FloatOps F]
-- ==== BwdIn.lean ====
abbrev S16384x512 : Shape := ⟨2, ![16384, 512]⟩
abbrev S16384x8 : Shape := ⟨2, ![16384, 8]⟩
abbrev S1x1024x2568 : Shape := ⟨3, ![1, 1024, 2568]⟩
abbrev S16384x1024 : Shape := ⟨2, ![16384, 1024]⟩
abbrev S1x6144 : Shape := ⟨2, ![1, 6144]⟩
abbrev S1x1024 : Shape := ⟨2, ![1, 1024]⟩
abbrev S_ : Shape := ⟨0, ![]⟩
abbrev S16384x128 : Shape := ⟨2, ![16384, 128]⟩
abbrev S1024x2568 : Shape := ⟨2, ![1024, 2568]⟩
abbrev S1024x120 : Shape := ⟨2, ![1024, 120]⟩
abbrev S1024x1536 : Shape := ⟨2, ![1024, 1536]⟩
abbrev S1024x1024 : Shape := ⟨2, ![1024, 1024]⟩
abbrev S1024x8 : Shape := ⟨2, ![1024, 8]⟩
abbrev S1024x2688 : Shape := ⟨2, ![1024, 2688]⟩
abbrev S6x1024 : Shape := ⟨2, ![6, 1024]⟩
abbrev S8x1024 : Shape := ⟨2, ![8, 1024]⟩
abbrev S3x8x1024 : Shape := ⟨3, ![3, 8, 1024]⟩
abbrev S512x512 : Shape := ⟨2, ![512, 512]⟩
abbrev S512x128 : Shape := ⟨2, ![512, 128]⟩
abbrev S512x1024 : Shape := ⟨2, ![512, 1024]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 49
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S16384x512, .f32⟩
  | .hbm, ⟨6, _⟩ => ⟨S1x1024x2568, .f32⟩
  | .hbm, ⟨7, _⟩ => ⟨S16384x1024, .f32⟩
  | .hbm, ⟨8, _⟩ => ⟨S16384x1024, .f32⟩
  | .hbm, ⟨9, _⟩ => ⟨S1x6144, .f32⟩
  | .hbm, ⟨10, _⟩ => ⟨S1x1024, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S_, .i32⟩
  | .hbm, ⟨17, _⟩ => ⟨S_, .f32⟩
  | .hbm, ⟨18, _⟩ => ⟨S16384x128, .f32⟩
  | .hbm, ⟨19, _⟩ => ⟨S16384x128, .bf16⟩
  | .hbm, ⟨20, _⟩ => ⟨S1024x2568, .f32⟩
  | .hbm, ⟨21, _⟩ => ⟨S1024x2568, .bf16⟩
  | .hbm, ⟨22, _⟩ => ⟨S_, .bf16⟩
  | .hbm, ⟨23, _⟩ => ⟨S1024x120, .bf16⟩
  | .hbm, ⟨24, _⟩ => ⟨S1024x1536, .bf16⟩
  | .hbm, ⟨25, _⟩ => ⟨S1024x1024, .bf16⟩
  | .hbm, ⟨26, _⟩ => ⟨S1024x8, .bf16⟩
  | .hbm, ⟨27, _⟩ => ⟨S1024x2688, .bf16⟩
  | .hbm, ⟨28, _⟩ => ⟨S6x1024, .f32⟩
  | .hbm, ⟨29, _⟩ => ⟨S_, .i32⟩
  | .hbm, ⟨30, _⟩ => ⟨S_, .f32⟩
  | .hbm, ⟨31, _⟩ => ⟨S8x1024, .f32⟩
  | .hbm, ⟨32, _⟩ => ⟨S16384x1024, .f32⟩
  | .hbm, ⟨33, _⟩ => ⟨S3x8x1024, .f32⟩
  | .hbm, ⟨34, _⟩ => ⟨S1x8x1024, .f32⟩
  | .hbm, ⟨35, _⟩ => ⟨S8x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S1x8x1024, .f32⟩
  | .hbm, ⟨40, _⟩ => ⟨S8x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S1x8x1024, .f32⟩
  | .hbm, ⟨45, _⟩ => ⟨S8x1024, .f32⟩
  | .hbm, ⟨46, _⟩ => ⟨S_, .f32⟩
  | .hbm, ⟨47, _⟩ => ⟨S1024, .f32⟩
  | .hbm, ⟨48, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S1024x2688, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S3x8x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_call1_v0 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2688 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== BwdInRefIdeal.lean ====
abbrev S16384x512 : Shape := ⟨2, ![16384, 512]⟩
abbrev S16384x8 : Shape := ⟨2, ![16384, 8]⟩
abbrev S1x1024x2568 : Shape := ⟨3, ![1, 1024, 2568]⟩
abbrev S16384x1024 : Shape := ⟨2, ![16384, 1024]⟩
abbrev S1x6144 : Shape := ⟨2, ![1, 6144]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x2568 : Shape := ⟨2, ![1024, 2568]⟩
abbrev S16384x2568 : Shape := ⟨2, ![16384, 2568]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S16384x512, .f32⟩
  | .hbm, ⟨6, _⟩ => ⟨S1x1024x2568, .f32⟩
  | .hbm, ⟨7, _⟩ => ⟨S16384x1024, .f32⟩
  | .hbm, ⟨8, _⟩ => ⟨S16384x1024, .f32⟩
  | .hbm, ⟨9, _⟩ => ⟨S1x6144, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S1024x2568, .f32⟩
  | .hbm, ⟨44, _⟩ => ⟨S16384x2568, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x8, .f32⟩
  | .hbm, ⟨49, _⟩ => ⟨S16384x1024, .f32⟩
  | .hbm, ⟨50, _⟩ => ⟨S16384x512, .f32⟩
  | .hbm, ⟨51, _⟩ => ⟨S16384x512, .f32⟩
  | .hbm, ⟨52, _⟩ => ⟨S16384x1024, .f32⟩
  | .hbm, ⟨53, _⟩ => ⟨S16384x2568, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== BwdMid.lean ====
abbrev S16384x1024 : Shape := ⟨2, ![16384, 1024]⟩
abbrev S16384x512 : Shape := ⟨2, ![16384, 512]⟩
abbrev S1x6144 : Shape := ⟨2, ![1, 6144]⟩
abbrev S1x1024 : Shape := ⟨2, ![1, 1024]⟩
abbrev S1x512 : Shape := ⟨2, ![1, 512]⟩
abbrev S1x1024x1024 : Shape := ⟨3, ![1, 1024, 1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S512x128 : Shape := ⟨2, ![512, 128]⟩
abbrev S6x1024 : Shape := ⟨2, ![6, 1024]⟩
abbrev S8x1024 : Shape := ⟨2, ![8, 1024]⟩
abbrev S4x8x1024 : Shape := ⟨3, ![4, 8, 1024]⟩
abbrev S4x8x512 : Shape := ⟨3, ![4, 8, 512]⟩
abbrev S4x32x8x512 : Shape := ⟨4, ![4, 32, 8, 512]⟩
abbrev S256x1024 : Shape := ⟨2, ![256, 1024]⟩
abbrev S256x512 : Shape := ⟨2, ![256, 512]⟩
abbrev S4x1x8x256 : Shape := ⟨4, ![4, 1, 8, 256]⟩
abbrev S256 : Shape := ⟨1, ![256]⟩
abbrev S256x1 : Shape := ⟨2, ![256, 1]⟩
abbrev S1x8x1024 : Shape := ⟨3, ![1, 8, 1024]⟩
abbrev S32x8x1024 : Shape := ⟨3, ![32, 8, 1024]⟩
abbrev S512x1024 : Shape := ⟨2, ![512, 1024]⟩
abbrev S1x8x512 : Shape := ⟨3, ![1, 8, 512]⟩
abbrev S8x512 : Shape := ⟨2, ![8, 512]⟩
abbrev S32x8x512 : Shape := ⟨3, ![32, 8, 512]⟩
abbrev S256x128 : Shape := ⟨2, ![256, 128]⟩
abbrev S128x256 : Shape := ⟨2, ![128, 256]⟩
abbrev S8x256 : Shape := ⟨2, ![8, 256]⟩
abbrev S1x1x8x256 : Shape := ⟨4, ![1, 1, 8, 256]⟩
abbrev S1024 : Shape := ⟨1, ![1024]⟩
abbrev S512 : Shape := ⟨1, ![512]⟩

abbrev nBuf : Space → Nat
  | .hbm => 145
  | .vmem => 32
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x512, .f32⟩
  | 4 => ⟨S16384x512, .f32⟩
  | 5 => ⟨S1x6144, .f32⟩
  | 6 => ⟨S1x1024, .f32⟩
  | 7 => ⟨S1x512, .f32⟩
  | 8 => ⟨S1x512, .f32⟩
  | 9 => ⟨S1x512, .f32⟩
  | 10 => ⟨S1x512, .f32⟩
  | 11 => ⟨S1x1024x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S16384x512, .f32⟩
  | 19 => ⟨S16384x512, .f32⟩
  | 20 => ⟨S16384x512, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S16384x512, .f32⟩
  | 28 => ⟨S16384x512, .f32⟩
  | 29 => ⟨S_, .f32⟩
  | 30 => ⟨S16384x1, .f32⟩
  | 31 => ⟨S16384x1, .f32⟩
  | 32 => ⟨S16384x1, .f32⟩
  | 33 => ⟨S16384x512, .f32⟩
  | 34 => ⟨S16384x512, .f32⟩
  | 35 => ⟨S16384x512, .f32⟩
  | 36 => ⟨S16384x512, .f32⟩
  | 37 => ⟨S16384x512, .f32⟩
  | 38 => ⟨S16384x512, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x512, .f32⟩
  | 48 => ⟨S16384x512, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x512, .f32⟩
  | 60 => ⟨S16384x512, .f32⟩
  | 61 => ⟨S16384x512, .f32⟩
  | 62 => ⟨S16384x512, .f32⟩
  | 63 => ⟨S16384x512, .f32⟩
  | 64 => ⟨S_, .f32⟩
  | 65 => ⟨S16384, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1, .f32⟩
  | 74 => ⟨S16384x512, .f32⟩
  | 75 => ⟨S16384x512, .f32⟩
  | 76 => ⟨S16384x512, .f32⟩
  | 77 => ⟨S16384x512, .f32⟩
  | 78 => ⟨S16384x1024, .f32⟩
  | 79 => ⟨S1024x1024, .f32⟩
  | 80 => ⟨S16384x1024, .f32⟩
  | 81 => ⟨S1x1024, .f32⟩
  | 82 => ⟨S16384x1024, .f32⟩
  | 83 => ⟨S16384x1024, .f32⟩
  | 84 => ⟨S16384x1024, .f32⟩
  | 85 => ⟨S512x128, .i32⟩
  | 86 => ⟨S512x128, .i32⟩
  | 87 => ⟨S_, .i32⟩
  | 88 => ⟨S512x128, .i32⟩
  | 89 => ⟨S512x128, .i32⟩
  | 90 => ⟨S512x128, .i1⟩
  | 91 => ⟨S_, .i32⟩
  | 92 => ⟨S512x128, .i32⟩
  | 93 => ⟨S512x128, .i32⟩
  | 94 => ⟨S_, .i32⟩
  | 95 => ⟨S512x128, .i32⟩
  | 96 => ⟨S512x128, .i32⟩
  | 97 => ⟨S512x128, .i1⟩
  | 98 => ⟨S512x128, .i1⟩
  | 99 => ⟨S512x128, .f32⟩
  | 100 => ⟨S512x128, .bf16⟩
  | 101 => ⟨S16384x1024, .bf16⟩
  | 102 => ⟨S6x1024, .f32⟩
  | 103 => ⟨S_, .i32⟩
  | 104 => ⟨S_, .f32⟩
  | 105 => ⟨S8x1024, .f32⟩
  | 106 => ⟨S1024x1024, .f32⟩
  | 107 => ⟨S1024x1024, .bf16⟩
  | 108 => ⟨S16384x1024, .f32⟩
  | 109 => ⟨S16384x1024, .bf16⟩
  | 110 => ⟨S16384x512, .bf16⟩
  | 111 => ⟨S16384x512, .f32⟩
  | 112 => ⟨S4x8x1024, .f32⟩
  | 113 => ⟨S4x8x512, .f32⟩
  | 114 => ⟨S4x32x8x512, .f32⟩
  | 115 => ⟨S1x8x1024, .f32⟩
  | 116 => ⟨S8x1024, .f32⟩
  | 117 => ⟨S_, .f32⟩
  | 118 => ⟨S1024, .f32⟩
  | 119 => ⟨S1x1024, .f32⟩
  | 120 => ⟨S1x8x1024, .f32⟩
  | 121 => ⟨S8x1024, .f32⟩
  | 122 => ⟨S_, .f32⟩
  | 123 => ⟨S1024, .f32⟩
  | 124 => ⟨S1x1024, .f32⟩
  | 125 => ⟨S1x8x1024, .f32⟩
  | 126 => ⟨S8x1024, .f32⟩
  | 127 => ⟨S_, .f32⟩
  | _ => ⟨S16384x1024, .f32⟩

abbrev hbmTy0_1 (i : Nat) : BufTy := match i % 128 with
  | 0 => ⟨S1024, .f32⟩
  | 1 => ⟨S1x1024, .f32⟩
  | 2 => ⟨S1x8x1024, .f32⟩
  | 3 => ⟨S8x1024, .f32⟩
  | 4 => ⟨S_, .f32⟩
  | 5 => ⟨S1024, .f32⟩
  | 6 => ⟨S1x1024, .f32⟩
  | 7 => ⟨S1x8x512, .f32⟩
  | 8 => ⟨S8x512, .f32⟩
  | 9 => ⟨S_, .f32⟩
  | 10 => ⟨S512, .f32⟩
  | 11 => ⟨S1x512, .f32⟩
  | 12 => ⟨S1x8x512, .f32⟩
  | 13 => ⟨S8x512, .f32⟩
  | 14 => ⟨S_, .f32⟩
  | 15 => ⟨S512, .f32⟩
  | 16 => ⟨S1x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S8x1024, .f32⟩
  | .local _ .vmem, ⟨13, _⟩ => ⟨S1x1024, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x1024, .bf16⟩
  | .local _ .vmem, ⟨19, _⟩ => ⟨S512x128, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .f32⟩
  | .local _ .vmem, ⟨28, _⟩ => ⟨S4x8x1024, .f32⟩
  | .local _ .vmem, ⟨29, _⟩ => ⟨S4x8x512, .f32⟩
  | .local _ .vmem, ⟨30, _⟩ => ⟨S4x1x8x256, .f32⟩
  | .local _ .vmem, ⟨31, _⟩ => ⟨S4x1x8x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_12 : Ref sig .tc := ⟨.hbm, 103, rfl⟩
abbrev main_call1_v0 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72_0 : Ref sig .tc := ⟨.hbm, 108, rfl⟩
abbrev main_v72_1 : Ref sig .tc := ⟨.hbm, 109, rfl⟩
abbrev main_v72_2 : Ref sig .tc := ⟨.hbm, 110, rfl⟩
abbrev main_v72_3 : Ref sig .tc := ⟨.hbm, 111, rfl⟩
abbrev main_v72_4 : Ref sig .tc := ⟨.hbm, 112, rfl⟩
abbrev main_v72_5 : Ref sig .tc := ⟨.hbm, 113, rfl⟩
abbrev main_v72_6 : Ref sig .tc := ⟨.hbm, 114, rfl⟩
abbrev main_v73 : Ref sig .tc := ⟨.hbm, 115, rfl⟩
abbrev main_v74 : Ref sig .tc := ⟨.hbm, 116, rfl⟩
abbrev main_cst_13 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_14 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_15 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_16 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_17 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_18 : Ref sig .tc := ⟨.hbm, 142, rfl⟩
abbrev main_v95 : Ref sig .tc := ⟨.hbm, 143, rfl⟩
abbrev main_v96 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S4x1x8x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== BwdMidRefIdeal.lean ====
abbrev S16384x1024 : Shape := ⟨2, ![16384, 1024]⟩
abbrev S16384x512 : Shape := ⟨2, ![16384, 512]⟩
abbrev S1x6144 : Shape := ⟨2, ![1, 6144]⟩
abbrev S1x1024 : Shape := ⟨2, ![1, 1024]⟩
abbrev S1x512 : Shape := ⟨2, ![1, 512]⟩
abbrev S1x1024x1024 : Shape := ⟨3, ![1, 1024, 1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024 : Shape := ⟨1, ![1024]⟩
abbrev S512 : Shape := ⟨1, ![512]⟩

abbrev nBuf : Space → Nat
  | .hbm => 192
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x512, .f32⟩
  | 4 => ⟨S16384x512, .f32⟩
  | 5 => ⟨S1x6144, .f32⟩
  | 6 => ⟨S1x1024, .f32⟩
  | 7 => ⟨S1x512, .f32⟩
  | 8 => ⟨S1x512, .f32⟩
  | 9 => ⟨S1x512, .f32⟩
  | 10 => ⟨S1x512, .f32⟩
  | 11 => ⟨S1x1024x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x512, .f32⟩
  | 25 => ⟨S16384x512, .f32⟩
  | 26 => ⟨S16384x512, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x512, .f32⟩
  | 34 => ⟨S16384x512, .f32⟩
  | 35 => ⟨S_, .f32⟩
  | 36 => ⟨S16384x1, .f32⟩
  | 37 => ⟨S16384x1, .f32⟩
  | 38 => ⟨S16384x1, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S16384x512, .f32⟩
  | 54 => ⟨S16384x512, .f32⟩
  | 55 => ⟨S_, .f32⟩
  | 56 => ⟨S16384, .f32⟩
  | 57 => ⟨S16384x1, .f32⟩
  | 58 => ⟨S_, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S16384x512, .f32⟩
  | 70 => ⟨S16384x512, .f32⟩
  | 71 => ⟨S16384x512, .f32⟩
  | 72 => ⟨S16384x512, .f32⟩
  | 73 => ⟨S16384x512, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S_, .f32⟩
  | 81 => ⟨S16384x1, .f32⟩
  | 82 => ⟨S16384x1, .f32⟩
  | 83 => ⟨S16384x1, .f32⟩
  | 84 => ⟨S16384x512, .f32⟩
  | 85 => ⟨S16384x512, .f32⟩
  | 86 => ⟨S16384x512, .f32⟩
  | 87 => ⟨S16384x512, .f32⟩
  | 88 => ⟨S16384x1024, .f32⟩
  | 89 => ⟨S1024x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S_, .f32⟩
  | 96 => ⟨S16384, .f32⟩
  | 97 => ⟨S16384x1, .f32⟩
  | 98 => ⟨S_, .f32⟩
  | 99 => ⟨S16384x1, .f32⟩
  | 100 => ⟨S16384x1, .f32⟩
  | 101 => ⟨S_, .f32⟩
  | 102 => ⟨S16384x1, .f32⟩
  | 103 => ⟨S16384x1, .f32⟩
  | 104 => ⟨S16384x1, .f32⟩
  | 105 => ⟨S16384x1, .f32⟩
  | 106 => ⟨S_, .f32⟩
  | 107 => ⟨S16384x1, .f32⟩
  | 108 => ⟨S16384x1, .f32⟩
  | 109 => ⟨S16384x1024, .f32⟩
  | 110 => ⟨S16384x1024, .f32⟩
  | 111 => ⟨S16384x1024, .f32⟩
  | 112 => ⟨S16384x1024, .f32⟩
  | 113 => ⟨S_, .f32⟩
  | 114 => ⟨S1x1024, .f32⟩
  | 115 => ⟨S1x1024, .f32⟩
  | 116 => ⟨S16384x1024, .f32⟩
  | 117 => ⟨S16384x1024, .f32⟩
  | 118 => ⟨S16384x1024, .f32⟩
  | 119 => ⟨S16384x1024, .f32⟩
  | 120 => ⟨S16384x1024, .f32⟩
  | 121 => ⟨S_, .f32⟩
  | 122 => ⟨S1024, .f32⟩
  | 123 => ⟨S1x1024, .f32⟩
  | 124 => ⟨S16384x1024, .f32⟩
  | 125 => ⟨S_, .f32⟩
  | 126 => ⟨S1024, .f32⟩
  | 127 => ⟨S1x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S1024, .f32⟩
  | 5 => ⟨S1x1024, .f32⟩
  | 6 => ⟨S16384x1024, .f32⟩
  | 7 => ⟨S16384x1024, .f32⟩
  | 8 => ⟨S16384x1024, .f32⟩
  | 9 => ⟨S_, .f32⟩
  | 10 => ⟨S16384, .f32⟩
  | 11 => ⟨S16384x1, .f32⟩
  | 12 => ⟨S16384x1024, .f32⟩
  | 13 => ⟨S16384x1024, .f32⟩
  | 14 => ⟨S16384x1024, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S_, .f32⟩
  | 31 => ⟨S1024, .f32⟩
  | 32 => ⟨S1x1024, .f32⟩
  | 33 => ⟨S16384x1024, .f32⟩
  | 34 => ⟨S16384x512, .f32⟩
  | 35 => ⟨S16384x512, .f32⟩
  | 36 => ⟨S16384x512, .f32⟩
  | 37 => ⟨S_, .f32⟩
  | 38 => ⟨S512, .f32⟩
  | 39 => ⟨S1x512, .f32⟩
  | 40 => ⟨S16384x512, .f32⟩
  | 41 => ⟨S_, .f32⟩
  | 42 => ⟨S512, .f32⟩
  | 43 => ⟨S1x512, .f32⟩
  | 44 => ⟨S16384x512, .f32⟩
  | 45 => ⟨S16384x512, .f32⟩
  | 46 => ⟨S16384x512, .f32⟩
  | 47 => ⟨S_, .f32⟩
  | 48 => ⟨S16384, .f32⟩
  | 49 => ⟨S16384x1, .f32⟩
  | 50 => ⟨S16384x512, .f32⟩
  | 51 => ⟨S16384x512, .f32⟩
  | 52 => ⟨S16384x1, .f32⟩
  | 53 => ⟨S_, .f32⟩
  | 54 => ⟨S16384x1, .f32⟩
  | 55 => ⟨S16384x1, .f32⟩
  | 56 => ⟨S_, .f32⟩
  | 57 => ⟨S16384, .f32⟩
  | 58 => ⟨S16384x512, .f32⟩
  | 59 => ⟨S16384x512, .f32⟩
  | 60 => ⟨S16384x512, .f32⟩
  | 61 => ⟨S16384x512, .f32⟩
  | 62 => ⟨S16384x512, .f32⟩
  | 63 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_23 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_24 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_25 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_26 : Ref sig .tc := ⟨.hbm, 181, rfl⟩
abbrev main_v134 : Ref sig .tc := ⟨.hbm, 182, rfl⟩
abbrev main_v135 : Ref sig .tc := ⟨.hbm, 183, rfl⟩
abbrev main_cst_27 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩

abbrev nD : Nat := 1
abbrev τ : Topo := Topo.v7x

variable {F : FTy → Type} [FloatOps F]
-- ==== Proof.FfnRef.lean ====
module

public import proofs.«01_k».proof.Proof.Gen.ReferenceIdeal.Run
public import Idealize.ShloMosaic.Lib.Pointwise
public import Idealize.ShloMosaic.Lib.IdealHost
public import Idealize.ShloMosaic.Lib.StableHlo.ReadAt

@[expose] public section

set_option maxRecDepth 16384

noncomputable section

namespace Cert.Ffn

open Idealize.ShloMosaic Idealize.ShloMosaic.TcCoe Idealize.SL.Sem
open Cert.ReferenceIdeal Cert.ReferenceIdeal.Gen

/-! ### The squared-ReLU layer and the loss, element by element over the extended reals -/

section Spec
variable (H : FVec Ideal S16384x1024 .f32) (W1 : FVec Ideal S1x1024x4096 .f32) (W2 : FVec Ideal S1x4096x1024 .f32)
  (X2 T : FVec Ideal S16384x1024 .f32) (M : FVec Ideal S1x6144 .f32)

/-- The hidden row after the ReLU. -/
def rl (s : Fin 16384) (j : Fin 4096) : EReal := max (∑ d : Fin 1024, H (ix2 s d) * W1 (ix3 0 d j)) 0
/-- The layer's output: the squares times the second weight. -/
def ff (s : Fin 16384) (d : Fin 1024) : EReal := ∑ j : Fin 4096, rl H W1 s j * rl H W1 s j * W2 (ix3 0 j d)
/-- The second gate of the modulation. -/
def gate (d : Fin 1024) : EReal := M (ix2 0 ⟨5120 + (d : ℕ), by omega⟩)
/-- The output less the target. -/
def er (s : Fin 16384) (d : Fin 1024) : EReal := X2 (ix2 s d) + gate M d * ff H W1 W2 s d - T (ix2 s d)
/-- The gradient of the loss by the output. -/
def dy (s : Fin 16384) (d : Fin 1024) : EReal := er H W1 W2 X2 T M s d * ((1 / 1024 : ℝ) : EReal)
/-- The loss. -/
def loss : EReal := ((1 / 2 : ℝ) : EReal) * ∑ s : Fin 16384, ∑ d : Fin 1024, er H W1 W2 X2 T M s d * dy H W1 W2 X2 T M s d
/-- The gradient of the loss by the gate. -/
def dg2 (d : Fin 1024) : EReal := ∑ s : Fin 16384, dy H W1 W2 X2 T M s d * ff H W1 W2 s d
/-- The gradient by the layer's output. -/
def df2 (s : Fin 16384) (d : Fin 1024) : EReal := dy H W1 W2 X2 T M s d * gate M d
/-- The gradient by the hidden row before the ReLU. -/
def df1 (s : Fin 16384) (j : Fin 4096) : EReal :=
  (∑ d : Fin 1024, df2 H W1 W2 X2 T M s d * W2 (ix3 0 j d)) * (((2 : ℝ) : EReal) * rl H W1 s j)
/-- The gradient by the layer's input. -/
def dh2 (s : Fin 16384) (d : Fin 1024) : EReal := ∑ j : Fin 4096, df1 H W1 W2 X2 T M s j * W1 (ix3 0 d j)
end Spec

/-! ### Constants -/

theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num

/-- A positive real factor goes through a finite sum of extended reals. -/
theorem sum_mul_coe {ι : Type} [Fintype ι] (f : ι → EReal) (r : ℝ) (hr : 0 ≤ r) :
    (∑ i, f i) * (r : EReal) = ∑ i, f i * (r : EReal) := by
  classical
  generalize (Finset.univ : Finset ι) = A
  induction A using Finset.induction_on with
  | empty => simp
  | insert a A ha ih =>
    rw [Finset.sum_insert ha, Finset.sum_insert ha, EReal.right_distrib_of_nonneg_of_ne_top (by exact_mod_cast hr) (EReal.coe_ne_top r), ih]

/-! ### The reference's results are these -/

section Ref
variable (m : (ℓ : Loc nD τ sig) → Buf (Elt Ideal) ℓ) (c : Dev nD)

/-- The reference's buffers after its run. -/
abbrev RV (b : Ref sig .tc) := StableHlo.after (Cert.ReferenceIdeal.Value.ops (F := Ideal)) (fun b => m (c, b)) (Proc.devRef .tc b)

/-- `1/2 · 1/1024 · (2 · x) = x · 1/1024`. -/
theorem half_two (x : EReal) : Ideal.div (Ideal.ofBits .f32 0x3F000000#32) (Ideal.ofBits .f32 0x44800000#32) * (Ideal.ofBits .f32 0x40000000#32 * x)
    = x * ((1 / 1024 : ℝ) : EReal) := by
  rw [c_half, c_two, c_1024, Ideal.div_coe (by norm_num), ← mul_assoc, ← EReal.coe_mul, ← EReal.coe_mul, mul_comm]
  norm_num

/-- The gradient of a squared rectified value. -/
theorem relu_grad (a u : EReal) :
    (if 0 < a then u * (((2 : ℝ) : EReal) * max a 0) else 0) = u * (((2 : ℝ) : EReal) * max a 0) := by
  split
  · rfl
  · rename_i h
    rw [max_eq_right (not_lt.mp h), mul_zero, mul_zero]

section
variable (H : FVec Ideal S16384x1024 .f32) (W1 : FVec Ideal S1x1024x4096 .f32) (W2 : FVec Ideal S1x4096x1024 .f32)
  (X2 T : FVec Ideal S16384x1024 .f32) (M : FVec Ideal S1x6144 .f32)
  (e0 : m (c, Proc.devRef .tc main_arg0) = H) (e1 : m (c, Proc.devRef .tc main_arg1) = W1)
  (e2 : m (c, Proc.devRef .tc main_arg2) = W2) (e3 : m (c, Proc.devRef .tc main_arg3) = X2)
  (e4 : m (c, Proc.devRef .tc main_arg4) = T) (e5 : m (c, Proc.devRef .tc main_arg5) = M)
include e0 e1 e2 e3 e4 e5

theorem ref_dy (s : Fin 16384) (d : Fin 1024) :
    (RV m c main_v38 : FVec Ideal S16384x1024 .f32) (ix2 s d) = dy H W1 W2 X2 T M s d := by
  after_reads_at
  rw [e0, e1, e2, e3, e4, e5, half_two]
  rfl

theorem ref_df2 (s : Fin 16384) (d : Fin 1024) :
    (RV m c main_v49 : FVec Ideal S16384x1024 .bf16) (ix2 s d) = df2 H W1 W2 X2 T M s d := by
  after_reads_at
  rw [e0, e1, e2, e3, e4, e5, half_two, mul_comm]
  rfl

theorem ref_dg2 (d : Fin 1024) :
    (RV m c main_v43 : FVec Ideal S1x1024 .f32) (ix2 0 d) = dg2 H W1 W2 X2 T M d := by
  after_reads_at
  simp only [e0, e1, e2, e3, e4, e5, half_two]
  rfl

theorem ref_loss : (RV m c main_v32 : FVec Ideal S_ .f32) = fun _ => loss H W1 W2 X2 T M := by
  funext j
  after_reads_at
  simp only [e0, e1, e2, e3, e4, e5, c_half, c_1024, Ideal.div_coe (show (1024 : ℝ) ≠ 0 by norm_num)]
  unfold loss
  refine congrArg _ (Finset.sum_congr rfl fun s _ => ?_)
  rw [sum_mul_coe _ _ (by norm_num)]
  refine Finset.sum_congr rfl fun d _ => ?_
  rw [mul_assoc]
  rfl

theorem ref_df1 (s : Fin 16384) (j : Fin 4096) :
    (RV m c main_v50 : FVec Ideal S16384x4096 .bf16) (ix2 s j) = df1 H W1 W2 X2 T M s j := by
  after_reads_at
  simp only [e0, e1, e2, e3, e4, e5, half_two]
  simp only [c_two, relu_grad]
  unfold df1
  refine congrArg (· * _) (Finset.sum_congr rfl fun d _ => ?_)
  rw [mul_comm (M _)]
  rfl

theorem ref_dh2 (s : Fin 16384) (d : Fin 1024) :
    (RV m c main_v48 : FVec Ideal S16384x1024 .f32) (ix2 s d) = dh2 H W1 W2 X2 T M s d := by
  after_reads_at
  simp only [e0, e1, e2, e3, e4, e5, half_two]
  simp only [c_two, relu_grad]
  unfold dh2 df1
  refine Finset.sum_congr rfl fun j _ => congrArg (· * _) (congrArg (· * _) (Finset.sum_congr rfl fun d _ => ?_))
  rw [mul_comm (M _)]
  rfl
end
end Ref

/-- The reference's runs end with each result at the contents its operations leave, and the arguments unchanged. -/
theorem run_r (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = RV m c main_v32
      ∧ r.2.mem ((c.tc : Thread nD τ).loc main_v38) = RV m c main_v38
      ∧ r.2.mem ((c.tc : Thread nD τ).loc main_v43) = RV m c main_v43
      ∧ r.2.mem ((c.tc : Thread nD τ).loc main_v49) = RV m c main_v49
      ∧ r.2.mem ((c.tc : Thread nD τ).loc main_v50) = RV m c main_v50
      ∧ r.2.mem ((c.tc : Thread nD τ).loc main_v48) = RV m c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v32, h c main_v38, h c main_v43, h c main_v49, h c main_v50, h c main_v48,
      (h c main_arg0).trans (by after_reads_simp), (h c main_arg1).trans (by after_reads_simp), (h c main_arg2).trans (by after_reads_simp),
      (h c main_arg3).trans (by after_reads_simp), (h c main_arg4).trans (by after_reads_simp), (h c main_arg5).trans (by after_reads_simp)⟩)
    (StableHlo.run_seq Value.scopedRefs_eq Value.scopedSems_eq defs main (fun _ => Value.ops) Value.main_eq (fun _ => Value.ops_sub) m ρ)

end Cert.Ffn
-- ==== Proof.FfnFwd.lean ====
module

public import proofs.«01_k».proof.Proof.Gen.KernelIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

/-! ### What the forward call of the squared-ReLU layer leaves in its four results -/

theorem idx0 : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

section
variable (H : FVec Ideal S16384x1024 .bf16) (w1 w2 : FVec Ideal S4x1024x1024 .bf16)
  (X T : FVec Ideal S16384x1024 .f32) (M : FVec Ideal S8x1024 .f32)

/-- The hidden row after the ReLU, in four quarters of 1024 lanes. -/
def kr (s : Fin 16384) (q : Fin 4) (j : Fin 1024) : EReal := max (∑ d : Fin 1024, H (ix2 s d) * w1 (ix3 q d j)) 0
/-- The hidden row after the ReLU, over all 4096 lanes. -/
def kr4 (s : Fin 16384) (j : Fin 4096) : EReal := kr H w1 s ⟨(j : ℕ) / 1024, by omega⟩ ⟨(j : ℕ) % 1024, by omega⟩
/-- One quarter of the layer's output. -/
def kq (s : Fin 16384) (q : Fin 4) (d : Fin 1024) : EReal := ∑ j : Fin 1024, kr H w1 s q j * kr H w1 s q j * w2 (ix3 q j d)
/-- The layer's output, as the four quarters are added up. -/
def kf (s : Fin 16384) (d : Fin 1024) : EReal := kq H w1 w2 s 0 d + kq H w1 w2 s 1 d + kq H w1 w2 s 2 d + kq H w1 w2 s 3 d
/-- The output less the target. -/
def ke (s : Fin 16384) (d : Fin 1024) : EReal := X (ix2 s d) + M (ix2 5 d) * kf H w1 w2 s d - T (ix2 s d)
/-- The gradient by the output. -/
def kdy (s : Fin 16384) (d : Fin 1024) : EReal := ke H w1 w2 X T M s d * Ideal.ofBits .f32 0x3A800000#32
/-- The loss, point by point. -/
def kloss : EReal := ∑ t : Fin 32, Ideal.ofBits .f32 0x3F000000#32 * ∑ a : Fin 512, ∑ b : Fin 1024,
  ke H w1 w2 X T M ⟨512 * (t : ℕ) + a, by omega⟩ b * kdy H w1 w2 X T M ⟨512 * (t : ℕ) + a, by omega⟩ b
/-- The gradient by the gate over the rows that are `r` modulo eight. -/
def kdg (r : Fin 8) (d : Fin 1024) : EReal := ∑ t : Fin 32, ∑ g : Fin 64,
  kdy H w1 w2 X T M ⟨512 * (t : ℕ) + (8 * g + r), by omega⟩ d * kf H w1 w2 ⟨512 * (t : ℕ) + (8 * g + r), by omega⟩ d
end

/-- The array row under row `a` of the block of point `t`. -/
def row (t : Fin cfg0.N) (a : Fin 512) : Fin 16384 := ⟨512 * t.val + a, by have := lt_of_lt_of_eq t.isLt N_0; omega⟩

/-- The payload of the accumulated loss adds half the block's sum of squared differences. -/
theorem pay_loss (v46 : FVec Ideal S512x1024 .f32) (v57 : FVec Ideal S512x1024 .bf16) (v59 : FVec Ideal S1024x1024 .bf16)
    (v62 : Vec Ideal S512x1024 .f32) (v63 : Vec Ideal S1x1024 .f32) (v68 : Vec Ideal S512x1024 .f32) (v73 : Vec Ideal S8x128 .f32) (j : S8x128.Idx) :
    (k0_pay4 v46 v57 v59 (constant S512x1024 FTy.f32 0#32) v62 v63 v68 v73 : FVec Ideal S8x128 .f32) j
      = (v73 j : EReal) + Ideal.ofBits .f32 0x3F000000#32 * ∑ a : Fin 512, ∑ b : Fin 1024,
        (k0_pay2 v46 v57 v59 (constant S512x1024 FTy.f32 0#32) v62 v63 v68 : FVec Ideal S512x1024 .f32) (ix2 a b)
        * (k0_pay3 v46 v57 v59 (constant S512x1024 FTy.f32 0#32) v62 v63 v68 : FVec Ideal S512x1024 .f32) (ix2 a b) := by
  idx_vars j
  pointwise [k0_pay4]

/-- The payload of the accumulated gate gradient adds the sum over the rows that are equal modulo eight. -/
theorem pay_dg2 (v46 : FVec Ideal S512x1024 .f32) (v57 : FVec Ideal S512x1024 .bf16) (v59 : FVec Ideal S1024x1024 .bf16)
    (v62 : Vec Ideal S512x1024 .f32) (v63 : Vec Ideal S1x1024 .f32) (v68 : Vec Ideal S512x1024 .f32) (v85 : Vec Ideal S8x1024 .f32) (j : S8x1024.Idx) :
    (k0_pay5 v46 v57 v59 (constant S512x1024 FTy.f32 0#32) v62 v63 v68 v85 : FVec Ideal S8x1024 .f32) j
      = (v85 j : EReal) + ∑ g : Fin 64,
        (k0_pay3 v46 v57 v59 (constant S512x1024 FTy.f32 0#32) v62 v63 v68 : FVec Ideal S512x1024 .f32) (ix2 ⟨8 * (g : ℕ) + (j 0 : ℕ), by have : (j 0 : ℕ) < 8 := (j 0).isLt; omega⟩ (j 1))
        * (k0_pay1 v46 v57 v59 (constant S512x1024 FTy.f32 0#32) : FVec Ideal S512x1024 .f32) (ix2 ⟨8 * (g : ℕ) + (j 0 : ℕ), by have : (j 0 : ℕ) < 8 := (j 0).isLt; omega⟩ (j 1)) := by
  idx_vars j
  pointwise [k0_pay5]
  simp only [mul_comm 8]

theorem zero_loss (j : S8x128.Idx) : (k0_pay6 : FVec Ideal S8x128 .f32) j = (0 : EReal) := by pointwise [k0_pay6]
theorem zero_dg2 (j : S8x1024.Idx) : (k0_pay7 : FVec Ideal S8x1024 .f32) j = (0 : EReal) := by pointwise [k0_pay7]

section
variable (V : (c : Dev nD) → (b : Ref sig .tc) → Buf (Elt Ideal) ((c : Thread nD τ).loc b)) (c : Dev nD)
variable (H : FVec Ideal S16384x1024 .bf16) (w1 w2 : FVec Ideal S4x1024x1024 .bf16)
  (X T : FVec Ideal S16384x1024 .f32) (M : FVec Ideal S8x1024 .f32)
  (eH : V c main_v9 = H) (e1 : V c main_v3 = w1) (e2 : V c main_v6 = w2) (eX : V c main_arg3 = X)
  (eT : V c main_arg4 = T) (eM : V c main_v8 = M)
include eH e1 e2 eX eT eM

omit e1 e2 eX eT eM in
theorem b0 (t : Fin cfg0.N) (a : Fin 512) (b : Fin 1024) : (iblk0 V c 0 t : FVec Ideal S512x1024 .bf16) (ix2 a b) = H (ix2 (row t a) b) := by
  rw [← eH]; blk_ext [iblk0, idx0 t, row]
omit eH e2 eX eT eM in
theorem b1 (t : Fin cfg0.N) : (iblk0 V c 1 t : FVec Ideal S4x1024x1024 .bf16) = w1 := by
  rw [← e1]; funext j; blk_ext [iblk0, idx0 t]
omit eH e1 eX eT eM in
theorem b2 (t : Fin cfg0.N) : (iblk0 V c 2 t : FVec Ideal S4x1024x1024 .bf16) = w2 := by
  rw [← e2]; funext j; blk_ext [iblk0, idx0 t]
omit eH e1 e2 eT eM in
theorem b3 (t : Fin cfg0.N) (a : Fin 512) (b : Fin 1024) : (iblk0 V c 3 t : FVec Ideal S512x1024 .f32) (ix2 a b) = X (ix2 (row t a) b) := by
  rw [← eX]; blk_ext [iblk0, idx0 t, row]
omit eH e1 e2 eX eM in
theorem b4 (t : Fin cfg0.N) (a : Fin 512) (b : Fin 1024) : (iblk0 V c 4 t : FVec Ideal S512x1024 .f32) (ix2 a b) = T (ix2 (row t a) b) := by
  rw [← eT]; blk_ext [iblk0, idx0 t, row]
omit eH e1 e2 eX eT in
theorem b5 (t : Fin cfg0.N) : (iblk0 V c 5 t : FVec Ideal S8x1024 .f32) = M := by
  rw [← eM]; funext j; blk_ext [iblk0, idx0 t]

/-- The gradient by the output, after the forward call. -/
theorem fwd_dy : (dat0 V c).arrAt 7 cfg0.N = fun i : S16384x1024.Idx => kdy H w1 w2 X T M (i 0) (i 1) := by
  refine (dat0 V c).arrAt_eq_of_covers 7 _ (by decide +kernel) fun t _ y => ?_
  blk_simp
  rw [after0_7]
  have hs (y0 : Fin 512) (y1 : Fin 1024) : kdy H w1 w2 X T M (((View.whole main_v10_1).slice (win0_7.rect t)).emb (ix2 y0 y1) 0)
      (((View.whole main_v10_1).slice (win0_7.rect t)).emb (ix2 y0 y1) 1) = kdy H w1 w2 X T M (row t y0) y1 := by
    congr 1
    · refine Fin.ext ?_
      show _ = 512 * t.val + y0.val
      blk_simp [idx0 t]
      omega
    · refine Fin.ext ?_
      blk_simp [idx0 t]
  by_cases h : t.val % 32 = 0
  · rw [outsAt0_A V c t h]; frame_out
    idx_vars y
    pointwise [k0_pay3, k0_pay2, k0_pay1, k0_pay16, k0_pay10, k0_pay13, k0_pay19, k0_pay20, k0_pay17, k0_pay14, k0_pay11, k0_pay8]
    rw [hs]
    simp only [b0 V c H eH, b1 V c w1 e1, b2 V c w2 e2, b3 V c X eX, b4 V c T eT, b5 V c M eM]
    rfl
  · rw [outsAt0_B V c t h]; frame_out
    idx_vars y
    pointwise [k0_pay3, k0_pay2, k0_pay1, k0_pay16, k0_pay10, k0_pay13, k0_pay19, k0_pay20, k0_pay17, k0_pay14, k0_pay11, k0_pay8]
    rw [hs]
    simp only [b0 V c H eH, b1 V c w1 e1, b2 V c w2 e2, b3 V c X eX, b4 V c T eT, b5 V c M eM]
    rfl

/-- The loss, in every element of the 8 by 128 block. -/
theorem fwd_loss : (dat0 V c).arrAt 8 cfg0.N = fun i : S8x128.Idx => kloss H w1 w2 X T M := by
  refine (dat0 V c).arrAt_eq_of_covers 8 _ (by decide +kernel) fun t hf y => ?_
  blk_simp
  rw [after0_8, Pipeline.eq_sum_fin_of_reset_step_apply_of_flush (fun n h => (outsAt0 V c n h).2.2.1) 32 (fun _ => 0) _
    (fun t h j => by rw [outsAt0_A V c t h]; frame_out; rw [pay_loss, zero_loss])
    (fun t h j => by rw [outsAt0_B V c t h]; frame_out; rw [pay_loss])
    t ((flush0_8 t).mp hf) _, zero_add]
  refine Fin.sum_fin_congr fun s => ?_
  generalize hp : (⟨32 * (t.val / 32) + s.val, _⟩ : Fin cfg0.N) = p
  have hps : p.val = s.val := by
    have := lt_of_lt_of_eq t.isLt N_0
    rw [← hp]; show 32 * (t.val / 32) + s.val = s.val
    omega
  refine congrArg _ (Finset.sum_congr rfl fun a _ => Finset.sum_congr rfl fun b _ => ?_)
  pointwise [k0_pay3, k0_pay2, k0_pay1, k0_pay16, k0_pay10, k0_pay13, k0_pay19, k0_pay20, k0_pay17, k0_pay14, k0_pay11, k0_pay8]
  simp only [b0 V c H eH, b1 V c w1 e1, b2 V c w2 e2, b3 V c X eX, b4 V c T eT, b5 V c M eM]
  have hr : (⟨512 * s.val + a.val, by omega⟩ : Fin 16384) = row p a := Fin.ext (by show _ = 512 * p.val + a.val; rw [hps])
  rw [hr]
  rfl

/-- The gradient by the gate, one partial sum for each residue of the row modulo eight. -/
theorem fwd_dg2 : (dat0 V c).arrAt 9 cfg0.N = fun i : S8x1024.Idx => kdg H w1 w2 X T M (i 0) (i 1) := by
  refine (dat0 V c).arrAt_eq_of_covers 9 _ (by decide +kernel) fun t hf y => ?_
  blk_simp
  rw [after0_9, Pipeline.eq_sum_fin_of_reset_step_apply_of_flush (fun n h => (outsAt0 V c n h).2.2.2) 32 (fun _ => 0) _
    (fun t h j => by rw [outsAt0_A V c t h]; frame_out; rw [pay_dg2, zero_dg2])
    (fun t h j => by rw [outsAt0_B V c t h]; frame_out; rw [pay_dg2])
    t ((flush0_9 t).mp hf) _, zero_add]
  have hs (y0 : Fin 8) (y1 : Fin 1024) : kdg H w1 w2 X T M (((View.whole main_v10_3).slice (win0_9.rect t)).emb (ix2 y0 y1) 0)
      (((View.whole main_v10_3).slice (win0_9.rect t)).emb (ix2 y0 y1) 1) = kdg H w1 w2 X T M y0 y1 := by
    congr 1 <;> refine Fin.ext ?_ <;> blk_simp [idx0 t]
  idx_vars y
  rw [hs]
  refine Fin.sum_fin_congr fun s => ?_
  generalize hp : (⟨32 * (t.val / 32) + s.val, _⟩ : Fin cfg0.N) = p
  have hps : p.val = s.val := by
    have := lt_of_lt_of_eq t.isLt N_0
    rw [← hp]; show 32 * (t.val / 32) + s.val = s.val
    omega
  refine Fin.sum_fin_congr fun g => ?_
  pointwise [k0_pay3, k0_pay2, k0_pay1, k0_pay16, k0_pay10, k0_pay13, k0_pay19, k0_pay20, k0_pay17, k0_pay14, k0_pay11, k0_pay8]
  simp only [b0 V c H eH, b1 V c w1 e1, b2 V c w2 e2, b3 V c X eX, b4 V c T eT, b5 V c M eM]
  have hr : (⟨512 * s.val + (8 * g + y0.val), by omega⟩ : Fin 16384) = row p ⟨8 * g + y0.val, by omega⟩ :=
    Fin.ext (by show _ = 512 * p.val + (8 * g + y0.val); rw [hps])
  rw [hr]
  rfl
end
end Cert.Ffn
-- ==== Proof.FfnFwdR.lean ====
module

public import proofs.«01_k».proof.Proof.FfnFwd
public import Idealize.ShloMosaic.Lib.Pipeline.ValueKit
public import Idealize.ShloMosaic.Lib.Pointwise
public import Idealize.ShloMosaic.Lib.IdealHost

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

/-! ### The hidden rows that the forward call saves -/

section
variable (V : (c : Dev nD) → (b : Ref sig .tc) → Buf (Elt Ideal) ((c : Thread nD τ).loc b)) (c : Dev nD)
variable (H : FVec Ideal S16384x1024 .bf16) (w1 w2 : FVec Ideal S4x1024x1024 .bf16)
  (X T : FVec Ideal S16384x1024 .f32) (M : FVec Ideal S8x1024 .f32)
  (eH : V c main_v9 = H) (e1 : V c main_v3 = w1)
include eH e1

set_option maxHeartbeats 1000000 in
/-- The hidden rows after the ReLU, saved for the backward call. -/
theorem fwd_r : (dat0 V c).arrAt 6 cfg0.N = fun i : S16384x4096.Idx => kr4 H w1 (i 0) (i 1) := by
  refine (dat0 V c).arrAt_eq_of_covers 6 _ (by decide +kernel) fun t _ y => ?_
  blk_simp
  rw [after0_6]
  have hs (y0 : Fin 512) (y1 : Fin 4096) : kr4 H w1 (((View.whole main_v10_0).slice (win0_6.rect t)).emb (ix2 y0 y1) 0)
      (((View.whole main_v10_0).slice (win0_6.rect t)).emb (ix2 y0 y1) 1) = kr4 H w1 (row t y0) y1 := by
    congr 1
    · refine Fin.ext ?_
      show _ = 512 * t.val + y0.val
      blk_simp [idx0 t]
      omega
    · refine Fin.ext ?_
      blk_simp [idx0 t]
  by_cases hc : t.val % 32 = 0
  · rw [outsAt0_A V c t hc]; frame_out
    idx_vars y
    rw [hs]
    clear hs
    canon_tiles x h
    all_goals
      change (y0 : ℕ) = _ at h0
      change (y1 : ℕ) = _ at h1
      pointwise [k0_pay18, k0_pay15, k0_pay12, k0_pay9, k0_pay17, k0_pay14, k0_pay11, k0_pay8]
      simp only [b0 V c H eH, b1 V c w1 e1]
      unfold kr4 kr
      congr 1
      refine Finset.sum_congr rfl fun d _ => ?_
      congr 2
      · have hx : y0 = (x 0 : Fin 512) := Fin.ext (by omega)
        rw [hx]; exact b0 V c H eH t (x 0) d
      · blk_ext <;> first | omega | (simp; omega)
  · rw [outsAt0_B V c t hc]; frame_out
    idx_vars y
    rw [hs]
    clear hs
    canon_tiles x h
    all_goals
      change (y0 : ℕ) = _ at h0
      change (y1 : ℕ) = _ at h1
      pointwise [k0_pay18, k0_pay15, k0_pay12, k0_pay9, k0_pay17, k0_pay14, k0_pay11, k0_pay8]
      simp only [b0 V c H eH, b1 V c w1 e1]
      unfold kr4 kr
      congr 1
      refine Finset.sum_congr rfl fun d _ => ?_
      congr 2
      · have hx : y0 = (x 0 : Fin 512) := Fin.ext (by omega)
        rw [hx]; exact b0 V c H eH t (x 0) d
      · blk_ext <;> first | omega | (simp; omega)
end
end Cert.Ffn
-- ==== Proof.FfnBwd.lean ====
module

public import proofs.«01_k».proof.Proof.Gen.KernelIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

/-! ### What the backward call of the squared-ReLU layer leaves in its three results -/

theorem idx1 : ∀ t : Fin cfg1.N, win1_0.index t = ![t.val, 0] ∧ win1_1.index t = ![0, 0] ∧ win1_2.index t = ![t.val, 0]
    ∧ win1_3.index t = ![0, 0, 0] ∧ win1_4.index t = ![0, 0, 0] ∧ win1_5.index t = ![t.val, 0] ∧ win1_6.index t = ![t.val, 0]
    ∧ win1_7.index t = ![t.val, 0] :=
  (by decide +kernel : ∀ t : Fin grid1.N, _)

/-- The array row under row `a` of the block of point `t`. -/
def row1 (t : Fin cfg1.N) (a : Fin 512) : Fin 16384 := ⟨512 * t.val + a, by have := lt_of_lt_of_eq t.isLt N_1; omega⟩

section
variable (D : FVec Ideal S16384x1024 .f32) (M : FVec Ideal S8x1024 .f32) (R4 : FVec Ideal S16384x4096 .bf16)
  (w1 w2 : FVec Ideal S4x1024x1024 .bf16)

/-- The gradient by the layer's output. -/
def gf2 (s : Fin 16384) (d : Fin 1024) : EReal := D (ix2 s d) * M (ix2 5 d)
/-- The gradient by the hidden rows. -/
def gf1 (s : Fin 16384) (j : Fin 4096) : EReal := (∑ d : Fin 1024, gf2 D M s d * w2 (ix3 ⟨(j : ℕ) / 1024, by omega⟩ ⟨(j : ℕ) % 1024, by omega⟩ d))
  * (Ideal.ofBits .f32 0x40000000#32 * R4 (ix2 s j))
/-- One quarter of the gradient by the layer's input. -/
def gq (s : Fin 16384) (q : Fin 4) (d : Fin 1024) : EReal := ∑ j : Fin 1024, gf1 D M R4 w2 s ⟨1024 * (q : ℕ) + j, by omega⟩ * w1 (ix3 q d j)
/-- The gradient by the layer's input, as the four quarters are added up. -/
def gh2 (s : Fin 16384) (d : Fin 1024) : EReal := gq D M R4 w1 w2 s 0 d + gq D M R4 w1 w2 s 1 d + gq D M R4 w1 w2 s 2 d + gq D M R4 w1 w2 s 3 d
end

section
variable (V : (c : Dev nD) → (b : Ref sig .tc) → Buf (Elt Ideal) ((c : Thread nD τ).loc b)) (c : Dev nD)
variable (D : FVec Ideal S16384x1024 .f32) (M : FVec Ideal S8x1024 .f32) (R4 : FVec Ideal S16384x4096 .bf16)
  (w1 w2 : FVec Ideal S4x1024x1024 .bf16)
  (eD : V c main_v10_1 = D) (eM : V c main_v8 = M) (eR : V c main_v10_0 = R4) (e1 : V c main_v3 = w1) (e2 : V c main_v6 = w2)

include eD in
theorem d0 (t : Fin cfg1.N) (a : Fin 512) (b : Fin 1024) : (iblk1 V c 0 t : FVec Ideal S512x1024 .f32) (ix2 a b) = D (ix2 (row1 t a) b) := by
  rw [← eD]; blk_ext [iblk1, idx1 t, row1]
include eM in
theorem d1 (t : Fin cfg1.N) : (iblk1 V c 1 t : FVec Ideal S8x1024 .f32) = M := by
  rw [← eM]; funext j; blk_ext [iblk1, idx1 t]
include eR in
theorem d2 (t : Fin cfg1.N) (a : Fin 512) (b : Fin 4096) : (iblk1 V c 2 t : FVec Ideal S512x4096 .bf16) (ix2 a b) = R4 (ix2 (row1 t a) b) := by
  rw [← eR]; blk_ext [iblk1, idx1 t, row1]
include e1 in
theorem d3 (t : Fin cfg1.N) : (iblk1 V c 3 t : FVec Ideal S4x1024x1024 .bf16) = w1 := by
  rw [← e1]; funext j; blk_ext [iblk1, idx1 t]
include e2 in
theorem d4 (t : Fin cfg1.N) : (iblk1 V c 4 t : FVec Ideal S4x1024x1024 .bf16) = w2 := by
  rw [← e2]; funext j; blk_ext [iblk1, idx1 t]

include eD eM in
/-- The gradient by the layer's output, after the backward call. -/
theorem bwd_df2 : (dat1 V c).arrAt 5 cfg1.N = fun i : S16384x1024.Idx => gf2 D M (i 0) (i 1) := by
  refine (dat1 V c).arrAt_eq_of_covers 5 _ (by decide +kernel) fun t _ y => ?_
  blk_simp
  rw [after1_5]
  have hs (y0 : Fin 512) (y1 : Fin 1024) : gf2 D M (((View.whole main_v11_0).slice (win1_5.rect t)).emb (ix2 y0 y1) 0)
      (((View.whole main_v11_0).slice (win1_5.rect t)).emb (ix2 y0 y1) 1) = gf2 D M (row1 t y0) y1 := by
    congr 1
    · refine Fin.ext ?_
      show _ = 512 * t.val + y0.val
      blk_simp [idx1 t]
      omega
    · refine Fin.ext ?_
      blk_simp [idx1 t]
  frame_out
  idx_vars y
  rw [hs]
  pointwise [k1_pay1, k1_pay2, k1_pay3, k1_pay4, k1_pay5, k1_pay6, k1_pay7, k1_pay8, k1_pay9, k1_pay10, k1_pay11, k1_pay12]
  simp only [d0 V c D eD, d1 V c M eM]
  rfl

set_option maxHeartbeats 1000000 in
include eD eM eR e2 in
/-- The gradient by the hidden rows, after the backward call. -/
theorem bwd_df1 : (dat1 V c).arrAt 6 cfg1.N = fun i : S16384x4096.Idx => gf1 D M R4 w2 (i 0) (i 1) := by
  refine (dat1 V c).arrAt_eq_of_covers 6 _ (by decide +kernel) fun t _ y => ?_
  blk_simp
  rw [after1_6]
  have hs (y0 : Fin 512) (y1 : Fin 4096) : gf1 D M R4 w2 (((View.whole main_v11_1).slice (win1_6.rect t)).emb (ix2 y0 y1) 0)
      (((View.whole main_v11_1).slice (win1_6.rect t)).emb (ix2 y0 y1) 1) = gf1 D M R4 w2 (row1 t y0) y1 := by
    congr 1
    · refine Fin.ext ?_
      show _ = 512 * t.val + y0.val
      blk_simp [idx1 t]
      omega
    · refine Fin.ext ?_
      blk_simp [idx1 t]
  idx_vars y
  rw [hs]
  clear hs
  canon_tiles x h
  all_goals
    change (y0 : ℕ) = _ at h0
    change (y1 : ℕ) = _ at h1
    have hx : y0 = (x 0 : Fin 512) := Fin.ext (by omega)
    pointwise [k1_pay1, k1_pay2, k1_pay3, k1_pay4, k1_pay5, k1_pay6, k1_pay7, k1_pay8, k1_pay9, k1_pay10, k1_pay11, k1_pay12]
    simp only [d0 V c D eD, d1 V c M eM, d2 V c R4 eR, d4 V c w2 e2]
    unfold gf1 gf2
    rw [hx]
    refine congrArg₂ (· * ·) (Finset.sum_congr rfl fun d _ => ?_) (congrArg (_ * ·) ?_)
    · refine congrArg₂ (· * ·) (congrArg (· * _) (d0 V c D eD t (x 0) d)) ?_
      blk_ext <;> first | omega | (simp; omega)
    · refine (d2 V c R4 eR t (x 0) _).trans ?_
      blk_ext <;> first | omega | (simp; omega)

include eD eM eR e1 e2 in
/-- The gradient by the layer's input, after the backward call. -/
theorem bwd_dh2 : (dat1 V c).arrAt 7 cfg1.N = fun i : S16384x1024.Idx => gh2 D M R4 w1 w2 (i 0) (i 1) := by
  refine (dat1 V c).arrAt_eq_of_covers 7 _ (by decide +kernel) fun t _ y => ?_
  blk_simp
  rw [after1_7]
  have hs (y0 : Fin 512) (y1 : Fin 1024) : gh2 D M R4 w1 w2 (((View.whole main_v11_2).slice (win1_7.rect t)).emb (ix2 y0 y1) 0)
      (((View.whole main_v11_2).slice (win1_7.rect t)).emb (ix2 y0 y1) 1) = gh2 D M R4 w1 w2 (row1 t y0) y1 := by
    congr 1
    · refine Fin.ext ?_
      show _ = 512 * t.val + y0.val
      blk_simp [idx1 t]
      omega
    · refine Fin.ext ?_
      blk_simp [idx1 t]
  frame_out
  idx_vars y
  rw [hs]
  clear hs
  pointwise [k1_pay1, k1_pay2, k1_pay3, k1_pay4, k1_pay5, k1_pay6, k1_pay7, k1_pay8, k1_pay9, k1_pay10, k1_pay11, k1_pay12]
  simp only [d0 V c D eD, d1 V c M eM, d2 V c R4 eR, d3 V c w1 e1, d4 V c w2 e2]
  unfold gh2 gq
  refine congrArg₂ _ (congrArg₂ _ (congrArg₂ _ ?_ ?_) ?_) ?_
  all_goals
    refine Finset.sum_congr rfl fun j _ => congrArg (· * _) ?_
    unfold gf1 gf2
    refine congrArg₂ (· * ·) (Finset.sum_congr rfl fun d _ => congrArg (HMul.hMul _) ?_) (congrArg (HMul.hMul _) ?_)
    · blk_ext <;> first | omega | (simp; omega)
    · blk_ext <;> first | omega | (simp; omega)
end
end Cert.Ffn
-- ==== Proof.FfnRun.lean ====
module

public import proofs.«01_k».proof.Proof.Gen.KernelIdeal.Frame
public import Idealize.ShloMosaic.Lib.StableHlo.ReadAt
public import Idealize.ShloMosaic.Lib.Pipeline.ValueKit
public import Idealize.ShloMosaic.Lib.Pointwise
public import Idealize.ShloMosaic.Lib.IdealHost

@[expose] public section

set_option maxRecDepth 16384

noncomputable section

namespace Cert.Ffn

open Idealize.ShloMosaic Idealize.ShloMosaic.TcCoe Idealize.SL.Sem Idealize.SL
open Idealize.ShloMosaic.Pipeline (Dat)
open Cert.KernelIdeal Cert.KernelIdeal.Gen

/-! ### The run of the kernel, and what its regions find -/

section
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)
local notation "𝕄" => MT nD τ sig Unit (Elt Ideal) ℕ (UR sig nD τ) ℕ
variable (m : (ℓ : Loc nD τ sig) → Buf (Elt Ideal) ℓ) (ρ : Dev nD → PrngReg)

set_option backward.isDefEq.respectTransparency.types false in
/-- Every execution ends with each unscoped buffer at the contents of the last boundary. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)
end

section
variable (m : (ℓ : Loc nD τ sig) → Buf (Elt Ideal) ℓ) (ρ : Dev nD → PrngReg)

variable (c : Dev nD)

theorem v3_w1 (q : Fin 4) (d j : Fin 1024) : (V3 m ρ c main_v3 : FVec Ideal S4x1024x1024 .bf16) (ix3 q d j)
    = (m ((c : Thread nD τ).loc main_arg1) : FVec Ideal S1x1024x4096 .f32) (ix3 0 d ⟨1024 * (q : ℕ) + j, by omega⟩) := by
  show (W3 m ρ c (Proc.devRef .tc main_v3) : FVec Ideal S4x1024x1024 .bf16) (ix3 q d j) = _
  rw [W3_of m ρ c main_v3 (by decide), W2_of m ρ c main_v3 (by decide)]
  after_reads_at
  simp only [mul_comm 1024]

theorem v3_w2 (q : Fin 4) (d j : Fin 1024) : (V3 m ρ c main_v6 : FVec Ideal S4x1024x1024 .bf16) (ix3 q j d)
    = (m ((c : Thread nD τ).loc main_arg2) : FVec Ideal S1x4096x1024 .f32) (ix3 0 ⟨1024 * (q : ℕ) + j, by omega⟩ d) := by
  show (W3 m ρ c (Proc.devRef .tc main_v6) : FVec Ideal S4x1024x1024 .bf16) (ix3 q j d) = _
  rw [W3_of m ρ c main_v6 (by decide), W2_of m ρ c main_v6 (by decide)]
  after_reads_at
  simp only [mul_comm 1024]

theorem v3_h (s : Fin 16384) (d : Fin 1024) : (V3 m ρ c main_v9 : FVec Ideal S16384x1024 .bf16) (ix2 s d)
    = (m ((c : Thread nD τ).loc main_arg0) : FVec Ideal S16384x1024 .f32) (ix2 s d) := by
  show (W3 m ρ c (Proc.devRef .tc main_v9) : FVec Ideal S16384x1024 .bf16) (ix2 s d) = _
  after_reads_at

theorem v3_g2 (d : Fin 1024) : (V3 m ρ c main_v8 : FVec Ideal S8x1024 .f32) (ix2 5 d)
    = (m ((c : Thread nD τ).loc main_arg5) : FVec Ideal S1x6144 .f32) (ix2 0 ⟨5120 + (d : ℕ), by omega⟩) := by
  show (W3 m ρ c (Proc.devRef .tc main_v8) : FVec Ideal S8x1024 .f32) (ix2 5 d) = _
  after_reads_at

theorem w6_loss : (W6 m ρ c (Proc.devRef .tc main_v13) : FVec Ideal S_ .f32) = fun _ => (W5 m ρ c (Proc.devRef .tc main_v10_2) : FVec Ideal S8x128 .f32) (ix2 0 0) := by
  funext j
  show (StableHlo.after hostOps2 (W5 m ρ c) (Proc.devRef .tc main_v13) : FVec Ideal S_ .f32) j = _
  generalize W5 m ρ c = W
  after_reads_at

/-- The sum of the eight rows. -/
def sum8 (A : FVec Ideal S8x1024 .f32) (d : Fin 1024) : EReal := ∑ r : Fin 8, A (ix2 r d)

theorem w6_dg2 (d : Fin 1024) : (W6 m ρ c (Proc.devRef .tc main_v15) : FVec Ideal S1x1024 .f32) (ix2 0 d)
    = sum8 (W5 m ρ c (Proc.devRef .tc main_v10_3)) d := by
  show (StableHlo.after hostOps2 (W5 m ρ c) (Proc.devRef .tc main_v15) : FVec Ideal S1x1024 .f32) (ix2 0 d) = _
  generalize W5 m ρ c = W
  after_reads_at
  rfl
end
end Cert.Ffn
-- ==== Proof.FfnFinal.lean ====
module

public import proofs.«01_k».proof.Proof.FfnRef
public import proofs.«01_k».proof.Proof.FfnFwdR
public import proofs.«01_k».proof.Proof.FfnBwd
public import proofs.«01_k».proof.Proof.FfnRun

@[expose] public section

set_option maxRecDepth 16384

noncomputable section

namespace Cert.Ffn

open Idealize.ShloMosaic Idealize.ShloMosaic.TcCoe Idealize.SL.Sem
open Cert.KernelIdeal Cert.KernelIdeal.Gen

/-! ### The kernel's elements are the derivative's -/

section
variable (H : FVec Ideal S16384x1024 .f32) (W1 : FVec Ideal S1x1024x4096 .f32) (W2 : FVec Ideal S1x4096x1024 .f32)
  (X T : FVec Ideal S16384x1024 .f32) (M : FVec Ideal S1x6144 .f32)
  (h9 : FVec Ideal S16384x1024 .bf16) (w1 w2 : FVec Ideal S4x1024x1024 .bf16) (M8 : FVec Ideal S8x1024 .f32)
  (eh : ∀ s d, h9 (ix2 s d) = H (ix2 s d))
  (e1 : ∀ (q : Fin 4) (d j : Fin 1024), w1 (ix3 q d j) = W1 (ix3 0 d ⟨1024 * (q : ℕ) + j, by omega⟩))
  (e2 : ∀ (q : Fin 4) (d j : Fin 1024), w2 (ix3 q j d) = W2 (ix3 0 ⟨1024 * (q : ℕ) + j, by omega⟩ d))
  (eM : ∀ d : Fin 1024, M8 (ix2 5 d) = M (ix2 0 ⟨5120 + (d : ℕ), by omega⟩))

include eh e1 in
theorem kr_eq (s : Fin 16384) (q : Fin 4) (j : Fin 1024) : kr h9 w1 s q j = rl H W1 s ⟨1024 * (q : ℕ) + j, by omega⟩ := by
  unfold kr rl
  simp only [eh, e1]

include eh e1 in
theorem kr4_eq (s : Fin 16384) (j : Fin 4096) : kr4 h9 w1 s j = rl H W1 s j := by
  unfold kr4
  rw [kr_eq H W1 h9 w1 eh e1]
  congr 1
  exact Fin.ext (by simp only []; omega)

include eh e1 e2 in
theorem kf_eq (s : Fin 16384) (d : Fin 1024) : kf h9 w1 w2 s d = ff H W1 W2 s d := by
  unfold kf kq ff
  rw [Fin.sum_univ_tiles 4 1024 rfl, Fin.sum_univ_four]
  simp only [kr_eq H W1 h9 w1 eh e1, e2, mul_comm 1024]

include eh e1 e2 eM in
theorem ke_eq (s : Fin 16384) (d : Fin 1024) : ke h9 w1 w2 X T M8 s d = er H W1 W2 X T M s d := by
  unfold ke er gate
  rw [kf_eq H W1 W2 h9 w1 w2 eh e1 e2, eM]

include eh e1 e2 eM in
theorem kdy_eq (s : Fin 16384) (d : Fin 1024) : kdy h9 w1 w2 X T M8 s d = dy H W1 W2 X T M s d := by
  unfold kdy dy
  rw [ke_eq H W1 W2 X T M h9 w1 w2 M8 eh e1 e2 eM, c_inv1024]

include eh e1 e2 eM in
theorem kloss_eq : kloss h9 w1 w2 X T M8 = loss H W1 W2 X T M := by
  unfold kloss loss
  rw [c_half, Fin.sum_univ_tiles 32 512 rfl, mul_comm, sum_mul_coe _ _ (by norm_num)]
  refine Finset.sum_congr rfl fun t _ => ?_
  rw [mul_comm]
  simp only [ke_eq H W1 W2 X T M h9 w1 w2 M8 eh e1 e2 eM, kdy_eq H W1 W2 X T M h9 w1 w2 M8 eh e1 e2 eM, mul_comm 512]

include eh e1 e2 eM in
theorem kdg_eq (d : Fin 1024) : ∑ r : Fin 8, kdg h9 w1 w2 X T M8 r d = dg2 H W1 W2 X T M d := by
  unfold kdg dg2
  rw [Fin.sum_univ_tiles 32 512 rfl, Finset.sum_comm]
  refine Finset.sum_congr rfl fun t _ => ?_
  rw [Fin.sum_univ_tiles 64 8 rfl, Finset.sum_comm]
  simp only [kf_eq H W1 W2 h9 w1 w2 eh e1 e2, kdy_eq H W1 W2 X T M h9 w1 w2 M8 eh e1 e2 eM, mul_comm 512, mul_comm 8]

variable (D : FVec Ideal S16384x1024 .f32) (R4 : FVec Ideal S16384x4096 .bf16)
  (eD : ∀ s d, D (ix2 s d) = dy H W1 W2 X T M s d) (eR : ∀ s j, R4 (ix2 s j) = rl H W1 s j)

include eM eD in
theorem gf2_eq (s : Fin 16384) (d : Fin 1024) : gf2 D M8 s d = df2 H W1 W2 X T M s d := by
  unfold gf2 df2 gate
  rw [eD, eM]

include e2 eM eD eR in
theorem gf1_eq (s : Fin 16384) (j : Fin 4096) : gf1 D M8 R4 w2 s j = df1 H W1 W2 X T M s j := by
  unfold gf1 df1
  rw [eR, c_two]
  refine congrArg (· * _) (Finset.sum_congr rfl fun d _ => ?_)
  rw [gf2_eq H W1 W2 X T M M8 eM D eD, e2]
  refine congrArg (fun k => _ * W2 (ix3 0 k d)) (Fin.ext ?_)
  simp only []; omega

include e1 e2 eM eD eR in
theorem gh2_eq (s : Fin 16384) (d : Fin 1024) : gh2 D M8 R4 w1 w2 s d = dh2 H W1 W2 X T M s d := by
  unfold gh2 gq dh2
  rw [Fin.sum_univ_tiles 4 1024 rfl, Fin.sum_univ_four]
  simp only [gf1_eq H W1 W2 X T M w2 M8 e2 eM D R4 eD eR, e1, mul_comm 1024]
end

/-! ### The six results of the kernel -/

section
variable (m : (ℓ : Loc nD τ sig) → Buf (Elt Ideal) ℓ) (ρ : Dev nD → PrngReg) (c : Dev nD)

/-- The kernel's argument arrays. -/
abbrev aH : FVec Ideal S16384x1024 .f32 := m ((c : Thread nD τ).loc main_arg0)
abbrev aW1 : FVec Ideal S1x1024x4096 .f32 := m ((c : Thread nD τ).loc main_arg1)
abbrev aW2 : FVec Ideal S1x4096x1024 .f32 := m ((c : Thread nD τ).loc main_arg2)
abbrev aX : FVec Ideal S16384x1024 .f32 := m ((c : Thread nD τ).loc main_arg3)
abbrev aT : FVec Ideal S16384x1024 .f32 := m ((c : Thread nD τ).loc main_arg4)
abbrev aM : FVec Ideal S1x6144 .f32 := m ((c : Thread nD τ).loc main_arg5)

theorem e_X : V3 m ρ c main_arg3 = aX m c := W3_args m ρ c main_arg3 (by decide)
theorem e_T : V3 m ρ c main_arg4 = aT m c := W3_args m ρ c main_arg4 (by decide)

theorem w4_dy : (W4 m ρ c (Proc.devRef .tc main_v10_1) : FVec Ideal S16384x1024 .f32)
    = fun i => dy (aH m c) (aW1 m c) (aW2 m c) (aX m c) (aT m c) (aM m c) (i 0) (i 1) := by
  refine (W4_arr m ρ c 7).trans ((fwd_dy (V3 m ρ) c _ _ _ _ _ _ rfl rfl rfl (e_X m ρ c) (e_T m ρ c) rfl).trans ?_)
  funext i
  exact kdy_eq (aH m c) (aW1 m c) (aW2 m c) (aX m c) (aT m c) (aM m c) _ _ _ _ (v3_h m ρ c) (v3_w1 m ρ c) (v3_w2 m ρ c) (v3_g2 m ρ c) (i 0) (i 1)

theorem w4_r : (W4 m ρ c (Proc.devRef .tc main_v10_0) : FVec Ideal S16384x4096 .bf16)
    = fun i => rl (aH m c) (aW1 m c) (i 0) (i 1) := by
  refine (W4_arr m ρ c 6).trans ((fwd_r (V3 m ρ) c _ _ rfl rfl).trans ?_)
  funext i
  exact kr4_eq (aH m c) (aW1 m c) _ _ (v3_h m ρ c) (v3_w1 m ρ c) (i 0) (i 1)

theorem v4_w1 : V4 m ρ c main_v3 = V3 m ρ c main_v3 := W4_of m ρ c main_v3 (by decide)
theorem v4_w2 : V4 m ρ c main_v6 = V3 m ρ c main_v6 := W4_of m ρ c main_v6 (by decide)
theorem v4_m8 : V4 m ρ c main_v8 = V3 m ρ c main_v8 := W4_of m ρ c main_v8 (by decide)

/-- The first result: the loss. -/
theorem k_loss : (W6 m ρ c (Proc.devRef .tc main_v13) : FVec Ideal S_ .f32)
    = fun _ => loss (aH m c) (aW1 m c) (aW2 m c) (aX m c) (aT m c) (aM m c) := by
  rw [w6_loss, W5_of m ρ c main_v10_2 (by decide)]
  funext j
  refine (congrFun ((W4_arr m ρ c 8).trans (fwd_loss (V3 m ρ) c _ _ _ _ _ _ rfl rfl rfl (e_X m ρ c) (e_T m ρ c) rfl)) (ix2 0 0)).trans ?_
  exact kloss_eq (aH m c) (aW1 m c) (aW2 m c) (aX m c) (aT m c) (aM m c) _ _ _ _ (v3_h m ρ c) (v3_w1 m ρ c) (v3_w2 m ρ c) (v3_g2 m ρ c)

/-- The second result: the gradient by the output. -/
theorem k_dy : (W6 m ρ c (Proc.devRef .tc main_v10_1) : FVec Ideal S16384x1024 .f32)
    = fun i => dy (aH m c) (aW1 m c) (aW2 m c) (aX m c) (aT m c) (aM m c) (i 0) (i 1) := by
  rw [W6_of m ρ c main_v10_1 (by decide), W5_of m ρ c main_v10_1 (by decide)]
  exact w4_dy m ρ c

/-- The third result: the gradient by the gate. -/
theorem k_dg2 : (W6 m ρ c (Proc.devRef .tc main_v15) : FVec Ideal S1x1024 .f32)
    = fun i => dg2 (aH m c) (aW1 m c) (aW2 m c) (aX m c) (aT m c) (aM m c) (i 1) := by
  funext i
  idx_vars i
  have h0 : i0 = 0 := Subsingleton.elim _ _
  rw [h0, w6_dg2, W5_of m ρ c main_v10_3 (by decide),
    show W4 m ρ c (Proc.devRef .tc main_v10_3) = _ from
      (W4_arr m ρ c 9).trans (fwd_dg2 (V3 m ρ) c _ _ _ _ _ _ rfl rfl rfl (e_X m ρ c) (e_T m ρ c) rfl)]
  exact kdg_eq (aH m c) (aW1 m c) (aW2 m c) (aX m c) (aT m c) (aM m c) _ _ _ _ (v3_h m ρ c) (v3_w1 m ρ c) (v3_w2 m ρ c) (v3_g2 m ρ c) i1

/-- The fourth result: the gradient by the layer's output. -/
theorem k_df2 : (W6 m ρ c (Proc.devRef .tc main_v11_0) : FVec Ideal S16384x1024 .bf16)
    = fun i => df2 (aH m c) (aW1 m c) (aW2 m c) (aX m c) (aT m c) (aM m c) (i 0) (i 1) := by
  rw [W6_of m ρ c main_v11_0 (by decide)]
  refine (W5_arr m ρ c 5).trans ((bwd_df2 (V4 m ρ) c _ _ (w4_dy m ρ c) (v4_m8 m ρ c)).trans ?_)
  funext i
  exact gf2_eq (aH m c) (aW1 m c) (aW2 m c) (aX m c) (aT m c) (aM m c) _ (v3_g2 m ρ c) _ (fun _ _ => rfl) (i 0) (i 1)

/-- The fifth result: the gradient by the hidden rows. -/
theorem k_df1 : (W6 m ρ c (Proc.devRef .tc main_v11_1) : FVec Ideal S16384x4096 .bf16)
    = fun i => df1 (aH m c) (aW1 m c) (aW2 m c) (aX m c) (aT m c) (aM m c) (i 0) (i 1) := by
  rw [W6_of m ρ c main_v11_1 (by decide)]
  refine (W5_arr m ρ c 6).trans ((bwd_df1 (V4 m ρ) c _ _ _ _ (w4_dy m ρ c) (v4_m8 m ρ c) (w4_r m ρ c) (v4_w2 m ρ c)).trans ?_)
  funext i
  exact gf1_eq (aH m c) (aW1 m c) (aW2 m c) (aX m c) (aT m c) (aM m c) _ _ (v3_w2 m ρ c) (v3_g2 m ρ c) _ _ (fun _ _ => rfl) (fun _ _ => rfl) (i 0) (i 1)

/-- The sixth result: the gradient by the layer's input. -/
theorem k_dh2 : (W6 m ρ c (Proc.devRef .tc main_v11_2) : FVec Ideal S16384x1024 .f32)
    = fun i => dh2 (aH m c) (aW1 m c) (aW2 m c) (aX m c) (aT m c) (aM m c) (i 0) (i 1) := by
  rw [W6_of m ρ c main_v11_2 (by decide)]
  refine (W5_arr m ρ c 7).trans ((bwd_dh2 (V4 m ρ) c _ _ _ _ _ (w4_dy m ρ c) (v4_m8 m ρ c) (w4_r m ρ c) (v4_w1 m ρ c) (v4_w2 m ρ c)).trans ?_)
  funext i
  exact gh2_eq (aH m c) (aW1 m c) (aW2 m c) (aX m c) (aT m c) (aM m c) _ _ _ (v3_w1 m ρ c) (v3_w2 m ρ c) (v3_g2 m ρ c) _ _ (fun _ _ => rfl) (fun _ _ => rfl) (i 0) (i 1)
end
end Cert.Ffn
-- ==== Proof.FfnPair.lean ====
module

public import proofs.«01_k».proof.Defs
public import proofs.«01_k».proof.Proof.FfnFinal
public import Idealize.ShloMosaic.Lib.Claim

@[expose] public section

set_option maxRecDepth 16384

noncomputable section

namespace Cert.Ffn

open Idealize.ShloMosaic Idealize.ShloMosaic.TcCoe Idealize.SL.Sem

instance hK : Cert.KernelIdeal.Facts := Cert.KernelIdeal.Gen.facts
instance hR : Cert.ReferenceIdeal.Facts := Cert.ReferenceIdeal.Gen.facts

/-- The kernel's runs end with its six results at the elements of the derivative, and the arguments unchanged. -/
theorem run_k (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ (c : Dev Cert.KernelIdeal.nD) (b : Ref Cert.KernelIdeal.sig .tc), ¬(Proc.devRef (τ := Cert.KernelIdeal.τ) .tc b).isScoped = true →
        r.2.mem ((c.tc : Thread Cert.KernelIdeal.nD Cert.KernelIdeal.τ).loc b) = Cert.KernelIdeal.Gen.W6 m g c (Proc.devRef .tc b)) :=
  (θ_run _ _ _).mono (fun r h c b hb => h c _ (Cert.KernelIdeal.Gen.mem_uc b hb)) (run_all m g)

theorem algebraic : Cert.algebraic_KernelIdeal_ReferenceIdeal := by
  intro m g m' g' _ ag
  refine ⟨fun c => Cert.KernelIdeal.Gen.W6 m g c (Proc.devRef .tc Cert.KernelIdeal.main_v13),
    fun c => Cert.KernelIdeal.Gen.W6 m g c (Proc.devRef .tc Cert.KernelIdeal.main_v10_1),
    fun c => Cert.KernelIdeal.Gen.W6 m g c (Proc.devRef .tc Cert.KernelIdeal.main_v15),
    fun c => Cert.KernelIdeal.Gen.W6 m g c (Proc.devRef .tc Cert.KernelIdeal.main_v11_0),
    fun c => Cert.KernelIdeal.Gen.W6 m g c (Proc.devRef .tc Cert.KernelIdeal.main_v11_1),
    fun c => Cert.KernelIdeal.Gen.W6 m g c (Proc.devRef .tc Cert.KernelIdeal.main_v11_2), ?_, ?_⟩
  · refine (θ_run _ _ _).mono (fun r h c => ?_) (run_k m g)
    exact ⟨h c _ (by decide), h c _ (by decide), h c _ (by decide), h c _ (by decide), h c _ (by decide), h c _ (by decide),
      (h c _ (by decide)).trans (Cert.KernelIdeal.Gen.W6_main_arg0 m g c), (h c _ (by decide)).trans (Cert.KernelIdeal.Gen.W6_main_arg1 m g c),
      (h c _ (by decide)).trans (Cert.KernelIdeal.Gen.W6_main_arg2 m g c), (h c _ (by decide)).trans (Cert.KernelIdeal.Gen.W6_main_arg3 m g c),
      (h c _ (by decide)).trans (Cert.KernelIdeal.Gen.W6_main_arg4 m g c), (h c _ (by decide)).trans (Cert.KernelIdeal.Gen.W6_main_arg5 m g c)⟩
  · refine (θ_run _ _ _).mono (fun r h c => ?_) (run_r m' g')
    obtain ⟨h0, h1, h2, h3, h4, h5, ha⟩ := h c
    obtain ⟨a0, a1, a2, a3, a4, a5⟩ := ag c
    refine ⟨h0.trans ?_, h1.trans ?_, h2.trans ?_, h3.trans ?_, h4.trans ?_, h5.trans ?_, ha⟩
    · exact (ref_loss m' c _ _ _ _ _ _ a0 a1 a2 a3 a4 a5).trans (k_loss m g c).symm
    · refine Eq.trans ?_ (k_dy m g c).symm
      funext i; idx_vars i; exact ref_dy m' c _ _ _ _ _ _ a0 a1 a2 a3 a4 a5 i0 i1
    · refine Eq.trans ?_ (k_dg2 m g c).symm
      funext i; idx_vars i; rw [show i0 = 0 from Subsingleton.elim _ _]; exact ref_dg2 m' c _ _ _ _ _ _ a0 a1 a2 a3 a4 a5 i1
    · refine Eq.trans ?_ (k_df2 m g c).symm
      funext i; idx_vars i; exact ref_df2 m' c _ _ _ _ _ _ a0 a1 a2 a3 a4 a5 i0 i1
    · refine Eq.trans ?_ (k_df1 m g c).symm
      funext i; idx_vars i; exact ref_df1 m' c _ _ _ _ _ _ a0 a1 a2 a3 a4 a5 i0 i1
    · refine Eq.trans ?_ (k_dh2 m g c).symm
      funext i; idx_vars i; exact ref_dh2 m' c _ _ _ _ _ _ a0 a1 a2 a3 a4 a5 i0 i1

/-- The reference's runs leave its arguments as launched. -/
theorem frame_r : Cert.quiescent_ReferenceIdeal := by
  intro m g _
  refine (θ_run _ _ _).mono (fun r h => ⟨fun c => ?_, funext fun s => ?_⟩) (run_r m g)
  · obtain ⟨-, -, -, -, -, -, ha⟩ := h c
    exact ha
  · exact congrFun (sem_eq_zero_of_no_sems (by decide) r.2) s

end Cert.Ffn
-- ==== Proof.AttnStep.lean ====
module

public import proofs.«01_k».proof.Proof.Gen.AttnIdeal.Skeleton
public import proofs.«01_k».proof.Proof.Gen.AttnIdeal.Launch
public import proofs.«01_k».proof.Proof.Gen.AttnIdeal.Points
public import Idealize.ShloMosaic.Lib.Tactic
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

/-- What the kernel's buffers hold: the nine inputs' blocks, the two results' blocks, and the three accumulators. -/
structure St (F : FTy → Type) [FloatOps F] where
  fs : Vec F S8x32 .f32
  fe : Vec F S8x32 .f32
  bd : Vec F S1x1 .f32
  ka : Vec F S2x512x128 .bf16
  vv : Vec F S512x128 .bf16
  lse : Vec F S1x32x8x512 .f32
  qa : Vec F S2x16384x128 .bf16
  dO : Vec F S16384x128 .bf16
  dr : Vec F S1x32x8x512 .f32
  dka : Vec F S2x512x128 .f32
  dv : Vec F S512x128 .bf16
  accq : Vec F S2x16384x128 .f32
  acck : Vec F S2x512x128 .f32
  accv : Vec F S2x512x128 .f32

/-- The trip counter as the word the loops carry. -/
def wd (n : ℕ) : BitVec 32 := BitVec.ofNat 32 n

theorem chk1_of (i : grid0.Coords) (n : ℕ) (h : n < 33) : k0_chk1 i (wd n) :=
  (by decide +kernel : ∀ (i : grid0.Coords) (n : Fin 33), k0_chk1 i (wd n.val)) i ⟨n, h⟩
theorem chk3_of (i : grid0.Coords) (n : ℕ) (h : n < 33) : k0_chk3 i (wd n) :=
  (by decide +kernel : ∀ (i : grid0.Coords) (n : Fin 33), k0_chk3 i (wd n.val)) i ⟨n, h⟩
theorem chk5_of (i : grid0.Coords) (n : ℕ) (h : n < 33) : k0_chk5 i (wd n) :=
  (by decide +kernel : ∀ (i : grid0.Coords) (n : Fin 33), k0_chk5 i (wd n.val)) i ⟨n, h⟩
theorem chk2_of (n : ℕ) (h : n < 32) : k0_chk2 (wd n) :=
  (by decide +kernel : ∀ n : Fin 32, k0_chk2 (wd n.val)) ⟨n, h⟩
theorem chk4_of (n : ℕ) (h : n < 32) : k0_chk4 (wd n) :=
  (by decide +kernel : ∀ n : Fin 32, k0_chk4 (wd n.val)) ⟨n, h⟩
theorem chk6_of (n : ℕ) (h : n < 32) : k0_chk6 (wd n) :=
  (by decide +kernel : ∀ n : Fin 32, k0_chk6 (wd n.val)) ⟨n, h⟩

/-- The one element a scalar load reads. -/
def word {s : Shape} {e : EltTy} (x : Vec F s e) (r : Rect s) (h1 : r.shape.numel = 1) : Elt F e :=
  x (r.toLoadRect.idx (Shape.Idx.first (h1.symm ▸ Nat.one_pos)))

/-- The bound of the tile pair: `bd` as the scalar load reads it. -/
def bdw (s : St F) : Elt F .f32 := word s.bd (Rect.unit (s := S1x1) ![0, 0] S1x1.size inb_S1x1_S1x1_0_0) numel1_S1x1

/-- The test of the loop over both heads at trip `w`. -/
def test1 (i : grid0.Coords) (w : BitVec 32) (h : k0_chk1 i w) (s : St F) : BitVec 1 :=
  Scalar.andi
    (Scalar.andi (Scalar.cmpi .slt w 32#32)
      (Scalar.cmpf .oge (k0_pay1 (word s.fs (Rect.unit (s := S8x32) (k0_off5 i w 0#32) S1x1.size (k0_off5_inb i w h 0)) numel1_S1x1) (bdw s)
        (word s.fe (Rect.unit (s := S8x32) (k0_off6 i 0#32) S1x1.size (k0_off6_inb i 0)) numel1_S1x1)) (Named.named κ "exit" 0xC2B00000#32)))
    (Scalar.andi (Scalar.cmpi .slt w 32#32)
      (Scalar.cmpf .oge (k0_pay2 (word s.fs (Rect.unit (s := S8x32) (k0_off5 i w 1#32) S1x1.size (k0_off5_inb i w h 1)) numel1_S1x1) (bdw s)
        (word s.fe (Rect.unit (s := S8x32) (k0_off6 i 1#32) S1x1.size (k0_off6_inb i 1)) numel1_S1x1)) (Named.named κ "exit" 0xC2B00000#32)))

/-- The test of the loop over the pair's first head at trip `w`. -/
def test2 (i : grid0.Coords) (w : BitVec 32) (h : k0_chk3 i w) (s : St F) : BitVec 1 :=
  Scalar.andi (Scalar.cmpi .slt w 32#32)
    (Scalar.cmpf .oge (k0_pay6 (word s.fs (Rect.unit (s := S8x32) (k0_off11 i w) S1x1.size (k0_off11_inb i w h)) numel1_S1x1) (bdw s)
      (word s.fe (Rect.unit (s := S8x32) (k0_off12 i) S1x1.size (k0_off12_inb i)) numel1_S1x1)) (Named.named κ "exit" 0xC2B00000#32))

/-- The test of the loop over the pair's second head at trip `w`. -/
def test3 (i : grid0.Coords) (w : BitVec 32) (h : k0_chk5 i w) (s : St F) : BitVec 1 :=
  Scalar.andi (Scalar.cmpi .slt w 32#32)
    (Scalar.cmpf .oge (k0_pay9 (word s.fs (Rect.unit (s := S8x32) (k0_off16 i w) S1x1.size (k0_off16_inb i w h)) numel1_S1x1) (bdw s)
      (word s.fe (Rect.unit (s := S8x32) (k0_off17 i) S1x1.size (k0_off17_inb i)) numel1_S1x1)) (Named.named κ "exit" 0xC2B00000#32))

/-- No trip runs at `n = 32`. -/
theorem slt_32 : Scalar.cmpi .slt (wd 32) 32#32 = 0#1 := by decide +kernel
theorem andi_zero (a : BitVec 1) : Scalar.andi 0#1 a = 0#1 := by
  revert a; decide
theorem test1_32 (i : grid0.Coords) (h : k0_chk1 i (wd 32)) (s : St F) : ¬ test1 i (wd 32) h s = 1#1 := by
  unfold test1; rw [slt_32, andi_zero, andi_zero]; decide
theorem test2_32 (i : grid0.Coords) (h : k0_chk3 i (wd 32)) (s : St F) : ¬ test2 i (wd 32) h s = 1#1 := by
  unfold test2; rw [slt_32, andi_zero]; decide
theorem test3_32 (i : grid0.Coords) (h : k0_chk5 i (wd 32)) (s : St F) : ¬ test3 i (wd 32) h s = 1#1 := by
  unfold test3; rw [slt_32, andi_zero]; decide

section Reads
variable (s : St F)
/-- The rows of the pair's keys of head 0 and 1, and the accumulators' halves. -/
def ka0 : Vec F S1x512x128 .bf16 := window s.ka ![0, 0, 0] S1x512x128.size inb_S2x512x128_S1x512x128_0_0_0
def ka1 : Vec F S1x512x128 .bf16 := window s.ka ![1, 0, 0] S1x512x128.size inb_S2x512x128_S1x512x128_1_0_0
def acck0 : Vec F S1x512x128 .f32 := window s.acck ![0, 0, 0] S1x512x128.size inb_S2x512x128_S1x512x128_0_0_0
def acck1 : Vec F S1x512x128 .f32 := window s.acck ![1, 0, 0] S1x512x128.size inb_S2x512x128_S1x512x128_1_0_0
def accv0 : Vec F S1x512x128 .f32 := window s.accv ![0, 0, 0] S1x512x128.size inb_S2x512x128_S1x512x128_0_0_0
def accv1 : Vec F S1x512x128 .f32 := window s.accv ![1, 0, 0] S1x512x128.size inb_S2x512x128_S1x512x128_1_0_0
/-- The same with new contents of one half. -/
def setK0 (x : Vec F S1x512x128 .f32) : St F := { s with acck := put s.acck ![0, 0, 0] S1x512x128.size x }
def setK1 (x : Vec F S1x512x128 .f32) : St F := { s with acck := put s.acck ![1, 0, 0] S1x512x128.size x }
def setV0 (x : Vec F S1x512x128 .f32) : St F := { s with accv := put s.accv ![0, 0, 0] S1x512x128.size x }
def setV1 (x : Vec F S1x512x128 .f32) : St F := { s with accv := put s.accv ![1, 0, 0] S1x512x128.size x }
/-- New contents of one tile of the query accumulator. -/
def setQ (off : Fin 3 → ℕ) (x : Vec F S1x512x128 .f32) : St F := { s with accq := put s.accq off S1x512x128.size x }
end Reads

/-- One trip of the loop over both heads at word `w`, its first part: the values and first head of the tile. -/
def trip1a (v6 : FVec F S512x128 .bf16) (w : BitVec 32) (h : k0_chk2 w) (s : St F) : St F :=
  setV0 s (k0_pay44 (window s.dO (k0_off7 w) S512x128.size (k0_off7_inb w h)) (window s.lse (k0_off8 w) S1x1x8x512.size (k0_off8_inb w h))
    (window s.qa (k0_off9 w) S1x512x128.size (k0_off9_inb w h)) (ka0 s) (accv0 s))
/-- The first head's score gradient. -/
def ds1a (v6 : FVec F S512x128 .bf16) (w : BitVec 32) (h : k0_chk2 w) (s : St F) : FVec F S512x512 .bf16 :=
  k0_pay45 v6 (window s.dO (k0_off7 w) S512x128.size (k0_off7_inb w h)) (window s.lse (k0_off8 w) S1x1x8x512.size (k0_off8_inb w h))
    (window s.dr (k0_off8 w) S1x1x8x512.size (k0_off8_inb w h)) (window s.qa (k0_off9 w) S1x512x128.size (k0_off9_inb w h)) (ka0 s)
/-- What the second part of the trip reads of the first. -/
def q1 (w : BitVec 32) (h : k0_chk2 w) (s : St F) : Vec F S1x512x128 .bf16 := window s.qa (k0_off9 w) S1x512x128.size (k0_off9_inb w h)
def q2 (w : BitVec 32) (h : k0_chk2 w) (s : St F) : Vec F S1x512x128 .bf16 := window s.qa (k0_off10 w) S1x512x128.size (k0_off10_inb w h)
/-- The trip's second part: the first head's keys and queries. -/
def trip1b (v149 v151 : FVec F S512x128 .bf16) (v170 : FVec F S512x512 .bf16) (w : BitVec 32) (h : k0_chk2 w) (s : St F) : St F :=
  let s1 := setK0 s (k0_pay46 v149 v170 (acck0 s))
  setQ s1 (k0_off9 w) (k0_pay47 v151 v170 (window s1.accq (k0_off9 w) S1x512x128.size (k0_off9_inb w h)))
/-- The trip's last part: the second head. -/
def trip1c (v7 v140 v189 v191 : FVec F S512x128 .bf16) (v146 : FVec F S8x512 .f32) (v196 : FVec F S512x512 .f32) (v204 : FVec F S1x512x128 .f32)
    (w : BitVec 32) (h : k0_chk2 w) (s : St F) : St F :=
  let s1 := setV1 s v204
  let s2 := setK1 s1 (k0_pay4 v7 v140 v146 v189 v196 (acck1 s1))
  setQ s2 (k0_off10 w) (k0_pay5 v7 v140 v146 v191 v196 (window s2.accq (k0_off10 w) S1x512x128.size (k0_off10_inb w h)))
/-- One trip of the loop over both heads. -/
def trip1 (v6 v7 : FVec F S512x128 .bf16) (w : BitVec 32) (h : k0_chk2 w) (s : St F) : St F :=
  let d := window s.dO (k0_off7 w) S512x128.size (k0_off7_inb w h)
  let l := window s.lse (k0_off8 w) S1x1x8x512.size (k0_off8_inb w h)
  let r := window s.dr (k0_off8 w) S1x1x8x512.size (k0_off8_inb w h)
  let s1 := trip1a v6 w h s
  let s2 := trip1b (k0_pay41 (q1 w h s)) (k0_pay42 (ka0 s)) (ds1a v6 w h s) w h s1
  trip1c v7 (k0_pay38 d) (k0_pay48 (q2 w h s2)) (k0_pay49 (ka1 s2)) (k0_pay40 r) (k0_pay50 (k0_pay39 l) (q2 w h s2) (ka1 s2))
    (k0_pay51 (k0_pay38 d) (k0_pay39 l) (q2 w h s2) (ka1 s2) (accv1 s2)) w h s2

/-- One trip of the loop over the pair's head 0. -/
def trip2 (v6 : FVec F S512x128 .bf16) (w : BitVec 32) (h : k0_chk4 w) (s : St F) : St F :=
  let d := window s.dO (k0_off13 w) S512x128.size (k0_off13_inb w h)
  let l := window s.lse (k0_off14 w) S1x1x8x512.size (k0_off14_inb w h)
  let r := window s.dr (k0_off14 w) S1x1x8x512.size (k0_off14_inb w h)
  let q := window s.qa (k0_off15 w) S1x512x128.size (k0_off15_inb w h)
  let s1 := setV0 s (k0_pay56 d l q (ka0 s) (accv0 s))
  let s2 := setK0 s1 (k0_pay7 (k0_pay53 q) (k0_pay57 v6 d l r q (ka0 s)) (acck0 s1))
  setQ s2 (k0_off15 w) (k0_pay8 (k0_pay54 (ka0 s)) (k0_pay57 v6 d l r q (ka0 s)) (window s2.accq (k0_off15 w) S1x512x128.size (k0_off15_inb w h)))

/-- One trip of the loop over the pair's head 1. -/
def trip3 (v7 : FVec F S512x128 .bf16) (w : BitVec 32) (h : k0_chk6 w) (s : St F) : St F :=
  let d := window s.dO (k0_off18 w) S512x128.size (k0_off18_inb w h)
  let l := window s.lse (k0_off19 w) S1x1x8x512.size (k0_off19_inb w h)
  let r := window s.dr (k0_off19 w) S1x1x8x512.size (k0_off19_inb w h)
  let q := window s.qa (k0_off20 w) S1x512x128.size (k0_off20_inb w h)
  let s1 := setV1 s (k0_pay62 d l q (ka1 s) (accv1 s))
  let s2 := setK1 s1 (k0_pay10 (k0_pay59 q) (k0_pay63 v7 d l r q (ka1 s)) (acck1 s1))
  setQ s2 (k0_off20 w) (k0_pay11 (k0_pay60 (ka1 s)) (k0_pay63 v7 d l r q (ka1 s)) (window s2.accq (k0_off20 w) S1x512x128.size (k0_off20_inb w h)))

/-- Loop 1 from trip `n` with `k` trips left at most: what it leaves and the trip it stops at. -/
def loop1 (i : grid0.Coords) (v6 v7 : FVec F S512x128 .bf16) : ℕ → ℕ → St F → St F × ℕ
  | 0, n, s => (s, n)
  | k + 1, n, s =>
    if h : n < 32 then
      if test1 i (wd n) (chk1_of i n (by omega)) s = 1#1 then loop1 i v6 v7 k (n + 1) (trip1 v6 v7 (wd n) (chk2_of n h) s) else (s, n)
    else (s, n)

/-- Loop 2 from trip `n` with `k` trips left at most: what it leaves and the trip it stops at. -/
def loop2 (i : grid0.Coords) (v6 : FVec F S512x128 .bf16) : ℕ → ℕ → St F → St F × ℕ
  | 0, n, s => (s, n)
  | k + 1, n, s =>
    if h : n < 32 then
      if test2 i (wd n) (chk3_of i n (by omega)) s = 1#1 then loop2 i v6 k (n + 1) (trip2 v6 (wd n) (chk4_of n h) s) else (s, n)
    else (s, n)

/-- Loop 3 from trip `n` with `k` trips left at most: what it leaves and the trip it stops at. -/
def loop3 (i : grid0.Coords) (v7 : FVec F S512x128 .bf16) : ℕ → ℕ → St F → St F × ℕ
  | 0, n, s => (s, n)
  | k + 1, n, s =>
    if h : n < 32 then
      if test3 i (wd n) (chk5_of i n (by omega)) s = 1#1 then loop3 i v7 k (n + 1) (trip3 v7 (wd n) (chk6_of n h) s) else (s, n)
    else (s, n)

section Body
variable (i : grid0.Coords) (s : St F)
/-- The values masked to the pair's first and second head. -/
def v6 : FVec F S512x128 .bf16 := k0_pay15 s.vv
def v7 : FVec F S512x128 .bf16 := k0_pay16 s.vv
/-- The diagonal tile's cotangents, sums and row terms. -/
def dD : FVec F S512x128 .bf16 := k0_pay20 (window s.dO (k0_off1 i) S512x128.size (k0_off1_inb i))
def lD : FVec F S8x512 .f32 := k0_pay21 (window s.lse (k0_off2 i) S1x1x8x512.size (k0_off2_inb i))
def rD : FVec F S8x512 .f32 := k0_pay22 (window s.dr (k0_off2 i) S1x1x8x512.size (k0_off2_inb i))
def qD0 : Vec F S1x512x128 .bf16 := window s.qa (k0_off3 i) S1x512x128.size (k0_off3_inb i)
def qD1 : Vec F S1x512x128 .bf16 := window s.qa (k0_off4 i) S1x512x128.size (k0_off4_inb i)

/-- Is this the pair's first key tile? -/
def first : BitVec 1 := Scalar.cmpi .ne (Scalar.extui (Scalar.cmpi .eq (BitVec.ofNat 32 (i 1).val) 0#32)) 0#32

/-- The body's start: the accumulators of the keys and values at zero, and at the pair's first key tile the queries'. -/
def b1 : St F :=
  let s1 : St F := { s with acck := k0_pay17 }
  let s2 : St F := { s1 with accv := k0_pay18 }
  if first i = 1#1 then { s2 with accq := k0_pay19 } else s2
/-- The diagonal tile of the first head: values, keys. -/
def b2 (v6 d : FVec F S512x128 .bf16) (l r : FVec F S8x512 .f32) : St F :=
  let s1 := setV0 s (k0_pay26 d l (qD0 i s) (ka0 s) (accv0 s))
  setK0 s1 (k0_pay28 v6 d l r (qD0 i s) (ka0 s) (acck0 s1))
/-- Its queries, and the second head's values. -/
def b3 (d : FVec F S512x128 .bf16) (l : FVec F S8x512 .f32) (v34 : FVec F S512x128 .bf16) (v58 : FVec F S512x512 .bf16) : St F :=
  let s1 := setQ s (k0_off3 i) (k0_pay29 v34 v58 (window s.accq (k0_off3 i) S1x512x128.size (k0_off3_inb i)))
  setV1 s1 (k0_pay33 d l (qD1 i s1) (ka1 s1) (accv1 s1))
/-- The second head's keys and queries of the diagonal tile. -/
def b4 (v77 v79 : FVec F S512x128 .bf16) (v103 : FVec F S512x512 .bf16) : St F :=
  let s1 := setK1 s (k0_pay35 v77 v103 (acck1 s))
  setQ s1 (k0_off4 i) (k0_pay36 v79 v103 (window s1.accq (k0_off4 i) S1x512x128.size (k0_off4_inb i)))
/-- The three loops. -/
def b5 (v6 v7 : FVec F S512x128 .bf16) : St F :=
  let p := loop1 i v6 v7 (32 - ((i 1).val + 1)) ((i 1).val + 1) s
  let p2 := loop2 i v6 (32 - p.2) p.2 p.1
  (loop3 i v7 (32 - p.2) p.2 p2.1).1
/-- The two results. -/
def b6 (v2 : IVec S512x128 1) : St F :=
  let s1 : St F := { s with dka := s.acck }
  { s1 with dv := k0_pay37 v2 (accv0 s1) (accv1 s1) }
/-- The body after its first part. -/
def tail4 (v2 : IVec S512x128 1) (v6 v7 v77 v79 : FVec F S512x128 .bf16) (v103 : FVec F S512x512 .bf16) : St F :=
  b6 (b5 i (b4 i s v77 v79 v103) v6 v7) v2
/-- What one grid point leaves. -/
def out : St F :=
  let s1 := b1 i s
  let s2 := b2 i s1 (v6 s) (dD i s1) (lD i s1) (rD i s1)
  let s3 := b3 i s2 (dD i s1) (lD i s1) (k0_pay24 (ka0 s1)) (k0_pay27 (v6 s) (dD i s1) (lD i s1) (rD i s1) (qD0 i s1) (ka0 s1))
  tail4 i s3 k0_pay12 (v6 s) (v7 s) (k0_pay30 (qD1 i s2)) (k0_pay31 (ka1 s2)) (k0_pay34 (v7 s) (dD i s1) (lD i s1) (rD i s1) (qD1 i s2) (ka1 s2))
end Body

end Cert.AttnI

end
-- ==== Proof.AttnHeld.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnStep
public import Idealize.ShloMosaic.Lib.Tactic
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

/-- The loops' variants: the trips still to run. -/
abbrev 𝒱₀ : Variants := Variants.nat

/-! ### Loads and stores of a held state -/

section Rules
variable {c : Dev nD} {bd : Option (𝒱₀ : Variants).V} {E : Set ℕ} {α : Type}
variable {cs : CoreSpace} {sh : Shape} {e : EltTy} {M : Memref sig .tc cs sh e}

/-- `P` holds the memref `M` at `X`, and any other contents put back make it `P'` of them. -/
def Foc (c : Dev nD) (P : sProp 𝕄) (M : Memref sig .tc cs sh e) (X : sh.Idx → Elt F e) (P' : (sh.Idx → Elt F e) → sProp 𝕄) : Prop :=
  P ⊢ iprop(owns (c : Thread nD τ) M fullShare X ∗ ∀ X' : sh.Idx → Elt F e, owns (c : Thread nD τ) M fullShare X' -∗ P' X')

theorem ld {r : LoadRect sh} {hl : M.view.LoadsAt r} {k : (r.shape.Idx → Elt F e) → Prog (TpuEff nD τ sig (Elt F) (Λ₀ F) .tc) α}
    {Q : α → sProp 𝕄} {P R : sProp 𝕄} {X : sh.Idx → Elt F e} {P' : (sh.Idx → Elt F e) → sProp 𝕄} (foc : Foc c P M X P') (hP : P' X = P)
    (h : iprop(P ∗ R) ⊢ wp frame (wpE (defs₀ (F := F)) 𝒱₀ (c : Thread nD τ) bd) E (k fun x => X (r.idx x)) Q) :
    iprop(P ∗ R) ⊢ wp frame (wpE (defs₀ (F := F)) 𝒱₀ (c : Thread nD τ) bd) E (.op (.load M r hl) k) Q := by
  refine (sep_mono_left foc).trans ?_
  unfold owns
  iintro ⟨⟨⟨%f, %hf, H⟩, Hb⟩, HR⟩
  iapply (wp_load 𝒱₀ (c : Thread nD τ) bd E (m := M) (r := r) (hl := hl) (S := M.view.set) (View.setOn_subset_set _ _)) $$ H
  iintro H
  have e1 : M.view.readAt (Elt F) r f = fun x => X (r.idx x) := by subst hf; rfl
  rw [e1]
  iapply h
  isplitr [HR]
  · rw [← hP]
    iapply Hb
    iexists f
    isplitr [H]
    · ipureintro; exact hf
    · iexact H
  · iexact HR

theorem st {off size : Fin sh.rank → ℕ} {inb : ∀ a, off a + size a ≤ sh.size a} {w : (Rect.unit off size inb).shape.Idx → Elt F e}
    {hx : (M.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) (Λ₀ F) .tc) α}
    {Q : α → sProp 𝕄} {P R : sProp 𝕄} {X : sh.Idx → Elt F e} {P' : (sh.Idx → Elt F e) → sProp 𝕄} (foc : Foc c P M X P')
    (h : iprop(P' (put X off size w) ∗ R) ⊢ wp frame (wpE (defs₀ (F := F)) 𝒱₀ (c : Thread nD τ) bd) E (k ⟨⟩) Q) :
    iprop(P ∗ R) ⊢ wp frame (wpE (defs₀ (F := F)) 𝒱₀ (c : Thread nD τ) bd) E (.op (.store M (Rect.unit off size inb) w Finset.univ hx hm) k) Q := by
  refine (sep_mono_left foc).trans ?_
  unfold owns
  iintro ⟨⟨⟨%f, %hf, H⟩, Hb⟩, HR⟩
  iapply (wp_store 𝒱₀ (c : Thread nD τ) bd E (m := M) (r := Rect.unit off size inb) (w := w) (Mk := Finset.univ) (hx := hx) (hm := hm) (S := M.view.set)
    (Memref.setOn_access_subset M _ _)) $$ H
  iintro H
  iapply h
  isplitr [HR]
  · iapply Hb
    iexists _
    isplitr [H]
    rotate_left
    · iexact H
    · ipureintro
      subst hf
      exact View.read_writes_cons_put M.view f inb w [] rfl
  · iexact HR
end Rules

/-! ### The buffers of the body, held at a state -/

/-- The body's memrefs. -/
structure Ms where
  a2 : Memref sig .tc .smem S8x32 .f32
  h2 : a2.IsWhole
  a3 : Memref sig .tc .smem S8x32 .f32
  h3 : a3.IsWhole
  a4 : Memref sig .tc .smem S1x1 .f32
  h4 : a4.IsWhole
  a5 : Memref sig .tc .vmem S2x512x128 .bf16
  h5 : a5.IsWhole
  a6 : Memref sig .tc .vmem S512x128 .bf16
  h6 : a6.IsWhole
  a7 : Memref sig .tc .vmem S1x32x8x512 .f32
  h7 : a7.IsWhole
  a8 : Memref sig .tc .vmem S2x16384x128 .bf16
  h8 : a8.IsWhole
  a9 : Memref sig .tc .vmem S16384x128 .bf16
  h9 : a9.IsWhole
  a10 : Memref sig .tc .vmem S1x32x8x512 .f32
  h10 : a10.IsWhole
  a12 : Memref sig .tc .vmem S2x512x128 .f32
  h12 : a12.IsWhole
  a13 : Memref sig .tc .vmem S512x128 .bf16
  h13 : a13.IsWhole
  a14 : Memref sig .tc .vmem S2x16384x128 .f32
  h14 : a14.IsWhole
  a15 : Memref sig .tc .vmem S2x512x128 .f32
  h15 : a15.IsWhole
  a16 : Memref sig .tc .vmem S2x512x128 .f32
  h16 : a16.IsWhole

/-- The memrefs held at a state. -/
def Held (c : Dev nD) (M : Ms) (s : St F) : sProp 𝕄 :=
  iprop(owns (c : Thread nD τ) M.a2 fullShare s.fs ∗ owns (c : Thread nD τ) M.a3 fullShare s.fe ∗ owns (c : Thread nD τ) M.a4 fullShare s.bd ∗ owns (c : Thread nD τ) M.a5 fullShare s.ka ∗ owns (c : Thread nD τ) M.a6 fullShare s.vv ∗ owns (c : Thread nD τ) M.a7 fullShare s.lse ∗ owns (c : Thread nD τ) M.a8 fullShare s.qa ∗ owns (c : Thread nD τ) M.a9 fullShare s.dO ∗ owns (c : Thread nD τ) M.a10 fullShare s.dr ∗ owns (c : Thread nD τ) M.a12 fullShare s.dka ∗ owns (c : Thread nD τ) M.a13 fullShare s.dv ∗ owns (c : Thread nD τ) M.a14 fullShare s.accq ∗ owns (c : Thread nD τ) M.a15 fullShare s.acck ∗ owns (c : Thread nD τ) M.a16 fullShare s.accv)

theorem foc2 (c : Dev nD) (M : Ms) (s : St F) : Foc c (Held c M s) M.a2 s.fs (fun X => Held c M { s with fs := X }) := by
  unfold Foc Held
  iintro ⟨H2, H3, H4, H5, H6, H7, H8, H9, H10, H12, H13, H14, H15, H16⟩
  isplitl [H2]; · iexact H2
  iintro %X' H2
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc3 (c : Dev nD) (M : Ms) (s : St F) : Foc c (Held c M s) M.a3 s.fe (fun X => Held c M { s with fe := X }) := by
  unfold Foc Held
  iintro ⟨H2, H3, H4, H5, H6, H7, H8, H9, H10, H12, H13, H14, H15, H16⟩
  isplitl [H3]; · iexact H3
  iintro %X' H3
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc4 (c : Dev nD) (M : Ms) (s : St F) : Foc c (Held c M s) M.a4 s.bd (fun X => Held c M { s with bd := X }) := by
  unfold Foc Held
  iintro ⟨H2, H3, H4, H5, H6, H7, H8, H9, H10, H12, H13, H14, H15, H16⟩
  isplitl [H4]; · iexact H4
  iintro %X' H4
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc5 (c : Dev nD) (M : Ms) (s : St F) : Foc c (Held c M s) M.a5 s.ka (fun X => Held c M { s with ka := X }) := by
  unfold Foc Held
  iintro ⟨H2, H3, H4, H5, H6, H7, H8, H9, H10, H12, H13, H14, H15, H16⟩
  isplitl [H5]; · iexact H5
  iintro %X' H5
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc6 (c : Dev nD) (M : Ms) (s : St F) : Foc c (Held c M s) M.a6 s.vv (fun X => Held c M { s with vv := X }) := by
  unfold Foc Held
  iintro ⟨H2, H3, H4, H5, H6, H7, H8, H9, H10, H12, H13, H14, H15, H16⟩
  isplitl [H6]; · iexact H6
  iintro %X' H6
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc7 (c : Dev nD) (M : Ms) (s : St F) : Foc c (Held c M s) M.a7 s.lse (fun X => Held c M { s with lse := X }) := by
  unfold Foc Held
  iintro ⟨H2, H3, H4, H5, H6, H7, H8, H9, H10, H12, H13, H14, H15, H16⟩
  isplitl [H7]; · iexact H7
  iintro %X' H7
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc8 (c : Dev nD) (M : Ms) (s : St F) : Foc c (Held c M s) M.a8 s.qa (fun X => Held c M { s with qa := X }) := by
  unfold Foc Held
  iintro ⟨H2, H3, H4, H5, H6, H7, H8, H9, H10, H12, H13, H14, H15, H16⟩
  isplitl [H8]; · iexact H8
  iintro %X' H8
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc9 (c : Dev nD) (M : Ms) (s : St F) : Foc c (Held c M s) M.a9 s.dO (fun X => Held c M { s with dO := X }) := by
  unfold Foc Held
  iintro ⟨H2, H3, H4, H5, H6, H7, H8, H9, H10, H12, H13, H14, H15, H16⟩
  isplitl [H9]; · iexact H9
  iintro %X' H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc10 (c : Dev nD) (M : Ms) (s : St F) : Foc c (Held c M s) M.a10 s.dr (fun X => Held c M { s with dr := X }) := by
  unfold Foc Held
  iintro ⟨H2, H3, H4, H5, H6, H7, H8, H9, H10, H12, H13, H14, H15, H16⟩
  isplitl [H10]; · iexact H10
  iintro %X' H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc12 (c : Dev nD) (M : Ms) (s : St F) : Foc c (Held c M s) M.a12 s.dka (fun X => Held c M { s with dka := X }) := by
  unfold Foc Held
  iintro ⟨H2, H3, H4, H5, H6, H7, H8, H9, H10, H12, H13, H14, H15, H16⟩
  isplitl [H12]; · iexact H12
  iintro %X' H12
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc13 (c : Dev nD) (M : Ms) (s : St F) : Foc c (Held c M s) M.a13 s.dv (fun X => Held c M { s with dv := X }) := by
  unfold Foc Held
  iintro ⟨H2, H3, H4, H5, H6, H7, H8, H9, H10, H12, H13, H14, H15, H16⟩
  isplitl [H13]; · iexact H13
  iintro %X' H13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc14 (c : Dev nD) (M : Ms) (s : St F) : Foc c (Held c M s) M.a14 s.accq (fun X => Held c M { s with accq := X }) := by
  unfold Foc Held
  iintro ⟨H2, H3, H4, H5, H6, H7, H8, H9, H10, H12, H13, H14, H15, H16⟩
  isplitl [H14]; · iexact H14
  iintro %X' H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc15 (c : Dev nD) (M : Ms) (s : St F) : Foc c (Held c M s) M.a15 s.acck (fun X => Held c M { s with acck := X }) := by
  unfold Foc Held
  iintro ⟨H2, H3, H4, H5, H6, H7, H8, H9, H10, H12, H13, H14, H15, H16⟩
  isplitl [H15]; · iexact H15
  iintro %X' H15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

theorem foc16 (c : Dev nD) (M : Ms) (s : St F) : Foc c (Held c M s) M.a16 s.accv (fun X => Held c M { s with accv := X }) := by
  unfold Foc Held
  iintro ⟨H2, H3, H4, H5, H6, H7, H8, H9, H10, H12, H13, H14, H15, H16⟩
  isplitl [H16]; · iexact H16
  iintro %X' H16
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  iexact H16

/-! ### Whole accesses -/

theorem put_full {sh : Shape} {β : Type} (x : sh.Idx → β) (w : sh.Idx → β) (off : Fin sh.rank → ℕ) (h : ∀ a, off a = 0) :
    put x off sh.size w = w := by
  funext y
  unfold VecWindow.put
  rw [dif_pos (fun a => ⟨by rw [h a]; exact Nat.zero_le _, by rw [h a, Nat.zero_add]; exact (y a).isLt⟩)]
  exact congrArg w (funext fun a => Fin.ext (by show (y a).val - off a = _; rw [h a]; rfl))

theorem win_full {sh : Shape} {β : Type} (x : sh.Idx → β) (off : Fin sh.rank → ℕ) (inb : ∀ a, off a + sh.size a ≤ sh.size a) :
    (fun y => x ((Rect.unit off sh.size inb).toLoadRect.idx y)) = x := by
  funext y
  exact congrArg x (funext fun a => Fin.ext (by
    show off a + 1 * (y a).val = (y a).val
    have := inb a; omega))

section Rules2
variable {c : Dev nD} {bd : Option (𝒱₀ : Variants).V} {E : Set ℕ} {α : Type} {M : Ms}

/-- A load of a unit rectangle, of a held memref. -/
theorem ldw {Q : α → sProp 𝕄} {R : sProp 𝕄} {cs : CoreSpace} {sh : Shape} {e : EltTy} {m : Memref sig .tc cs sh e} {P : sProp 𝕄} {X : sh.Idx → Elt F e} {P' : (sh.Idx → Elt F e) → sProp 𝕄}
    (foc : Foc c P m X P') (hP : P' X = P) {off size : Fin sh.rank → ℕ} {inb : ∀ a, off a + size a ≤ sh.size a}
    {hl : m.view.LoadsAt (Rect.unit off size inb).toLoadRect} {k : ((Rect.unit off size inb).toLoadRect.shape.Idx → Elt F e) → Prog (TpuEff nD τ sig (Elt F) (Λ₀ F) .tc) α}
    (h : iprop(P ∗ R) ⊢ wp frame (wpE (defs₀ (F := F)) 𝒱₀ (c : Thread nD τ) bd) E (k (window X off size inb)) Q) :
    iprop(P ∗ R) ⊢ wp frame (wpE (defs₀ (F := F)) 𝒱₀ (c : Thread nD τ) bd) E (.op (.load m (Rect.unit off size inb).toLoadRect hl) k) Q :=
  ld foc hP h

/-- A scalar load of a held memref. -/
theorem lds {Q : α → sProp 𝕄} {R : sProp 𝕄} {sh : Shape} {e : EltTy} {m : Memref sig .tc .smem sh e} {P : sProp 𝕄} {X : sh.Idx → Elt F e} {P' : (sh.Idx → Elt F e) → sProp 𝕄}
    (foc : Foc c P m X P') (hP : P' X = P) {r : Rect sh} {h1 : r.shape.numel = 1} {hp : e.packing = 1}
    {k : Elt F e → Prog (TpuEff nD τ sig (Elt F) (Λ₀ F) .tc) α}
    (h : iprop(P ∗ R) ⊢ wp frame (wpE (defs₀ (F := F)) 𝒱₀ (c : Thread nD τ) bd) E (k (word X r h1)) Q) :
    iprop(P ∗ R) ⊢ wp frame (wpE (defs₀ (F := F)) 𝒱₀ (c : Thread nD τ) bd) E ((smemLoad m r h1 hp).bind k) Q :=
  ld (r := r.toLoadRect) foc hP h

/-- A check that holds. -/
theorem asm {Q : α → sProp 𝕄} {p : Prop} {d : Decidable p} {k : PLift p → Prog (TpuEff nD τ sig (Elt F) (Λ₀ F) .tc) α} (hp : p) {P : sProp 𝕄}
    (h : P ⊢ wp frame (wpE (defs₀ (F := F)) 𝒱₀ (c : Thread nD τ) bd) E (k ⟨hp⟩) Q) :
    P ⊢ wp frame (wpE (defs₀ (F := F)) 𝒱₀ (c : Thread nD τ) bd) E (.op (.assume p d) k) Q :=
  h.trans (wp_assume 𝒱₀ (c : Thread nD τ) bd E hp)

/-- A conditional whose condition holds, or does not. -/
theorem ifT {Q : α → sProp 𝕄} {p : Prop} {d : Decidable p} {a b : Prog (TpuEff nD τ sig (Elt F) (Λ₀ F) .tc) α} {P : sProp 𝕄} (hp : p)
    (h : P ⊢ wp frame (wpE (defs₀ (F := F)) 𝒱₀ (c : Thread nD τ) bd) E a Q) :
    P ⊢ wp frame (wpE (defs₀ (F := F)) 𝒱₀ (c : Thread nD τ) bd) E (if p then a else b) Q := by
  rw [if_pos hp]; exact h
theorem ifF {Q : α → sProp 𝕄} {p : Prop} {d : Decidable p} {a b : Prog (TpuEff nD τ sig (Elt F) (Λ₀ F) .tc) α} {P : sProp 𝕄} (hp : ¬ p)
    (h : P ⊢ wp frame (wpE (defs₀ (F := F)) 𝒱₀ (c : Thread nD τ) bd) E b Q) :
    P ⊢ wp frame (wpE (defs₀ (F := F)) 𝒱₀ (c : Thread nD τ) bd) E (if p then a else b) Q := by
  rw [if_neg hp]; exact h

theorem rt {Q : α → sProp 𝕄} {a : α} {P : sProp 𝕄} (h : P ⊢ Q a) : P ⊢ wp frame (wpE (defs₀ (F := F)) 𝒱₀ (c : Thread nD τ) bd) E (Prog.ret a) Q :=
  h.trans (le_wp_ret _ _ _ _ _)

theorem stV0 {Q : α → sProp 𝕄} {R : sProp 𝕄} {s : St F}  {w : Vec F S1x512x128 .f32}
    {hx : (M.a16.access (Rect.unit (s := S2x512x128) ![0, 0, 0] S1x512x128.size inb_S2x512x128_S1x512x128_0_0_0)).Stores Finset.univ} {hm : (Finset.univ : Finset (Rect.unit (s := S2x512x128) ![0, 0, 0] S1x512x128.size inb_S2x512x128_S1x512x128_0_0_0).shape.Idx) = Finset.univ ∨ ∀ a, (Rect.unit (s := S2x512x128) ![0, 0, 0] S1x512x128.size inb_S2x512x128_S1x512x128_0_0_0).stride a = 1}
    {k : PUnit → Prog (TpuEff nD τ sig (Elt F) (Λ₀ F) .tc) α}
    (h : iprop(Held c M (setV0 s w) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a16 (Rect.unit (s := S2x512x128) ![0, 0, 0] S1x512x128.size inb_S2x512x128_S1x512x128_0_0_0) w Finset.univ hx hm) k) Q :=
  st (foc16 c M s) h

theorem stV1 {Q : α → sProp 𝕄} {R : sProp 𝕄} {s : St F}  {w : Vec F S1x512x128 .f32}
    {hx : (M.a16.access (Rect.unit (s := S2x512x128) ![1, 0, 0] S1x512x128.size inb_S2x512x128_S1x512x128_1_0_0)).Stores Finset.univ} {hm : (Finset.univ : Finset (Rect.unit (s := S2x512x128) ![1, 0, 0] S1x512x128.size inb_S2x512x128_S1x512x128_1_0_0).shape.Idx) = Finset.univ ∨ ∀ a, (Rect.unit (s := S2x512x128) ![1, 0, 0] S1x512x128.size inb_S2x512x128_S1x512x128_1_0_0).stride a = 1}
    {k : PUnit → Prog (TpuEff nD τ sig (Elt F) (Λ₀ F) .tc) α}
    (h : iprop(Held c M (setV1 s w) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a16 (Rect.unit (s := S2x512x128) ![1, 0, 0] S1x512x128.size inb_S2x512x128_S1x512x128_1_0_0) w Finset.univ hx hm) k) Q :=
  st (foc16 c M s) h

theorem stK0 {Q : α → sProp 𝕄} {R : sProp 𝕄} {s : St F}  {w : Vec F S1x512x128 .f32}
    {hx : (M.a15.access (Rect.unit (s := S2x512x128) ![0, 0, 0] S1x512x128.size inb_S2x512x128_S1x512x128_0_0_0)).Stores Finset.univ} {hm : (Finset.univ : Finset (Rect.unit (s := S2x512x128) ![0, 0, 0] S1x512x128.size inb_S2x512x128_S1x512x128_0_0_0).shape.Idx) = Finset.univ ∨ ∀ a, (Rect.unit (s := S2x512x128) ![0, 0, 0] S1x512x128.size inb_S2x512x128_S1x512x128_0_0_0).stride a = 1}
    {k : PUnit → Prog (TpuEff nD τ sig (Elt F) (Λ₀ F) .tc) α}
    (h : iprop(Held c M (setK0 s w) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a15 (Rect.unit (s := S2x512x128) ![0, 0, 0] S1x512x128.size inb_S2x512x128_S1x512x128_0_0_0) w Finset.univ hx hm) k) Q :=
  st (foc15 c M s) h

theorem stK1 {Q : α → sProp 𝕄} {R : sProp 𝕄} {s : St F}  {w : Vec F S1x512x128 .f32}
    {hx : (M.a15.access (Rect.unit (s := S2x512x128) ![1, 0, 0] S1x512x128.size inb_S2x512x128_S1x512x128_1_0_0)).Stores Finset.univ} {hm : (Finset.univ : Finset (Rect.unit (s := S2x512x128) ![1, 0, 0] S1x512x128.size inb_S2x512x128_S1x512x128_1_0_0).shape.Idx) = Finset.univ ∨ ∀ a, (Rect.unit (s := S2x512x128) ![1, 0, 0] S1x512x128.size inb_S2x512x128_S1x512x128_1_0_0).stride a = 1}
    {k : PUnit → Prog (TpuEff nD τ sig (Elt F) (Λ₀ F) .tc) α}
    (h : iprop(Held c M (setK1 s w) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a15 (Rect.unit (s := S2x512x128) ![1, 0, 0] S1x512x128.size inb_S2x512x128_S1x512x128_1_0_0) w Finset.univ hx hm) k) Q :=
  st (foc15 c M s) h

theorem stQ {Q : α → sProp 𝕄} {R : sProp 𝕄} {s : St F} {off : Fin 3 → ℕ} {inb : ∀ a, off a + S1x512x128.size a ≤ S2x16384x128.size a} {w : Vec F S1x512x128 .f32}
    {hx : (M.a14.access (Rect.unit (s := S2x16384x128) off S1x512x128.size inb)).Stores Finset.univ} {hm : (Finset.univ : Finset (Rect.unit (s := S2x16384x128) off S1x512x128.size inb).shape.Idx) = Finset.univ ∨ ∀ a, (Rect.unit (s := S2x16384x128) off S1x512x128.size inb).stride a = 1}
    {k : PUnit → Prog (TpuEff nD τ sig (Elt F) (Λ₀ F) .tc) α}
    (h : iprop(Held c M (setQ s off w) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a14 (Rect.unit (s := S2x16384x128) off S1x512x128.size inb) w Finset.univ hx hm) k) Q :=
  st (foc14 c M s) h

theorem stVf {Q : α → sProp 𝕄} {R : sProp 𝕄} {s : St F}  {w : Vec F S2x512x128 .f32}
    {hx : (M.a16.access (Rect.unit (s := S2x512x128) ![0, 0, 0] S2x512x128.size inb_S2x512x128_S2x512x128_0_0_0)).Stores Finset.univ} {hm : (Finset.univ : Finset (Rect.unit (s := S2x512x128) ![0, 0, 0] S2x512x128.size inb_S2x512x128_S2x512x128_0_0_0).shape.Idx) = Finset.univ ∨ ∀ a, (Rect.unit (s := S2x512x128) ![0, 0, 0] S2x512x128.size inb_S2x512x128_S2x512x128_0_0_0).stride a = 1}
    {k : PUnit → Prog (TpuEff nD τ sig (Elt F) (Λ₀ F) .tc) α}
    (h : iprop(Held c M ({ s with accv := w }) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a16 (Rect.unit (s := S2x512x128) ![0, 0, 0] S2x512x128.size inb_S2x512x128_S2x512x128_0_0_0) w Finset.univ hx hm) k) Q :=
  st (foc16 c M s) (by rw [put_full _ _ _ (by decide)]; exact h)

theorem stKf {Q : α → sProp 𝕄} {R : sProp 𝕄} {s : St F}  {w : Vec F S2x512x128 .f32}
    {hx : (M.a15.access (Rect.unit (s := S2x512x128) ![0, 0, 0] S2x512x128.size inb_S2x512x128_S2x512x128_0_0_0)).Stores Finset.univ} {hm : (Finset.univ : Finset (Rect.unit (s := S2x512x128) ![0, 0, 0] S2x512x128.size inb_S2x512x128_S2x512x128_0_0_0).shape.Idx) = Finset.univ ∨ ∀ a, (Rect.unit (s := S2x512x128) ![0, 0, 0] S2x512x128.size inb_S2x512x128_S2x512x128_0_0_0).stride a = 1}
    {k : PUnit → Prog (TpuEff nD τ sig (Elt F) (Λ₀ F) .tc) α}
    (h : iprop(Held c M ({ s with acck := w }) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a15 (Rect.unit (s := S2x512x128) ![0, 0, 0] S2x512x128.size inb_S2x512x128_S2x512x128_0_0_0) w Finset.univ hx hm) k) Q :=
  st (foc15 c M s) (by rw [put_full _ _ _ (by decide)]; exact h)

theorem stQf {Q : α → sProp 𝕄} {R : sProp 𝕄} {s : St F}  {w : Vec F S2x16384x128 .f32}
    {hx : (M.a14.access (Rect.unit (s := S2x16384x128) ![0, 0, 0] S2x16384x128.size inb_S2x16384x128_S2x16384x128_0_0_0)).Stores Finset.univ} {hm : (Finset.univ : Finset (Rect.unit (s := S2x16384x128) ![0, 0, 0] S2x16384x128.size inb_S2x16384x128_S2x16384x128_0_0_0).shape.Idx) = Finset.univ ∨ ∀ a, (Rect.unit (s := S2x16384x128) ![0, 0, 0] S2x16384x128.size inb_S2x16384x128_S2x16384x128_0_0_0).stride a = 1}
    {k : PUnit → Prog (TpuEff nD τ sig (Elt F) (Λ₀ F) .tc) α}
    (h : iprop(Held c M ({ s with accq := w }) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a14 (Rect.unit (s := S2x16384x128) ![0, 0, 0] S2x16384x128.size inb_S2x16384x128_S2x16384x128_0_0_0) w Finset.univ hx hm) k) Q :=
  st (foc14 c M s) (by rw [put_full _ _ _ (by decide)]; exact h)

theorem stDk {Q : α → sProp 𝕄} {R : sProp 𝕄} {s : St F}  {w : Vec F S2x512x128 .f32}
    {hx : (M.a12.access (Rect.unit (s := S2x512x128) ![0, 0, 0] S2x512x128.size inb_S2x512x128_S2x512x128_0_0_0)).Stores Finset.univ} {hm : (Finset.univ : Finset (Rect.unit (s := S2x512x128) ![0, 0, 0] S2x512x128.size inb_S2x512x128_S2x512x128_0_0_0).shape.Idx) = Finset.univ ∨ ∀ a, (Rect.unit (s := S2x512x128) ![0, 0, 0] S2x512x128.size inb_S2x512x128_S2x512x128_0_0_0).stride a = 1}
    {k : PUnit → Prog (TpuEff nD τ sig (Elt F) (Λ₀ F) .tc) α}
    (h : iprop(Held c M ({ s with dka := w }) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a12 (Rect.unit (s := S2x512x128) ![0, 0, 0] S2x512x128.size inb_S2x512x128_S2x512x128_0_0_0) w Finset.univ hx hm) k) Q :=
  st (foc12 c M s) (by rw [put_full _ _ _ (by decide)]; exact h)

theorem stDv {Q : α → sProp 𝕄} {R : sProp 𝕄} {s : St F}  {w : Vec F S512x128 .bf16}
    {hx : (M.a13.access (Rect.unit (s := S512x128) ![0, 0] S512x128.size inb_S512x128_S512x128_0_0)).Stores Finset.univ} {hm : (Finset.univ : Finset (Rect.unit (s := S512x128) ![0, 0] S512x128.size inb_S512x128_S512x128_0_0).shape.Idx) = Finset.univ ∨ ∀ a, (Rect.unit (s := S512x128) ![0, 0] S512x128.size inb_S512x128_S512x128_0_0).stride a = 1}
    {k : PUnit → Prog (TpuEff nD τ sig (Elt F) (Λ₀ F) .tc) α}
    (h : iprop(Held c M ({ s with dv := w }) ∗ R) ⊢ wp frame (wpE (defs₀ (F := F)) 𝒱₀ (c : Thread nD τ) bd) E (k ⟨⟩) Q) :
    iprop(Held c M s ∗ R) ⊢ wp frame (wpE (defs₀ (F := F)) 𝒱₀ (c : Thread nD τ) bd) E (.op (.store M.a13 (Rect.unit (s := S512x128) ![0, 0] S512x128.size inb_S512x128_S512x128_0_0) w Finset.univ hx hm) k) Q :=
  st (foc13 c M s) (by rw [put_full _ _ _ (by decide)]; exact h)

end Rules2

end Cert.AttnI

end
-- ==== Proof.AttnLoops.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnHeld
public import Idealize.ShloMosaic.Lib.Tactic
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

section Loops
variable (c : Dev nD) (M : Ms) (i : grid0.Coords)

/-- The label of loop 1: from the state `s` and trip `n`, `k` trips left at most, what it leaves and returns. -/
def spec1 (v6 v7 : FVec F S512x128 .bf16) (k n : ℕ) (s : St F) : sWPT 𝕄 (BitVec 32) := do
  sWPT.consume (Held c M s)
  sWPT.produce (Held c M (loop1 i v6 v7 k n s).1)
  pure (wd (loop1 i v6 v7 k n s).2)

theorem spec1_apply (v6 v7 : FVec F S512x128 .bf16) (k n : ℕ) (s : St F) (K : BitVec 32 → sProp 𝕄) :
    spec1 c M i v6 v7 k n s K = iprop(Held c M s ∗ (Held c M (loop1 i v6 v7 k n s).1 -∗ K (wd (loop1 i v6 v7 k n s).2))) := rfl

theorem spec1_le (v6 v7 : FVec F S512x128 .bf16) (E : Set ℕ) : ∀ (k n : ℕ), n + k = 32 → ∀ (s : St F) (K : BitVec 32 → sProp 𝕄),
    spec1 c M i v6 v7 k n s K ⊢ wp frame (wpE (defs₀ (F := F)) 𝒱₀ (c : Thread nD τ) (some k)) E
      (defs₀ (F := F) .tc 1 ⟨i, M.a2, M.h2, M.a4, M.h4, M.a3, M.h3, M.a9, M.h9, M.a7, M.h7, M.a10, M.h10, M.a8, M.h8, M.a5, M.h5, M.a16, M.h16, v6, M.a15, M.h15, M.a14, M.h14, v7, wd n⟩) K := by
  intro k
  induction k with
  | zero => ?_
  | succ k ih => ?_
  · intro n hn s K
    obtain rfl : n = 32 := by omega
    rw [spec1_apply]
    show _ ⊢ wp _ _ _ (cc0_while1 i M.a2 M.h2 M.a4 M.h4 M.a3 M.h3 M.a9 M.h9 M.a7 M.h7 M.a10 M.h10 M.a8 M.h8 M.a5 M.h5 M.a16 M.h16 v6 M.a15 M.h15 M.a14 M.h14 v7 (wd 32)) K
    simp only [cc0_while1_eq_skeleton]; unfold cc0_while1_skel
    simp only [Prog.lift, Prog.bind_op, Prog.bind_ret, Prog.pure_eq_ret, Prog.bind_assoc]
    refine asm (chk1_of i 32 (by omega)) ?_
    refine lds (foc2 c M _) rfl ?_
    refine lds (foc4 c M _) rfl ?_
    refine lds (foc3 c M _) rfl ?_
    refine lds (foc2 c M _) rfl ?_
    refine lds (foc4 c M _) rfl ?_
    refine lds (foc3 c M _) rfl ?_
    refine ifF (test1_32 i (chk1_of i 32 (by omega)) s) ?_
    have hl : loop1 i v6 v7 0 32 s = (s, 32) := rfl
    rw [hl]
    refine rt ?_
    iintro ⟨H, HK⟩
    iapply HK
    iexact H
  · intro n hn s K
    have hlt : n < 32 := by omega
    rw [spec1_apply]
    show _ ⊢ wp _ _ _ (cc0_while1 i M.a2 M.h2 M.a4 M.h4 M.a3 M.h3 M.a9 M.h9 M.a7 M.h7 M.a10 M.h10 M.a8 M.h8 M.a5 M.h5 M.a16 M.h16 v6 M.a15 M.h15 M.a14 M.h14 v7 (wd n)) K
    simp only [cc0_while1_eq_skeleton]; unfold cc0_while1_skel
    simp only [Prog.lift, Prog.bind_op, Prog.bind_ret, Prog.pure_eq_ret, Prog.bind_assoc]
    refine asm (chk1_of i n (by omega)) ?_
    refine lds (foc2 c M _) rfl ?_
    refine lds (foc4 c M _) rfl ?_
    refine lds (foc3 c M _) rfl ?_
    refine lds (foc2 c M _) rfl ?_
    refine lds (foc4 c M _) rfl ?_
    refine lds (foc3 c M _) rfl ?_
    by_cases ht : test1 i (wd n) (chk1_of i n (by omega)) s = 1#1
    · refine ifT ht ?_
      have hl : loop1 i v6 v7 (k + 1) n s = loop1 i v6 v7 k (n + 1) (trip1 v6 v7 (wd n) (chk2_of n hlt) s) := by
        rw [loop1, dif_pos hlt, if_pos ht]
      rw [hl]
      simp only [k0_part5_eq_skeleton, k0_part6_eq_skeleton]
      unfold k0_part5_skel k0_part6_skel
      simp only [Prog.lift, Prog.bind_op, Prog.bind_ret, Prog.pure_eq_ret, Prog.bind_assoc]
      refine asm (chk2_of n hlt) ?_
      refine ldw (foc9 c M _) rfl ?_
      refine ldw (foc7 c M _) rfl ?_
      refine ldw (foc10 c M _) rfl ?_
      refine ldw (foc8 c M _) rfl ?_
      refine ldw (foc5 c M _) rfl ?_
      refine ldw (foc16 c M _) rfl ?_
      refine ldw (foc16 c M _) rfl ?_
      refine stV0 ?_
      refine ldw (foc15 c M _) rfl ?_
      refine ldw (foc15 c M _) rfl ?_
      refine stK0 ?_
      refine ldw (foc14 c M _) rfl ?_
      refine ldw (foc14 c M _) rfl ?_
      refine stQ ?_
      refine ldw (foc8 c M _) rfl ?_
      refine ldw (foc5 c M _) rfl ?_
      refine ldw (foc16 c M _) rfl ?_
      refine ldw (foc16 c M _) rfl ?_
      refine stV1 ?_
      refine ldw (foc15 c M _) rfl ?_
      refine ldw (foc15 c M _) rfl ?_
      refine stK1 ?_
      refine ldw (foc14 c M _) rfl ?_
      refine ldw (foc14 c M _) rfl ?_
      refine stQ ?_
      have hw : Scalar.addi (wd n) 1#32 = wd (n + 1) := by
        unfold wd Scalar.addi; rw [BitVec.ofNat_add]; rfl
      rw [hw]
      refine BIBase.Entails.trans ?_ (wp_call_spec 𝒱₀ (c : Thread nD τ) (some (k + 1)) E (spec1 c M i v6 v7 k (n + 1) (trip1 v6 v7 (wd n) (chk2_of n hlt) s)) k
        (fun u hu => by cases hu; exact Nat.lt_succ_self k) (ih (n + 1) (by omega) _))
      rw [spec1_apply]
      refine sep_mono_right (wand_mono_right ?_)
      exact rt (Entails.refl _)
    · refine ifF ht ?_
      have hl : loop1 i v6 v7 (k + 1) n s = (s, n) := by
        rw [loop1, dif_pos hlt, if_neg ht]
      rw [hl]
      refine rt ?_
      iintro ⟨H, HK⟩
      iapply HK
      iexact H

/-- The label of loop 2: from the state `s` and trip `n`, `k` trips left at most, what it leaves and returns. -/
def spec2 (v6 : FVec F S512x128 .bf16) (k n : ℕ) (s : St F) : sWPT 𝕄 (BitVec 32) := do
  sWPT.consume (Held c M s)
  sWPT.produce (Held c M (loop2 i v6 k n s).1)
  pure (wd (loop2 i v6 k n s).2)

theorem spec2_apply (v6 : FVec F S512x128 .bf16) (k n : ℕ) (s : St F) (K : BitVec 32 → sProp 𝕄) :
    spec2 c M i v6 k n s K = iprop(Held c M s ∗ (Held c M (loop2 i v6 k n s).1 -∗ K (wd (loop2 i v6 k n s).2))) := rfl

theorem spec2_le (v6 : FVec F S512x128 .bf16) (E : Set ℕ) : ∀ (k n : ℕ), n + k = 32 → ∀ (s : St F) (K : BitVec 32 → sProp 𝕄),
    spec2 c M i v6 k n s K ⊢ wp frame (wpE (defs₀ (F := F)) 𝒱₀ (c : Thread nD τ) (some k)) E
      (defs₀ (F := F) .tc 2 ⟨i, M.a2, M.h2, M.a4, M.h4, M.a3, M.h3, M.a9, M.h9, M.a7, M.h7, M.a10, M.h10, M.a8, M.h8, M.a5, M.h5, M.a16, M.h16, v6, M.a15, M.h15, M.a14, M.h14, wd n⟩) K := by
  intro k
  induction k with
  | zero => ?_
  | succ k ih => ?_
  · intro n hn s K
    obtain rfl : n = 32 := by omega
    rw [spec2_apply]
    show _ ⊢ wp _ _ _ (cc0_while2 i M.a2 M.h2 M.a4 M.h4 M.a3 M.h3 M.a9 M.h9 M.a7 M.h7 M.a10 M.h10 M.a8 M.h8 M.a5 M.h5 M.a16 M.h16 v6 M.a15 M.h15 M.a14 M.h14 (wd 32)) K
    simp only [cc0_while2_eq_skeleton]; unfold cc0_while2_skel
    simp only [Prog.lift, Prog.bind_op, Prog.bind_ret, Prog.pure_eq_ret, Prog.bind_assoc]
    refine asm (chk3_of i 32 (by omega)) ?_
    refine lds (foc2 c M _) rfl ?_
    refine lds (foc4 c M _) rfl ?_
    refine lds (foc3 c M _) rfl ?_
    refine ifF (test2_32 i (chk3_of i 32 (by omega)) s) ?_
    have hl : loop2 i v6 0 32 s = (s, 32) := rfl
    rw [hl]
    refine rt ?_
    iintro ⟨H, HK⟩
    iapply HK
    iexact H
  · intro n hn s K
    have hlt : n < 32 := by omega
    rw [spec2_apply]
    show _ ⊢ wp _ _ _ (cc0_while2 i M.a2 M.h2 M.a4 M.h4 M.a3 M.h3 M.a9 M.h9 M.a7 M.h7 M.a10 M.h10 M.a8 M.h8 M.a5 M.h5 M.a16 M.h16 v6 M.a15 M.h15 M.a14 M.h14 (wd n)) K
    simp only [cc0_while2_eq_skeleton]; unfold cc0_while2_skel
    simp only [Prog.lift, Prog.bind_op, Prog.bind_ret, Prog.pure_eq_ret, Prog.bind_assoc]
    refine asm (chk3_of i n (by omega)) ?_
    refine lds (foc2 c M _) rfl ?_
    refine lds (foc4 c M _) rfl ?_
    refine lds (foc3 c M _) rfl ?_
    by_cases ht : test2 i (wd n) (chk3_of i n (by omega)) s = 1#1
    · refine ifT ht ?_
      have hl : loop2 i v6 (k + 1) n s = loop2 i v6 k (n + 1) (trip2 v6 (wd n) (chk4_of n hlt) s) := by
        rw [loop2, dif_pos hlt, if_pos ht]
      rw [hl]
      simp only [k0_part7_eq_skeleton]
      unfold k0_part7_skel
      simp only [Prog.lift, Prog.bind_op, Prog.bind_ret, Prog.pure_eq_ret, Prog.bind_assoc]
      refine asm (chk4_of n hlt) ?_
      refine ldw (foc9 c M _) rfl ?_
      refine ldw (foc7 c M _) rfl ?_
      refine ldw (foc10 c M _) rfl ?_
      refine ldw (foc8 c M _) rfl ?_
      refine ldw (foc5 c M _) rfl ?_
      refine ldw (foc16 c M _) rfl ?_
      refine ldw (foc16 c M _) rfl ?_
      refine stV0 ?_
      refine ldw (foc15 c M _) rfl ?_
      refine ldw (foc15 c M _) rfl ?_
      refine stK0 ?_
      refine ldw (foc14 c M _) rfl ?_
      refine ldw (foc14 c M _) rfl ?_
      refine stQ ?_
      have hw : Scalar.addi (wd n) 1#32 = wd (n + 1) := by
        unfold wd Scalar.addi; rw [BitVec.ofNat_add]; rfl
      rw [hw]
      refine BIBase.Entails.trans ?_ (wp_call_spec 𝒱₀ (c : Thread nD τ) (some (k + 1)) E (spec2 c M i v6 k (n + 1) (trip2 v6 (wd n) (chk4_of n hlt) s)) k
        (fun u hu => by cases hu; exact Nat.lt_succ_self k) (ih (n + 1) (by omega) _))
      rw [spec2_apply]
      refine sep_mono_right (wand_mono_right ?_)
      exact rt (Entails.refl _)
    · refine ifF ht ?_
      have hl : loop2 i v6 (k + 1) n s = (s, n) := by
        rw [loop2, dif_pos hlt, if_neg ht]
      rw [hl]
      refine rt ?_
      iintro ⟨H, HK⟩
      iapply HK
      iexact H

/-- The label of loop 3: from the state `s` and trip `n`, `k` trips left at most, what it leaves and returns. -/
def spec3 (v7 : FVec F S512x128 .bf16) (k n : ℕ) (s : St F) : sWPT 𝕄 (BitVec 32) := do
  sWPT.consume (Held c M s)
  sWPT.produce (Held c M (loop3 i v7 k n s).1)
  pure (wd (loop3 i v7 k n s).2)

theorem spec3_apply (v7 : FVec F S512x128 .bf16) (k n : ℕ) (s : St F) (K : BitVec 32 → sProp 𝕄) :
    spec3 c M i v7 k n s K = iprop(Held c M s ∗ (Held c M (loop3 i v7 k n s).1 -∗ K (wd (loop3 i v7 k n s).2))) := rfl

theorem spec3_le (v7 : FVec F S512x128 .bf16) (E : Set ℕ) : ∀ (k n : ℕ), n + k = 32 → ∀ (s : St F) (K : BitVec 32 → sProp 𝕄),
    spec3 c M i v7 k n s K ⊢ wp frame (wpE (defs₀ (F := F)) 𝒱₀ (c : Thread nD τ) (some k)) E
      (defs₀ (F := F) .tc 3 ⟨i, M.a2, M.h2, M.a4, M.h4, M.a3, M.h3, M.a9, M.h9, M.a7, M.h7, M.a10, M.h10, M.a8, M.h8, M.a5, M.h5, M.a16, M.h16, v7, M.a15, M.h15, M.a14, M.h14, wd n⟩) K := by
  intro k
  induction k with
  | zero => ?_
  | succ k ih => ?_
  · intro n hn s K
    obtain rfl : n = 32 := by omega
    rw [spec3_apply]
    show _ ⊢ wp _ _ _ (cc0_while3 i M.a2 M.h2 M.a4 M.h4 M.a3 M.h3 M.a9 M.h9 M.a7 M.h7 M.a10 M.h10 M.a8 M.h8 M.a5 M.h5 M.a16 M.h16 v7 M.a15 M.h15 M.a14 M.h14 (wd 32)) K
    simp only [cc0_while3_eq_skeleton]; unfold cc0_while3_skel
    simp only [Prog.lift, Prog.bind_op, Prog.bind_ret, Prog.pure_eq_ret, Prog.bind_assoc]
    refine asm (chk5_of i 32 (by omega)) ?_
    refine lds (foc2 c M _) rfl ?_
    refine lds (foc4 c M _) rfl ?_
    refine lds (foc3 c M _) rfl ?_
    refine ifF (test3_32 i (chk5_of i 32 (by omega)) s) ?_
    have hl : loop3 i v7 0 32 s = (s, 32) := rfl
    rw [hl]
    refine rt ?_
    iintro ⟨H, HK⟩
    iapply HK
    iexact H
  · intro n hn s K
    have hlt : n < 32 := by omega
    rw [spec3_apply]
    show _ ⊢ wp _ _ _ (cc0_while3 i M.a2 M.h2 M.a4 M.h4 M.a3 M.h3 M.a9 M.h9 M.a7 M.h7 M.a10 M.h10 M.a8 M.h8 M.a5 M.h5 M.a16 M.h16 v7 M.a15 M.h15 M.a14 M.h14 (wd n)) K
    simp only [cc0_while3_eq_skeleton]; unfold cc0_while3_skel
    simp only [Prog.lift, Prog.bind_op, Prog.bind_ret, Prog.pure_eq_ret, Prog.bind_assoc]
    refine asm (chk5_of i n (by omega)) ?_
    refine lds (foc2 c M _) rfl ?_
    refine lds (foc4 c M _) rfl ?_
    refine lds (foc3 c M _) rfl ?_
    by_cases ht : test3 i (wd n) (chk5_of i n (by omega)) s = 1#1
    · refine ifT ht ?_
      have hl : loop3 i v7 (k + 1) n s = loop3 i v7 k (n + 1) (trip3 v7 (wd n) (chk6_of n hlt) s) := by
        rw [loop3, dif_pos hlt, if_pos ht]
      rw [hl]
      simp only [k0_part8_eq_skeleton]
      unfold k0_part8_skel
      simp only [Prog.lift, Prog.bind_op, Prog.bind_ret, Prog.pure_eq_ret, Prog.bind_assoc]
      refine asm (chk6_of n hlt) ?_
      refine ldw (foc9 c M _) rfl ?_
      refine ldw (foc7 c M _) rfl ?_
      refine ldw (foc10 c M _) rfl ?_
      refine ldw (foc8 c M _) rfl ?_
      refine ldw (foc5 c M _) rfl ?_
      refine ldw (foc16 c M _) rfl ?_
      refine ldw (foc16 c M _) rfl ?_
      refine stV1 ?_
      refine ldw (foc15 c M _) rfl ?_
      refine ldw (foc15 c M _) rfl ?_
      refine stK1 ?_
      refine ldw (foc14 c M _) rfl ?_
      refine ldw (foc14 c M _) rfl ?_
      refine stQ ?_
      have hw : Scalar.addi (wd n) 1#32 = wd (n + 1) := by
        unfold wd Scalar.addi; rw [BitVec.ofNat_add]; rfl
      rw [hw]
      refine BIBase.Entails.trans ?_ (wp_call_spec 𝒱₀ (c : Thread nD τ) (some (k + 1)) E (spec3 c M i v7 k (n + 1) (trip3 v7 (wd n) (chk6_of n hlt) s)) k
        (fun u hu => by cases hu; exact Nat.lt_succ_self k) (ih (n + 1) (by omega) _))
      rw [spec3_apply]
      refine sep_mono_right (wand_mono_right ?_)
      exact rt (Entails.refl _)
    · refine ifF ht ?_
      have hl : loop3 i v7 (k + 1) n s = (s, n) := by
        rw [loop3, dif_pos hlt, if_neg ht]
      rw [hl]
      refine rt ?_
      iintro ⟨H, HK⟩
      iapply HK
      iexact H
end Loops

end Cert.AttnI

end
-- ==== Proof.AttnParts.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnLoops
public import Idealize.ShloMosaic.Lib.Tactic
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

/-- The three loops never run past trip 32. -/
theorem loop1_le (i : grid0.Coords) (v6 v7 : FVec F S512x128 .bf16) : ∀ (k n : ℕ) (s : St F), n ≤ 32 → n + k ≤ 32 → (loop1 i v6 v7 k n s).2 ≤ 32 := by
  intro k
  induction k with
  | zero => intro n s h _; exact h
  | succ k ih =>
    intro n s h h2
    rw [loop1]
    split
    · split
      · exact ih _ _ (by omega) (by omega)
      · exact h
    · exact h

/-- A call of a label that has a specification, from a held state. -/
theorem callr {c : Dev nD} {M : Ms} {E : Set ℕ} {α : Type} {ℓ : (Λ₀ F).Label} {a : (Λ₀ F).Args ℓ} {k : (Λ₀ F).Result ℓ → Prog (TpuEff nD τ sig (Elt F) (Λ₀ F) .tc) α}
    {Q : α → sProp 𝕄} {R : sProp 𝕄} {s s' : St F} {r : (Λ₀ F).Result ℓ} (S : sWPT 𝕄 ((Λ₀ F).Result ℓ)) (v : ℕ) (hv : ∀ u ∈ (none : Option ℕ), 𝒱₀.lt v u)
    (hS : ∀ K, S K ⊢ wp frame (wpE (defs₀ (F := F)) 𝒱₀ (c : Thread nD τ) (some v)) E (defs₀ (F := F) .tc ℓ a) K)
    (he : ∀ K, S K = iprop(Held c M s ∗ (Held c M s' -∗ K r)))
    (h : iprop(Held c M s' ∗ R) ⊢ wp frame (wpE (defs₀ (F := F)) 𝒱₀ (c : Thread nD τ) none) E (k r) Q) :
    iprop(Held c M s ∗ R) ⊢ wp frame (wpE (defs₀ (F := F)) 𝒱₀ (c : Thread nD τ) none) E (.op (.call ℓ a) k) Q := by
  refine BIBase.Entails.trans ?_ (wp_call_spec 𝒱₀ (c : Thread nD τ) none E S v hv hS)
  rw [he]
  refine sep_mono_right ?_
  iintro HR H
  iapply h
  isplitl [H]
  · iexact H
  · iexact HR

section Parts
variable {c : Dev nD} {M : Ms} {i : grid0.Coords} {X11 : Memref sig .tc .hbm S8x16384x128 .f32} {hX11 : X11.IsWhole} {X17 : DmaSems sig S_} {E : Set ℕ} {α : Type}

theorem part1 {Q : α → sProp 𝕄} {R : sProp 𝕄} {s : St F} {k : (Σ' (arg0 : BitVec 32) (arg1 : BitVec 32) (v2 : IVec S512x128 1) (v6 : FVec F S512x128 .bf16) (v7 : FVec F S512x128 .bf16) (v20 : BitVec 32) (v23 : FVec F S512x128 .bf16) (v26 : FVec F S8x512 .f32), FVec F S8x512 .f32) → Prog (TpuEff nD τ sig (Elt F) (Λ₀ F) .tc) α}
    (h : iprop(Held c M (b1 i s) ∗ R) ⊢ wp frame (wpE (defs₀ (F := F)) 𝒱₀ (c : Thread nD τ) none) E
      (k ⟨BitVec.ofNat 32 (i 0).val, BitVec.ofNat 32 (i 1).val, k0_pay12, v6 s, v7 s, Scalar.muli (BitVec.ofNat 32 (i 1).val) 512#32, dD i (b1 i s), lD i (b1 i s), rD i (b1 i s)⟩) Q) :
    iprop(Held c M s ∗ R) ⊢ wp frame (wpE (defs₀ (F := F)) 𝒱₀ (c : Thread nD τ) none) E ((k0_part1 i M.a2 M.h2 M.a3 M.h3 M.a4 M.h4 M.a5 M.h5 M.a6 M.h6 M.a7 M.h7 M.a8 M.h8 M.a9 M.h9 M.a10 M.h10 X11 hX11 M.a12 M.h12 M.a13 M.h13 M.a14 M.h14 M.a15 M.h15 M.a16 M.h16 X17).bind k) Q := by
  simp only [k0_part1_eq_skeleton]; unfold k0_part1_skel
  simp only [Prog.lift, Prog.bind_op, Prog.bind_ret, Prog.pure_eq_ret, Prog.bind_assoc]
  refine ldw (foc6 c M _) rfl ?_
  refine ldw (foc15 c M _) rfl ?_
  refine stKf ?_
  refine ldw (foc16 c M _) rfl ?_
  refine stVf ?_
  have e6 : k0_pay15 (window s.vv ![0, 0] S512x128.size inb_S512x128_S512x128_0_0) = v6 s := congrArg k0_pay15 (win_full _ _ _)
  have e7 : k0_pay16 (window s.vv ![0, 0] S512x128.size inb_S512x128_S512x128_0_0) = v7 s := congrArg k0_pay16 (win_full _ _ _)
  by_cases hf : first i = 1#1
  · have eb : b1 i s = { s with acck := k0_pay17, accv := k0_pay18, accq := k0_pay19 } := if_pos hf
    have hf' : Scalar.cmpi .ne (Scalar.extui (Scalar.cmpi .eq (BitVec.ofNat 32 (i 1).val) 0#32)) 0#32 = 1#1 := hf
    simp only [dif_pos hf', Prog.bind_op, Prog.bind_ret]
    refine ldw (foc14 c M _) rfl ?_
    refine stQf ?_
    refine ldw (foc9 c M _) rfl ?_
    refine ldw (foc7 c M _) rfl ?_
    refine ldw (foc10 c M _) rfl ?_
    rw [eb] at h
    rw [← e6, ← e7] at h
    exact h
  · have eb : b1 i s = { s with acck := k0_pay17, accv := k0_pay18 } := if_neg hf
    have hf' : ¬ Scalar.cmpi .ne (Scalar.extui (Scalar.cmpi .eq (BitVec.ofNat 32 (i 1).val) 0#32)) 0#32 = 1#1 := hf
    simp only [dif_neg hf', Prog.bind_op, Prog.bind_ret]
    refine ldw (foc9 c M _) rfl ?_
    refine ldw (foc7 c M _) rfl ?_
    refine ldw (foc10 c M _) rfl ?_
    rw [eb] at h
    rw [← e6, ← e7] at h
    exact h

theorem part2 {Q : α → sProp 𝕄} {R : sProp 𝕄} {s : St F} {v6 v23 : FVec F S512x128 .bf16} {v20 : BitVec 32} {v26 v29 : FVec F S8x512 .f32}
    {k : (Σ' (v34 : FVec F S512x128 .bf16), FVec F S512x512 .bf16) → Prog (TpuEff nD τ sig (Elt F) (Λ₀ F) .tc) α}
    (h : iprop(Held c M (b2 i s v6 v23 v26 v29) ∗ R) ⊢ wp frame (wpE (defs₀ (F := F)) 𝒱₀ (c : Thread nD τ) none) E
      (k ⟨k0_pay24 (ka0 s), k0_pay27 v6 v23 v26 v29 (qD0 i s) (ka0 s)⟩) Q) :
    iprop(Held c M s ∗ R) ⊢ wp frame (wpE (defs₀ (F := F)) 𝒱₀ (c : Thread nD τ) none) E ((k0_part2 i M.a2 M.h2 M.a3 M.h3 M.a4 M.h4 M.a5 M.h5 M.a6 M.h6 M.a7 M.h7 M.a8 M.h8 M.a9 M.h9 M.a10 M.h10 X11 hX11 M.a12 M.h12 M.a13 M.h13 M.a14 M.h14 M.a15 M.h15 M.a16 M.h16 X17 v6 v20 v23 v26 v29).bind k) Q := by
  simp only [k0_part2_eq_skeleton]; unfold k0_part2_skel
  simp only [Prog.lift, Prog.bind_op, Prog.bind_ret, Prog.pure_eq_ret, Prog.bind_assoc]
  refine ldw (foc8 c M _) rfl ?_
  refine ldw (foc5 c M _) rfl ?_
  refine ldw (foc16 c M _) rfl ?_
  refine ldw (foc16 c M _) rfl ?_
  refine stV0 ?_
  refine ldw (foc15 c M _) rfl ?_
  refine ldw (foc15 c M _) rfl ?_
  refine stK0 ?_
  exact h

theorem part3 {Q : α → sProp 𝕄} {R : sProp 𝕄} {s : St F} {v7 v23 v34 : FVec F S512x128 .bf16} {v20 : BitVec 32} {v26 v29 : FVec F S8x512 .f32} {v58 : FVec F S512x512 .bf16}
    {k : (Σ' (v77 : FVec F S512x128 .bf16) (v79 : FVec F S512x128 .bf16), FVec F S512x512 .bf16) → Prog (TpuEff nD τ sig (Elt F) (Λ₀ F) .tc) α}
    (h : iprop(Held c M (b3 i s v23 v26 v34 v58) ∗ R) ⊢ wp frame (wpE (defs₀ (F := F)) 𝒱₀ (c : Thread nD τ) none) E
      (k ⟨k0_pay30 (qD1 i s), k0_pay31 (ka1 s), k0_pay34 v7 v23 v26 v29 (qD1 i s) (ka1 s)⟩) Q) :
    iprop(Held c M s ∗ R) ⊢ wp frame (wpE (defs₀ (F := F)) 𝒱₀ (c : Thread nD τ) none) E ((k0_part3 i M.a2 M.h2 M.a3 M.h3 M.a4 M.h4 M.a5 M.h5 M.a6 M.h6 M.a7 M.h7 M.a8 M.h8 M.a9 M.h9 M.a10 M.h10 X11 hX11 M.a12 M.h12 M.a13 M.h13 M.a14 M.h14 M.a15 M.h15 M.a16 M.h16 X17 v7 v20 v23 v26 v29 v34 v58).bind k) Q := by
  simp only [k0_part3_eq_skeleton]; unfold k0_part3_skel
  simp only [Prog.lift, Prog.bind_op, Prog.bind_ret, Prog.pure_eq_ret, Prog.bind_assoc]
  refine ldw (foc14 c M _) rfl ?_
  refine ldw (foc14 c M _) rfl ?_
  refine stQ ?_
  refine ldw (foc8 c M _) rfl ?_
  refine ldw (foc5 c M _) rfl ?_
  refine ldw (foc16 c M _) rfl ?_
  refine ldw (foc16 c M _) rfl ?_
  refine stV1 ?_
  exact h

theorem part4 {Q : α → sProp 𝕄} {R : sProp 𝕄} {s : St F} {v2 : IVec S512x128 1} {v6 v7 v77 v79 : FVec F S512x128 .bf16} {v20 : BitVec 32} {v103 : FVec F S512x512 .bf16}
    {k : BitVec 32 → Prog (TpuEff nD τ sig (Elt F) (Λ₀ F) .tc) α}
    (h : iprop(Held c M (tail4 i s v2 v6 v7 v77 v79 v103) ∗ R) ⊢ wp frame (wpE (defs₀ (F := F)) 𝒱₀ (c : Thread nD τ) none) E
      (k (Scalar.extui (Scalar.cmpi .eq (BitVec.ofNat 32 (i 1).val) 31#32))) Q) :
    iprop(Held c M s ∗ R) ⊢ wp frame (wpE (defs₀ (F := F)) 𝒱₀ (c : Thread nD τ) none) E ((k0_part4 i M.a2 M.h2 M.a3 M.h3 M.a4 M.h4 M.a5 M.h5 M.a6 M.h6 M.a7 M.h7 M.a8 M.h8 M.a9 M.h9 M.a10 M.h10 X11 hX11 M.a12 M.h12 M.a13 M.h13 M.a14 M.h14 M.a15 M.h15 M.a16 M.h16 X17 (BitVec.ofNat 32 (i 1).val) v2 v6 v7 v20 v77 v79 v103).bind k) Q := by
  have hi : (i 1).val < 32 := (i 1).isLt
  simp only [k0_part4_eq_skeleton]; unfold k0_part4_skel
  simp only [Prog.lift, Prog.bind_op, Prog.bind_ret, Prog.pure_eq_ret, Prog.bind_assoc]
  refine ldw (foc15 c M _) rfl ?_
  refine ldw (foc15 c M _) rfl ?_
  refine stK1 ?_
  refine ldw (foc14 c M _) rfl ?_
  refine ldw (foc14 c M _) rfl ?_
  refine stQ ?_
  have hw : Scalar.addi (BitVec.ofNat 32 (i 1).val) 1#32 = wd ((i 1).val + 1) := by
    unfold wd Scalar.addi; rw [BitVec.ofNat_add]; rfl
  rw [hw]
  refine callr (c := c) (M := M) (spec1 c M i v6 v7 (32 - ((i 1).val + 1)) ((i 1).val + 1) _) (32 - ((i 1).val + 1)) (fun u hu => nomatch hu) (spec1_le c M i v6 v7 E (32 - ((i 1).val + 1)) ((i 1).val + 1) (by omega) _) (spec1_apply c M i v6 v7 (32 - ((i 1).val + 1)) ((i 1).val + 1) _) ?_
  have h2 := loop1_le i v6 v7 (32 - ((i 1).val + 1)) ((i 1).val + 1) (b4 i s v77 v79 v103) (by omega) (by omega)
  generalize hp : loop1 i v6 v7 (32 - ((i 1).val + 1)) ((i 1).val + 1) _ = p
  have hp' : loop1 i v6 v7 (32 - ((i 1).val + 1)) ((i 1).val + 1) (b4 i s v77 v79 v103) = p := hp
  rw [hp'] at h2
  refine callr (c := c) (M := M) (spec2 c M i v6 (32 - p.2) p.2 _) (32 - p.2) (fun u hu => nomatch hu) (spec2_le c M i v6 E (32 - p.2) p.2 (by omega) _) (spec2_apply c M i v6 (32 - p.2) p.2 _) ?_
  refine callr (c := c) (M := M) (spec3 c M i v7 (32 - p.2) p.2 _) (32 - p.2) (fun u hu => nomatch hu) (spec3_le c M i v7 E (32 - p.2) p.2 (by omega) _) (spec3_apply c M i v7 (32 - p.2) p.2 _) ?_
  refine ldw (foc15 c M _) rfl ?_
  refine ldw (foc12 c M _) rfl ?_
  refine stDk ?_
  refine ldw (foc16 c M _) rfl ?_
  refine ldw (foc16 c M _) rfl ?_
  refine ldw (foc13 c M _) rfl ?_
  refine stDv ?_
  have ew : ∀ x : Vec F S2x512x128 .f32, window x ![0, 0, 0] S2x512x128.size inb_S2x512x128_S2x512x128_0_0_0 = x := fun x => win_full _ _ _
  rw [ew]
  unfold tail4 b5 at h
  rw [hp'] at h
  exact h
end Parts

end Cert.AttnI

end
-- ==== Proof.AttnDma.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnParts
public import Idealize.ShloMosaic.Lib.Tactic
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The query accumulator's buffer, and the result left in HBM it is copied to. -/
abbrev mQ : Memref sig .tc .vmem S2x16384x128 .f32 := Memref.whole cc0_scratch0
abbrev mR : Memref sig .tc .hbm S8x16384x128 .f32 := Memref.whole main_v128_0

theorem put_write {sp : Space} {sh : Shape} {e : EltTy} (v : View sig .tc sp sh e) (f : v.ty.Contents (Elt F)) (off size : Fin sh.rank → ℕ) (inb : ∀ a, off a + size a ≤ sh.size a)
    (w : (Rect.unit off size inb).shape.Idx → Elt F e) :
    v.read (Elt F) ((v.slice (Rect.unit off size inb)).write (Elt F) f w Finset.univ) = put (v.read (Elt F) f) off size w :=
  View.read_writes_cons_put v f inb w [] rfl

theorem dma (c : Dev nD) (i : grid0.Coords) (h : k0_cond2 i = 1#1) (f : Vec F S2x16384x128 .f32) (g : Vec F S8x16384x128 .f32) (W : Waits sig Unit) (Q : PUnit → sProp 𝕄) :
    iprop(pt c mQ f ∗ pt c mR g ∗ semVal ((c : Thread nD τ), SemLoc.dma 17) 0 ∗ owes (c : Thread nD τ) 0 W
      ∗ (iprop(pt c mQ f ∗ pt c mR (put g (k0_off21 i) S2x16384x128.size f) ∗ semVal ((c : Thread nD τ), SemLoc.dma 17) 0 ∗ ∃ W, owes (c : Thread nD τ) 0 W) -∗ Q ⟨⟩))
    ⊢ wp frame (wpE (defs₀ (F := F)) 𝒱₀ (c : Thread nD τ) none) Set.univ (do
        let v137 : Memref sig .tc .hbm S2x16384x128 .f32 := mR.slice (Rect.unit (s := S8x16384x128) (k0_off21 i) S2x16384x128.size (k0_off21_inb i h)) (fun _ => rfl)
        Prog.lift (.enqueueDma mQ (.here v137) (.dma cc0_scratch3.sem) (Memref.isWhole_whole cc0_scratch0).wordExact (View.wordExact_bits rfl) ⟨Or.inl rfl, trivial⟩)
        let v138 : Memref sig .tc .hbm S2x16384x128 .f32 := mR.slice (Rect.unit (s := S8x16384x128) (k0_off21 i) S2x16384x128.size (k0_off21_inb i h)) (fun _ => rfl)
        Prog.lift (.waitDma2 cc0_scratch3.sem mQ v138 (Memref.isWhole_whole cc0_scratch0).wordExact (View.wordExact_bits rfl))
        pure ⟨⟩) Q := by
  iintro ⟨H0, H1, Hd, HO, Hk⟩
  sl_exec!
  sl_step
  iapply Hk
  isplitl [H0]; · iexact H0
  isplitl [H1]
  · have e : dma.sl.H1_w0 i h f g = put g (k0_off21 i) S2x16384x128.size f := by
      unfold dma.sl.H1_w0
      have e1 : dma.sl.dma0 f = f := rfl
      rw [e1]
      have e2 := put_write mR.view g (k0_off21 i) S2x16384x128.size (k0_off21_inb i h) f
      have e3 : ∀ X : Vec F S8x16384x128 .f32, View.read (Elt F) mR.view X = X := fun _ => rfl
      rw [e3 g] at e2
      exact (e3 _).symm.trans e2
    rw [e]; iexact H1
  isplitl [Hd]; · iexact Hd
  iexists _; iexact HO

end Cert.AttnI

end
-- ==== Proof.AttnBody.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnDma
public import Idealize.ShloMosaic.Lib.Tactic
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

/-! ### What the body reads of its start -/

/-- The inputs of two states agree. -/
def Same (s s' : St F) : Prop := s.fs = s'.fs ∧ s.fe = s'.fe ∧ s.bd = s'.bd ∧ s.ka = s'.ka ∧ s.vv = s'.vv ∧ s.lse = s'.lse ∧ s.qa = s'.qa ∧ s.dO = s'.dO ∧ s.dr = s'.dr

theorem Same.refl (s : St F) : Same s s := ⟨rfl, rfl, rfl, rfl, rfl, rfl, rfl, rfl, rfl⟩
theorem Same.trans {s s' s'' : St F} (h : Same s s') (h' : Same s' s'') : Same s s'' := by
  obtain ⟨a0, a1, a2, a3, a4, a5, a6, a7, a8⟩ := h
  obtain ⟨b0, b1, b2, b3, b4, b5, b6, b7, b8⟩ := h'
  exact ⟨a0.trans b0, a1.trans b1, a2.trans b2, a3.trans b3, a4.trans b4, a5.trans b5, a6.trans b6, a7.trans b7, a8.trans b8⟩

theorem same_setV0 (s : St F) (x : Vec F S1x512x128 .f32) : Same (setV0 s x) s := Same.refl s
theorem same_setV1 (s : St F) (x : Vec F S1x512x128 .f32) : Same (setV1 s x) s := Same.refl s
theorem same_setK0 (s : St F) (x : Vec F S1x512x128 .f32) : Same (setK0 s x) s := Same.refl s
theorem same_setK1 (s : St F) (x : Vec F S1x512x128 .f32) : Same (setK1 s x) s := Same.refl s
theorem same_setQ (s : St F) (off : Fin 3 → ℕ) (x : Vec F S1x512x128 .f32) : Same (setQ s off x) s := Same.refl s
theorem same_trip1 (v6 v7 : FVec F S512x128 .bf16) (w : BitVec 32) (h : k0_chk2 w) (s : St F) : Same (trip1 v6 v7 w h s) s := by
  unfold trip1 trip1c trip1b trip1a; dsimp only
  exact (same_setQ _ _ _).trans ((same_setK1 _ _).trans ((same_setV1 _ _).trans ((same_setQ _ _ _).trans ((same_setK0 _ _).trans (same_setV0 _ _)))))
theorem same_trip2 (v6 : FVec F S512x128 .bf16) (w : BitVec 32) (h : k0_chk4 w) (s : St F) : Same (trip2 v6 w h s) s := by
  unfold trip2; dsimp only
  exact (same_setQ _ _ _).trans ((same_setK0 _ _).trans (same_setV0 _ _))
theorem same_trip3 (v7 : FVec F S512x128 .bf16) (w : BitVec 32) (h : k0_chk6 w) (s : St F) : Same (trip3 v7 w h s) s := by
  unfold trip3; dsimp only
  exact (same_setQ _ _ _).trans ((same_setK1 _ _).trans (same_setV1 _ _))

theorem same1 (i : grid0.Coords) (v6 v7 : FVec F S512x128 .bf16) : ∀ (k n : ℕ) (s : St F), Same (loop1 i v6 v7 k n s).1 s
  | 0, n, s => Same.refl s
  | k + 1, n, s => by
    unfold loop1
    split_ifs with h h'
    · exact (same1 i v6 v7 k (n + 1) _).trans (same_trip1 v6 v7 _ _ s)
    · exact Same.refl s
    · exact Same.refl s

theorem same2 (i : grid0.Coords) (v6 : FVec F S512x128 .bf16) : ∀ (k n : ℕ) (s : St F), Same (loop2 i v6 k n s).1 s
  | 0, n, s => Same.refl s
  | k + 1, n, s => by
    unfold loop2
    split_ifs with h h'
    · exact (same2 i v6 k (n + 1) _).trans (same_trip2 v6 _ _ s)
    · exact Same.refl s
    · exact Same.refl s

theorem same3 (i : grid0.Coords) (v7 : FVec F S512x128 .bf16) : ∀ (k n : ℕ) (s : St F), Same (loop3 i v7 k n s).1 s
  | 0, n, s => Same.refl s
  | k + 1, n, s => by
    unfold loop3
    split_ifs with h h'
    · exact (same3 i v7 k (n + 1) _).trans (same_trip3 v7 _ _ s)
    · exact Same.refl s
    · exact Same.refl s

theorem same_b1 (i : grid0.Coords) (s : St F) : Same (b1 i s) s := by
  unfold b1; dsimp only; split_ifs <;> exact Same.refl _

theorem same_b5 (i : grid0.Coords) (s : St F) (v6 v7 : FVec F S512x128 .bf16) : Same (b5 i s v6 v7) s :=
  (same3 i v7 _ _ _).trans ((same2 i v6 _ _ _).trans (same1 i v6 v7 _ _ s))

/-- The same state with other contents of the two result tiles. -/
def up (s : St F) (x : Vec F S2x512x128 .f32) (y : Vec F S512x128 .bf16) : St F := { s with dka := x, dv := y }

theorem up1 (i : grid0.Coords) (v6 v7 : FVec F S512x128 .bf16) (x : Vec F S2x512x128 .f32) (y : Vec F S512x128 .bf16) :
    ∀ (k n : ℕ) (s : St F), loop1 i v6 v7 k n (up s x y) = (up (loop1 i v6 v7 k n s).1 x y, (loop1 i v6 v7 k n s).2)
  | 0, n, s => rfl
  | k + 1, n, s => by
    unfold loop1
    by_cases h : n < 32
    · rw [dif_pos h, dif_pos h]
      by_cases h' : test1 i (wd n) (chk1_of i n (by omega)) s = 1#1
      · rw [if_pos h', if_pos (show test1 i (wd n) _ (up s x y) = 1#1 from h')]
        exact up1 i v6 v7 x y k (n + 1) (trip1 v6 v7 (wd n) (chk2_of n h) s)
      · rw [if_neg h', if_neg (show ¬ test1 i (wd n) _ (up s x y) = 1#1 from h')]
    · rw [dif_neg h, dif_neg h]

theorem up2 (i : grid0.Coords) (v6 : FVec F S512x128 .bf16) (x : Vec F S2x512x128 .f32) (y : Vec F S512x128 .bf16) :
    ∀ (k n : ℕ) (s : St F), loop2 i v6 k n (up s x y) = (up (loop2 i v6 k n s).1 x y, (loop2 i v6 k n s).2)
  | 0, n, s => rfl
  | k + 1, n, s => by
    unfold loop2
    by_cases h : n < 32
    · rw [dif_pos h, dif_pos h]
      by_cases h' : test2 i (wd n) (chk3_of i n (by omega)) s = 1#1
      · rw [if_pos h', if_pos (show test2 i (wd n) _ (up s x y) = 1#1 from h')]
        exact up2 i v6 x y k (n + 1) (trip2 v6 (wd n) (chk4_of n h) s)
      · rw [if_neg h', if_neg (show ¬ test2 i (wd n) _ (up s x y) = 1#1 from h')]
    · rw [dif_neg h, dif_neg h]

theorem up3 (i : grid0.Coords) (v7 : FVec F S512x128 .bf16) (x : Vec F S2x512x128 .f32) (y : Vec F S512x128 .bf16) :
    ∀ (k n : ℕ) (s : St F), loop3 i v7 k n (up s x y) = (up (loop3 i v7 k n s).1 x y, (loop3 i v7 k n s).2)
  | 0, n, s => rfl
  | k + 1, n, s => by
    unfold loop3
    by_cases h : n < 32
    · rw [dif_pos h, dif_pos h]
      by_cases h' : test3 i (wd n) (chk5_of i n (by omega)) s = 1#1
      · rw [if_pos h', if_pos (show test3 i (wd n) _ (up s x y) = 1#1 from h')]
        exact up3 i v7 x y k (n + 1) (trip3 v7 (wd n) (chk6_of n h) s)
      · rw [if_neg h', if_neg (show ¬ test3 i (wd n) _ (up s x y) = 1#1 from h')]
    · rw [dif_neg h, dif_neg h]

theorem up_b5 (i : grid0.Coords) (s : St F) (v6 v7 : FVec F S512x128 .bf16) (x : Vec F S2x512x128 .f32) (y : Vec F S512x128 .bf16) :
    b5 i (up s x y) v6 v7 = up (b5 i s v6 v7) x y := by
  unfold b5; dsimp only
  rw [up1]; dsimp only
  rw [up2]; dsimp only
  rw [up3]

/-- The body's start up to the loops. -/
def pre (i : grid0.Coords) (s1 : St F) (v6 v7 : FVec F S512x128 .bf16) : St F :=
  let s2 := b2 i s1 v6 (dD i s1) (lD i s1) (rD i s1)
  let s3 := b3 i s2 (dD i s1) (lD i s1) (k0_pay24 (ka0 s1)) (k0_pay27 v6 (dD i s1) (lD i s1) (rD i s1) (qD0 i s1) (ka0 s1))
  b4 i s3 (k0_pay30 (qD1 i s2)) (k0_pay31 (ka1 s2)) (k0_pay34 v7 (dD i s1) (lD i s1) (rD i s1) (qD1 i s2) (ka1 s2))

theorem out_eq (i : grid0.Coords) (s : St F) : out i s = b6 (b5 i (pre i (b1 i s) (v6 s) (v7 s)) (v6 s) (v7 s)) k0_pay12 := rfl
theorem pre_up (i : grid0.Coords) (s : St F) (v6 v7 : FVec F S512x128 .bf16) (x : Vec F S2x512x128 .f32) (y : Vec F S512x128 .bf16) :
    pre i (up s x y) v6 v7 = up (pre i s v6 v7) x y := rfl

theorem same_pre (i : grid0.Coords) (s : St F) (v6 v7 : FVec F S512x128 .bf16) : Same (pre i s v6 v7) s := by
  unfold pre b4 b3 b2; dsimp only
  exact (same_setQ _ _ _).trans ((same_setK1 _ _).trans ((same_setV1 _ _).trans ((same_setQ _ _ _).trans ((same_setK0 _ _).trans (same_setV0 _ _)))))

theorem same_b6 (s : St F) (v : IVec S512x128 1) : Same (b6 s v) s := Same.refl s

/-- The body leaves its inputs. -/
theorem same_out (i : grid0.Coords) (s : St F) : Same (out i s) s := by
  rw [out_eq]
  exact (same_b6 _ _).trans ((same_b5 i _ _ _).trans ((same_pre i _ _ _).trans (same_b1 i s)))

/-- What the body leaves does not depend on what the result tiles and the key and value accumulators held, -/
theorem out_scratch (i : grid0.Coords) (s : St F) (x p q : Vec F S2x512x128 .f32) (y : Vec F S512x128 .bf16) :
    out i { s with dka := x, dv := y, acck := p, accv := q } = out i s := by
  have e : b1 i { s with dka := x, dv := y, acck := p, accv := q } = up (b1 i s) x y := by
    unfold b1; dsimp only; split_ifs <;> rfl
  have e2 : out i { s with dka := x, dv := y, acck := p, accv := q } = b6 (b5 i (up (pre i (b1 i s) (v6 s) (v7 s)) x y) (v6 s) (v7 s)) k0_pay12 := by
    rw [out_eq, e]; rfl
  rw [e2, up_b5, out_eq]
  rfl

/-- nor, at a pair's first key tile, on what the query accumulator held. -/
theorem out_first (i : grid0.Coords) (h : first i = 1#1) (s : St F) (a : Vec F S2x16384x128 .f32) (x p q : Vec F S2x512x128 .f32) (y : Vec F S512x128 .bf16) :
    out i { s with accq := a, dka := x, dv := y, acck := p, accv := q } = out i s := by
  have e : out i { s with accq := a } = out i s := by
    have e1 : b1 i { s with accq := a } = b1 i s := by
      unfold b1; dsimp only; rw [if_pos h, if_pos h]
    rw [out_eq, out_eq, e1]; rfl
  exact (out_scratch i { s with accq := a } x p q y).trans e

/-! ### The body at one grid point -/

set_option maxHeartbeats 2000000 in
/-- One grid point: the buffers at a state, the result left in HBM and its semaphore. -/
theorem body (c : Dev nD) (M : Ms) (h14 : M.a14 = mQ) (i : grid0.Coords) (s : St F) (g : Vec F S8x16384x128 .f32) (W : Waits sig Unit) (Q : PUnit → sProp 𝕄)
    (hX : mR.IsWhole) :
    iprop(Held c M s ∗ (pt c mR g ∗ semVal ((c : Thread nD τ), SemLoc.dma 17) 0 ∗ owes (c : Thread nD τ) 0 W
      ∗ (iprop(Held c M (out i s) ∗ pt c mR (if k0_cond2 i = 1#1 then put g (k0_off21 i) S2x16384x128.size (out i s).accq else g)
          ∗ semVal ((c : Thread nD τ), SemLoc.dma 17) 0 ∗ ∃ W, owes (c : Thread nD τ) 0 W) -∗ Q ⟨⟩)))
    ⊢ wp frame (wpE (defs₀ (F := F)) 𝒱₀ (c : Thread nD τ) none) Set.univ
        (cc0_attn_bwd i M.a2 M.h2 M.a3 M.h3 M.a4 M.h4 M.a5 M.h5 M.a6 M.h6 M.a7 M.h7 M.a8 M.h8 M.a9 M.h9 M.a10 M.h10 mR hX M.a12 M.h12 M.a13 M.h13 M.a14 M.h14 M.a15 M.h15 M.a16 M.h16 cc0_scratch3) Q := by
  obtain ⟨a2, h2, a3, h3, a4, h4, a5, h5, a6, h6, a7, h7, a8, h8, a9, h9, a10, h10, a12, h12, a13, h13, a14, h14', a15, h15, a16, h16⟩ := M
  dsimp only at h14
  subst h14
  simp only [cc0_attn_bwd_eq_skeleton]; unfold cc0_attn_bwd_skel
  refine part1 ?_
  refine part2 ?_
  refine part3 ?_
  refine part4 ?_
  by_cases hc : k0_cond2 i = 1#1
  · rw [if_pos hc]
    simp only [dif_pos hc]
    unfold Held
    simp only [owns_whole_eq]
    iintro ⟨⟨H2, H3, H4, H5, H6, H7, H8, H9, H10, H12, H13, ⟨%f, %hf, H14⟩, H15, H16⟩, H1, Hd, HO, Hk⟩
    subst hf
    iapply (dma c i hc _ g W _)
    isplitl [H14]; · iexact H14
    isplitl [H1]; · iexact H1
    isplitl [Hd]; · iexact Hd
    isplitl [HO]; · iexact HO
    iintro ⟨H14, H1, Hd, HO⟩
    iapply Hk
    isplitr [H1 Hd HO]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      isplitl [H14]
      · iexists _
        isplitr [H14]
        rotate_left
        · iexact H14
        · ipureintro; rfl
      isplitl [H15]; · iexact H15
      iexact H16
    isplitl [H1]; · iexact H1
    isplitl [Hd]; · iexact Hd
    iexact HO
  · rw [if_neg hc]
    simp only [dif_neg hc]
    iintro ⟨HH, H1, Hd, HO, Hk⟩
    sl_step
    iapply Hk
    isplitl [HH]; · iexact HH
    isplitl [H1]; · iexact H1
    isplitl [Hd]; · iexact Hd
    iexists _; iexact HO

end Cert.AttnI

end
-- ==== Proof.AttnDat.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnBody
public import Idealize.ShloMosaic.Lib.Tactic
public import Idealize.ShloMosaic.Lib.Pipeline.FrameBody
public import Idealize.ShloMosaic.Lib.Pipeline.FrameSuffixV
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

variable (m : (ℓ : Loc nD τ sig) → Buf (Elt F) ℓ) (ρ : Dev nD → PrngReg)

/-! ### Up to the region -/

/-- The operations before the region. -/
abbrev pre0 : List (List (HloOp τ sig (Elt F))) :=
  [hostOps0, hostOps0_1, hostOps0_2, hostOps0_3, hostOps0_4, hostOps0_5, hostOps0_6, hostOps0_7, hostOps0_8, hostOps0_9, hostOps0_10]
/-- The buffers the region finds. -/
def V0 (c : Dev nD) : Valuation τ sig (Elt F) := StableHlo.after (pre0 (F := F)).flatten fun b => m (c, b)

theorem pre0_sub : (pre0 (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
theorem pre0_fresh : (pre0 (F := F)).Forall fun ops => ops.Forall fun op => op.fresh = ∅ := by
  repeat' constructor

theorem hmain : Pipeline.HMainK (Ix := Unit) (Name := ℕ) (U := UD sig nD τ) (Lvl := ℕ) cfgs 0 defs₀ 𝒱₀ m (main (F := F))
    (fun c b => V0 m c (Proc.devRef .tc b)) (fun _ => Pipeline.chain ([hostOps1].map StableHlo.seq)) :=
  Pipeline.hmain_around cfgs 0 defs₀ 𝒱₀ m main pre0 [hostOps1] pre0_sub pre0_fresh fun c => (main_chain c).trans rfl

/-! ### The proof data -/

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V0 m c (Proc.devRef .tc (Pipeline.arrRef spec0 w)))

/-- The state point `t` is entered in, the query accumulator at `a`. -/
def inSt (c : Dev nD) (t : Fin (cfg0 (F := F)).N) (a : Vec F S2x16384x128 .f32) : St F where
  fs := iblk m c 0 t
  fe := iblk m c 1 t
  bd := iblk m c 2 t
  ka := iblk m c 3 t
  vv := iblk m c 4 t
  lse := iblk m c 5 t
  qa := iblk m c 6 t
  dO := iblk m c 7 t
  dr := iblk m c 8 t
  dka := iblk m c 9 t
  dv := iblk m c 10 t
  accq := a
  acck := k0_pay17
  accv := k0_pay18

/-- The query accumulator after `n` points, -/
def aq (c : Dev nD) : ℕ → Vec F S2x16384x128 .f32
  | 0 => k0_pay19
  | n + 1 => if h : n < (cfg0 (F := F)).N then (out (grid0.coords ⟨n, h⟩) (inSt m c ⟨n, h⟩ (aq c n))).accq else aq c n
/-- the result left in HBM, -/
def hb (c : Dev nD) : ℕ → Vec F S8x16384x128 .f32
  | 0 => V0 m c (Proc.devRef .tc main_v128_0)
  | n + 1 => if h : n < (cfg0 (F := F)).N then (if k0_cond2 (grid0.coords ⟨n, h⟩) = 1#1 then put (hb c n) (k0_off21 (grid0.coords ⟨n, h⟩)) S2x16384x128.size (aq m c (n + 1)) else hb c n) else hb c n
/-- and what point `t` leaves. -/
def outAt (c : Dev nD) (t : Fin (cfg0 (F := F)).N) : St F := out (grid0.coords t) (inSt m c t (aq m c t.val))

theorem aq_succ (c : Dev nD) (t : Fin (cfg0 (F := F)).N) : aq m c (t.val + 1) = (outAt m c t).accq := by
  rw [aq]; exact dif_pos t.isLt
theorem hb_succ (c : Dev nD) (t : Fin (cfg0 (F := F)).N) : hb m c (t.val + 1)
    = if k0_cond2 (grid0.coords t) = 1#1 then put (hb m c t.val) (k0_off21 (grid0.coords t)) S2x16384x128.size (outAt m c t).accq else hb m c t.val := by
  rw [hb, dif_pos t.isLt, aq_succ m c t]

theorem aq_zero (c : Dev nD) : aq m c 0 = k0_pay19 := rfl
theorem hb_zero (c : Dev nD) : hb m c 0 = V0 m c (Proc.devRef .tc main_v128_0) := rfl
theorem outAt_eq (c : Dev nD) (t : Fin (cfg0 (F := F)).N) : outAt m c t = out (grid0.coords t) (inSt m c t (aq m c t.val)) := rfl
attribute [local irreducible] aq hb outAt out

/-- The invariant before point `n`. -/
def Phi (c : Dev nD) (n : ℕ) : sProp 𝕄 :=
  iprop((∃ f, ⌜n ≠ 0 → f = aq m c n⌝ ∗ pt c mQ f) ∗ (∃ f, pt c (Memref.whole cc0_scratch1) f) ∗ (∃ f, pt c (Memref.whole cc0_scratch2) f)
    ∗ pt c mR (hb m c n) ∗ semVal ((c : Thread nD τ), SemLoc.dma 17) 0)

def dats (_ : Fin 1) (c : Dev nD) : Dat τ (Elt F) Unit ℕ (UD sig nD τ) ℕ (cfg0 (F := F)) c where
  A w := V0 m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outAt m c t).dka
    | ⟨10, _⟩ => (outAt m c t).dv
    | ⟨_ + 11, h⟩ => absurd h (Nat.not_lt.2 (Nat.le_add_left _ _))
  Φ t := Phi m c t.val
  q _ := fullShare
  owed _ := 0

theorem Phi_cast (c : Dev nD) (t : Fin (cfg0 (F := F)).N) : (dats m 0 c).Φ t.castSucc = Phi m c t.val := by
  dsimp only [dats]; exact congrArg (Phi m c) (Fin.val_castSucc t)
theorem Phi_next (c : Dev nD) (t : Fin (cfg0 (F := F)).N) : (dats m 0 c).Φ t.succ = Phi m c (t.val + 1) := by
  dsimp only [dats]; exact congrArg (Phi m c) (Fin.val_succ t)

theorem A_eq (c : Dev nD) (w : Fin (cfg0 (F := F)).W) : (dats m 0 c).A w = V0 m c (Proc.devRef .tc (Pipeline.arrRef spec0 w)) := by
  dsimp only [dats]
theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = iblk m c 4 t := by dsimp only [dats]; rfl
theorem after_5 (c : Dev nD) (t : Fin (cfg0 (F := F)).N) : (dats m 0 c).after 5 t = iblk m c 5 t := by dsimp only [dats]; rfl
theorem after_6 (c : Dev nD) (t : Fin (cfg0 (F := F)).N) : (dats m 0 c).after 6 t = iblk m c 6 t := by dsimp only [dats]; rfl
theorem after_7 (c : Dev nD) (t : Fin (cfg0 (F := F)).N) : (dats m 0 c).after 7 t = iblk m c 7 t := by dsimp only [dats]; rfl
theorem after_8 (c : Dev nD) (t : Fin (cfg0 (F := F)).N) : (dats m 0 c).after 8 t = iblk m c 8 t := by dsimp only [dats]; rfl
theorem after_9 (c : Dev nD) (t : Fin (cfg0 (F := F)).N) : (dats m 0 c).after 9 t = (outAt m c t).dka := by dsimp only [dats]; rfl
theorem after_10 (c : Dev nD) (t : Fin (cfg0 (F := F)).N) : (dats m 0 c).after 10 t = (outAt m c t).dv := by dsimp only [dats]; rfl
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg0 (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cfg0 (F := F)).N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin (cfg0 (F := F)).N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ### The body obligation -/

/-- The memrefs of point `t`. -/
def ms (t : Fin (cfg0 (F := F)).N) : Ms where
  a2 := win0_0.stage ((cfg0 (F := F)).slots t 0)
  h2 := hstage0_0 (((cfg0 (F := F)).slots t 0).cast nbuf0_0)
  a3 := win0_1.stage ((cfg0 (F := F)).slots t 1)
  h3 := hstage0_1 (((cfg0 (F := F)).slots t 1).cast nbuf0_1)
  a4 := win0_2.stage ((cfg0 (F := F)).slots t 2)
  h4 := hstage0_2 (((cfg0 (F := F)).slots t 2).cast nbuf0_2)
  a5 := win0_3.stage ((cfg0 (F := F)).slots t 3)
  h5 := hstage0_3 (((cfg0 (F := F)).slots t 3).cast nbuf0_3)
  a6 := win0_4.stage ((cfg0 (F := F)).slots t 4)
  h6 := hstage0_4 (((cfg0 (F := F)).slots t 4).cast nbuf0_4)
  a7 := win0_5.stage ((cfg0 (F := F)).slots t 5)
  h7 := hstage0_5 (((cfg0 (F := F)).slots t 5).cast nbuf0_5)
  a8 := win0_6.stage ((cfg0 (F := F)).slots t 6)
  h8 := hstage0_6 (((cfg0 (F := F)).slots t 6).cast nbuf0_6)
  a9 := win0_7.stage ((cfg0 (F := F)).slots t 7)
  h9 := hstage0_7 (((cfg0 (F := F)).slots t 7).cast nbuf0_7)
  a10 := win0_8.stage ((cfg0 (F := F)).slots t 8)
  h10 := hstage0_8 (((cfg0 (F := F)).slots t 8).cast nbuf0_8)
  a12 := win0_9.stage ((cfg0 (F := F)).slots t 9)
  h12 := hstage0_9 (((cfg0 (F := F)).slots t 9).cast nbuf0_9)
  a13 := win0_10.stage ((cfg0 (F := F)).slots t 10)
  h13 := hstage0_10 (((cfg0 (F := F)).slots t 10).cast nbuf0_10)
  a14 := Memref.whole cc0_scratch0
  h14 := Memref.isWhole_whole _
  a15 := Memref.whole cc0_scratch1
  h15 := Memref.isWhole_whole _
  a16 := Memref.whole cc0_scratch2
  h16 := Memref.isWhole_whole _

theorem defs₀_row (t : Fin (cfg0 (F := F)).N) :
    defs₀ (F := F) .tc cfg0.body (cfg0.bodyArgs t (cfg0.slots t)) = bodyAt0 t := by
  unfold defs₀; rw [Defs.onTc_tc]

/-- At the first point the query accumulator is cleared first. -/
theorem first_zero (t : Fin (cfg0 (F := F)).N) (h : t.val = 0) : first (grid0.coords t) = 1#1 := by
  have e : (grid0.coords t 1).val = 0 := by
    have : ∀ t : Fin grid0.N, t.val = 0 → (grid0.coords t 1).val = 0 := by decide +kernel
    exact this t h
  unfold first; rw [e]; decide

/-- The state of point `t` with whatever the scratch buffers and result tiles hold. -/
def atSt (c : Dev nD) (t : Fin (cfg0 (F := F)).N) (a : Vec F S2x16384x128 .f32) (x p q : Vec F S2x512x128 .f32) (y : Vec F S512x128 .bf16) : St F :=
  { inSt m c t a with dka := x, dv := y, acck := p, accv := q }

/-- The state point `t` finds, whatever the scratch buffers hold, leaves what `outAt` says. -/
theorem out_any (c : Dev nD) (t : Fin (cfg0 (F := F)).N) (a : Vec F S2x16384x128 .f32) (ha : t.val ≠ 0 → a = aq m c t.val) (x p q : Vec F S2x512x128 .f32) (y : Vec F S512x128 .bf16) :
    out (grid0.coords t) (atSt m c t a x p q y) = outAt m c t := by
  by_cases h : t.val = 0
  · rw [outAt_eq]; exact out_first (grid0.coords t) (first_zero t h) (inSt m c t (aq m c t.val)) a x p q y
  · rw [ha h, outAt_eq]; exact out_scratch (grid0.coords t) (inSt m c t (aq m c t.val)) x p q y

end Cert.AttnI

end
-- ==== Proof.AttnSound.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnDat
public import Idealize.ShloMosaic.Lib.Tactic
public import Idealize.ShloMosaic.Lib.Pipeline.FrameBody
public import Idealize.ShloMosaic.Lib.Pipeline.FrameSuffixV
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

variable (m : (ℓ : Loc nD τ sig) → Buf (Elt F) ℓ) (ρ : Dev nD → PrngReg)

attribute [local irreducible] aq hb outAt out

/-- The buffers of a grid point, before and after it. -/
theorem held_in (c : Dev nD) (t : Fin (cfg0 (F := F)).N) (a : Vec F S2x16384x128 .f32) (x p q : Vec F S2x512x128 .f32) (y : Vec F S512x128 .bf16) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare x ∗ owns (c : Thread nD τ) (st0_10 t) fullShare y
      ∗ pt c mQ a ∗ pt c (Memref.whole cc0_scratch1) p ∗ pt c (Memref.whole cc0_scratch2) q) ⊢ Held c (ms t) (atSt m c t a x p q y) := by
  unfold Held
  dsimp only [ms, atSt, inSt]
  iintro ⟨G0, G1, G2, G3, G4, G5, G6, G7, G8, G9, G10, Hq, Hk, Hv⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [Hq]
  · iapply (Entails.of_eq (owns_whole_eq (c : Thread nD τ) cc0_scratch0 fullShare a).symm)
    iexists a; isplitr; · ipureintro; rfl
    iexact Hq
  isplitl [Hk]
  · iapply (Entails.of_eq (owns_whole_eq (c : Thread nD τ) cc0_scratch1 fullShare p).symm)
    iexists p; isplitr; · ipureintro; rfl
    iexact Hk
  · iapply (Entails.of_eq (owns_whole_eq (c : Thread nD τ) cc0_scratch2 fullShare q).symm)
    iexists q; isplitr; · ipureintro; rfl
    iexact Hv

theorem held_out (c : Dev nD) (t : Fin (cfg0 (F := F)).N) : Held c (ms t) (outAt m c t) ⊢
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (outAt m c t).dka ∗ owns (c : Thread nD τ) (st0_10 t) fullShare (outAt m c t).dv
      ∗ pt c mQ (outAt m c t).accq ∗ pt c (Memref.whole cc0_scratch1) (outAt m c t).acck ∗ pt c (Memref.whole cc0_scratch2) (outAt m c t).accv) := by
  obtain ⟨e0, e1, e2, e3, e4, e5, e6, e7, e8⟩ := same_out (grid0.coords t) (inSt m c t (aq m c t.val))
  rw [← outAt_eq m c t] at e0 e1 e2 e3 e4 e5 e6 e7 e8
  unfold Held
  rw [e0, e1, e2, e3, e4, e5, e6, e7, e8]
  dsimp only [ms, inSt]
  iintro ⟨G0, G1, G2, G3, G4, G5, G6, G7, G8, G9, G10, Hq, Hk, Hv⟩
  ihave Hq := (Entails.of_eq (owns_whole_eq (c : Thread nD τ) cc0_scratch0 fullShare (outAt m c t).accq)) $$ Hq
  ihave Hk := (Entails.of_eq (owns_whole_eq (c : Thread nD τ) cc0_scratch1 fullShare (outAt m c t).acck)) $$ Hk
  ihave Hv := (Entails.of_eq (owns_whole_eq (c : Thread nD τ) cc0_scratch2 fullShare (outAt m c t).accv)) $$ Hv
  icases Hq with ⟨%fq, %hq, Hq⟩
  icases Hk with ⟨%fk, %hk, Hk⟩
  icases Hv with ⟨%fv, %hv, Hv⟩
  subst hq; subst hk; subst hv
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [Hq]; · iexact Hq
  isplitl [Hk]; · iexact Hk
  iexact Hv

theorem body_at (c : Dev nD) (t : Fin (cfg0 (F := F)).N) (a : Vec F S2x16384x128 .f32) (ha : t.val ≠ 0 → a = aq m c t.val) (x p q : Vec F S2x512x128 .f32) (y : Vec F S512x128 .bf16)
    (W : Waits sig Unit) (Q : PUnit → sProp 𝕄) :
    iprop((owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare x ∗ owns (c : Thread nD τ) (st0_10 t) fullShare y
      ∗ pt c mQ a ∗ pt c (Memref.whole cc0_scratch1) p ∗ pt c (Memref.whole cc0_scratch2) q)
      ∗ pt c mR (hb m c t.val) ∗ semVal ((c : Thread nD τ), SemLoc.dma 17) 0 ∗ owes (c : Thread nD τ) 0 W
      ∗ (iprop((owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (outAt m c t).dka ∗ owns (c : Thread nD τ) (st0_10 t) fullShare (outAt m c t).dv
      ∗ pt c mQ (outAt m c t).accq ∗ pt c (Memref.whole cc0_scratch1) (outAt m c t).acck ∗ pt c (Memref.whole cc0_scratch2) (outAt m c t).accv)
          ∗ pt c mR (hb m c (t.val + 1)) ∗ semVal ((c : Thread nD τ), SemLoc.dma 17) 0 ∗ ∃ W, owes (c : Thread nD τ) 0 W) -∗ Q ⟨⟩))
    ⊢ wp frame (wpE (defs₀ (F := F)) 𝒱₀ (c : Thread nD τ) none) Set.univ (bodyAt0 t) Q := by
  have h := body c (ms t) rfl (grid0.coords t) (atSt m c t a x p q y) (hb m c t.val) W Q (Memref.isWhole_whole _)
  rw [out_any m c t a ha x p q y, ← hb_succ m c t] at h
  refine BIBase.Entails.trans ?_ h
  iintro ⟨HA, H1, Hd, HO, Hk⟩
  isplitl [HA]; · iapply (held_in m c t a x p q y); iexact HA
  isplitl [H1]; · iexact H1
  isplitl [Hd]; · iexact Hd
  isplitl [HO]; · iexact HO
  iintro ⟨HA, HB⟩
  iapply Hk
  isplitl [HA]; · iapply (held_out m c t); iexact HA
  iexact HB

/-- What the body is called with at point `t`, the windows one by one, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost
  simp only [before_0, before_1, before_2, before_3, before_4, before_5, before_6, before_7, before_8]
  rw [after_0, after_1, after_2, after_3, after_4, after_5, after_6, after_7, after_8, after_9, after_10]
  rw [Phi_cast, Phi_next]
  unfold Phi Dat.owesAt Pipeline.owesWithin
  rw [show (dats m 0 c).owed t.castSucc = 0 from rfl, show (dats m 0 c).owed t.succ = 0 from rfl]
  iintro ⟨⟨⟨%fq, %hq, Hq⟩, ⟨%fk, Hk⟩, ⟨%fv, Hv⟩, H1, Hd⟩, ⟨%W, %hW, HO⟩, ⟨%d0, G0⟩, ⟨%d1, G1⟩, ⟨%d2, G2⟩, ⟨%d3, G3⟩, ⟨%d4, G4⟩, ⟨%d5, G5⟩, ⟨%d6, G6⟩, ⟨%d7, G7⟩, ⟨%d8, G8⟩, ⟨%d9, G9⟩, ⟨%d10, G10⟩⟩
  iapply (body_at m c t fq hq ((dats m 0 c).before 9 t d9) fk fv ((dats m 0 c).before 10 t d10) W _)
  isplitl [G0 G1 G2 G3 G4 G5 G6 G7 G8 G9 G10 Hq Hk Hv]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [Hq]; · iexact Hq
    isplitl [Hk]; · iexact Hk
    iexact Hv
  isplitl [H1]; · iexact H1
  isplitl [Hd]; · iexact Hd
  isplitl [HO]; · iexact HO
  iintro ⟨⟨G0, G1, G2, G3, G4, G5, G6, G7, G8, G9, G10, Hq, Hk, Hv⟩, H1, Hd, ⟨%W', HO⟩⟩
  isplitl [Hq Hk Hv H1 Hd]
  · isplitl [Hq]
    · iexists _; isplitr; · ipureintro; exact fun _ => (aq_succ m c t).symm
      iexact Hq
    isplitl [Hk]; · iexists _; iexact Hk
    isplitl [Hv]; · iexists _; iexact Hv
    isplitl [H1]; · iexact H1
    iexact Hd
  isplitl [HO]
  · iexists W'; isplitr; · ipureintro; exact fun _ _ => Or.inl trivial
    iexact HO
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  iexact G10

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Cert.AttnI

end
-- ==== Proof.AttnRun.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnSound
public import Idealize.ShloMosaic.Lib.Tactic
public import Idealize.ShloMosaic.Lib.Pipeline.FrameBody
public import Idealize.ShloMosaic.Lib.Pipeline.FrameSuffixV
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

variable (m : (ℓ : Loc nD τ sig) → Buf (Elt F) ℓ) (ρ : Dev nD → PrngReg)

attribute [local irreducible] aq hb outAt out

/-! ### The launch -/

/-- The result left in HBM, written whole by the body's own transfers. -/
def R0 : Finset (Ref sig .tc) := {main_v128_0}
theorem R0_sub : R0 ⊆ Pipeline.restRefs sig spec0 \ ∅ := by decide
abbrev osem : Fin 1 → SemLoc sig := fun _ => SemLoc.dma 17
theorem ownSemFacts : Pipeline.OwnSemFacts spec0 osem := by decide
theorem ownSems0_eq (c : Dev nD) :
    (Pipeline.ownSems0 (Ix := Unit) (Name := ℕ) (U := UD sig nD τ) (Lvl := ℕ) (Val := Elt F) (τ := τ) osem c : sProp 𝕄) = semVal ((c : Thread nD τ), SemLoc.dma 17) 0 :=
  Pipeline.ownSems0_eq_of_list c osem [0] (by decide) (by decide)

/-- What the region leaves in the buffers it writes itself. -/
def G (c : Dev nD) (b : Ref sig .tc) : Buf (Elt F) ((c : Thread nD τ).loc b) :=
  if h : b = main_v128_0 then h ▸ hb m c (cfg0 (F := F)).N else V0 m c (Proc.devRef .tc b)
theorem G_eq (c : Dev nD) : G m c main_v128_0 = hb m c (cfg0 (F := F)).N := by unfold G; rw [dif_pos rfl]

theorem hin (c : Dev nD) : Pipeline.ΦDRV osem spec0 ∅ R0 (fun c b => V0 m c (Proc.devRef .tc b)) (fun c b => V0 m c (Proc.devRef .tc b)) c ⊢ (dats m 0 c).Φ 0 := by
  rw [show (dats m 0 c).Φ 0 = Phi m c 0 from rfl]
  unfold Pipeline.ΦDRV Phi
  rw [hb_zero, scopedRest0_eq, ownSems0_eq, BI.bigSep_empty, show R0 = {main_v128_0} from rfl, BI.bigSep_singleton]
  iintro ⟨⟨⟨%f0, H0⟩, ⟨%f1, H1⟩, ⟨%f2, H2⟩⟩, Hd, -, HR⟩
  isplitl [H0]
  · iexists f0; isplitr; · ipureintro; exact fun h => absurd rfl h
    iexact H0
  isplitl [H1]; · iexists f1; iexact H1
  isplitl [H2]; · iexists f2; iexact H2
  isplitl [HR]; · iexact HR
  iexact Hd

theorem hout (c : Dev nD) : (dats m 0 c).Φ (Fin.last (cfg0 (F := F)).N) ⊢ Pipeline.ΦDRV osem spec0 ∅ R0 (fun c b => V0 m c (Proc.devRef .tc b)) (G m) c := by
  rw [show (dats m 0 c).Φ (Fin.last (cfg0 (F := F)).N) = Phi m c (cfg0 (F := F)).N from rfl]
  unfold Pipeline.ΦDRV Phi
  rw [scopedRest0_eq, ownSems0_eq, BI.bigSep_empty, show R0 = {main_v128_0} from rfl, BI.bigSep_singleton, G_eq]
  iintro ⟨⟨%f0, -, H0⟩, ⟨%f1, H1⟩, ⟨%f2, H2⟩, HR, Hd⟩
  isplitl [H0 H1 H2]
  · isplitl [H0]; · iexists f0; iexact H0
    isplitl [H1]; · iexists f1; iexact H1
    iexists f2; iexact H2
  isplitl [Hd]; · iexact Hd
  isplitr; · iempintro
  iexact HR

/-- The lines after the region. -/
abbrev post0 : List (List (HloOp τ sig (Elt F))) := [hostOps1]
theorem post0_sub : ∀ ops ∈ post0 (F := F), ∀ op ∈ ops, op.bufs ⊆ Pipeline.tailRefs sig Pipeline.Prefetch.none spec0 := by
  intro ops ho op h
  rw [List.mem_singleton] at ho; subst ho
  exact Pipeline.sub_tailRefs Pipeline.Prefetch.none spec0 op ((List.forall_iff_forall_mem.mp hostOps1_sub) op h) fun k => k.elim0
theorem post0_fresh : ∀ ops ∈ post0 (F := F), ∀ op ∈ ops, op.fresh = ∅ := by
  intro ops ho op h
  rw [List.mem_singleton] at ho; subst ho
  revert op
  rw [← List.forall_iff_forall_mem]
  repeat' constructor
theorem post0_keep : ∀ ops ∈ post0 (F := F), ∀ op ∈ ops, ∀ w, Proc.devRef .tc (Pipeline.arrRef spec0 w) ∉ op.writes := by
  intro ops ho op h
  rw [List.mem_singleton] at ho; subst ho
  revert op
  rw [← List.forall_iff_forall_mem]
  simp only [List.Forall, StableHlo.unary_writes, StableHlo.binary_writes, StableHlo.nullary_writes, StableHlo.reshape_writes, Finset.mem_singleton]
  decide +kernel

/-- The buffers at the end. -/
def Wend (c : Dev nD) : Valuation τ sig (Elt F) :=
  StableHlo.after (post0 (F := F)).flatten (Pipeline.withArrays spec0 c (Pipeline.withR (V0 m c) R0 c (G m c)) fun w => (dats m 0 c).arrAt w (cfg0 (F := F)).N)

set_option backward.isDefEq.respectTransparency.types false in
theorem run_main : θ_run defs (onTc (τ := τ) (main (F := F))) (s₀ m ρ) (fun r => (∀ c : Dev nD, ∀ b ∈ Pipeline.restRefs sig spec0, r.2.mem ((c : Thread nD τ).loc b) = Wend m c (Proc.devRef .tc b))
    ∧ (∀ c : Dev nD, ∀ w, r.2.mem ((spec0 w).arr.view.loc (c : Thread nD τ)) = (dats m 0 c).arrAt w (cfg0 (F := F)).N) ∧ r.2.sem = fun _ => 0) :=
  Pipeline.θ_run_frame_dmaR_aroundV cfgs (dats m) (0 : Fin 1) launch0 osem defs₀ 𝒱₀ ownSemFacts ∅ R0 (Finset.empty_subset _) R0_sub m ρ main
    (hbody := fun c => (body_obligation m c).loose) (hshare := fun c => (dats m 0 c).share_full fun _ => rfl)
    (howed := fun _ _ => rfl) (V₀ := V0 m) (opss := post0) (hsub := post0_sub) (hfresh := post0_fresh) (hkeep := post0_keep) (G := G m)
    (hmain := hmain m) (hA := A_eq m) (hin := hin m) (hout := hout m)
    (Q' := _) (hQ' := fun r h => ⟨fun c b hb => (h.1 c).2 b hb, fun c w => (h.1 c).1 w, h.2⟩)

end Cert.AttnI

end
-- ==== Proof.AttnFrame.lean ====
module

public import proofs.«01_k».proof.Proof.Gen.AttnIdeal.Skeleton
public import proofs.«01_k».proof.Proof.Gen.AttnIdeal.Launch
public import proofs.«01_k».proof.Proof.Gen.AttnIdeal.Points
public import proofs.«01_k».proof.Proof.AttnRun
public import Idealize.ShloMosaic.Lib.Tactic
public import Idealize.ShloMosaic.Lib.Pipeline.FrameBody
public import Idealize.ShloMosaic.Lib.Pipeline.FrameSuffixV
public import Idealize.ShloMosaic.Lib.VecWindow
public import Idealize.ShloMosaic.Lib.Pipeline.FrameSuffixV

@[expose] public section

set_option maxRecDepth 16384

noncomputable section

namespace Cert.AttnI

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe UD)

variable {F : FTy → Type} [FloatOps F] [Named F]

open VecWindow (window put)

local notation "𝕄" => MT nD τ sig Unit (Elt F) ℕ (UD sig nD τ) ℕ

variable (m : (ℓ : Loc nD τ sig) → Buf (Elt F) ℓ) (ρ : Dev nD → PrngReg)

attribute [local irreducible] aq hb outAt out

/-- The arguments. -/
def argList : List (Ref sig .tc) := [main_arg0, main_arg1, main_arg2, main_arg3, main_arg4, main_arg5, main_arg6, main_arg7]

/-- Operations that write the references of a list leave every other reference out. -/
theorem keep {ops : List (HloOp τ sig (Elt F))} (W : List (Ref sig .tc)) (hW : ops.map HloOp.writes = W.map fun w => {Proc.devRef (τ := τ) .tc w})
    {b : Ref sig .tc} (hb : b ∉ W) : ∀ op ∈ ops, (Proc.devRef .tc b) ∉ op.writes := by
  intro op ho h
  have h1 : op.writes ∈ W.map fun w => ({Proc.devRef (τ := τ) .tc w} : Finset (DevRef τ sig)) := hW ▸ List.mem_map_of_mem ho
  obtain ⟨w, hw, e⟩ := List.mem_map.mp h1
  rw [← e] at h
  exact hb ((Proc.devRef_injective (τ := τ) _ (Finset.mem_singleton.mp h)) ▸ hw)

theorem args_arr : ∀ b ∈ argList, ∀ w, Pipeline.arrRef spec0 w ≠ b := by decide
theorem args_R : ∀ b ∈ argList, b ∉ R0 := by decide
theorem args_rest : ∀ b ∈ argList, b ∈ Pipeline.restRefs sig spec0 := by decide
theorem w_hostOps0 : ∀ b ∈ argList, ∀ op ∈ (hostOps0 (F := F)), (Proc.devRef .tc b) ∉ op.writes := fun b hb => keep [main_v0, main_v1, main_v2, main_cst, main_v3, main_v4, main_cst_0, main_v5, main_v6, main_cst_1, main_v7, main_v8, main_v9, main_v10, main_v11, main_v12, main_v13, main_v14, main_v15, main_v16, main_v17, main_cst_2, main_v18, main_v19, main_cst_3, main_v20, main_v21, main_cst_4, main_v22, main_v23, main_v24, main_v25, main_v26, main_v27, main_v28, main_v29, main_v30, main_v31] rfl (by revert b; decide)
theorem w_hostOps0_1 : ∀ b ∈ argList, ∀ op ∈ (hostOps0_1 (F := F)), (Proc.devRef .tc b) ∉ op.writes := fun b hb => keep [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v32] rfl (by revert b; decide)
theorem w_hostOps0_2 : ∀ b ∈ argList, ∀ op ∈ (hostOps0_2 (F := F)), (Proc.devRef .tc b) ∉ op.writes := fun b hb => keep [main_call1_call0_cst, main_call1_call0_v0, main_v33] rfl (by revert b; decide)
theorem w_hostOps0_3 : ∀ b ∈ argList, ∀ op ∈ (hostOps0_3 (F := F)), (Proc.devRef .tc b) ∉ op.writes := fun b hb => keep [main_v34, main_v35, main_cst_5, main_v36, main_cst_6, main_v37, main_v38, main_cst_7, main_v39, main_v40, main_v41, main_cst_8, main_v42, main_v43, main_cst_9, main_v44, main_v45, main_cst_10] rfl (by revert b; decide)
theorem w_hostOps0_4 : ∀ b ∈ argList, ∀ op ∈ (hostOps0_4 (F := F)), (Proc.devRef .tc b) ∉ op.writes := fun b hb => keep [main_call2_v0, main_call2_v1, main_v46] rfl (by revert b; decide)
theorem w_hostOps0_5 : ∀ b ∈ argList, ∀ op ∈ (hostOps0_5 (F := F)), (Proc.devRef .tc b) ∉ op.writes := fun b hb => keep [main_cst_11, main_v47, main_v48, main_v49, main_v50, main_v51, main_v52, main_v53, main_v54, main_v55, main_v56, main_v57, main_v58, main_v59, main_cst_12, main_v60, main_v61, main_v62, main_v63, main_v64, main_v65, main_v66, main_v67, main_v68, main_v69, main_v70, main_v71, main_v72, main_v73, main_cst_13, main_v74, main_cst_14, main_v75, main_v76, main_v77, main_v78, main_v79, main_v80, main_v81, main_v82, main_v83, main_v84, main_v85, main_v86, main_cst_15, main_v87, main_v88, main_v89, main_v90, main_v91, main_v92, main_v93, main_v94, main_v95, main_v96, main_v97, main_cst_16] rfl (by revert b; decide)
theorem w_hostOps0_6 : ∀ b ∈ argList, ∀ op ∈ (hostOps0_6 (F := F)), (Proc.devRef .tc b) ∉ op.writes := fun b hb => keep [main_call3_v0, main_call3_v1, main_v98] rfl (by revert b; decide)
theorem w_hostOps0_7 : ∀ b ∈ argList, ∀ op ∈ (hostOps0_7 (F := F)), (Proc.devRef .tc b) ∉ op.writes := fun b hb => keep [main_cst_17, main_v99, main_v100, main_v101, main_v102, main_v103, main_cst_18, main_v104, main_v105, main_v106, main_v107, main_v108, main_v109, main_v110, main_v111, main_v112, main_v113, main_v114, main_v115, main_v116, main_v117, main_v118, main_cst_19, main_v119, main_v120, main_v121, main_v122, main_v123, main_c] rfl (by revert b; decide)
theorem w_hostOps0_8 : ∀ b ∈ argList, ∀ op ∈ (hostOps0_8 (F := F)), (Proc.devRef .tc b) ∉ op.writes := fun b hb => keep [main_call4_v0, main_v124] rfl (by revert b; decide)
theorem w_hostOps0_9 : ∀ b ∈ argList, ∀ op ∈ (hostOps0_9 (F := F)), (Proc.devRef .tc b) ∉ op.writes := fun b hb => keep [main_v125, main_v126, main_c_20] rfl (by revert b; decide)
theorem w_hostOps0_10 : ∀ b ∈ argList, ∀ op ∈ (hostOps0_10 (F := F)), (Proc.devRef .tc b) ∉ op.writes := fun b hb => keep [main_call5_v0, main_v127] rfl (by revert b; decide)
theorem w_hostOps1 : ∀ b ∈ argList, ∀ op ∈ (hostOps1 (F := F)), (Proc.devRef .tc b) ∉ op.writes := fun b hb => keep [main_v129, main_cst_21, main_v130, main_v131, main_v132, main_v133, main_v134, main_v135, main_v136, main_v137] rfl (by revert b; decide)
theorem pre_args : ∀ b ∈ argList, ∀ op ∈ (pre0 (F := F)).flatten, (Proc.devRef .tc b) ∉ op.writes := by
  intro b hb op ho
  obtain ⟨l, hl, ho⟩ := List.mem_flatten.mp ho
  simp only [pre0, List.mem_cons, List.not_mem_nil, or_false] at hl
  rcases hl with rfl | rfl | rfl | rfl | rfl | rfl | rfl | rfl | rfl | rfl | rfl
  · exact w_hostOps0 b hb op ho
  · exact w_hostOps0_1 b hb op ho
  · exact w_hostOps0_2 b hb op ho
  · exact w_hostOps0_3 b hb op ho
  · exact w_hostOps0_4 b hb op ho
  · exact w_hostOps0_5 b hb op ho
  · exact w_hostOps0_6 b hb op ho
  · exact w_hostOps0_7 b hb op ho
  · exact w_hostOps0_8 b hb op ho
  · exact w_hostOps0_9 b hb op ho
  · exact w_hostOps0_10 b hb op ho

theorem post_args : ∀ b ∈ argList, ∀ op ∈ (post0 (F := F)).flatten, (Proc.devRef .tc b) ∉ op.writes := by
  intro b hb op ho
  simp only [post0, List.flatten_cons, List.flatten_nil, List.append_nil] at ho
  exact w_hostOps1 b hb op ho

/-! ### No argument is written -/

theorem V0_args (c : Dev nD) : ∀ b ∈ argList, V0 m c (Proc.devRef .tc b) = m (c, Proc.devRef .tc b) := by
  intro b hb
  unfold V0
  refine StableHlo.after_of_forall_not_mem _ _ ?_
  exact pre_args (F := F) b hb

theorem Wend_args (c : Dev nD) (b : Ref sig .tc) (hb : b ∈ argList) : Wend m c (Proc.devRef .tc b) = m (c, Proc.devRef .tc b) := by
  unfold Wend
  rw [StableHlo.after_of_forall_not_mem _ _ (post_args (F := F) b hb)]
  rw [Pipeline.withArrays_of_ne spec0 c _ _ b (args_arr b hb), Pipeline.withR_of_not_mem _ _ _ _ _ (args_R b hb), V0_args m c b hb]

/-- Every run ends with the arguments unchanged and every semaphore at zero. -/
theorem frame : θ_run (defs (F := F)) (onTc (τ := τ) (main (F := F))) ⟨m, fun _ => 0, ρ⟩ (fun r =>
    (∀ c : Dev nD, ∀ b ∈ argList, r.2.mem ((c.tc : Thread nD τ).loc b) = m ((c.tc : Thread nD τ).loc b)) ∧ r.2.sem = fun _ => 0) :=
  (run_main m ρ).mono fun r h => ⟨fun c b hb => (h.1 c b (args_rest b hb)).trans (Wend_args m c b hb), h.2.2⟩

end Cert.AttnI

end

end
-- ==== Proof.AttnClaims.lean ====
module

public import proofs.«01_k».proof.Defs
public import proofs.«01_k».proof.Proof.AttnFrame
public import proofs.«01_k».proof.Proof.AttnBitsFrame
public import proofs.«01_k».proof.Proof.Gen.AttnRefIdeal.Run
public import Idealize.ShloMosaic.Lib.Claim

@[expose] public section

set_option maxRecDepth 16384

noncomputable section

namespace Cert.AttnP

open Idealize.ShloMosaic Idealize.ShloMosaic.TcCoe Idealize.SL.Sem

instance hI : Cert.AttnIdeal.Facts := Cert.AttnIdeal.Gen.facts
instance hR : Cert.AttnRefIdeal.Facts := Cert.AttnRefIdeal.Gen.facts

instance hP : Cert.Attn.Facts := Cert.Attn.Gen.facts

open Cert.AttnB in
theorem frame_p : Cert.quiescent_Attn := by
  intro m g _
  refine (θ_run _ _ _).mono (fun r h => ⟨fun c => ?_, h.2⟩) (frame (F := Bits) m g)
  exact ⟨h.1 c _ (by decide), h.1 c _ (by decide), h.1 c _ (by decide), h.1 c _ (by decide), h.1 c _ (by decide), h.1 c _ (by decide), h.1 c _ (by decide), h.1 c _ (by decide)⟩

open Cert.AttnI in
theorem frame_pi : Cert.quiescent_AttnIdeal := by
  intro m g _
  refine (θ_run _ _ _).mono (fun r h => ⟨fun c => ?_, h.2⟩) (frame (F := Ideal) m g)
  exact ⟨h.1 c _ (by decide), h.1 c _ (by decide), h.1 c _ (by decide), h.1 c _ (by decide), h.1 c _ (by decide), h.1 c _ (by decide), h.1 c _ (by decide), h.1 c _ (by decide)⟩

/-- The four sites of the threshold: the named constant is −∞ at `Ideal`. -/
theorem preserves : Cert.preserves_Attn_AttnIdeal :=
  IdealRules.named_const.statement Cert.AttnIdeal.κ "exit" .f32 0xC2B00000#32 ⊥ rfl

end Cert.AttnP

end

end
-- ==== Proof.AttnFirst.lean ====
module

public import proofs.«01_k».proof.Proof.AttnDat
public import Idealize.ShloMosaic.Lib.Pointwise
public import Idealize.ShloMosaic.Lib.IdealHost
public import Idealize.ShloMosaic.Lib.StableHlo.ReadAt

@[expose] public section

set_option maxRecDepth 16384

noncomputable section

namespace Cert.AttnF

open Idealize.ShloMosaic Idealize.ShloMosaic.TcCoe Idealize.SL.Sem
open Cert.AttnIdeal Cert.AttnIdeal.Gen

/-- Column `y` of head `h`. -/
def col (h : Fin 8) (y : Fin 64) : Fin 512 := ⟨h.val * 64 + y.val, by omega⟩
/-- A head's normalised row. -/
def rms (X : FVec Ideal S16384x512 .f32) (G : FVec Ideal S1x64 .f32) (h : Fin 8) (a : Fin 16384) (y : Fin 64) : EReal :=
  X (ix2 a (col h y)) * Ideal.rsqrt (Ideal.div (∑ z : Fin 64, X (ix2 a (col h z)) * X (ix2 a (col h z))) (Ideal.ofBits .f32 0x42800000#32) + Ideal.ofBits .f32 0x358637BD#32) * G (ix2 0 y)
/-- The logarithm of the logistic function, and of a gate with its bias. -/
def ls (x : EReal) : EReal := -(max (-x) 0 + Ideal.log1p (Ideal.exp (-(max (-x) (-(-x))))))
def gate (X : FVec Ideal S16384x8 .f32) (Y : FVec Ideal S1x8 .f32) (a : Fin 16384) (h : Fin 8) : EReal := X (ix2 a h) + Y (ix2 0 h)
def lsv (X : FVec Ideal S16384x8 .f32) (Y : FVec Ideal S1x8 .f32) : FVec Ideal S16384x8 .f32 := fun i => ls (gate X Y (i 0) (i 1))
/-- The running sums over the rows. -/
def cs (X : FVec Ideal S16384x8 .f32) : FVec Ideal S16384x8 .f32 :=
  Host.reduceWindowAdd ![16384, 1] ![1, 1] ![16383, 0] ![0, 0] X (broadcastInDim S_ ![] bcast_S_S_ (constant S_ .f32 0x00000000#32)) reduceWindows_S16384x8_S16384x8_w16384s1p16383_0_w1s1p0_0 h_S_
/-- The largest magnitude of a gain, the bound they give and the shift made of it. -/
def gmax (X : FVec Ideal S1x64 .f32) : EReal := Finset.fold max ⊥ (fun x : Fin 1 × Fin 64 => max (X (ix2 x.1 x.2)) (-X (ix2 x.1 x.2))) Finset.univ
def bnd (X Y : FVec Ideal S1x64 .f32) : EReal := Ideal.ofBits .f32 0x4183D70A#32 * gmax X * gmax Y
def shift (X Y : FVec Ideal S1x64 .f32) : EReal := if bnd X Y ≤ Ideal.ofBits .f32 0x42700000#32 then Ideal.ofBits .f32 0x3F000000#32 * bnd X Y else 0
theorem c_bot' : Ideal.ofBits .f32 0xFF800000#32 = ⊥ := by
  simp [Ideal.ofBits, Ideal.ieee]
theorem c_zero' : Ideal.ofBits .f32 0x00000000#32 = 0 := by
  simp [Ideal.ofBits, Ideal.ieee]
theorem ne_self (x : EReal) (u v : EReal) : (if x ≠ x then u else v) = v := if_neg (fun h => h rfl)
section
variable (V : Valuation τ sig (Elt Ideal))
theorem f14 (X : FVec Ideal S16384x512 .f32) (G : FVec Ideal S1x64 .f32) (eX : V (Proc.devRef .tc main_arg0) = X) (eG : V (Proc.devRef .tc main_arg4) = G)
    (h : Fin 8) (a : Fin 16384) (y : Fin 64) : (StableHlo.after (hostOps0 (F := Ideal)) V (Proc.devRef .tc main_v14) : FVec Ideal S8x16384x64 .f32) (ix3 h a y) = rms X G h a y := by
  after_reads_at
  simp only [eX, eG]
  rfl
theorem f29 (X : FVec Ideal S16384x512 .f32) (G : FVec Ideal S1x64 .f32) (eX : V (Proc.devRef .tc main_arg1) = X) (eG : V (Proc.devRef .tc main_arg5) = G)
    (h : Fin 8) (a : Fin 16384) (y : Fin 64) : (StableHlo.after (hostOps0 (F := Ideal)) V (Proc.devRef .tc main_v29) : FVec Ideal S8x16384x64 .f32) (ix3 h a y) = rms X G h a y := by
  after_reads_at
  simp only [eX, eG]
  rfl
theorem f31 (X : FVec Ideal S16384x8 .f32) (Y : FVec Ideal S1x8 .f32) (eX : V (Proc.devRef .tc main_arg3) = X) (eY : V (Proc.devRef .tc main_arg6) = Y) (a : Fin 16384) (h : Fin 8) : (StableHlo.after (hostOps0 (F := Ideal)) V (Proc.devRef .tc main_v31) : FVec Ideal S16384x8 .f32) (ix2 a h) = gate X Y a h := by
  after_reads_at
  simp only [eX, eY]
  rfl
theorem f32 (X : FVec Ideal S16384x8 .f32) (eX : V (Proc.devRef .tc main_v31) = X)
    (a : Fin 16384) (h : Fin 8) : (StableHlo.after (hostOps0_1 (F := Ideal)) V (Proc.devRef .tc main_v32) : FVec Ideal S16384x8 .f32) (ix2 a h) = ls (X (ix2 a h)) := by
  after_reads_at
  simp only [eX, ne_self]
  rfl
theorem f33 (X : FVec Ideal S16384x8 .f32) (eX : V (Proc.devRef .tc main_v32) = X) : (StableHlo.after (hostOps0_2 (F := Ideal)) V (Proc.devRef .tc main_v33) : FVec Ideal S16384x8 .f32) = cs X := by
  subst eX
  after_reads_simp
  rfl
theorem f34 (X : FVec Ideal S16384x8 .f32) (eX : V (Proc.devRef .tc main_v33) = X) (h : Fin 8) (a : Fin 16384) : (StableHlo.after (hostOps0_3 (F := Ideal)) V (Proc.devRef .tc main_v34) : FVec Ideal S8x16384 .f32) (ix2 h a) = X (ix2 a h) := by
  after_reads_at
  rw [eX]
theorem k34 (r : Ref sig .tc) (hr : r ∈ [main_v14, main_v29]) : StableHlo.after (hostOps0_4 (F := Ideal)) (StableHlo.after (hostOps0_3 (F := Ideal)) (StableHlo.after (hostOps0_2 (F := Ideal)) (StableHlo.after (hostOps0_1 (F := Ideal)) V))) (Proc.devRef .tc r) = V (Proc.devRef .tc r) := by
  simp only [List.mem_cons, List.not_mem_nil, or_false] at hr
  rcases hr with rfl | rfl <;> after_reads_simp
theorem k4 (r : Ref sig .tc) (hr : r ∈ [main_v34]) : StableHlo.after (hostOps0_4 (F := Ideal)) V (Proc.devRef .tc r) = V (Proc.devRef .tc r) := by
  simp only [List.mem_cons, List.not_mem_nil, or_false] at hr
  rcases hr with rfl <;> after_reads_simp
theorem f46 (X Y : FVec Ideal S1x64 .f32) (eX : V (Proc.devRef .tc main_arg4) = X) (eY : V (Proc.devRef .tc main_arg5) = Y) : (StableHlo.after (hostOps0_4 (F := Ideal)) (StableHlo.after (hostOps0_3 (F := Ideal)) V) (Proc.devRef .tc main_v46) : FVec Ideal S1x1 .f32) (ix2 0 0) = shift X Y := by
  after_reads_at
  simp only [eX, eY, c_bot']
  rw [show (id (constant (F := Ideal) S_ .f32 0x00000000#32) ix0 : EReal) = 0 from c_zero']
  rfl
end
end Cert.AttnF

end

end
-- ==== Proof.AttnReal.lean ====
module

public import Idealize.ShloMosaic.Lib.Pointwise
public import Idealize.ShloMosaic.Lib.IdealHost

@[expose] public section

set_option maxRecDepth 16384

noncomputable section

namespace Cert.AttnZ

open Idealize.ShloMosaic

theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]
theorem sum_coe {ι : Type} [Fintype ι] {g : ι → EReal} {f : ι → ℝ} (h : ∀ i, g i = (f i : EReal)) : ∑ i, g i = ((∑ i, f i : ℝ) : EReal) :=
  (Finset.sum_congr rfl fun i _ => h i).trans (coe_sum _ _)

theorem div_real (x y : ℝ) (h : y ≠ 0) : Ideal.div (x : EReal) (y : EReal) = ((x / y : ℝ) : EReal) := by
  rw [Ideal.div_coe h, ← EReal.coe_mul, mul_one_div]

theorem fold_real {ι : Type} (t : Finset ι) (f : ι → EReal) (hf : ∀ i, f i = ⊥ ∨ ∃ r : ℝ, f i = r) (i : ι) (hi : i ∈ t) (hr : ∃ r : ℝ, f i = r) :
    ∃ T : ℝ, t.fold max ⊥ f = T := by
  classical
  have h1 : t.fold max ⊥ f = ⊥ ∨ ∃ T : ℝ, t.fold max ⊥ f = T := by
    clear hi
    induction t using Finset.induction_on with
    | empty => exact Or.inl rfl
    | insert a t ha ih =>
      rw [Finset.fold_insert ha]
      rcases hf a with h | ⟨r, h⟩ <;> rcases ih with h' | ⟨r', h'⟩ <;> rw [h, h']
      · exact Or.inl (max_self _)
      · exact Or.inr ⟨r', by simp⟩
      · exact Or.inr ⟨r, by simp⟩
      · exact Or.inr ⟨max r r', (EReal.coe_strictMono.monotone.map_max).symm⟩
  rcases h1 with h | h
  · obtain ⟨r, hr⟩ := hr
    have h2 : f i ≤ t.fold max ⊥ f := Finset.le_fold_max _ |>.2 (Or.inr ⟨i, hi, le_refl _⟩)
    rw [h, hr] at h2
    exact absurd (le_bot_iff.1 h2) (EReal.coe_ne_bot r)
  · exact h

/-! ### One head over the reals -/

section
variable {ι : Type} [Fintype ι] [LinearOrder ι] (Q K V C : ι → Fin 64 → ℝ) (f : ι → ℝ)

/-- The logits, and with the mask. -/
def s (a k : ι) : ℝ := (∑ y, Q a y * K k y) * (1 / 8) + f a - f k
def lgr (a k : ι) : EReal := if k ≤ a then (s Q K f a k : EReal) else ⊥
theorem top_real (a : ι) : ∃ T : ℝ, Finset.univ.fold max ⊥ (fun k => lgr Q K f a k) = T := by
  refine fold_real _ _ (fun k => ?_) a (Finset.mem_univ a) ⟨s Q K f a a, if_pos le_rfl⟩
  by_cases h : k ≤ a
  · exact Or.inr ⟨s Q K f a k, if_pos h⟩
  · exact Or.inl (if_neg h)
/-- A row's largest logit, its exponentials and their sum, the weights. -/
def T (a : ι) : ℝ := Classical.choose (top_real Q K f a)
theorem T_eq (a : ι) : Finset.univ.fold max ⊥ (fun k => lgr Q K f a k) = (T Q K f a : EReal) := Classical.choose_spec (top_real Q K f a)
def e (a k : ι) : ℝ := if k ≤ a then Real.exp (s Q K f a k - T Q K f a) else 0
def Z (a : ι) : ℝ := ∑ k, e Q K f a k
def P (a k : ι) : ℝ := e Q K f a k / Z Q K f a
theorem e_nonneg (a k : ι) : 0 ≤ e Q K f a k := by
  unfold e; split_ifs
  · exact (Real.exp_pos _).le
  · exact le_rfl
theorem Z_pos (a : ι) : 0 < Z Q K f a := by
  refine lt_of_lt_of_le (Real.exp_pos (s Q K f a a - T Q K f a)) ?_
  have := Finset.single_le_sum (f := fun k => e Q K f a k) (fun k _ => e_nonneg Q K f a k) (Finset.mem_univ a)
  have h0 : e Q K f a a = Real.exp (s Q K f a a - T Q K f a) := if_pos le_rfl
  rw [← h0]; exact this
theorem exp_lgr (a k : ι) : Ideal.exp (lgr Q K f a k - (T Q K f a : EReal)) = (e Q K f a k : EReal) := by
  unfold lgr e; split_ifs
  · rw [← EReal.coe_sub, Ideal.exp_coe]
  · simp
theorem div_P (a k : ι) : Ideal.div (e Q K f a k : EReal) (Z Q K f a : EReal) = (P Q K f a k : EReal) := by
  rw [div_real _ _ (Z_pos Q K f a).ne', P]
/-- The gradients by the weights and by the logits. -/
def dP (a k : ι) : ℝ := ∑ y, C a y * V k y
def dr (a : ι) : ℝ := ∑ k, P Q K f a k * dP V C a k
def DS (a k : ι) : ℝ := P Q K f a k * (dP V C a k - dr Q K V C f a)
theorem DS_masked (a k : ι) (h : ¬ k ≤ a) : DS Q K V C f a k = 0 := by simp [DS, P, e, h]

/-- The gradient by the logits as the quotient rule states it. -/
theorem ds_ref (a k : ι) : (if k ≤ a then (Ideal.div (dP V C a k : EReal) (Z Q K f a : EReal)
      + -((∑ j, dP V C a j * (1 / (Z Q K f a * Z Q K f a)) * e Q K f a j : ℝ) : EReal)) * (e Q K f a k : EReal) else 0) = (DS Q K V C f a k : EReal) := by
  have hz := (Z_pos Q K f a).ne'
  split_ifs with h
  · rw [div_real _ _ hz, ← EReal.coe_neg, ← EReal.coe_add, ← EReal.coe_mul]
    refine congrArg _ ?_
    have : ∑ j, dP V C a j * (1 / (Z Q K f a * Z Q K f a)) * e Q K f a j = dr Q K V C f a / Z Q K f a := by
      rw [dr, Finset.sum_div]
      refine Finset.sum_congr rfl fun j _ => ?_
      rw [P]; field_simp
    rw [this, DS, P]; field_simp; ring
  · rw [DS_masked Q K V C f a k h]; rfl
/-- The weight from the shifted sums. -/
theorem P_kernel (b : ℝ) (a k : ι) : (if k ≤ a then Ideal.exp (((s Q K f a k - b : ℝ) : EReal) - ((T Q K f a : EReal) + Ideal.log (Z Q K f a : EReal) - (b : EReal))) else 0)
    = (P Q K f a k : EReal) := by
  have hz := Z_pos Q K f a
  unfold P e
  split_ifs with h
  · rw [Ideal.log_coe, if_neg (not_le.2 hz), ← EReal.coe_add, ← EReal.coe_sub, ← EReal.coe_sub, Ideal.exp_coe]
    refine congrArg _ ?_
    rw [show s Q K f a k - b - (T Q K f a + Real.log (Z Q K f a) - b) = (s Q K f a k - T Q K f a) - Real.log (Z Q K f a) by ring, Real.exp_sub (s Q K f a k - T Q K f a), Real.exp_log hz]
  · simp
/-- The row sums of the gradient against the output. -/
theorem dr_kernel (a : ι) : (∑ y, C a y * ∑ k, P Q K f a k * V k y) = dr Q K V C f a := by
  unfold dr dP
  simp only [Finset.mul_sum]
  rw [Finset.sum_comm]
  refine Finset.sum_congr rfl fun k _ => Finset.sum_congr rfl fun y _ => by ring
end

end Cert.AttnZ

end

end
-- ==== Proof.AttnReals.lean ====
module

public import proofs.«01_k».proof.Proof.AttnFirst
public import proofs.«01_k».proof.Proof.AttnReal

@[expose] public section

set_option maxRecDepth 16384

noncomputable section

namespace Cert.AttnF

open Idealize.ShloMosaic Idealize.ShloMosaic.TcCoe Idealize.SL.Sem
open Cert.AttnIdeal Cert.AttnIdeal.Gen Cert.AttnZ

/-- An extended real that is a real number. -/
def IsR (x : EReal) : Prop := ∃ r : ℝ, x = r
theorem IsR.add {x y : EReal} : IsR x → IsR y → IsR (x + y) := by rintro ⟨r, rfl⟩ ⟨t, rfl⟩; exact ⟨r + t, (EReal.coe_add r t).symm⟩
theorem IsR.mul {x y : EReal} : IsR x → IsR y → IsR (x * y) := by rintro ⟨r, rfl⟩ ⟨t, rfl⟩; exact ⟨r * t, (EReal.coe_mul r t).symm⟩
theorem IsR.neg {x : EReal} : IsR x → IsR (-x) := by rintro ⟨r, rfl⟩; exact ⟨-r, (EReal.coe_neg r).symm⟩
theorem IsR.max {x y : EReal} : IsR x → IsR y → IsR (Max.max x y) := by rintro ⟨r, rfl⟩ ⟨t, rfl⟩; exact ⟨Max.max r t, (EReal.coe_strictMono.monotone.map_max).symm⟩
theorem IsR.zero : IsR 0 := ⟨0, rfl⟩
theorem c64 : Ideal.ofBits .f32 0x42800000#32 = ((64 : ℝ) : EReal) := by
  simp [Ideal.ofBits, Ideal.ieee, -EReal.coe_mul]; norm_num
theorem ceps : ∃ r : ℝ, 0 < r ∧ Ideal.ofBits .f32 0x358637BD#32 = r := by
  refine ⟨_, ?_, by simp [Ideal.ofBits, Ideal.ieee, -EReal.coe_mul]; rfl⟩
  norm_num
theorem c60 : IsR (Ideal.ofBits .f32 0x42700000#32) := ⟨_, by simp [Ideal.ofBits, Ideal.ieee, -EReal.coe_mul]; rfl⟩
theorem chalf : IsR (Ideal.ofBits .f32 0x3F000000#32) := ⟨_, by simp [Ideal.ofBits, Ideal.ieee, -EReal.coe_mul]; rfl⟩
theorem cbnd : IsR (Ideal.ofBits .f32 0x4183D70A#32) := ⟨_, by simp [Ideal.ofBits, Ideal.ieee, -EReal.coe_mul]; rfl⟩
theorem rms_real (X : FVec Ideal S16384x512 .f32) (G : FVec Ideal S1x64 .f32) (hX : ∀ i, IsR (X i)) (hG : ∀ i, IsR (G i)) (h : Fin 8) (a : Fin 16384) (y : Fin 64) : IsR (rms X G h a y) := by
  obtain ⟨r, hr, er⟩ := ceps
  choose x hx using hX
  refine IsR.mul (IsR.mul ⟨_, hx _⟩ ?_) (hG _)
  have e1 : (∑ z : Fin 64, X (ix2 a (col h z)) * X (ix2 a (col h z))) = ((∑ z : Fin 64, x (ix2 a (col h z)) * x (ix2 a (col h z)) : ℝ) : EReal) :=
    sum_coe fun z => by rw [hx, ← EReal.coe_mul]
  rw [e1, c64, er, div_real _ _ (by norm_num), ← EReal.coe_add, Ideal.rsqrt_coe]
  have : 0 < (∑ z : Fin 64, x (ix2 a (col h z)) * x (ix2 a (col h z))) / 64 + r :=
    add_pos_of_nonneg_of_pos (div_nonneg (Finset.sum_nonneg fun z _ => mul_self_nonneg _) (by norm_num)) hr
  rw [if_neg (not_lt.2 this.le), if_neg this.ne']
  exact ⟨_, rfl⟩
theorem ls_real (x : EReal) (hx : IsR x) : IsR (ls x) := by
  obtain ⟨r, rfl⟩ := hx
  refine (IsR.add (IsR.max ⟨-r, (EReal.coe_neg r).symm⟩ IsR.zero) ?_).neg
  obtain ⟨t, ht⟩ : IsR (-(Max.max (-(r : EReal)) (-(-(r : EReal))))) := (IsR.max ⟨-r, (EReal.coe_neg r).symm⟩ ⟨r, by simp⟩).neg
  have e : Ideal.log1p (Ideal.exp (t : EReal)) = ((Real.log (1 + Real.exp t) : ℝ) : EReal) := by
    unfold Ideal.log1p
    rw [Ideal.exp_coe, ← EReal.coe_one, ← EReal.coe_add, Ideal.log_coe, if_neg (not_le.2 (by positivity))]
  rw [ht]
  exact ⟨_, e⟩
theorem lsv_real (X : FVec Ideal S16384x8 .f32) (Y : FVec Ideal S1x8 .f32) (hX : ∀ i, IsR (X i)) (hY : ∀ i, IsR (Y i)) (i) : IsR (lsv X Y i) := ls_real _ (IsR.add (hX _) (hY _))
theorem foldl_real {ι : Type} (L : List ι) (g : ι → EReal) (hg : ∀ i, IsR (g i)) : ∀ z : EReal, IsR z → IsR (L.foldl (fun r i => r + g i) z) := by
  induction L with
  | nil => exact fun z hz => hz
  | cons a L ih => exact fun z hz => ih _ (hz.add (hg a))
theorem cs_real (X : FVec Ideal S16384x8 .f32) (hX : ∀ i, IsR (X i)) (i) : IsR (cs X i) := by
  unfold cs Host.reduceWindowAdd
  show IsR (Ideal.hostReduceWindowAdd _ _ _ _ _ X _ i)
  unfold Ideal.hostReduceWindowAdd Host.reduceWindow
  have hz : IsR (broadcastInDim S_ ![] bcast_S_S_ (constant (F := Ideal) S_ .f32 0x00000000#32) (Shape.Idx.first h_S_)) := ⟨0, c_zero'⟩
  refine foldl_real _ _ (fun n => ?_) _ hz
  dsimp only
  split_ifs
  · exact hX _
  · exact hz
theorem gmax_real (X : FVec Ideal S1x64 .f32) (hX : ∀ i, IsR (X i)) : IsR (gmax X) :=
  fold_real _ _ (fun x => Or.inr ((hX _).max (hX _).neg)) (0, 0) (Finset.mem_univ _) ((hX _).max (hX _).neg)
theorem shift_real (X Y : FVec Ideal S1x64 .f32) (hX : ∀ i, IsR (X i)) (hY : ∀ i, IsR (Y i)) : IsR (shift X Y) := by
  have : IsR (bnd X Y) := (cbnd.mul (gmax_real X hX)).mul (gmax_real Y hY)
  unfold shift
  split_ifs
  · exact chalf.mul this
  · exact IsR.zero
end Cert.AttnF

end

end
-- ==== Proof.AttnSpec.lean ====
module

public import proofs.«01_k».proof.Proof.AttnReals

@[expose] public section

set_option maxRecDepth 16384

noncomputable section

namespace Cert.AttnF

open Idealize.ShloMosaic Idealize.ShloMosaic.TcCoe Idealize.SL.Sem
open Cert.AttnIdeal Cert.AttnIdeal.Gen

/-! ### The gradients of softmax attention as functions of the arguments -/

theorem IsR.eq {x : EReal} : IsR x → x = (x.toReal : EReal) := by rintro ⟨r, rfl⟩; rfl

/-- The normalised rows and the running gate sums. -/
def qnv (X : FVec Ideal S16384x512 .f32) (G : FVec Ideal S1x64 .f32) : FVec Ideal S8x16384x64 .f32 := fun i => rms X G (i 0) (i 1) (i 2)
def ffv (X : FVec Ideal S16384x8 .f32) (Y : FVec Ideal S1x8 .f32) : FVec Ideal S8x16384 .f32 := fun i => cs (lsv X Y) (ix2 (i 1) (i 0))
/-- Their real numbers, and those of the values and the cotangent. -/
def Qr (X : FVec Ideal S16384x512 .f32) (G : FVec Ideal S1x64 .f32) (h : Fin 8) (a : Fin 16384) (y : Fin 64) : ℝ := (rms X G h a y).toReal
def Fr (X : FVec Ideal S16384x8 .f32) (Y : FVec Ideal S1x8 .f32) (h : Fin 8) (a : Fin 16384) : ℝ := (cs (lsv X Y) (ix2 a h)).toReal
def Cr (X : FVec Ideal S16384x512 .f32) (h : Fin 8) (a : Fin 16384) (y : Fin 64) : ℝ := (X (ix2 a (col h y))).toReal

section
variable (X0 X1 X2 X7 : FVec Ideal S16384x512 .f32) (X3 : FVec Ideal S16384x8 .f32) (X4 X5 : FVec Ideal S1x64 .f32) (X6 : FVec Ideal S1x8 .f32)
/-- The gradients by the queries, the keys, the gates and the values. -/
def outQ (h : Fin 8) (a : Fin 16384) (y : Fin 64) : EReal :=
  ((∑ k, AttnZ.DS (Qr X0 X4 h) (Qr X1 X5 h) (Cr X2 h) (Cr X7 h) (Fr X3 X6 h) a k * (1 / 8) * Qr X1 X5 h k y : ℝ) : EReal)
def outK (h : Fin 8) (k : Fin 16384) (y : Fin 64) : EReal :=
  ((∑ a, AttnZ.DS (Qr X0 X4 h) (Qr X1 X5 h) (Cr X2 h) (Cr X7 h) (Fr X3 X6 h) a k * (1 / 8) * Qr X0 X4 h a y : ℝ) : EReal)
def outF (h : Fin 8) (a : Fin 16384) : EReal :=
  (((∑ j, -AttnZ.DS (Qr X0 X4 h) (Qr X1 X5 h) (Cr X2 h) (Cr X7 h) (Fr X3 X6 h) j a) + ∑ k, AttnZ.DS (Qr X0 X4 h) (Qr X1 X5 h) (Cr X2 h) (Cr X7 h) (Fr X3 X6 h) a k : ℝ) : EReal)
def outV (h : Fin 8) (k : Fin 16384) (y : Fin 64) : EReal :=
  ((∑ a, Cr X7 h a y * AttnZ.P (Qr X0 X4 h) (Qr X1 X5 h) (Fr X3 X6 h) a k : ℝ) : EReal)
/-- Every argument is a real number. -/
structure Fin8 : Prop where
  h0 : ∀ i, IsR (X0 i)
  h1 : ∀ i, IsR (X1 i)
  h2 : ∀ i, IsR (X2 i)
  h3 : ∀ i, IsR (X3 i)
  h4 : ∀ i, IsR (X4 i)
  h5 : ∀ i, IsR (X5 i)
  h6 : ∀ i, IsR (X6 i)
  h7 : ∀ i, IsR (X7 i)
end

theorem qnv_eq (X : FVec Ideal S16384x512 .f32) (G : FVec Ideal S1x64 .f32) (hX : ∀ i, IsR (X i)) (hG : ∀ i, IsR (G i)) (h : Fin 8) (a : Fin 16384) (y : Fin 64) :
    qnv X G (ix3 h a y) = (Qr X G h a y : EReal) := (rms_real X G hX hG h a y).eq
theorem ffv_eq (X : FVec Ideal S16384x8 .f32) (Y : FVec Ideal S1x8 .f32) (hX : ∀ i, IsR (X i)) (hY : ∀ i, IsR (Y i)) (h : Fin 8) (a : Fin 16384) :
    ffv X Y (ix2 h a) = (Fr X Y h a : EReal) := (cs_real _ (fun i => lsv_real X Y hX hY i) (ix2 a h)).eq
theorem c_eq (X : FVec Ideal S16384x512 .f32) (hX : ∀ i, IsR (X i)) (h : Fin 8) (a : Fin 16384) (y : Fin 64) : X (ix2 a (col h y)) = (Cr X h a y : EReal) := (hX _).eq

/-- A lane's head and place. -/
def ch (x : Fin 512) : Fin 8 := ⟨x.val / 64, by omega⟩
def cy (x : Fin 512) : Fin 64 := ⟨x.val % 64, by omega⟩
theorem col_eta (x : Fin 512) : col (ch x) (cy x) = x := Fin.ext (by show x.val / 64 * 64 + x.val % 64 = x.val; omega)

end Cert.AttnF

end

end
-- ==== Proof.AttnPre.lean ====
module

public import proofs.«01_k».proof.Pre_finite2
public import proofs.«01_k».proof.Proof.AttnSpec

@[expose] public section

set_option maxRecDepth 16384

noncomputable section

namespace Cert.AttnE

open Idealize.ShloMosaic Idealize.ShloMosaic.TcCoe Idealize.SL.Sem
open Cert.AttnF (IsR Fin8)

/-- The shape relations of the precondition. -/
theorem pre_facts : Cert.Pre_finite2.Facts where
  bcast_S_S16384x512 := by decide
  bcast_S_S16384x8 := by decide
  bcast_S_S1x64 := by decide
  bcast_S_S1x8 := by decide

theorem c_top : Ideal.ofBits .f32 0x7F800000#32 = ⊤ := by simp [Ideal.ofBits, Ideal.ieee]

/-- A number whose absolute value is below +∞ is real. -/
theorem isR_of_lt (x : EReal) (h : max x (-x) < ⊤) : IsR x := by
  induction x with
  | bot => simp at h
  | top => simp at h
  | coe r => exact ⟨r, rfl⟩

theorem isR_of_cmp {s : Shape} (x : FVec Ideal s .f32) (b : Cert.Pre_finite2.S_.BroadcastsInDim s ![])
    (h : cmpf .olt (Host.absf x) (broadcastInDim s ![] b (constant (F := Ideal) Cert.Pre_finite2.S_ .f32 0x7F800000#32)) = (fun _ => 1#1)) : ∀ i, IsR (x i) := by
  intro i
  have e : BitVec.ofBool (decide (max (x i) (-(x i)) < Ideal.ofBits .f32 0x7F800000#32)) = 1#1 := congrFun h i
  rw [c_top] at e
  refine isR_of_lt _ (by_contra fun hn => ?_)
  rw [decide_eq_false hn] at e
  exact absurd e (by decide)

theorem fin8 [Cert.Pre_finite2.Facts] (X0 X1 X2 X7 : FVec Ideal Cert.Pre_finite2.S16384x512 .f32) (X3 : FVec Ideal Cert.Pre_finite2.S16384x8 .f32)
    (X4 X5 : FVec Ideal Cert.Pre_finite2.S1x64 .f32) (X6 : FVec Ideal Cert.Pre_finite2.S1x8 .f32)
    (h : (Cert.Pre_finite2.fn X0 X1 X2 X3 X4 X5 X6 X7).1 = (fun _ => 1#1)
      ∧ (Cert.Pre_finite2.fn X0 X1 X2 X3 X4 X5 X6 X7).2.1 = (fun _ => 1#1)
      ∧ (Cert.Pre_finite2.fn X0 X1 X2 X3 X4 X5 X6 X7).2.2.1 = (fun _ => 1#1)
      ∧ (Cert.Pre_finite2.fn X0 X1 X2 X3 X4 X5 X6 X7).2.2.2.1 = (fun _ => 1#1)
      ∧ (Cert.Pre_finite2.fn X0 X1 X2 X3 X4 X5 X6 X7).2.2.2.2.1 = (fun _ => 1#1)
      ∧ (Cert.Pre_finite2.fn X0 X1 X2 X3 X4 X5 X6 X7).2.2.2.2.2.1 = (fun _ => 1#1)
      ∧ (Cert.Pre_finite2.fn X0 X1 X2 X3 X4 X5 X6 X7).2.2.2.2.2.2.1 = (fun _ => 1#1)
      ∧ (Cert.Pre_finite2.fn X0 X1 X2 X3 X4 X5 X6 X7).2.2.2.2.2.2.2 = (fun _ => 1#1)) :
    Fin8 X0 X1 X2 X7 X3 X4 X5 X6 :=
  ⟨isR_of_cmp _ _ h.1, isR_of_cmp _ _ h.2.1, isR_of_cmp _ _ h.2.2.1, isR_of_cmp _ _ h.2.2.2.1, isR_of_cmp _ _ h.2.2.2.2.1,
    isR_of_cmp _ _ h.2.2.2.2.2.1, isR_of_cmp _ _ h.2.2.2.2.2.2.1, isR_of_cmp _ _ h.2.2.2.2.2.2.2⟩

end Cert.AttnE

end

end
-- ==== Proof.AttnHost.lean ====
module

public import proofs.«01_k».proof.Proof.AttnDat
public import Idealize.ShloMosaic.Lib.Pointwise
public import Idealize.ShloMosaic.Lib.IdealHost
public import Idealize.ShloMosaic.Lib.StableHlo.ReadAt
public import Idealize.ShloMosaic.Lib.WordCmp

@[expose] public section

set_option maxRecDepth 16384

noncomputable section

namespace Cert.AttnH

open Idealize.ShloMosaic Idealize.ShloMosaic.TcCoe Idealize.SL.Sem
open Cert.AttnIdeal Cert.AttnIdeal.Gen

theorem c_eighth : Ideal.ofBits .f32 0x3E000000#32 = ((1 / 8 : ℝ) : EReal) := by
  simp [Ideal.ofBits, Ideal.ieee, -EReal.coe_mul]; norm_num
theorem c_bot : Ideal.ofBits .f32 0xFF800000#32 = ⊥ := by
  simp [Ideal.ofBits, Ideal.ieee]
theorem c_one : Ideal.ofBits .f32 0x3F800000#32 = 1 := by
  simp [Ideal.ofBits, Ideal.ieee, -EReal.coe_mul]; norm_num

/-- A choice by the causal comparison. -/
theorem sel_sle {α : Type} (a k : Fin 16384) (x y : α) :
    Scalar.select (IntOp.cmpi .sle (BitVec.ofNat 32 k.val) (BitVec.ofNat 32 a.val)) x y = if k ≤ a then x else y := by
  have ea : (BitVec.ofNat 32 k.val).toNat = k.val := by rw [BitVec.toNat_ofNat]; omega
  have eb : (BitVec.ofNat 32 a.val).toNat = a.val := by rw [BitVec.toNat_ofNat]; omega
  rw [WordCmp.cmpi_sle_of_lt (by rw [ea]; omega) (by rw [eb]; omega), WordCmp.select_ofBool, ea, eb]
  by_cases h : k.val ≤ a.val
  · rw [decide_eq_true h, if_pos (show k ≤ a from h)]; rfl
  · rw [decide_eq_false h, if_neg (show ¬ k ≤ a from h)]; rfl

/-- A value's three rounded parts, over the extended reals. -/
def t3 (f : EReal) (i : ℕ) : EReal := if i < 1 then f else if i - 1 < 1 then f - f else f - f - (f - f)

theorem cat3 (A B C : FVec Ideal S8x16384x1 .f32) (prf) (h : Fin 8) (a : Fin 16384) (x : Fin 3) :
    concatenate S8x16384x3 2 [⟨S8x16384x1, A⟩, ⟨S8x16384x1, B⟩, ⟨S8x16384x1, C⟩] prf (ix3 h a x)
      = if x.val < 1 then A (ix3 h a 0) else if x.val - 1 < 1 then B (ix3 h a 0) else C (ix3 h a 0) := by
  pointwise
  have z (n : ℕ) (hn : n < 1) : (⟨n, hn⟩ : Fin 1) = 0 := Subsingleton.elim _ _
  split_ifs <;> simp only [z]
theorem cat1 (A B C : FVec Ideal S1x1x1 .f32) (prf) (x : Fin 3) :
    concatenate S1x1x3 2 [⟨S1x1x1, A⟩, ⟨S1x1x1, B⟩, ⟨S1x1x1, C⟩] prf (ix3 0 0 x)
      = if x.val < 1 then A (ix3 0 0 0) else if x.val - 1 < 1 then B (ix3 0 0 0) else C (ix3 0 0 0) := by
  pointwise
  have z (n : ℕ) (hn : n < 1) : (⟨n, hn⟩ : Fin 1) = 0 := Subsingleton.elim _ _
  split_ifs <;> simp only [z]
theorem cat5 (A : FVec Ideal S8x16384x64 .f32) (B C D : FVec Ideal S8x16384x3 .f32) (E : FVec Ideal S8x16384x55 .f32) (prf) (h : Fin 8) (a : Fin 16384) (x : Fin 128) :
    concatenate S8x16384x128 2 [⟨S8x16384x64, A⟩, ⟨S8x16384x3, B⟩, ⟨S8x16384x3, C⟩, ⟨S8x16384x3, D⟩, ⟨S8x16384x55, E⟩] prf (ix3 h a x)
      = if h1 : x.val < 64 then A (ix3 h a ⟨x.val, h1⟩) else if h2 : x.val - 64 < 3 then B (ix3 h a ⟨x.val - 64, h2⟩)
        else if h3 : x.val - 64 - 3 < 3 then C (ix3 h a ⟨x.val - 64 - 3, h3⟩) else if h4 : x.val - 64 - 3 - 3 < 3 then D (ix3 h a ⟨x.val - 64 - 3 - 3, h4⟩)
        else E (ix3 h a ⟨x.val - 64 - 3 - 3 - 3, by omega⟩) := by
  pointwise

section
variable (QN KN : FVec Ideal S8x16384x64 .f32) (FF : FVec Ideal S8x16384 .f32) (B : FVec Ideal S1x1 .f32)
/-- The packed queries and keys. -/
def qa (h : Fin 8) (a : Fin 16384) (x : Fin 128) : EReal :=
  if h1 : x.val < 64 then QN (ix3 h a ⟨x.val, h1⟩) * ((1 / 8 : ℝ) : EReal) else if x.val - 64 < 3 then t3 (FF (ix2 h a)) (x.val - 64)
  else if x.val - 64 - 3 < 3 then 1 else if x.val - 64 - 3 - 3 < 3 then t3 (0 - B (ix2 0 0)) (x.val - 64 - 3 - 3) else 0
def ka (h : Fin 8) (a : Fin 16384) (x : Fin 128) : EReal :=
  if h1 : x.val < 64 then KN (ix3 h a ⟨x.val, h1⟩) else if x.val - 64 < 3 then 1
  else if x.val - 64 - 3 < 3 then -t3 (FF (ix2 h a)) (x.val - 64 - 3) else if x.val - 64 - 3 - 3 < 3 then 1 else 0
/-- The causal logits. -/
def lg (h : Fin 8) (a k : Fin 16384) : EReal :=
  if k ≤ a then (∑ y : Fin 64, QN (ix3 h a y) * KN (ix3 h k y)) * ((1 / 8 : ℝ) : EReal) + FF (ix2 h a) - FF (ix2 h k) else ⊥
end
/-- A row's shifted log-sum. -/
def lsz (t z b : EReal) : EReal := t + Ideal.log z - b
/-- An eighth of a value, and a difference. -/
def sc8 (x : EReal) : EReal := x * ((1 / 8 : ℝ) : EReal)
def dif (x y : EReal) : EReal := x - y
/-- Column `y` of head `h`. -/
def col (h : Fin 8) (y : Fin 64) : Fin 512 := ⟨h.val * 64 + y.val, by omega⟩
section
variable (SS : FVec Ideal S8x16384x16384 .f32) (B : FVec Ideal S1x1 .f32) (VA CT : FVec Ideal S16384x512 .f32)
/-- A row's largest logit, the sum of the exponentials, the softmax weights. -/
def tp (h : Fin 8) (a : Fin 16384) : EReal := Finset.fold max ⊥ (fun k => SS (ix3 h a k)) Finset.univ
def tot (h : Fin 8) (a : Fin 16384) : EReal := ∑ k : Fin 16384, Ideal.exp (SS (ix3 h a k) - tp SS h a)
def wt (h : Fin 8) (a k : Fin 16384) : EReal := Ideal.div (Ideal.exp (SS (ix3 h a k) - tp SS h a)) (tot SS h a)
def lse (h : Fin 8) (a : Fin 16384) : EReal := lsz (tp SS h a) (tot SS h a) (B (ix2 0 0))
def dr (h : Fin 8) (a : Fin 16384) : EReal := ∑ y : Fin 64, CT (ix2 a (col h y)) * ∑ k : Fin 16384, wt SS h a k * VA (ix2 k (col h y))
end

section
variable (V : Valuation τ sig (Elt Ideal))
  (QN KN : FVec Ideal S8x16384x64 .f32) (FF : FVec Ideal S8x16384 .f32) (B : FVec Ideal S1x1 .f32) (VA CT : FVec Ideal S16384x512 .f32)

section
variable (eQ : V (Proc.devRef .tc main_v14) = QN) (eK : V (Proc.devRef .tc main_v29) = KN) (eF : V (Proc.devRef .tc main_v34) = FF) (eB : V (Proc.devRef .tc main_v46) = B)
include eQ eF eB in
theorem h77 (h : Fin 8) (a : Fin 16384) (x : Fin 128) : (StableHlo.after (hostOps0_5 (F := Ideal)) V (Proc.devRef .tc main_v77) : FVec Ideal S8x16384x128 .bf16) (ix3 h a x) = qa QN FF B h a x := by
  after_reads_simp
  refine (cat5 _ _ _ _ _ concatenates_S8x16384x64_S8x16384x3_S8x16384x3_S8x16384x3_S8x16384x55_S8x16384x128_d2 h a x).trans ?_
  simp only [Matrix.cons_val]
  after_reads_at
  after_reads_at
  simp only [eQ, eF, eB, c_eighth, c_one]
  rfl
include eK eF eB in
theorem h80 (h : Fin 8) (a : Fin 16384) (x : Fin 128) : (StableHlo.after (hostOps0_5 (F := Ideal)) V (Proc.devRef .tc main_v80) : FVec Ideal S8x16384x128 .bf16) (ix3 h a x) = ka KN FF h a x := by
  after_reads_simp
  refine (cat5 _ _ _ _ _ concatenates_S8x16384x64_S8x16384x3_S8x16384x3_S8x16384x3_S8x16384x55_S8x16384x128_d2 h a x).trans ?_
  simp only [Matrix.cons_val]
  after_reads_at
  after_reads_at
  simp only [eK, eF, eB, c_eighth, c_one]
  rfl
include eQ eK eF in
theorem h98 (h : Fin 8) (a k : Fin 16384) : (StableHlo.after (hostOps0_6 (F := Ideal)) (StableHlo.after (hostOps0_5 (F := Ideal)) V) (Proc.devRef .tc main_v98) : FVec Ideal S8x16384x16384 .f32) (ix3 h a k) = lg QN KN FF h a k := by
  after_reads_at
  simp only [eQ, eK, eF, sel_sle, c_eighth]
  rw [show (id (constant (F := Ideal) S_ .f32 0xFF800000#32) ix0 : EReal) = ⊥ from c_bot]
  rfl
theorem u56 (r : Ref sig .tc) (hr : r ∈ [main_v46, main_arg2, main_arg7]) : StableHlo.after (hostOps0_6 (F := Ideal)) (StableHlo.after (hostOps0_5 (F := Ideal)) V) (Proc.devRef .tc r) = V (Proc.devRef .tc r) := by
  simp only [List.mem_cons, List.not_mem_nil, or_false] at hr
  rcases hr with rfl | rfl | rfl <;> after_reads_simp
end
section
variable (SS : FVec Ideal S8x16384x16384 .f32)
  (eS : V (Proc.devRef .tc main_v98) = SS) (eB : V (Proc.devRef .tc main_v46) = B)
  (eV : V (Proc.devRef .tc main_arg2) = VA) (eC : V (Proc.devRef .tc main_arg7) = CT)
abbrev aft7 := (StableHlo.after (hostOps0_10 (F := Ideal)) <| StableHlo.after (hostOps0_9 (F := Ideal)) <| StableHlo.after (hostOps0_8 (F := Ideal)) <| StableHlo.after (hostOps0_7 (F := Ideal)) V)
theorem full (M T : FVec Ideal S8x16384 .f32) (B : FVec Ideal S1x1 .f32) (h : Fin 8) (a : Fin 16384) :
    subf (fun i => shapeCast S8x16384 (addf (broadcastInDim S8x16384x1 ![0, 1] bcast_S8x16384_S8x16384x1_0_1 M)
      (Host.log (broadcastInDim S8x16384x1 ![0, 1] bcast_S8x16384_S8x16384x1_0_1 T))) shapeCasts_S8x16384x1_S8x16384 i)
      (broadcastInDim S8x16384 ![0, 1] bcast_S1x1_S8x16384_0_1 B) (ix2 h a) = lsz (M (ix2 h a)) (T (ix2 h a)) (B (ix2 0 0)) := by
  pointwise
  rfl
include eS in
theorem h99 (h : Fin 8) (a : Fin 16384) : (StableHlo.after (hostOps0_7 (F := Ideal)) V (Proc.devRef .tc main_v99) : FVec Ideal S8x16384 .f32) (ix2 h a) = tp SS h a := by
  after_reads_at
  simp only [eS, c_bot]
  rfl
include eS in
theorem h104 (h : Fin 8) (a : Fin 16384) : (StableHlo.after (hostOps0_7 (F := Ideal)) V (Proc.devRef .tc main_v104) : FVec Ideal S8x16384 .f32) (ix2 h a) = tot SS h a := by
  after_reads_at
  simp only [eS, c_bot, tot, tp]
include eS eB in
theorem h110 (h : Fin 8) (a : Fin 16384) : (StableHlo.after (hostOps0_7 (F := Ideal)) V (Proc.devRef .tc main_v110) : FVec Ideal S8x16384 .f32) (ix2 h a) = lse SS B h a := by
  have e1 := h99 V SS eS h a
  have e2 := h104 V SS eS h a
  unfold lse
  rw [← e1, ← e2, ← eB]
  after_reads_simp
  exact full _ _ _ h a
include eS eV eC in
theorem h119 (h : Fin 8) (a : Fin 16384) : (StableHlo.after (hostOps0_7 (F := Ideal)) V (Proc.devRef .tc main_v119) : FVec Ideal S8x16384 .f32) (ix2 h a) = dr SS VA CT h a := by
  after_reads_at
  simp only [eS, eV, eC, c_bot]
  simp only [dr, wt, tp, tot]
  rfl
include eV in
theorem h120 (i : S16384x512.Idx) : (aft7 V (Proc.devRef .tc main_v120) : FVec Ideal S16384x512 .bf16) i = VA i := by
  idx_vars i
  after_reads_at
  rw [eV]
include eC in
theorem h121 (i : S16384x512.Idx) : (aft7 V (Proc.devRef .tc main_v121) : FVec Ideal S16384x512 .bf16) i = CT i := by
  idx_vars i
  after_reads_at
  rw [eC]
theorem tr (W : FVec Ideal S8x16384 .f32) (h : Fin 8) (a : Fin 16384) (e : Fin 2) (he : e.val = h.val % 2) :
    transpose S4x32x2x512 [0, 2, 1, 3] (fun i => shapeCast S4x2x32x512 W shapeCasts_S8x16384_S4x2x32x512 i) transposes_S4x2x32x512_S4x32x2x512_0_2_1_3
      (ix4 (⟨h.val / 2, by omega⟩ : Fin 4) (⟨a.val / 512, by omega⟩ : Fin 32) e (⟨a.val % 512, by omega⟩ : Fin 512)) = W (ix2 h a) := by
  pointwise
  refine congrArg W (congrArg₂ ix2 (Fin.ext ?_) (Fin.ext ?_)) <;> simp <;> omega
theorem p124 (p : Fin 4) (n : Fin 32) (e : Fin 8) (b : Fin 512) (he : e.val < 2) : (StableHlo.after (hostOps0_8 (F := Ideal)) V (Proc.devRef .tc main_v124) : FVec Ideal S4x32x8x512 .f32) (ix4 p n e b)
    = (V (Proc.devRef .tc main_v123) : FVec Ideal S4x32x2x512 .f32) (ix4 p n ⟨e.val, he⟩ b) := by
  after_reads_at
  exact dif_pos he
theorem p127 (p : Fin 4) (n : Fin 32) (e : Fin 8) (b : Fin 512) (he : e.val < 2) : (StableHlo.after (hostOps0_10 (F := Ideal)) V (Proc.devRef .tc main_v127) : FVec Ideal S4x32x8x512 .f32) (ix4 p n e b)
    = (V (Proc.devRef .tc main_v126) : FVec Ideal S4x32x2x512 .f32) (ix4 p n ⟨e.val, he⟩ b) := by
  after_reads_at
  exact dif_pos he
theorem p123 (i) : (StableHlo.after (hostOps0_7 (F := Ideal)) V (Proc.devRef .tc main_v123) : FVec Ideal S4x32x2x512 .f32) i
    = transpose S4x32x2x512 [0, 2, 1, 3] (fun i => shapeCast S4x2x32x512 (StableHlo.after (hostOps0_7 (F := Ideal)) V (Proc.devRef .tc main_v110)) shapeCasts_S8x16384_S4x2x32x512 i) transposes_S4x2x32x512_S4x32x2x512_0_2_1_3 i := by
  after_reads_simp
  rfl
theorem p126 (i) : (StableHlo.after (hostOps0_9 (F := Ideal)) V (Proc.devRef .tc main_v126) : FVec Ideal S4x32x2x512 .f32) i
    = transpose S4x32x2x512 [0, 2, 1, 3] (fun i => shapeCast S4x2x32x512 (V (Proc.devRef .tc main_v119)) shapeCasts_S8x16384_S4x2x32x512 i) transposes_S4x2x32x512_S4x32x2x512_0_2_1_3 i := by
  after_reads_simp
  rfl
theorem p119 : StableHlo.after (hostOps0_8 (F := Ideal)) V (Proc.devRef .tc main_v119) = V (Proc.devRef .tc main_v119) := by
  after_reads_simp
theorem p124u : (StableHlo.after (hostOps0_10 (F := Ideal)) <| StableHlo.after (hostOps0_9 (F := Ideal)) V) (Proc.devRef .tc main_v124) = V (Proc.devRef .tc main_v124) := by
  after_reads_simp
theorem u710 (r : Ref sig .tc) (hr : r ∈ [main_v77, main_v80]) : aft7 V (Proc.devRef .tc r) = V (Proc.devRef .tc r) := by
  rcases hr with _ | ⟨_, hr⟩
  · after_reads_simp
  · rcases hr with _ | ⟨_, hr⟩
    · after_reads_simp
    · cases hr
theorem u6 (r : Ref sig .tc) (hr : r ∈ [main_v77, main_v80]) : StableHlo.after (hostOps0_6 (F := Ideal)) V (Proc.devRef .tc r) = V (Proc.devRef .tc r) := by
  rcases hr with _ | ⟨_, hr⟩
  · after_reads_simp
  · rcases hr with _ | ⟨_, hr⟩
    · after_reads_simp
    · cases hr
theorem q131 (h : Fin 8) (a : Fin 16384) (y : Fin 64) : (StableHlo.after (hostOps1 (F := Ideal)) V (Proc.devRef .tc main_v131) : FVec Ideal S8x16384x64 .f32) (ix3 h a y)
    = sc8 ((V (Proc.devRef .tc main_v128_0) : FVec Ideal S8x16384x128 .f32) (ix3 h a ⟨y.val, by omega⟩)) := by
  after_reads_at
  simp only [c_eighth]
  rfl
theorem q132 (h : Fin 8) (a : Fin 16384) (y : Fin 64) : (StableHlo.after (hostOps1 (F := Ideal)) V (Proc.devRef .tc main_v132) : FVec Ideal S8x16384x64 .f32) (ix3 h a y)
    = (V (Proc.devRef .tc main_v128_1) : FVec Ideal S8x16384x128 .f32) (ix3 h a ⟨y.val, by omega⟩) := by
  after_reads_at
theorem sl (W : FVec Ideal S8x16384x128 .f32) (h : Fin 8) (a : Fin 16384) : shapeCast S8x16384 (extractStridedSlice S8x16384x1 ![0, 0, 64] W slices_S8x16384x128_S8x16384x1_0_0_64) shapeCasts_S8x16384x1_S8x16384 (ix2 h a) = W (ix3 h a 64) := by
  pointwise
theorem sl' (W : FVec Ideal S8x16384x128 .f32) (h : Fin 8) (a : Fin 16384) : shapeCast S8x16384 (extractStridedSlice S8x16384x1 ![0, 0, 67] W slices_S8x16384x128_S8x16384x1_0_0_67) shapeCasts_S8x16384x1_S8x16384 (ix2 h a) = W (ix3 h a 67) := by
  pointwise
theorem q137 (h : Fin 8) (a : Fin 16384) : (StableHlo.after (hostOps1 (F := Ideal)) V (Proc.devRef .tc main_v137) : FVec Ideal S8x16384 .f32) (ix2 h a)
    = dif ((V (Proc.devRef .tc main_v128_0) : FVec Ideal S8x16384x128 .f32) (ix3 h a 64)) ((V (Proc.devRef .tc main_v128_1) : FVec Ideal S8x16384x128 .f32) (ix3 h a 67)) := by
  rw [← sl (V (Proc.devRef .tc main_v128_0)) h a, ← sl' (V (Proc.devRef .tc main_v128_1)) h a]
  after_reads_simp
  rfl
end
end
end Cert.AttnH

end

end
-- ==== Proof.AttnPay.lean ====
module

public import proofs.«01_k».proof.Proof.AttnStep
public import Idealize.ShloMosaic.Lib.Pipeline.ValueKit
public import Idealize.ShloMosaic.Lib.Pointwise
public import Idealize.ShloMosaic.Lib.IdealHost
public import Idealize.ShloMosaic.Lib.WordCmp

@[expose] public section

set_option maxRecDepth 16384

noncomputable section

namespace Cert.AttnI

open Idealize.ShloMosaic Idealize.ShloMosaic.TcCoe Idealize.SL.Sem
open Cert.AttnIdeal Cert.AttnIdeal.Gen

/-! ### The payloads of the tile's steps, element by element -/

theorem select_ofBool {α : Type} (p : Prop) [Decidable p] (x y : α) : Scalar.select (BitVec.ofBool (decide p)) x y = if p then x else y := by
  unfold Scalar.select
  by_cases h : p
  · rw [if_pos h, decide_eq_true h]; rfl
  · rw [if_neg h, decide_eq_false h]; rfl
theorem sel_sle {α : Type} (a b : ℕ) (ha : a < 16384) (hb : b < 16384) (x y : α) :
    Scalar.select (IntOp.cmpi .sle (BitVec.ofNat 32 a) (BitVec.ofNat 32 b)) x y = if a ≤ b then x else y := by
  have ea : (BitVec.ofNat 32 a).toNat = a := by rw [BitVec.toNat_ofNat]; omega
  have eb : (BitVec.ofNat 32 b).toNat = b := by rw [BitVec.toNat_ofNat]; omega
  rw [WordCmp.cmpi_sle_of_lt (by rw [ea]; omega) (by rw [eb]; omega), select_ofBool, ea, eb]
theorem sel_slt {α : Type} (a b : ℕ) (ha : a < 16384) (hb : b < 16384) (x y : α) :
    Scalar.select (IntOp.cmpi .slt (BitVec.ofNat 32 a) (BitVec.ofNat 32 b)) x y = if a < b then x else y := by
  have ea : (BitVec.ofNat 32 a).toNat = a := by rw [BitVec.toNat_ofNat]; omega
  have eb : (BitVec.ofNat 32 b).toNat = b := by rw [BitVec.toNat_ofNat]; omega
  rw [WordCmp.cmpi_slt_of_lt (by rw [ea]; omega) (by rw [eb]; omega), select_ofBool, ea, eb]

section
variable (d : FVec Ideal S512x128 .bf16) (l r : FVec Ideal S1x1x8x512 .f32) (q k : FVec Ideal S1x512x128 .bf16) (acc : FVec Ideal S1x512x128 .f32)
  (v t w : FVec Ideal S512x128 .bf16) (L R : FVec Ideal S8x512 .f32) (p : FVec Ideal S512x512 .f32) (ds : FVec Ideal S512x512 .bf16) (f g : FVec Ideal S1x512x128 .f32) (a b : Fin 512) (x : Fin 128)

theorem pay43 : (k0_pay43 (F := Ideal) l q k : FVec Ideal S512x512 .f32) (ix2 a b) = Ideal.exp ((∑ y : Fin 128, k (ix3 0 a y) * q (ix3 0 b y)) - l (ix4 0 0 0 b)) := by
  pointwise [k0_pay43, k0_pay42, k0_pay41, k0_pay39]
theorem pay50 : (k0_pay50 (F := Ideal) L q k : FVec Ideal S512x512 .f32) (ix2 a b) = Ideal.exp ((∑ y : Fin 128, k (ix3 0 a y) * q (ix3 0 b y)) - L (ix2 1 b)) := by
  pointwise [k0_pay50, k0_pay49, k0_pay48]
theorem pay25 : (k0_pay25 (F := Ideal) L q k : FVec Ideal S512x512 .f32) (ix2 a b) = if a ≤ b then Ideal.exp ((∑ y : Fin 128, k (ix3 0 a y) * q (ix3 0 b y)) - L (ix2 0 b)) else 0 := by
  pointwise [k0_pay25, k0_pay24, k0_pay23]
  exact sel_sle _ _ (by omega) (by omega) _ _
theorem pay32 : (k0_pay32 (F := Ideal) L q k : FVec Ideal S512x512 .f32) (ix2 a b) = if a ≤ b then Ideal.exp ((∑ y : Fin 128, k (ix3 0 a y) * q (ix3 0 b y)) - L (ix2 1 b)) else 0 := by
  pointwise [k0_pay32, k0_pay31, k0_pay30]
  exact sel_sle _ _ (by omega) (by omega) _ _
theorem pay44 : (k0_pay44 (F := Ideal) d l q k acc : FVec Ideal S1x512x128 .f32) (ix3 0 a x) = acc (ix3 0 a x) + ∑ b : Fin 512, (k0_pay43 (F := Ideal) l q k : FVec Ideal S512x512 .f32) (ix2 a b) * d (ix2 b x) := by
  pointwise [k0_pay44, k0_pay38]
theorem pay26 : (k0_pay26 (F := Ideal) d L q k acc : FVec Ideal S1x512x128 .f32) (ix3 0 a x) = acc (ix3 0 a x) + ∑ b : Fin 512, (k0_pay25 (F := Ideal) L q k : FVec Ideal S512x512 .f32) (ix2 a b) * d (ix2 b x) := by
  pointwise [k0_pay26]
theorem pay33 : (k0_pay33 (F := Ideal) d L q k acc : FVec Ideal S1x512x128 .f32) (ix3 0 a x) = acc (ix3 0 a x) + ∑ b : Fin 512, (k0_pay32 (F := Ideal) L q k : FVec Ideal S512x512 .f32) (ix2 a b) * d (ix2 b x) := by
  pointwise [k0_pay33]
theorem pay51 : (k0_pay51 (F := Ideal) d L q k acc : FVec Ideal S1x512x128 .f32) (ix3 0 a x) = acc (ix3 0 a x) + ∑ b : Fin 512, (k0_pay50 (F := Ideal) L q k : FVec Ideal S512x512 .f32) (ix2 a b) * d (ix2 b x) := by
  pointwise [k0_pay51]
theorem pay45 : (k0_pay45 (F := Ideal) v d l r q k : FVec Ideal S512x512 .bf16) (ix2 a b) = (k0_pay43 (F := Ideal) l q k : FVec Ideal S512x512 .f32) (ix2 a b) * ((∑ y : Fin 128, v (ix2 a y) * d (ix2 b y)) - r (ix4 0 0 0 b)) := by
  pointwise [k0_pay45, k0_pay38, k0_pay40]
theorem pay27 : (k0_pay27 (F := Ideal) v d L R q k : FVec Ideal S512x512 .bf16) (ix2 a b) = (k0_pay25 (F := Ideal) L q k : FVec Ideal S512x512 .f32) (ix2 a b) * ((∑ y : Fin 128, v (ix2 a y) * d (ix2 b y)) - R (ix2 0 b)) := by
  pointwise [k0_pay27]
theorem pay34 : (k0_pay34 (F := Ideal) v d L R q k : FVec Ideal S512x512 .bf16) (ix2 a b) = (k0_pay32 (F := Ideal) L q k : FVec Ideal S512x512 .f32) (ix2 a b) * ((∑ y : Fin 128, v (ix2 a y) * d (ix2 b y)) - R (ix2 1 b)) := by
  pointwise [k0_pay34]
theorem pay3 : (k0_pay3 (F := Ideal) v d R p : FVec Ideal S512x512 .bf16) (ix2 a b) = p (ix2 a b) * ((∑ y : Fin 128, v (ix2 a y) * d (ix2 b y)) - R (ix2 1 b)) := by
  pointwise [k0_pay3]
theorem pay46 : (k0_pay46 (F := Ideal) t ds acc : FVec Ideal S1x512x128 .f32) (ix3 0 a x) = acc (ix3 0 a x) + ∑ b : Fin 512, ds (ix2 a b) * t (ix2 b x) := by
  pointwise [k0_pay46]
theorem pay47 : (k0_pay47 (F := Ideal) t ds acc : FVec Ideal S1x512x128 .f32) (ix3 0 b x) = acc (ix3 0 b x) + ∑ a : Fin 512, ds (ix2 a b) * t (ix2 a x) := by
  pointwise [k0_pay47]
theorem pay35 : (k0_pay35 (F := Ideal) t ds acc : FVec Ideal S1x512x128 .f32) (ix3 0 a x) = acc (ix3 0 a x) + ∑ b : Fin 512, ds (ix2 a b) * t (ix2 b x) := by
  pointwise [k0_pay35]
theorem pay36 : (k0_pay36 (F := Ideal) t ds acc : FVec Ideal S1x512x128 .f32) (ix3 0 b x) = acc (ix3 0 b x) + ∑ a : Fin 512, ds (ix2 a b) * t (ix2 a x) := by
  pointwise [k0_pay36]
theorem pay29 : (k0_pay29 (F := Ideal) t ds acc : FVec Ideal S1x512x128 .f32) (ix3 0 b x) = acc (ix3 0 b x) + ∑ a : Fin 512, ds (ix2 a b) * t (ix2 a x) := by
  pointwise [k0_pay29]
theorem pay28 : (k0_pay28 (F := Ideal) v d L R q k acc : FVec Ideal S1x512x128 .f32) (ix3 0 a x) = acc (ix3 0 a x) + ∑ b : Fin 512, (k0_pay27 (F := Ideal) v d L R q k : FVec Ideal S512x512 .bf16) (ix2 a b) * q (ix3 0 b x) := by
  pointwise [k0_pay28, k0_pay23]
theorem pay4 : (k0_pay4 (F := Ideal) v d R t p acc : FVec Ideal S1x512x128 .f32) (ix3 0 a x) = acc (ix3 0 a x) + ∑ b : Fin 512, (k0_pay3 (F := Ideal) v d R p : FVec Ideal S512x512 .bf16) (ix2 a b) * t (ix2 b x) := by
  pointwise [k0_pay4]
theorem pay5 : (k0_pay5 (F := Ideal) v d R t p acc : FVec Ideal S1x512x128 .f32) (ix3 0 b x) = acc (ix3 0 b x) + ∑ a : Fin 512, (k0_pay3 (F := Ideal) v d R p : FVec Ideal S512x512 .bf16) (ix2 a b) * t (ix2 a x) := by
  pointwise [k0_pay5]
theorem pay15 : (k0_pay15 (F := Ideal) w : FVec Ideal S512x128 .bf16) (ix2 a x) = if x.val < 64 then w (ix2 a x) else 0 := by
  pointwise [k0_pay15, k0_pay12, k0_pay13, k0_pay14]
  exact sel_slt _ 64 (by omega) (by omega) _ _
theorem pay16 : (k0_pay16 (F := Ideal) w : FVec Ideal S512x128 .bf16) (ix2 a x) = if x.val < 64 then 0 else w (ix2 a x) := by
  pointwise [k0_pay16, k0_pay12, k0_pay13, k0_pay14]
  exact sel_slt _ 64 (by omega) (by omega) _ _
theorem pay37 : (k0_pay37 (F := Ideal) k0_pay12 f g : FVec Ideal S512x128 .bf16) (ix2 a x) = if x.val < 64 then f (ix3 0 a x) else g (ix3 0 a x) := by
  pointwise [k0_pay37, k0_pay12]
  exact sel_slt _ 64 (by omega) (by omega) _ _
theorem pay17 (i : S2x512x128.Idx) : (k0_pay17 (F := Ideal)  : FVec Ideal S2x512x128 .f32) i = 0 := by
  pointwise [k0_pay17]
theorem pay18 (i : S2x512x128.Idx) : (k0_pay18 (F := Ideal)  : FVec Ideal S2x512x128 .f32) i = 0 := by
  pointwise [k0_pay18]
theorem pay19 (i : S2x16384x128.Idx) : (k0_pay19 (F := Ideal)  : FVec Ideal S2x16384x128 .f32) i = 0 := by
  pointwise [k0_pay19]
end

end Cert.AttnI

end

end
-- ==== Proof.AttnTrip.lean ====
module

public import proofs.«01_k».proof.Proof.AttnPay
public import proofs.«01_k».proof.Proof.AttnBody

@[expose] public section

set_option maxRecDepth 16384

noncomputable section

namespace Cert.AttnI

open Idealize.ShloMosaic Idealize.ShloMosaic.TcCoe Idealize.SL.Sem
open Cert.AttnIdeal Cert.AttnIdeal.Gen
open VecWindow (window put)

/-! ### Windows and tiles, element by element -/

/-- Query row `b` of tile `n`. -/
def row (n : Fin 32) (b : Fin 512) : Fin 16384 := ⟨512 * n.val + b.val, by omega⟩

section
variable {α : Type} (e e' : Fin 2) (n n' : Fin 32) (r b : Fin 512) (l : Fin 128)

theorem window_half (x : S2x512x128.Idx → α) (off : Fin 3 → ℕ) (h : off = ![e.val, 0, 0]) (inb) :
    window x off S1x512x128.size inb (ix3 0 r l : S1x512x128.Idx) = x (ix3 e r l) := by
  subst h
  refine congrArg x (funext fun a => Fin.ext ((ValueKit.rect_emb_unit_val _ _ inb _ a).trans ?_))
  match a with
  | 0 => rfl
  | 1 => exact Nat.zero_add _
  | 2 => exact Nat.zero_add _

theorem put_half (x : S2x512x128.Idx → α) (off : Fin 3 → ℕ) (h : off = ![e.val, 0, 0]) (w : S1x512x128.Idx → α) :
    put x off S1x512x128.size w (ix3 e' r l : S2x512x128.Idx) = if e' = e then w (ix3 0 r l) else x (ix3 e' r l) := by
  subst h
  unfold put
  by_cases he : e' = e
  · subst he
    rw [if_pos rfl, dif_pos (fun a => match a with
      | 0 => ⟨Nat.le_refl _, Nat.lt_succ_self _⟩
      | 1 => ⟨Nat.zero_le _, (by show r.val < 0 + 512; omega)⟩
      | 2 => ⟨Nat.zero_le _, (by show l.val < 0 + 128; omega)⟩)]
    refine congrArg w (funext fun a => Fin.ext ?_)
    match a with
    | 0 => show e'.val - e'.val = 0; omega
    | 1 => show r.val - 0 = r.val; omega
    | 2 => show l.val - 0 = l.val; omega
  · rw [if_neg he, dif_neg]
    intro h
    have h0 := h 0
    change e.val ≤ e'.val ∧ e'.val < e.val + 1 at h0
    exact he (Fin.ext (by omega))

theorem window_q (x : S2x16384x128.Idx → α) (off : Fin 3 → ℕ) (h : off = ![e.val, 512 * n.val, 0]) (inb) :
    window x off S1x512x128.size inb (ix3 0 b l : S1x512x128.Idx) = x (ix3 e (row n b) l) := by
  subst h
  refine congrArg x (funext fun a => Fin.ext ((ValueKit.rect_emb_unit_val _ _ inb _ a).trans ?_))
  match a with
  | 0 => rfl
  | 1 => rfl
  | 2 => exact Nat.zero_add _

theorem put_q (x : S2x16384x128.Idx → α) (off : Fin 3 → ℕ) (h : off = ![e.val, 512 * n.val, 0]) (w : S1x512x128.Idx → α) :
    put x off S1x512x128.size w (ix3 e' (row n' b) l : S2x16384x128.Idx) = if e' = e ∧ n' = n then w (ix3 0 b l) else x (ix3 e' (row n' b) l) := by
  subst h
  unfold put
  by_cases he : e' = e ∧ n' = n
  · obtain ⟨rfl, rfl⟩ := he
    rw [if_pos ⟨rfl, rfl⟩, dif_pos (fun a => match a with
      | 0 => ⟨Nat.le_refl _, Nat.lt_succ_self _⟩
      | 1 => ⟨Nat.le_add_right _ _, (by show 512 * n'.val + b.val < 512 * n'.val + 512; omega)⟩
      | 2 => ⟨Nat.zero_le _, (by show l.val < 0 + 128; omega)⟩)]
    refine congrArg w (funext fun a => Fin.ext ?_)
    match a with
    | 0 => show e'.val - e'.val = 0; omega
    | 1 => show 512 * n'.val + b.val - 512 * n'.val = b.val; omega
    | 2 => show l.val - 0 = l.val; omega
  · rw [if_neg he, dif_neg]
    intro h
    have h0 := h 0
    change e.val ≤ e'.val ∧ e'.val < e.val + 1 at h0
    have h1 := h 1
    change 512 * n.val ≤ 512 * n'.val + b.val ∧ 512 * n'.val + b.val < 512 * n.val + 512 at h1
    exact he ⟨Fin.ext (by omega), Fin.ext (by omega)⟩

theorem window_do (x : S16384x128.Idx → α) (off : Fin 2 → ℕ) (h : off = ![512 * n.val, 0]) (inb) :
    window x off S512x128.size inb (ix2 b l : S512x128.Idx) = x (ix2 (row n b) l) := by
  subst h
  refine congrArg x (funext fun a => Fin.ext ((ValueKit.rect_emb_unit_val _ _ inb _ a).trans ?_))
  match a with
  | 0 => rfl
  | 1 => exact Nat.zero_add _

theorem window_ls (x : S1x32x8x512.Idx → α) (off : Fin 4 → ℕ) (h : off = ![0, n.val, 0, 0]) (inb) (k : Fin 8) :
    window x off S1x1x8x512.size inb (ix4 0 0 k b : S1x1x8x512.Idx) = x (ix4 0 n k b) := by
  subst h
  refine congrArg x (funext fun a => Fin.ext ((ValueKit.rect_emb_unit_val _ _ inb _ a).trans ?_))
  match a with
  | 0 => exact Nat.zero_add _
  | 1 => rfl
  | 2 => exact Nat.zero_add _
  | 3 => exact Nat.zero_add _

end

theorem off7_wd : ∀ n : Fin 32, k0_off7 (wd n.val) = ![512 * n.val, 0] := by decide +kernel
theorem off8_wd : ∀ n : Fin 32, k0_off8 (wd n.val) = ![0, n.val, 0, 0] := by decide +kernel
theorem off9_wd : ∀ n : Fin 32, k0_off9 (wd n.val) = ![0, 512 * n.val, 0] := by decide +kernel
theorem off10_wd : ∀ n : Fin 32, k0_off10 (wd n.val) = ![1, 512 * n.val, 0] := by decide +kernel

/-! ### The tile's terms -/

section
variable (s : St Ideal) (j : ℕ) (e : Fin 2) (n : Fin 32) (r b : Fin 512)

/-- The row of the packed sums that belongs to head `e` of the pair. -/
def hrow (e : Fin 2) : Fin 8 := ⟨e.val, by omega⟩
/-- The weight of query `b` of tile `n` at key `r` of tile `j`: zero for a query before the key. -/
def PM : EReal := if 512 * j + r.val ≤ 512 * n.val + b.val then
  Ideal.exp ((∑ y : Fin 128, s.ka (ix3 e r y) * s.qa (ix3 e (row n b) y)) - s.lse (ix4 0 n (hrow e) b)) else 0
/-- The values of head `e` of the pair, zero in the other head's lanes. -/
def VM (x : Fin 128) : EReal := if x.val < 64 then (if e = 0 then s.vv (ix2 r x) else 0) else (if e = 0 then 0 else s.vv (ix2 r x))
/-- The gradient by the score. -/
def DS : EReal := PM s j e n r b * ((∑ y : Fin 128, VM s e r y * s.dO (ix2 (row n b) y)) - s.dr (ix4 0 n (hrow e) b))
end

/-- What the work on query tile `n` does: each accumulator gains its sum over the tile. -/
structure Eff (j : ℕ) (n : Fin 32) (s s' : St Ideal) : Prop where
  same : Same s' s
  v : ∀ e r x, s'.accv (ix3 e r x) = s.accv (ix3 e r x) + ∑ b : Fin 512, PM s j e n r b * s.dO (ix2 (row n b) x)
  k : ∀ e r x, s'.acck (ix3 e r x) = s.acck (ix3 e r x) + ∑ b : Fin 512, DS s j e n r b * s.qa (ix3 e (row n b) x)
  q : ∀ e n' b x, s'.accq (ix3 e (row n' b) x) = s.accq (ix3 e (row n' b) x) + if n' = n then ∑ r : Fin 512, DS s j e n r b * s.ka (ix3 e r x) else 0

section
variable (s : St Ideal) (j : ℕ) (e : Fin 2) (n : Fin 32) (r b : Fin 512) (x : Fin 128)
variable (lw : FVec Ideal S1x1x8x512 .f32) (qw kw : FVec Ideal S1x512x128 .bf16) (dw : FVec Ideal S512x128 .bf16)
variable (hl : ∀ k b, lw (ix4 0 0 k b) = s.lse (ix4 0 n k b)) (hq : ∀ b x, qw (ix3 0 b x) = s.qa (ix3 e (row n b) x))
  (hk : ∀ r x, kw (ix3 0 r x) = s.ka (ix3 e r x))

include hl hq hk in
theorem pm_full (hj : j < n.val) (L : EReal) (hL : L = lw (ix4 0 0 (hrow e) b)) :
    Ideal.exp ((∑ y : Fin 128, kw (ix3 0 r y) * qw (ix3 0 b y)) - L) = PM s j e n r b := by
  unfold PM
  rw [if_pos (by omega), hL, hl]
  simp only [hq, hk]
include hl hq hk in
theorem pm_diag (hj : j = n.val) (L : EReal) (hL : L = lw (ix4 0 0 (hrow e) b)) :
    (if r ≤ b then Ideal.exp ((∑ y : Fin 128, kw (ix3 0 r y) * qw (ix3 0 b y)) - L) else 0) = PM s j e n r b := by
  unfold PM
  rw [hL, hl]
  simp only [hq, hk]
  subst hj
  by_cases h : r ≤ b
  · rw [if_pos h, if_pos (by have : r.val ≤ b.val := h; omega)]
  · rw [if_neg h, if_neg (by have : ¬ r.val ≤ b.val := h; omega)]
end

theorem v6_apply (s : St Ideal) (r : Fin 512) (x : Fin 128) : (v6 s : FVec Ideal S512x128 .bf16) (ix2 r x) = VM s 0 r x := by
  unfold v6 VM; rw [pay15]; rfl
theorem v7_apply (s : St Ideal) (r : Fin 512) (x : Fin 128) : (v7 s : FVec Ideal S512x128 .bf16) (ix2 r x) = VM s 1 r x := by
  unfold v7 VM; rw [pay16]; rfl
theorem pay38_eq (d : FVec Ideal S512x128 .bf16) (a : Fin 512) (x : Fin 128) : (k0_pay38 (F := Ideal) d : FVec Ideal S512x128 .bf16) (ix2 a x) = d (ix2 a x) := by
  pointwise [k0_pay38]
theorem pay20_eq (d : FVec Ideal S512x128 .bf16) (a : Fin 512) (x : Fin 128) : (k0_pay20 (F := Ideal) d : FVec Ideal S512x128 .bf16) (ix2 a x) = d (ix2 a x) := by
  pointwise [k0_pay20]
theorem pay39_eq (d : FVec Ideal S1x1x8x512 .f32) (a : Fin 8) (x : Fin 512) : (k0_pay39 (F := Ideal) d : FVec Ideal S8x512 .f32) (ix2 a x) = d (ix4 0 0 a x) := by
  pointwise [k0_pay39]
theorem pay40_eq (d : FVec Ideal S1x1x8x512 .f32) (a : Fin 8) (x : Fin 512) : (k0_pay40 (F := Ideal) d : FVec Ideal S8x512 .f32) (ix2 a x) = d (ix4 0 0 a x) := by
  pointwise [k0_pay40]
theorem pay21_eq (d : FVec Ideal S1x1x8x512 .f32) (a : Fin 8) (x : Fin 512) : (k0_pay21 (F := Ideal) d : FVec Ideal S8x512 .f32) (ix2 a x) = d (ix4 0 0 a x) := by
  pointwise [k0_pay21]
theorem pay22_eq (d : FVec Ideal S1x1x8x512 .f32) (a : Fin 8) (x : Fin 512) : (k0_pay22 (F := Ideal) d : FVec Ideal S8x512 .f32) (ix2 a x) = d (ix4 0 0 a x) := by
  pointwise [k0_pay22]
theorem pay41_eq (d : FVec Ideal S1x512x128 .bf16) (a : Fin 512) (x : Fin 128) : (k0_pay41 (F := Ideal) d : FVec Ideal S512x128 .bf16) (ix2 a x) = d (ix3 0 a x) := by
  pointwise [k0_pay41]
theorem pay42_eq (d : FVec Ideal S1x512x128 .bf16) (a : Fin 512) (x : Fin 128) : (k0_pay42 (F := Ideal) d : FVec Ideal S512x128 .bf16) (ix2 a x) = d (ix3 0 a x) := by
  pointwise [k0_pay42]
theorem pay48_eq (d : FVec Ideal S1x512x128 .bf16) (a : Fin 512) (x : Fin 128) : (k0_pay48 (F := Ideal) d : FVec Ideal S512x128 .bf16) (ix2 a x) = d (ix3 0 a x) := by
  pointwise [k0_pay48]
theorem pay49_eq (d : FVec Ideal S1x512x128 .bf16) (a : Fin 512) (x : Fin 128) : (k0_pay49 (F := Ideal) d : FVec Ideal S512x128 .bf16) (ix2 a x) = d (ix3 0 a x) := by
  pointwise [k0_pay49]
theorem pay23_eq (d : FVec Ideal S1x512x128 .bf16) (a : Fin 512) (x : Fin 128) : (k0_pay23 (F := Ideal) d : FVec Ideal S512x128 .bf16) (ix2 a x) = d (ix3 0 a x) := by
  pointwise [k0_pay23]
theorem pay24_eq (d : FVec Ideal S1x512x128 .bf16) (a : Fin 512) (x : Fin 128) : (k0_pay24 (F := Ideal) d : FVec Ideal S512x128 .bf16) (ix2 a x) = d (ix3 0 a x) := by
  pointwise [k0_pay24]
theorem pay30_eq (d : FVec Ideal S1x512x128 .bf16) (a : Fin 512) (x : Fin 128) : (k0_pay30 (F := Ideal) d : FVec Ideal S512x128 .bf16) (ix2 a x) = d (ix3 0 a x) := by
  pointwise [k0_pay30]
theorem pay31_eq (d : FVec Ideal S1x512x128 .bf16) (a : Fin 512) (x : Fin 128) : (k0_pay31 (F := Ideal) d : FVec Ideal S512x128 .bf16) (ix2 a x) = d (ix3 0 a x) := by
  pointwise [k0_pay31]

section
variable (n : Fin 32) (h : k0_chk2 (wd n.val)) (s : St Ideal)
/-- The tile's cotangents, sums, row terms, queries and keys. -/
def dT : FVec Ideal S512x128 .bf16 := window s.dO (k0_off7 (wd n.val)) S512x128.size (k0_off7_inb _ h)
def lT : FVec Ideal S1x1x8x512 .f32 := window s.lse (k0_off8 (wd n.val)) S1x1x8x512.size (k0_off8_inb _ h)
def rT : FVec Ideal S1x1x8x512 .f32 := window s.dr (k0_off8 (wd n.val)) S1x1x8x512.size (k0_off8_inb _ h)
def q0T : FVec Ideal S1x512x128 .bf16 := window s.qa (k0_off9 (wd n.val)) S1x512x128.size (k0_off9_inb _ h)
def q1T : FVec Ideal S1x512x128 .bf16 := window s.qa (k0_off10 (wd n.val)) S1x512x128.size (k0_off10_inb _ h)
theorem ka0_apply (r : Fin 512) (x : Fin 128) : (ka0 s : FVec Ideal S1x512x128 .bf16) (ix3 0 r x) = s.ka (ix3 0 r x) := window_half 0 r x _ _ rfl _
theorem ka1_apply (r : Fin 512) (x : Fin 128) : (ka1 s : FVec Ideal S1x512x128 .bf16) (ix3 0 r x) = s.ka (ix3 1 r x) := window_half 1 r x _ _ rfl _
theorem dT_apply (b : Fin 512) (x : Fin 128) : dT n h s (ix2 b x) = s.dO (ix2 (row n b) x) := window_do n b x _ _ (off7_wd n) _
theorem lT_apply (k : Fin 8) (b : Fin 512) : lT n h s (ix4 0 0 k b) = s.lse (ix4 0 n k b) := window_ls n b _ _ (off8_wd n) _ k
theorem rT_apply (k : Fin 8) (b : Fin 512) : rT n h s (ix4 0 0 k b) = s.dr (ix4 0 n k b) := window_ls n b _ _ (off8_wd n) _ k
theorem q0T_apply (b : Fin 512) (x : Fin 128) : q0T n h s (ix3 0 b x) = s.qa (ix3 0 (row n b) x) := window_q 0 n b x _ _ (off9_wd n) _
theorem q1T_apply (b : Fin 512) (x : Fin 128) : q1T n h s (ix3 0 b x) = s.qa (ix3 1 (row n b) x) := window_q 1 n b x _ _ (off10_wd n) _

variable (j : ℕ) (hjn : j < n.val)
include hjn
theorem p0T (r b : Fin 512) : (k0_pay43 (F := Ideal) (lT n h s) (q0T n h s) (ka0 s) : FVec Ideal S512x512 .f32) (ix2 r b) = PM s j 0 n r b := by
  rw [pay43]; exact pm_full s j 0 n r b _ _ _ (lT_apply n h s) (q0T_apply n h s) (ka0_apply s) hjn _ rfl
theorem p1T (r b : Fin 512) : (k0_pay50 (F := Ideal) (k0_pay39 (lT n h s)) (q1T n h s) (ka1 s) : FVec Ideal S512x512 .f32) (ix2 r b) = PM s j 1 n r b := by
  rw [pay50]; exact pm_full s j 1 n r b _ _ _ (lT_apply n h s) (q1T_apply n h s) (ka1_apply s) hjn _ (pay39_eq _ _ _)
theorem ds0T (r b : Fin 512) : (k0_pay45 (F := Ideal) (v6 s) (dT n h s) (lT n h s) (rT n h s) (q0T n h s) (ka0 s) : FVec Ideal S512x512 .bf16) (ix2 r b) = DS s j 0 n r b := by
  rw [pay45, p0T n h s j hjn, rT_apply]; unfold DS; simp only [v6_apply, dT_apply]; rfl
theorem ds1T (r b : Fin 512) : (k0_pay3 (F := Ideal) (v7 s) (k0_pay38 (dT n h s)) (k0_pay40 (rT n h s)) (k0_pay50 (k0_pay39 (lT n h s)) (q1T n h s) (ka1 s)) : FVec Ideal S512x512 .bf16) (ix2 r b) = DS s j 1 n r b := by
  rw [pay3, p1T n h s j hjn, pay40_eq, rT_apply]; unfold DS; simp only [v7_apply, pay38_eq, dT_apply]; rfl
end

theorem eff_trip1 (j : ℕ) (n : Fin 32) (hjn : j < n.val) (h : k0_chk2 (wd n.val)) (s : St Ideal) :
    Eff j n s (trip1 (v6 s) (v7 s) (wd n.val) h s) where
  same := same_trip1 _ _ _ _ _
  v e r x := by
    change put (put s.accv ![0, 0, 0] S1x512x128.size (k0_pay44 (dT n h s) (lT n h s) (q0T n h s) (ka0 s) (accv0 s))) ![1, 0, 0] S1x512x128.size
      (k0_pay51 (k0_pay38 (dT n h s)) (k0_pay39 (lT n h s)) (q1T n h s) (ka1 s)
        (window (put s.accv ![0, 0, 0] S1x512x128.size (k0_pay44 (dT n h s) (lT n h s) (q0T n h s) (ka0 s) (accv0 s))) ![1, 0, 0] S1x512x128.size inb_S2x512x128_S1x512x128_1_0_0)) (ix3 e r x) = _
    rw [put_half 1 e r x _ ![1, 0, 0] rfl]
    match e with
    | 0 =>
      rw [if_neg (by decide), put_half 0 0 r x _ ![0, 0, 0] rfl, if_pos rfl, pay44]
      simp only [p0T n h s j hjn, dT_apply]
      exact congrArg₂ (HAdd.hAdd) (window_half 0 r x _ _ rfl _) rfl
    | 1 =>
      rw [if_pos rfl, pay51]
      simp only [p1T n h s j hjn, pay38_eq, dT_apply]
      refine congrArg₂ (HAdd.hAdd) ((window_half 1 r x _ _ rfl _).trans ?_) rfl
      rw [put_half 0 1 r x _ ![0, 0, 0] rfl, if_neg (by decide)]
  k e r x := by
    change put (put s.acck ![0, 0, 0] S1x512x128.size (k0_pay46 (k0_pay41 (q0T n h s)) (k0_pay45 (v6 s) (dT n h s) (lT n h s) (rT n h s) (q0T n h s) (ka0 s)) (acck0 s))) ![1, 0, 0] S1x512x128.size
      (k0_pay4 (v7 s) (k0_pay38 (dT n h s)) (k0_pay40 (rT n h s)) (k0_pay48 (q1T n h s)) (k0_pay50 (k0_pay39 (lT n h s)) (q1T n h s) (ka1 s))
        (window (put s.acck ![0, 0, 0] S1x512x128.size (k0_pay46 (k0_pay41 (q0T n h s)) (k0_pay45 (v6 s) (dT n h s) (lT n h s) (rT n h s) (q0T n h s) (ka0 s)) (acck0 s))) ![1, 0, 0] S1x512x128.size inb_S2x512x128_S1x512x128_1_0_0)) (ix3 e r x) = _
    rw [put_half 1 e r x _ ![1, 0, 0] rfl]
    match e with
    | 0 =>
      rw [if_neg (by decide), put_half 0 0 r x _ ![0, 0, 0] rfl, if_pos rfl, pay46]
      simp only [ds0T n h s j hjn, pay41_eq, q0T_apply]
      exact congrArg₂ (HAdd.hAdd) (window_half 0 r x _ _ rfl _) rfl
    | 1 =>
      rw [if_pos rfl, pay4]
      simp only [ds1T n h s j hjn, pay48_eq, q1T_apply]
      refine congrArg₂ (HAdd.hAdd) ((window_half 1 r x _ _ rfl _).trans ?_) rfl
      rw [put_half 0 1 r x _ ![0, 0, 0] rfl, if_neg (by decide)]
  q e n' b x := by
    change put (put s.accq (k0_off9 (wd n.val)) S1x512x128.size (k0_pay47 (k0_pay42 (ka0 s)) (k0_pay45 (v6 s) (dT n h s) (lT n h s) (rT n h s) (q0T n h s) (ka0 s)) (window s.accq (k0_off9 (wd n.val)) S1x512x128.size (k0_off9_inb _ h)))) (k0_off10 (wd n.val)) S1x512x128.size
      (k0_pay5 (v7 s) (k0_pay38 (dT n h s)) (k0_pay40 (rT n h s)) (k0_pay49 (ka1 s)) (k0_pay50 (k0_pay39 (lT n h s)) (q1T n h s) (ka1 s))
        (window (put s.accq (k0_off9 (wd n.val)) S1x512x128.size (k0_pay47 (k0_pay42 (ka0 s)) (k0_pay45 (v6 s) (dT n h s) (lT n h s) (rT n h s) (q0T n h s) (ka0 s)) (window s.accq (k0_off9 (wd n.val)) S1x512x128.size (k0_off9_inb _ h)))) (k0_off10 (wd n.val)) S1x512x128.size (k0_off10_inb _ h))) (ix3 e (row n' b) x) = _
    rw [put_q 1 e n n' b x _ _ (off10_wd n)]
    by_cases hn : n' = n
    · subst hn
      rw [if_pos rfl]
      match e with
      | 0 =>
        rw [if_neg (fun hh => absurd hh.1 (by decide)), put_q 0 0 n' n' b x _ _ (off9_wd n'), if_pos ⟨rfl, rfl⟩, pay47]
        simp only [ds0T n' h s j hjn, pay42_eq, ka0_apply]
        exact congrArg₂ (HAdd.hAdd) (window_q 0 n' b x _ _ (off9_wd n') _) rfl
      | 1 =>
        rw [if_pos ⟨rfl, rfl⟩, pay5]
        simp only [ds1T n' h s j hjn, pay49_eq, ka1_apply]
        refine congrArg₂ (HAdd.hAdd) ((window_q 1 n' b x _ _ (off10_wd n') _).trans ?_) rfl
        rw [put_q 0 1 n' n' b x _ _ (off9_wd n'), if_neg (fun hh => absurd hh.1 (by decide))]
    · rw [if_neg hn, if_neg (fun hh => hn hh.2), put_q 0 e n n' b x _ _ (off9_wd n), if_neg (fun hh => hn hh.2), add_zero]

end Cert.AttnI

end

end
-- ==== Proof.AttnOut.lean ====
module

public import proofs.«01_k».proof.Proof.AttnTrip

@[expose] public section

set_option maxRecDepth 16384

noncomputable section

namespace Cert.AttnI

open Idealize.ShloMosaic Idealize.ShloMosaic.TcCoe Idealize.SL.Sem
open Cert.AttnIdeal Cert.AttnIdeal.Gen
open VecWindow (window put)

/-! ### The diagonal tile -/

section
variable (i : grid0.Coords) (n : Fin 32) (hn : (i 1).val = n.val) (s : St Ideal)
include hn
theorem off1_n : k0_off1 i = ![512 * n.val, 0] := by rw [k0_off1_eq, hn]
theorem off2_n : k0_off2 i = ![0, n.val, 0, 0] := by rw [k0_off2_eq, hn]
theorem off3_n : k0_off3 i = ![0, 512 * n.val, 0] := by rw [k0_off3_eq, hn]
theorem off4_n : k0_off4 i = ![1, 512 * n.val, 0] := by rw [k0_off4_eq, hn]
theorem dD_apply (b : Fin 512) (x : Fin 128) : (dD i s : FVec Ideal S512x128 .bf16) (ix2 b x) = s.dO (ix2 (row n b) x) := by
  unfold dD; rw [pay20_eq]; exact window_do n b x _ _ (off1_n i n hn) _
theorem lD_apply (k : Fin 8) (b : Fin 512) : (lD i s : FVec Ideal S8x512 .f32) (ix2 k b) = s.lse (ix4 0 n k b) := by
  unfold lD; rw [pay21_eq]; exact window_ls n b _ _ (off2_n i n hn) _ k
theorem rD_apply (k : Fin 8) (b : Fin 512) : (rD i s : FVec Ideal S8x512 .f32) (ix2 k b) = s.dr (ix4 0 n k b) := by
  unfold rD; rw [pay22_eq]; exact window_ls n b _ _ (off2_n i n hn) _ k
theorem qD0_apply (b : Fin 512) (x : Fin 128) : (qD0 i s : FVec Ideal S1x512x128 .bf16) (ix3 0 b x) = s.qa (ix3 0 (row n b) x) := window_q 0 n b x _ _ (off3_n i n hn) _
theorem qD1_apply (b : Fin 512) (x : Fin 128) : (qD1 i s : FVec Ideal S1x512x128 .bf16) (ix3 0 b x) = s.qa (ix3 1 (row n b) x) := window_q 1 n b x _ _ (off4_n i n hn) _
/-- The sums as the full tile's window would show them. -/
theorem p0D (r b : Fin 512) : (k0_pay25 (F := Ideal) (lD i s) (qD0 i s) (ka0 s) : FVec Ideal S512x512 .f32) (ix2 r b) = PM s n.val 0 n r b := by
  rw [pay25]; exact pm_diag s n.val 0 n r b (fun z => lD i s (ix2 (z 2) (z 3))) _ _ (lD_apply i n hn s) (qD0_apply i n hn s) (ka0_apply s) rfl _ rfl
theorem p1D (r b : Fin 512) : (k0_pay32 (F := Ideal) (lD i s) (qD1 i s) (ka1 s) : FVec Ideal S512x512 .f32) (ix2 r b) = PM s n.val 1 n r b := by
  rw [pay32]; exact pm_diag s n.val 1 n r b (fun z => lD i s (ix2 (z 2) (z 3))) _ _ (lD_apply i n hn s) (qD1_apply i n hn s) (ka1_apply s) rfl _ rfl
theorem ds0D (r b : Fin 512) : (k0_pay27 (F := Ideal) (v6 s) (dD i s) (lD i s) (rD i s) (qD0 i s) (ka0 s) : FVec Ideal S512x512 .bf16) (ix2 r b) = DS s n.val 0 n r b := by
  rw [pay27, p0D i n hn, rD_apply i n hn]; unfold DS; simp only [v6_apply, dD_apply i n hn]; rfl
theorem ds1D (r b : Fin 512) : (k0_pay34 (F := Ideal) (v7 s) (dD i s) (lD i s) (rD i s) (qD1 i s) (ka1 s) : FVec Ideal S512x512 .bf16) (ix2 r b) = DS s n.val 1 n r b := by
  rw [pay34, p1D i n hn, rD_apply i n hn]; unfold DS; simp only [v7_apply, dD_apply i n hn]; rfl
end

theorem eff_pre (i : grid0.Coords) (n : Fin 32) (hn : (i 1).val = n.val) (s : St Ideal) :
    Eff n.val n s (pre i s (v6 s) (v7 s)) where
  same := same_pre _ _ _ _
  v e r x := by
    change put (put s.accv ![0, 0, 0] S1x512x128.size (k0_pay26 (dD i s) (lD i s) (qD0 i s) (ka0 s) (accv0 s))) ![1, 0, 0] S1x512x128.size
      (k0_pay33 (dD i s) (lD i s) (qD1 i s) (ka1 s)
        (window (put s.accv ![0, 0, 0] S1x512x128.size (k0_pay26 (dD i s) (lD i s) (qD0 i s) (ka0 s) (accv0 s))) ![1, 0, 0] S1x512x128.size inb_S2x512x128_S1x512x128_1_0_0)) (ix3 e r x) = _
    rw [put_half 1 e r x _ ![1, 0, 0] rfl]
    match e with
    | 0 =>
      rw [if_neg (by decide), put_half 0 0 r x _ ![0, 0, 0] rfl, if_pos rfl, pay26]
      simp only [p0D i n hn, dD_apply i n hn]
      exact congrArg₂ (HAdd.hAdd) (window_half 0 r x _ _ rfl _) rfl
    | 1 =>
      rw [if_pos rfl, pay33]
      simp only [p1D i n hn, dD_apply i n hn]
      refine congrArg₂ (HAdd.hAdd) ((window_half 1 r x _ _ rfl _).trans ?_) rfl
      rw [put_half 0 1 r x _ ![0, 0, 0] rfl, if_neg (by decide)]
  k e r x := by
    change put (put s.acck ![0, 0, 0] S1x512x128.size (k0_pay28 (v6 s) (dD i s) (lD i s) (rD i s) (qD0 i s) (ka0 s) (acck0 s))) ![1, 0, 0] S1x512x128.size
      (k0_pay35 (k0_pay30 (qD1 i s)) (k0_pay34 (v7 s) (dD i s) (lD i s) (rD i s) (qD1 i s) (ka1 s))
        (window (put s.acck ![0, 0, 0] S1x512x128.size (k0_pay28 (v6 s) (dD i s) (lD i s) (rD i s) (qD0 i s) (ka0 s) (acck0 s))) ![1, 0, 0] S1x512x128.size inb_S2x512x128_S1x512x128_1_0_0)) (ix3 e r x) = _
    rw [put_half 1 e r x _ ![1, 0, 0] rfl]
    match e with
    | 0 =>
      rw [if_neg (by decide), put_half 0 0 r x _ ![0, 0, 0] rfl, if_pos rfl, pay28]
      simp only [ds0D i n hn, qD0_apply i n hn]
      exact congrArg₂ (HAdd.hAdd) (window_half 0 r x _ _ rfl _) rfl
    | 1 =>
      rw [if_pos rfl, pay35]
      simp only [ds1D i n hn, pay30_eq, qD1_apply i n hn]
      refine congrArg₂ (HAdd.hAdd) ((window_half 1 r x _ _ rfl _).trans ?_) rfl
      rw [put_half 0 1 r x _ ![0, 0, 0] rfl, if_neg (by decide)]
  q e n' b x := by
    change put (put s.accq (k0_off3 i) S1x512x128.size (k0_pay29 (k0_pay24 (ka0 s)) (k0_pay27 (v6 s) (dD i s) (lD i s) (rD i s) (qD0 i s) (ka0 s)) (window s.accq (k0_off3 i) S1x512x128.size (k0_off3_inb i)))) (k0_off4 i) S1x512x128.size
      (k0_pay36 (k0_pay31 (ka1 s)) (k0_pay34 (v7 s) (dD i s) (lD i s) (rD i s) (qD1 i s) (ka1 s))
        (window (put s.accq (k0_off3 i) S1x512x128.size (k0_pay29 (k0_pay24 (ka0 s)) (k0_pay27 (v6 s) (dD i s) (lD i s) (rD i s) (qD0 i s) (ka0 s)) (window s.accq (k0_off3 i) S1x512x128.size (k0_off3_inb i)))) (k0_off4 i) S1x512x128.size (k0_off4_inb i))) (ix3 e (row n' b) x) = _
    rw [put_q 1 e n n' b x _ _ (off4_n i n hn)]
    by_cases hne : n' = n
    · subst hne
      rw [if_pos rfl]
      match e with
      | 0 =>
        rw [if_neg (fun hh => absurd hh.1 (by decide)), put_q 0 0 n' n' b x _ _ (off3_n i n' hn), if_pos ⟨rfl, rfl⟩, pay29]
        simp only [ds0D i n' hn, pay24_eq, ka0_apply]
        exact congrArg₂ (HAdd.hAdd) (window_q 0 n' b x _ _ (off3_n i n' hn) _) rfl
      | 1 =>
        rw [if_pos ⟨rfl, rfl⟩, pay36]
        simp only [ds1D i n' hn, pay31_eq, ka1_apply]
        refine congrArg₂ (HAdd.hAdd) ((window_q 1 n' b x _ _ (off4_n i n' hn) _).trans ?_) rfl
        rw [put_q 0 1 n' n' b x _ _ (off3_n i n' hn), if_neg (fun hh => absurd hh.1 (by decide))]
    · rw [if_neg hne, if_neg (fun hh => hne hh.2), put_q 0 e n n' b x _ _ (off3_n i n hn), if_neg (fun hh => hne hh.2), add_zero]

/-! ### The loops -/

/-- Every trip of the loop over both heads runs: its threshold is −∞. -/
theorem test1_true (i : grid0.Coords) (n : ℕ) (hn : n < 32) (h : k0_chk1 i (wd n)) (s : St Ideal) : test1 i (wd n) h s = 1#1 := by
  have e : Scalar.cmpi .slt (wd n) 32#32 = 1#1 := (by decide +kernel : ∀ n : Fin 32, Scalar.cmpi .slt (wd n.val) 32#32 = 1#1) ⟨n, hn⟩
  have en : (Named.named κ "exit" 0xC2B00000#32 : Ideal .f32) = ⊥ := rfl
  have ec : ∀ y : Ideal .f32, Scalar.cmpf .oge y (⊥ : EReal) = 1#1 := fun y => by
    rw [Ideal.scalar_cmpf_def]; unfold Ideal.cmp; simp
  unfold test1
  rw [e, en, ec, ec]; rfl

theorem pm_same {s s' : St Ideal} (h : Same s' s) (j : ℕ) (e : Fin 2) (n : Fin 32) (r b : Fin 512) : PM s' j e n r b = PM s j e n r b := by
  obtain ⟨h0, h1, h2, h3, h4, h5, h6, h7, h8⟩ := h
  unfold PM; rw [h3, h5, h6]
theorem ds_same {s s' : St Ideal} (h : Same s' s) (j : ℕ) (e : Fin 2) (n : Fin 32) (r b : Fin 512) : DS s' j e n r b = DS s j e n r b := by
  unfold DS VM; rw [pm_same h]
  obtain ⟨h0, h1, h2, h3, h4, h5, h6, h7, h8⟩ := h
  rw [h4, h7, h8]
theorem v6_same {s s' : St Ideal} (h : Same s' s) : v6 s' = v6 s := by
  unfold v6; rw [h.2.2.2.2.1]
theorem v7_same {s s' : St Ideal} (h : Same s' s) : v7 s' = v7 s := by
  unfold v7; rw [h.2.2.2.2.1]

/-- What the work on the query tiles of `A` does. -/
structure EffR (j : ℕ) (A : Finset (Fin 32)) (s s' : St Ideal) : Prop where
  same : Same s' s
  v : ∀ e r x, s'.accv (ix3 e r x) = s.accv (ix3 e r x) + ∑ n ∈ A, ∑ b : Fin 512, PM s j e n r b * s.dO (ix2 (row n b) x)
  k : ∀ e r x, s'.acck (ix3 e r x) = s.acck (ix3 e r x) + ∑ n ∈ A, ∑ b : Fin 512, DS s j e n r b * s.qa (ix3 e (row n b) x)
  q : ∀ e n b x, s'.accq (ix3 e (row n b) x) = s.accq (ix3 e (row n b) x) + if n ∈ A then ∑ r : Fin 512, DS s j e n r b * s.ka (ix3 e r x) else 0

theorem effR_insert {j : ℕ} {A : Finset (Fin 32)} {n : Fin 32} (hn : n ∉ A) {s s1 s2 : St Ideal} (h1 : EffR j A s s1) (h2 : Eff j n s1 s2) :
    EffR j (insert n A) s s2 where
  same := h2.same.trans h1.same
  v e r x := by
    rw [h2.v, h1.v, Finset.sum_insert hn, h1.same.2.2.2.2.2.2.2.1]
    simp only [pm_same h1.same]
    rw [add_assoc, add_comm (Finset.sum A _)]
  k e r x := by
    rw [h2.k, h1.k, Finset.sum_insert hn, h1.same.2.2.2.2.2.2.1]
    simp only [ds_same h1.same]
    rw [add_assoc, add_comm (Finset.sum A _)]
  q e n' b x := by
    rw [h2.q, h1.q, h1.same.2.2.2.1]
    simp only [ds_same h1.same]
    by_cases h : n' = n
    · subst h; rw [if_neg hn, if_pos rfl, if_pos (Finset.mem_insert_self _ _), add_zero]
    · rw [if_neg h, add_zero]
      by_cases ha : n' ∈ A
      · rw [if_pos ha, if_pos (Finset.mem_insert_of_mem ha)]
      · rw [if_neg ha, if_neg (fun hh => (Finset.mem_insert.mp hh).elim h ha)]

theorem effR_single {j : ℕ} {n : Fin 32} {s s1 : St Ideal} (h : Eff j n s s1) : EffR j {n} s s1 where
  same := h.same
  v e r x := by rw [h.v, Finset.sum_singleton]
  k e r x := by rw [h.k, Finset.sum_singleton]
  q e n' b x := by
    rw [h.q]
    by_cases hh : n' = n
    · subst hh; rw [if_pos rfl, if_pos (Finset.mem_singleton_self _)]
    · rw [if_neg hh, if_neg (fun hm => hh (Finset.mem_singleton.mp hm))]

/-- The tiles from `j` on and below `n`. -/
def tiles (j n : ℕ) : Finset (Fin 32) := Finset.univ.filter fun a => j ≤ a.val ∧ a.val < n
theorem tiles_succ (j n : ℕ) (hj : j ≤ n) (hn : n < 32) : tiles j (n + 1) = insert ⟨n, hn⟩ (tiles j n) := by
  ext a; simp only [tiles, Finset.mem_filter, Finset.mem_univ, true_and, Finset.mem_insert, Fin.ext_iff]; omega
theorem tiles_one (j : ℕ) (hj : j < 32) : tiles j (j + 1) = {⟨j, hj⟩} := by
  ext a; simp only [tiles, Finset.mem_filter, Finset.mem_univ, true_and, Finset.mem_singleton, Fin.ext_iff]; omega

theorem loop1_eff (i : grid0.Coords) (j : ℕ) (s0 : St Ideal) : ∀ (k n : ℕ) (s : St Ideal), n + k = 32 → j < n → EffR j (tiles j n) s0 s →
    EffR j (tiles j 32) s0 (loop1 i (v6 s0) (v7 s0) k n s).1 ∧ (loop1 i (v6 s0) (v7 s0) k n s).2 = 32
  | 0, n, s, hk, hj, h => by
    have e : n = 32 := by omega
    subst e; exact ⟨h, rfl⟩
  | k + 1, n, s, hk, hj, h => by
    have hn : n < 32 := by omega
    unfold loop1
    rw [dif_pos hn, if_pos (test1_true i n hn _ s)]
    refine loop1_eff i j s0 k (n + 1) _ (by omega) (by omega) ?_
    rw [tiles_succ j n (by omega) hn]
    refine effR_insert (by simp [tiles]) h ?_
    have := eff_trip1 j ⟨n, hn⟩ hj (chk2_of n hn) s
    rw [v6_same h.same, v7_same h.same] at this
    exact this

theorem b5_eff (i : grid0.Coords) (j : Fin 32) (hj : (i 1).val = j.val) (s : St Ideal) :
    EffR j.val (tiles j.val 32) s (b5 i (pre i s (v6 s) (v7 s)) (v6 s) (v7 s)) := by
  have h0 : EffR j.val (tiles j.val (j.val + 1)) s (pre i s (v6 s) (v7 s)) := by
    rw [tiles_one j.val j.isLt]; exact effR_single (eff_pre i j hj s)
  have h1 := loop1_eff i j.val s (32 - (j.val + 1)) (j.val + 1) _ (by omega) (by omega) h0
  unfold b5
  dsimp only
  rw [hj, h1.2]
  exact h1.1

/-! ### The body at a grid point -/

theorem b1_same (i : grid0.Coords) (s : St Ideal) : Same (b1 i s) s := by
  unfold b1; dsimp only; split_ifs <;> exact Same.refl s
theorem b1_accv (i : grid0.Coords) (s : St Ideal) (z) : (b1 i s).accv z = 0 := by
  unfold b1; dsimp only; split_ifs <;> exact pay18 z
theorem b1_acck (i : grid0.Coords) (s : St Ideal) (z) : (b1 i s).acck z = 0 := by
  unfold b1; dsimp only; split_ifs <;> exact pay17 z
theorem b1_accq (i : grid0.Coords) (s : St Ideal) (z) : (b1 i s).accq z = if first i = 1#1 then 0 else s.accq z := by
  unfold b1; dsimp only; split_ifs
  · exact pay19 z
  · rfl

/-- Tiles before the key tile weigh nothing. -/
theorem pm_before (s : St Ideal) (j : ℕ) (e : Fin 2) (n : Fin 32) (r b : Fin 512) (h : n.val < j) : PM s j e n r b = 0 := by
  unfold PM; rw [if_neg (by omega)]
theorem ds_before (s : St Ideal) (j : ℕ) (e : Fin 2) (n : Fin 32) (r b : Fin 512) (h : n.val < j) : DS s j e n r b = 0 := by
  unfold DS; rw [pm_before s j e n r b h, zero_mul]
theorem sum_tiles (j : ℕ) (f : Fin 32 → EReal) (hf : ∀ n, n.val < j → f n = 0) : ∑ n ∈ tiles j 32, f n = ∑ n, f n := by
  refine Finset.sum_subset (Finset.subset_univ _) fun n _ hn => hf n ?_
  simp only [tiles, Finset.mem_filter, Finset.mem_univ, true_and] at hn
  omega

section
variable (i : grid0.Coords) (j : Fin 32) (hj : (i 1).val = j.val) (s : St Ideal)
include hj
theorem out_dka (e : Fin 2) (r : Fin 512) (x : Fin 128) :
    (out i s).dka (ix3 e r x) = ∑ n : Fin 32, ∑ b : Fin 512, DS s j.val e n r b * s.qa (ix3 e (row n b) x) := by
  have h := b5_eff i j hj (b1 i s)
  rw [v6_same (b1_same i s), v7_same (b1_same i s)] at h
  rw [out_eq]
  refine (h.k e r x).trans ?_
  rw [b1_acck, zero_add, sum_tiles]
  · simp only [ds_same (b1_same i s)]; rw [(b1_same i s).2.2.2.2.2.2.1]
  · intro n hn; exact Finset.sum_eq_zero fun b _ => by rw [ds_before _ _ _ _ _ _ hn, zero_mul]
theorem out_accv (e : Fin 2) (r : Fin 512) (x : Fin 128) :
    (out i s).accv (ix3 e r x) = ∑ n : Fin 32, ∑ b : Fin 512, PM s j.val e n r b * s.dO (ix2 (row n b) x) := by
  have h := b5_eff i j hj (b1 i s)
  rw [v6_same (b1_same i s), v7_same (b1_same i s)] at h
  rw [out_eq]
  refine (h.v e r x).trans ?_
  rw [b1_accv, zero_add, sum_tiles]
  · simp only [pm_same (b1_same i s)]; rw [(b1_same i s).2.2.2.2.2.2.2.1]
  · intro n hn; exact Finset.sum_eq_zero fun b _ => by rw [pm_before _ _ _ _ _ _ hn, zero_mul]
theorem out_accq (e : Fin 2) (n : Fin 32) (b : Fin 512) (x : Fin 128) :
    (out i s).accq (ix3 e (row n b) x) = (if first i = 1#1 then 0 else s.accq (ix3 e (row n b) x)) + ∑ r : Fin 512, DS s j.val e n r b * s.ka (ix3 e r x) := by
  have h := b5_eff i j hj (b1 i s)
  rw [v6_same (b1_same i s), v7_same (b1_same i s)] at h
  rw [out_eq]
  refine (h.q e n b x).trans ?_
  rw [b1_accq]
  simp only [ds_same (b1_same i s)]
  rw [(b1_same i s).2.2.2.1]
  by_cases hn : n ∈ tiles j.val 32
  · rw [if_pos hn]
  · rw [if_neg hn]
    have hlt : n.val < j.val := by
      simp only [tiles, Finset.mem_filter, Finset.mem_univ, true_and] at hn; omega
    refine congrArg₂ (HAdd.hAdd) rfl (Finset.sum_eq_zero fun r _ => by rw [ds_before _ _ _ _ _ _ hlt, zero_mul]).symm
theorem out_dv (r : Fin 512) (x : Fin 128) :
    (out i s).dv (ix2 r x) = ∑ n : Fin 32, ∑ b : Fin 512, PM s j.val (if x.val < 64 then 0 else 1) n r b * s.dO (ix2 (row n b) x) := by
  have e : (out i s).dv = k0_pay37 k0_pay12 (accv0 (out i s)) (accv1 (out i s)) := by rw [out_eq]; rfl
  rw [e, pay37]
  by_cases h : x.val < 64
  · rw [if_pos h, if_pos h, ← out_accv i j hj s 0 r x]; exact window_half 0 r x _ _ rfl _
  · rw [if_neg h, if_neg h, ← out_accv i j hj s 1 r x]; exact window_half 1 r x _ _ rfl _
end

end Cert.AttnI

end

end
-- ==== Proof.AttnReg.lean ====
module

public import proofs.«01_k».proof.Proof.AttnOut
public import proofs.«01_k».proof.Proof.AttnDat

@[expose] public section

set_option maxRecDepth 16384

noncomputable section

namespace Cert.AttnI

open Idealize.ShloMosaic Idealize.ShloMosaic.TcCoe Idealize.SL.Sem
open Cert.AttnIdeal Cert.AttnIdeal.Gen
open VecWindow (window put)

/-! ### The three results of the region, over the arrays it reads -/

theorem idx0 : ∀ t : Fin (cfg0 (F := Ideal)).N, win0_3.index t = ![t.val / 32, t.val % 32, 0] ∧ win0_4.index t = ![t.val % 32, t.val / 32]
    ∧ win0_5.index t = ![t.val / 32, 0, 0, 0] ∧ win0_6.index t = ![t.val / 32, 0, 0] ∧ win0_7.index t = ![0, t.val / 32]
    ∧ win0_8.index t = ![t.val / 32, 0, 0, 0] ∧ win0_9.index t = ![t.val / 32, t.val % 32, 0] ∧ win0_10.index t = ![t.val % 32, t.val / 32] :=
  (by decide +kernel : ∀ t : Fin grid0.N, _)
theorem N0 : (cfg0 (F := Ideal)).N = 128 := N_0
theorem coord0 : ∀ t : Fin (cfg0 (F := Ideal)).N, (grid0.coords t 1).val = t.val % 32 ∧ (first (grid0.coords t) = 1#1 ↔ t.val % 32 = 0)
    ∧ (k0_cond2 (grid0.coords t) = 1#1 ↔ t.val % 32 = 31) ∧ k0_off21 (grid0.coords t) = ![2 * (t.val / 32), 0, 0] :=
  (by decide +kernel : ∀ t : Fin grid0.N, _)

/-- Head `e` of pair `p`. -/
def hd (p : Fin 4) (e : Fin 2) : Fin 8 := ⟨2 * p.val + e.val, by omega⟩
/-- Lane `y` of pair `p`. -/
def ln (p : Fin 4) (y : Fin 128) : Fin 512 := ⟨128 * p.val + y.val, by omega⟩
/-- The pair of a head and its place in the pair, the tile of a row and its place in the tile. -/
def hp (h : Fin 8) : Fin 4 := ⟨h.val / 2, by omega⟩
def he (h : Fin 8) : Fin 2 := ⟨h.val % 2, by omega⟩
def rtile (a : Fin 16384) : Fin 32 := ⟨a.val / 512, by omega⟩
def rin (a : Fin 16384) : Fin 512 := ⟨a.val % 512, by omega⟩
theorem hp_hd (p : Fin 4) (e : Fin 2) : hp (hd p e) = p := Fin.ext (by show (2 * p.val + e.val) / 2 = p.val; omega)
theorem he_hd (p : Fin 4) (e : Fin 2) : he (hd p e) = e := Fin.ext (by show (2 * p.val + e.val) % 2 = e.val; omega)
theorem rtile_row (n : Fin 32) (b : Fin 512) : rtile (row n b) = n := Fin.ext (by show (512 * n.val + b.val) / 512 = n.val; omega)
theorem rin_row (n : Fin 32) (b : Fin 512) : rin (row n b) = b := Fin.ext (by show (512 * n.val + b.val) % 512 = b.val; omega)
theorem hd_eta (h : Fin 8) : hd (hp h) (he h) = h := Fin.ext (by show 2 * (h.val / 2) + h.val % 2 = h.val; omega)
theorem row_eta (a : Fin 16384) : row (rtile a) (rin a) = a := Fin.ext (by show 512 * (a.val / 512) + a.val % 512 = a.val; omega)
theorem row_le (j n : Fin 32) (r b : Fin 512) : (row j r ≤ row n b) = (512 * j.val + r.val ≤ 512 * n.val + b.val) := rfl
/-- The head of a lane. -/
def lh (x : Fin 512) : Fin 8 := ⟨x.val / 64, by omega⟩

section
variable (QA KA : FVec Ideal S8x16384x128 .bf16) (VV DO : FVec Ideal S16384x512 .bf16) (LS DR : FVec Ideal S4x32x8x512 .f32)
/-- The weight of query `a` at key `k`. -/
def gP (h : Fin 8) (a k : Fin 16384) : EReal := if k ≤ a then
  Ideal.exp ((∑ y : Fin 128, KA (ix3 h k y) * QA (ix3 h a y)) - LS (ix4 (hp h) (rtile a) (hrow (he h)) (rin a))) else 0
/-- The pair's values, zero in the other head's lanes. -/
def gV (h : Fin 8) (k : Fin 16384) (y : Fin 128) : EReal := if y.val < 64 then (if he h = 0 then VV (ix2 k (ln (hp h) y)) else 0) else (if he h = 0 then 0 else VV (ix2 k (ln (hp h) y)))
/-- The gradient by the score. -/
def gDS (h : Fin 8) (a k : Fin 16384) : EReal := gP QA KA LS h a k * ((∑ y : Fin 128, gV VV h k y * DO (ix2 a (ln (hp h) y))) - DR (ix4 (hp h) (rtile a) (hrow (he h)) (rin a)))
/-- The gradients by the packed queries, the packed keys and the values. -/
def gQ (h : Fin 8) (a : Fin 16384) (x : Fin 128) : EReal := ∑ k : Fin 16384, gDS QA KA VV DO LS DR h a k * KA (ix3 h k x)
def gK (h : Fin 8) (k : Fin 16384) (x : Fin 128) : EReal := ∑ a : Fin 16384, gDS QA KA VV DO LS DR h a k * QA (ix3 h a x)
def gVal (k : Fin 16384) (x : Fin 512) : EReal := ∑ a : Fin 16384, gP QA KA LS (lh x) a k * DO (ix2 a x)
end

theorem sum_rows (f : Fin 16384 → EReal) : ∑ a, f a = ∑ n : Fin 32, ∑ b : Fin 512, f (row n b) := by
  exact (Fin.sum_univ_tiles 32 512 rfl f).trans (Finset.sum_congr rfl fun n _ => Finset.sum_congr rfl fun b _ => congrArg f (Fin.ext (by simp [row, Nat.mul_comm])))

section
variable (m : (ℓ : Loc nD τ sig) → Buf (Elt Ideal) ℓ) (c : Dev nD)
variable (QA KA : FVec Ideal S8x16384x128 .bf16) (VV DO : FVec Ideal S16384x512 .bf16) (LS DR : FVec Ideal S4x32x8x512 .f32)
  (eQ : V0 m c (Proc.devRef .tc main_v77) = QA) (eK : V0 m c (Proc.devRef .tc main_v80) = KA)
  (eV : V0 m c (Proc.devRef .tc main_v120) = VV) (eD : V0 m c (Proc.devRef .tc main_v121) = DO)
  (eL : V0 m c (Proc.devRef .tc main_v124) = LS) (eR : V0 m c (Proc.devRef .tc main_v127) = DR)

/-- The pair and the key tile of a point. -/
def tp (t : Fin (cfg0 (F := Ideal)).N) : Fin 4 := ⟨t.val / 32, by have := lt_of_lt_of_eq t.isLt N0; omega⟩
def tj (t : Fin (cfg0 (F := Ideal)).N) : Fin 32 := ⟨t.val % 32, by omega⟩

include eK in
theorem blk3 (t) (e : Fin 2) (r : Fin 512) (x : Fin 128) : (iblk m c 3 t : FVec Ideal S2x512x128 .bf16) (ix3 e r x) = KA (ix3 (hd (tp t) e) (row (tj t) r) x) := by
  rw [← eK]; blk_ext [iblk, idx0 t, row, hd, tp, tj]
include eV in
theorem blk4 (t) (r : Fin 512) (x : Fin 128) : (iblk m c 4 t : FVec Ideal S512x128 .bf16) (ix2 r x) = VV (ix2 (row (tj t) r) (ln (tp t) x)) := by
  rw [← eV]; blk_ext [iblk, idx0 t, row, ln, tp, tj]
include eL in
theorem blk5 (t) (n : Fin 32) (k : Fin 8) (b : Fin 512) : (iblk m c 5 t : FVec Ideal S1x32x8x512 .f32) (ix4 0 n k b) = LS (ix4 (tp t) n k b) := by
  rw [← eL]; blk_ext [iblk, idx0 t, tp]
include eQ in
theorem blk6 (t) (e : Fin 2) (a : Fin 16384) (x : Fin 128) : (iblk m c 6 t : FVec Ideal S2x16384x128 .bf16) (ix3 e a x) = QA (ix3 (hd (tp t) e) a x) := by
  rw [← eQ]; blk_ext [iblk, idx0 t, hd, tp]
include eD in
theorem blk7 (t) (a : Fin 16384) (x : Fin 128) : (iblk m c 7 t : FVec Ideal S16384x128 .bf16) (ix2 a x) = DO (ix2 a (ln (tp t) x)) := by
  rw [← eD]; blk_ext [iblk, idx0 t, ln, tp]
include eR in
theorem blk8 (t) (n : Fin 32) (k : Fin 8) (b : Fin 512) : (iblk m c 8 t : FVec Ideal S1x32x8x512 .f32) (ix4 0 n k b) = DR (ix4 (tp t) n k b) := by
  rw [← eR]; blk_ext [iblk, idx0 t, tp]

include eQ eK eL in
theorem pm_g (t : Fin (cfg0 (F := Ideal)).N) (a0) (e : Fin 2) (n : Fin 32) (r b : Fin 512) :
    PM (inSt m c t a0) (tj t).val e n r b = gP QA KA LS (hd (tp t) e) (row n b) (row (tj t) r) := by
  unfold PM gP
  refine if_congr (Iff.of_eq (row_le (tj t) n r b).symm) ?_ rfl
  rw [hp_hd, he_hd, rtile_row, rin_row]
  dsimp only [inSt]
  simp only [blk3 m c KA eK, blk6 m c QA eQ, blk5 m c LS eL]
include eQ eK eL eV eD eR in
theorem ds_g (t : Fin (cfg0 (F := Ideal)).N) (a0) (e : Fin 2) (n : Fin 32) (r b : Fin 512) :
    DS (inSt m c t a0) (tj t).val e n r b = gDS QA KA VV DO LS DR (hd (tp t) e) (row n b) (row (tj t) r) := by
  unfold DS gDS VM gV
  rw [pm_g m c QA KA LS eQ eK eL, hp_hd, he_hd, rtile_row, rin_row]
  dsimp only [inSt]
  simp only [blk4 m c VV eV, blk7 m c DO eD, blk8 m c DR eR]

theorem outAt_out (t : Fin (cfg0 (F := Ideal)).N) : (grid0.coords t 1).val = (tj t).val := (coord0 t).1

include eQ eK eL eV eD eR in
theorem outAt_dka (t : Fin (cfg0 (F := Ideal)).N) (e : Fin 2) (r : Fin 512) (x : Fin 128) :
    (outAt m c t).dka (ix3 e r x) = gK QA KA VV DO LS DR (hd (tp t) e) (row (tj t) r) x := by
  rw [outAt_eq, out_dka (grid0.coords t) (tj t) (outAt_out t)]
  unfold gK
  rw [sum_rows]
  simp only [ds_g m c QA KA VV DO LS DR eQ eK eV eD eL eR]
  dsimp only [inSt]
  simp only [blk6 m c QA eQ]
include eQ eK eL eD in
theorem outAt_dv (t : Fin (cfg0 (F := Ideal)).N) (r : Fin 512) (x : Fin 128) :
    (outAt m c t).dv (ix2 r x) = gVal QA KA DO LS (row (tj t) r) (ln (tp t) x) := by
  rw [outAt_eq, out_dv (grid0.coords t) (tj t) (outAt_out t)]
  unfold gVal
  rw [sum_rows]
  have e1 : lh (ln (tp t) x) = hd (tp t) (if x.val < 64 then 0 else 1) := by
    refine Fin.ext ?_
    show (128 * (tp t).val + x.val) / 64 = 2 * (tp t).val + (if x.val < 64 then (0 : Fin 2) else 1).val
    split_ifs with h
    · show _ = 2 * (tp t).val + 0; omega
    · show _ = 2 * (tp t).val + 1; omega
  rw [e1]
  simp only [pm_g m c QA KA LS eQ eK eL]
  dsimp only [inSt]
  simp only [blk7 m c DO eD]

/-- One key tile's part of a query gradient. -/
def qT (h : Fin 8) (a : Fin 16384) (x : Fin 128) (j : ℕ) : EReal :=
  if hj : j < 32 then ∑ r : Fin 512, gDS QA KA VV DO LS DR h a (row ⟨j, hj⟩ r) * KA (ix3 h (row ⟨j, hj⟩ r) x) else 0
theorem qT_sum (h : Fin 8) (a : Fin 16384) (x : Fin 128) : ∑ j ∈ Finset.range 32, qT QA KA VV DO LS DR h a x j = gQ QA KA VV DO LS DR h a x := by
  unfold gQ
  rw [sum_rows, Finset.sum_range]
  refine Finset.sum_congr rfl fun j _ => ?_
  unfold qT; rw [dif_pos j.isLt]

include eQ eK eL eV eD eR in
/-- The query accumulator after a point holds the sum over the pair's key tiles so far. -/
theorem aq_val : ∀ (j : ℕ) (hj : j < 32) (p : Fin 4) (e : Fin 2) (a : Fin 16384) (x : Fin 128),
    aq m c (32 * p.val + j + 1) (ix3 e a x) = ∑ j' ∈ Finset.range (j + 1), qT QA KA VV DO LS DR (hd p e) a x j' := by
  intro j
  induction j with
  | zero =>
    intro hj p e a x
    have ht : 32 * p.val + 0 < (cfg0 (F := Ideal)).N := by rw [N0]; omega
    have hx := aq_succ m c ⟨32 * p.val + 0, ht⟩
    rw [show 32 * p.val + 0 + 1 = (⟨32 * p.val + 0, ht⟩ : Fin (cfg0 (F := Ideal)).N).val + 1 from rfl, hx, outAt_eq, ← row_eta a,
      out_accq (grid0.coords ⟨32 * p.val + 0, ht⟩) (tj ⟨32 * p.val + 0, ht⟩) (outAt_out _), if_pos ((coord0 ⟨32 * p.val + 0, ht⟩).2.1.mpr (by show (32 * p.val + 0) % 32 = 0; omega)), zero_add]
    rw [Finset.sum_range_one]
    unfold qT
    rw [dif_pos hj]
    have ep : tp ⟨32 * p.val + 0, ht⟩ = p := Fin.ext (by show (32 * p.val + 0) / 32 = p.val; omega)
    have ej : tj ⟨32 * p.val + 0, ht⟩ = ⟨0, hj⟩ := Fin.ext (by show (32 * p.val + 0) % 32 = 0; omega)
    simp only [ds_g m c QA KA VV DO LS DR eQ eK eV eD eL eR]
    dsimp only [inSt]
    simp only [blk3 m c KA eK, ep, ej]
  | succ j ih =>
    intro hj p e a x
    have ht : 32 * p.val + (j + 1) < (cfg0 (F := Ideal)).N := by rw [N0]; omega
    have hx := aq_succ m c ⟨32 * p.val + (j + 1), ht⟩
    rw [show 32 * p.val + (j + 1) + 1 = (⟨32 * p.val + (j + 1), ht⟩ : Fin (cfg0 (F := Ideal)).N).val + 1 from rfl, hx, outAt_eq, ← row_eta a,
      out_accq (grid0.coords ⟨32 * p.val + (j + 1), ht⟩) (tj ⟨32 * p.val + (j + 1), ht⟩) (outAt_out _),
      if_neg (fun hh => by have := (coord0 ⟨32 * p.val + (j + 1), ht⟩).2.1.mp hh; change (32 * p.val + (j + 1)) % 32 = 0 at this; omega)]
    rw [Finset.sum_range_succ, ← ih (by omega) p e (row (rtile a) (rin a)) x]
    refine congrArg₂ (HAdd.hAdd) rfl ?_
    unfold qT
    rw [dif_pos hj]
    have ep : tp ⟨32 * p.val + (j + 1), ht⟩ = p := Fin.ext (by show (32 * p.val + (j + 1)) / 32 = p.val; omega)
    have ej : tj ⟨32 * p.val + (j + 1), ht⟩ = ⟨j + 1, hj⟩ := Fin.ext (by show (32 * p.val + (j + 1)) % 32 = j + 1; omega)
    simp only [ds_g m c QA KA VV DO LS DR eQ eK eV eD eL eR]
    dsimp only [inSt]
    simp only [blk3 m c KA eK, ep, ej]

theorem put_pair (x : S8x16384x128.Idx → EReal) (p : ℕ) (hp4 : p < 4) (off : Fin 3 → ℕ) (ho : off = ![2 * p, 0, 0]) (w : S2x16384x128.Idx → EReal) (h : Fin 8) (a : Fin 16384) (y : Fin 128) :
    put x off S2x16384x128.size w (ix3 h a y : S8x16384x128.Idx) = if (hp h).val = p then w (ix3 (he h) a y) else x (ix3 h a y) := by
  subst ho
  unfold put
  by_cases hh : (hp h).val = p
  · subst hh
    rw [if_pos rfl, dif_pos (fun b => match b with
      | 0 => (by show 2 * (h.val / 2) ≤ h.val ∧ h.val < 2 * (h.val / 2) + 2; omega)
      | 1 => ⟨Nat.zero_le _, (by show a.val < 0 + 16384; omega)⟩
      | 2 => ⟨Nat.zero_le _, (by show y.val < 0 + 128; omega)⟩)]
    refine congrArg w (funext fun b => Fin.ext ?_)
    match b with
    | 0 => show h.val - 2 * (h.val / 2) = h.val % 2; omega
    | 1 => show a.val - 0 = a.val; omega
    | 2 => show y.val - 0 = y.val; omega
  · rw [if_neg hh, dif_neg]
    intro hb
    have h0 := hb 0
    change 2 * p ≤ h.val ∧ h.val < 2 * p + 2 at h0
    exact hh (by show h.val / 2 = p; omega)

include eQ eK eL eV eD eR in
theorem hb_val : ∀ (n : ℕ), n ≤ 128 → ∀ (h : Fin 8) (a : Fin 16384) (x : Fin 128), 32 * ((hp h).val + 1) ≤ n →
    hb m c n (ix3 h a x) = gQ QA KA VV DO LS DR h a x := by
  intro n
  induction n with
  | zero => intro _ h a x hn; omega
  | succ n ih =>
    intro hle h a x hn
    have ht : n < (cfg0 (F := Ideal)).N := by rw [N0]; omega
    have hs := hb_succ m c ⟨n, ht⟩
    rw [show n + 1 = (⟨n, ht⟩ : Fin (cfg0 (F := Ideal)).N).val + 1 from rfl, hs]
    by_cases hc : n % 32 = 31
    · rw [if_pos ((coord0 ⟨n, ht⟩).2.2.1.mpr hc), put_pair _ (n / 32) (by omega) _ (coord0 ⟨n, ht⟩).2.2.2]
      by_cases hq : (hp h).val = n / 32
      · rw [if_pos hq, ← aq_succ m c ⟨n, ht⟩]
        have e1 : (⟨n, ht⟩ : Fin (cfg0 (F := Ideal)).N).val + 1 = 32 * (hp h).val + 31 + 1 := by show n + 1 = _; omega
        rw [e1, aq_val m c QA KA VV DO LS DR eQ eK eV eD eL eR 31 (by omega) (hp h) (he h) a x, hd_eta, qT_sum]
      · rw [if_neg hq]; exact ih (by omega) h a x (by omega)
    · rw [if_neg (fun hh => hc ((coord0 ⟨n, ht⟩).2.2.1.mp hh))]
      exact ih (by omega) h a x (by omega)

include eQ eK eL eV eD eR in
theorem reg_dqa (h : Fin 8) (a : Fin 16384) (x : Fin 128) : hb m c (cfg0 (F := Ideal)).N (ix3 h a x) = gQ QA KA VV DO LS DR h a x := by
  rw [N0]; exact hb_val m c QA KA VV DO LS DR eQ eK eV eD eL eR 128 (le_refl _) h a x (by have := (hp h).isLt; omega)

set_option maxHeartbeats 1600000 in
include eQ eK eL eV eD eR in
theorem reg_dka : (dats m 0 c).arrAt 9 (cfg0 (F := Ideal)).N = fun i : S8x16384x128.Idx => gK QA KA VV DO LS DR (i 0) (i 1) (i 2) := by
  refine (dats m 0 c).arrAt_eq_of_covers 9 _ (by decide +kernel) fun t _ y => ?_
  blk_simp
  rw [after_9]
  have hs (y0 : Fin 2) (y1 : Fin 512) (y2 : Fin 128) : gK QA KA VV DO LS DR (((View.whole main_v128_1).slice (win0_9.rect t)).emb (ix3 y0 y1 y2) 0)
      (((View.whole main_v128_1).slice (win0_9.rect t)).emb (ix3 y0 y1 y2) 1) (((View.whole main_v128_1).slice (win0_9.rect t)).emb (ix3 y0 y1 y2) 2)
      = gK QA KA VV DO LS DR (hd (tp t) y0) (row (tj t) y1) y2 := by
    congr 1
    · refine Fin.ext ?_
      show _ = 2 * (t.val / 32) + y0.val
      blk_simp [idx0 t]
      omega
    · refine Fin.ext ?_
      show _ = 512 * (t.val % 32) + y1.val
      blk_simp [idx0 t]
      omega
    · refine Fin.ext ?_
      blk_simp [idx0 t]
  idx_vars y
  rw [hs]
  exact outAt_dka m c QA KA VV DO LS DR eQ eK eV eD eL eR t _ _ _

set_option maxHeartbeats 1600000 in
include eQ eK eL eD in
theorem reg_dv : (dats m 0 c).arrAt 10 (cfg0 (F := Ideal)).N = fun i : S16384x512.Idx => gVal QA KA DO LS (i 0) (i 1) := by
  refine (dats m 0 c).arrAt_eq_of_covers 10 _ (by decide +kernel) fun t _ y => ?_
  blk_simp
  rw [after_10]
  have hs (y0 : Fin 512) (y1 : Fin 128) : gVal QA KA DO LS (((View.whole main_v128_2).slice (win0_10.rect t)).emb (ix2 y0 y1) 0)
      (((View.whole main_v128_2).slice (win0_10.rect t)).emb (ix2 y0 y1) 1) = gVal QA KA DO LS (row (tj t) y0) (ln (tp t) y1) := by
    congr 1
    · refine Fin.ext ?_
      show _ = 512 * (t.val % 32) + y0.val
      blk_simp [idx0 t]
      omega
    · refine Fin.ext ?_
      show _ = 128 * (t.val / 32) + y1.val
      blk_simp [idx0 t]
      omega
  idx_vars y
  rw [hs]
  exact outAt_dv m c QA KA DO LS eQ eK eD eL t _ _
end

end Cert.AttnI

end

end
-- ==== Proof.AttnKVal.lean ====
module

public import proofs.«01_k».proof.Proof.AttnHost
public import proofs.«01_k».proof.Proof.AttnReg
public import proofs.«01_k».proof.Proof.AttnReal

@[expose] public section

set_option maxRecDepth 16384

noncomputable section

namespace Cert.AttnK

open Idealize.ShloMosaic Idealize.ShloMosaic.TcCoe Idealize.SL.Sem
open Cert.AttnIdeal Cert.AttnIdeal.Gen
open Cert.AttnI (gP gV gDS gQ gK gVal hp he ln rtile rin hrow lh)
open Cert.AttnH (qa ka lg tp tot wt lse dr lsz t3 col sc8 dif)

/-! ### The gradients over the reals -/

theorem t3_coe (r : ℝ) (i : ℕ) : t3 (r : EReal) i = ((if i < 1 then r else 0 : ℝ) : EReal) := by
  unfold t3
  split_ifs
  · rfl
  · rw [← EReal.coe_sub, sub_self]
  · rw [← EReal.coe_sub, sub_self, ← EReal.coe_sub, sub_self]
theorem sum64 (g : Fin 128 → EReal) : ∑ y, g y = ∑ y : Fin 64, g ⟨y.val, by omega⟩ + ∑ y : Fin 64, g ⟨64 + y.val, by omega⟩ := Fin.sum_univ_add (a := 64) (b := 64) g
theorem sum9 (g : Fin 64 → EReal) : ∑ y, g y = ∑ y : Fin 9, g ⟨y.val, by omega⟩ + ∑ y : Fin 55, g ⟨9 + y.val, by omega⟩ := Fin.sum_univ_add (a := 9) (b := 55) g

section
variable (QN KN : FVec Ideal S8x16384x64 .f32) (FF : FVec Ideal S8x16384 .f32) (B : FVec Ideal S1x1 .f32) (VA CT : FVec Ideal S16384x512 .f32)
  (Q K V C : Fin 8 → Fin 16384 → Fin 64 → ℝ) (f : Fin 8 → Fin 16384 → ℝ) (b : ℝ)
  (hQ : ∀ h a y, QN (ix3 h a y) = (Q h a y : EReal)) (hK : ∀ h a y, KN (ix3 h a y) = (K h a y : EReal))
  (hV : ∀ h a y, VA (ix2 a (col h y)) = (V h a y : EReal)) (hC : ∀ h a y, CT (ix2 a (col h y)) = (C h a y : EReal))
  (hf : ∀ h a, FF (ix2 h a) = (f h a : EReal)) (hB : B (ix2 0 0) = (b : EReal))
  (SS : FVec Ideal S8x16384x16384 .f32) (hS : ∀ h a k, SS (ix3 h a k) = lg QN KN FF h a k)
include hQ hK hf in
theorem lg_eq (h : Fin 8) (a k : Fin 16384) : lg QN KN FF h a k = AttnZ.lgr (Q h) (K h) (f h) a k := by
  unfold lg AttnZ.lgr
  rw [AttnZ.sum_coe (f := fun y => Q h a y * K h k y) (fun y => by rw [hQ, hK, ← EReal.coe_mul]), hf, hf, ← EReal.coe_mul, ← EReal.coe_add, ← EReal.coe_sub]
  rfl
include hQ hK hf hS in
theorem tp_eq (h : Fin 8) (a : Fin 16384) : tp SS h a = (AttnZ.T (Q h) (K h) (f h) a : EReal) :=
  (congrArg (fun g => Finset.fold max (⊥ : EReal) g Finset.univ) (funext fun k => (hS h a k).trans (lg_eq QN KN FF Q K f hQ hK hf h a k))).trans (AttnZ.T_eq (Q h) (K h) (f h) a)
include hQ hK hf hS in
theorem ex_eq (h : Fin 8) (a k : Fin 16384) : Ideal.exp (SS (ix3 h a k) - tp SS h a) = (AttnZ.e (Q h) (K h) (f h) a k : EReal) := by
  rw [hS, lg_eq QN KN FF Q K f hQ hK hf, tp_eq QN KN FF Q K f hQ hK hf SS hS]
  exact AttnZ.exp_lgr _ _ _ a k
include hQ hK hf hS in
theorem tot_eq (h : Fin 8) (a : Fin 16384) : tot SS h a = (AttnZ.Z (Q h) (K h) (f h) a : EReal) :=
  AttnZ.sum_coe fun k => ex_eq QN KN FF Q K f hQ hK hf SS hS h a k
include hQ hK hf hS in
theorem wt_eq (h : Fin 8) (a k : Fin 16384) : wt SS h a k = (AttnZ.P (Q h) (K h) (f h) a k : EReal) := by
  unfold wt
  rw [ex_eq QN KN FF Q K f hQ hK hf SS hS, tot_eq QN KN FF Q K f hQ hK hf SS hS]
  exact AttnZ.div_P _ _ _ a k
include hQ hK hf hS hV hC in
theorem dr_eq (h : Fin 8) (a : Fin 16384) : dr SS VA CT h a = (AttnZ.dr (Q h) (K h) (V h) (C h) (f h) a : EReal) := by
  refine Eq.trans ?_ (congrArg _ (AttnZ.dr_kernel (Q h) (K h) (V h) (C h) (f h) a))
  refine AttnZ.sum_coe fun y => ?_
  rw [hC, AttnZ.sum_coe (f := fun k => AttnZ.P (Q h) (K h) (f h) a k * V h k y) (fun k => by rw [wt_eq QN KN FF Q K f hQ hK hf SS hS, hV, ← EReal.coe_mul]), ← EReal.coe_mul]
include hQ hK hf hS hB in
theorem lse_eq (h : Fin 8) (a : Fin 16384) : lse SS B h a = (AttnZ.T (Q h) (K h) (f h) a : EReal) + Ideal.log (AttnZ.Z (Q h) (K h) (f h) a : EReal) - (b : EReal) := by
  unfold lse lsz
  rw [tp_eq QN KN FF Q K f hQ hK hf SS hS, tot_eq QN KN FF Q K f hQ hK hf SS hS, hB]

theorem qa_lo (h : Fin 8) (a : Fin 16384) (y : Fin 64) : qa QN FF B h a ⟨y.val, by omega⟩ = QN (ix3 h a y) * ((1 / 8 : ℝ) : EReal) := dif_pos y.isLt
theorem ka_lo (h : Fin 8) (a : Fin 16384) (y : Fin 64) : ka KN FF h a ⟨y.val, by omega⟩ = KN (ix3 h a y) := dif_pos y.isLt
include hf hB in
theorem qa_hi (h : Fin 8) (a : Fin 16384) (y : Fin 64) : qa QN FF B h a ⟨64 + y.val, by omega⟩
    = ((if y.val = 0 then f h a else if y.val < 3 then 0 else if y.val < 6 then 1 else if y.val = 6 then -b else 0 : ℝ) : EReal) := by
  have hz : (0 : EReal) - (b : EReal) = ((-b : ℝ) : EReal) := by rw [zero_sub, EReal.coe_neg]
  unfold qa
  rw [dif_neg (by simp)]
  simp only [hf, hB, hz, t3_coe]
  have e : 64 + y.val - 64 = y.val := by omega
  rw [e]
  split_ifs <;> first | rfl | (exfalso; omega)
include hf in
theorem ka_hi (h : Fin 8) (a : Fin 16384) (y : Fin 64) : ka KN FF h a ⟨64 + y.val, by omega⟩
    = ((if y.val < 3 then 1 else if y.val = 3 then -(f h a) else if y.val < 6 then 0 else if y.val < 9 then 1 else 0 : ℝ) : EReal) := by
  unfold ka
  rw [dif_neg (by simp)]
  simp only [hf, t3_coe, ← EReal.coe_neg]
  have e : 64 + y.val - 64 = y.val := by omega
  rw [e]
  split_ifs <;> first | rfl | (exfalso; omega) | (rw [neg_zero])
include hQ hK hf hB in
theorem lanes (h : Fin 8) (a k : Fin 16384) : ∑ y : Fin 128, ka KN FF h k y * qa QN FF B h a y = ((AttnZ.s (Q h) (K h) (f h) a k - b : ℝ) : EReal) := by
  rw [sum64, AttnZ.sum_coe (f := fun y => K h k y * (Q h a y * (1 / 8))) (fun y => by rw [ka_lo, qa_lo, hQ, hK, ← EReal.coe_mul, ← EReal.coe_mul]),
    AttnZ.sum_coe (fun y => by rw [ka_hi KN FF f hf, qa_hi QN FF B f b hf hB, ← EReal.coe_mul]), ← EReal.coe_add]
  refine congrArg _ ?_
  have e : (∑ y : Fin 64, (if y.val < 3 then (1 : ℝ) else if y.val = 3 then -(f h k) else if y.val < 6 then 0 else if y.val < 9 then 1 else 0)
      * (if y.val = 0 then f h a else if y.val < 3 then 0 else if y.val < 6 then 1 else if y.val = 6 then -b else 0)) = f h a - f h k - b := by
    simp [Fin.sum_univ_succ]; ring
  rw [e, AttnZ.s, Finset.sum_mul, Finset.sum_congr rfl fun y (_ : y ∈ Finset.univ) => show K h k y * (Q h a y * (1 / 8)) = Q h a y * K h k y * (1 / 8) by ring]
  ring

variable (QA KA : FVec Ideal S8x16384x128 .bf16) (VV DO : FVec Ideal S16384x512 .bf16) (LS DR : FVec Ideal S4x32x8x512 .f32)
  (hQA : ∀ h a x, QA (ix3 h a x) = qa QN FF B h a x) (hKA : ∀ h a x, KA (ix3 h a x) = ka KN FF h a x) (hVV : ∀ i, VV i = VA i) (hDO : ∀ i, DO i = CT i)
  (hLS : ∀ h a, LS (ix4 (hp h) (rtile a) (hrow (he h)) (rin a)) = lse SS B h a) (hDR : ∀ h a, DR (ix4 (hp h) (rtile a) (hrow (he h)) (rin a)) = dr SS VA CT h a)
include hQ hK hf hB hS hQA hKA hLS in
theorem gP_eq (h : Fin 8) (a k : Fin 16384) : gP QA KA LS h a k = (AttnZ.P (Q h) (K h) (f h) a k : EReal) := by
  refine Eq.trans ?_ (AttnZ.P_kernel (Q h) (K h) (f h) b a k)
  unfold gP
  rw [hLS, lse_eq QN KN FF B Q K f b hQ hK hf hB SS hS, Finset.sum_congr rfl fun y (_ : y ∈ Finset.univ) => show KA (ix3 h k y) * QA (ix3 h a y) = ka KN FF h k y * qa QN FF B h a y by rw [hKA, hQA],
    lanes QN KN FF B Q K f b hQ hK hf hB]
include hV hC hVV hDO in
theorem dP_eq (h : Fin 8) (a k : Fin 16384) : ∑ y : Fin 128, gV VV h k y * DO (ix2 a (ln (hp h) y)) = (AttnZ.dP (V h) (C h) a k : EReal) := by
  have z (n : ℕ) : n % 2 = 0 ∨ n % 2 = 1 := by omega
  have key (y : Fin 64) : VA (ix2 k (col h y)) * CT (ix2 a (col h y)) = ((C h a y * V h k y : ℝ) : EReal) := by rw [hV, hC, ← EReal.coe_mul, mul_comm]
  rw [sum64]
  have e0 (y : Fin 64) : ¬ (64 + y.val < 64) := by omega
  rcases z h.val with hz | hz
  · have h0 : he h = 0 := Fin.ext hz
    rw [Finset.sum_eq_zero (f := fun y : Fin 64 => gV VV h k ⟨64 + y.val, by omega⟩ * DO (ix2 a (ln (hp h) ⟨64 + y.val, by omega⟩)))
      (fun y _ => by unfold gV; rw [if_neg (e0 y), if_pos h0, zero_mul]), add_zero]
    refine AttnZ.sum_coe fun y => Eq.trans ?_ (key y)
    have hl : ln (hp h) ⟨y.val, by omega⟩ = col h y := Fin.ext (by show 128 * (h.val / 2) + y.val = h.val * 64 + y.val; omega)
    unfold gV
    rw [if_pos y.isLt, if_pos h0, hl, hVV, hDO]
  · have h1 : ¬ he h = 0 := fun h0 => by have := congrArg Fin.val h0; change h.val % 2 = 0 at this; omega
    rw [Finset.sum_eq_zero (f := fun y : Fin 64 => gV VV h k ⟨y.val, by omega⟩ * DO (ix2 a (ln (hp h) ⟨y.val, by omega⟩)))
      (fun y _ => by unfold gV; rw [if_pos y.isLt, if_neg h1, zero_mul]), zero_add]
    refine AttnZ.sum_coe fun y => Eq.trans ?_ (key y)
    have hl : ln (hp h) ⟨64 + y.val, by omega⟩ = col h y := Fin.ext (by show 128 * (h.val / 2) + (64 + y.val) = h.val * 64 + y.val; omega)
    unfold gV
    rw [if_neg (e0 y), if_neg h1, hl, hVV, hDO]
include hQ hK hV hC hf hB hS hQA hKA hVV hDO hLS hDR in
theorem gDS_eq (h : Fin 8) (a k : Fin 16384) : gDS QA KA VV DO LS DR h a k = (AttnZ.DS (Q h) (K h) (V h) (C h) (f h) a k : EReal) := by
  unfold gDS
  rw [gP_eq QN KN FF B Q K f b hQ hK hf hB SS hS QA KA LS hQA hKA hLS, dP_eq VA CT V C hV hC VV DO hVV hDO, hDR,
    dr_eq QN KN FF VA CT Q K V C f hQ hK hV hC hf SS hS, ← EReal.coe_sub, ← EReal.coe_mul]
  rfl
include hQ hK hV hC hf hB hS hQA hKA hVV hDO hLS hDR in
theorem dq_eq (h : Fin 8) (a : Fin 16384) (y : Fin 64) : sc8 (gQ QA KA VV DO LS DR h a ⟨y.val, by omega⟩)
    = ((∑ k, AttnZ.DS (Q h) (K h) (V h) (C h) (f h) a k * (1 / 8) * K h k y : ℝ) : EReal) := by
  unfold gQ sc8
  rw [AttnZ.sum_coe (f := fun k => AttnZ.DS (Q h) (K h) (V h) (C h) (f h) a k * K h k y) (fun k => by
    rw [gDS_eq QN KN FF B VA CT Q K V C f b hQ hK hV hC hf hB SS hS QA KA VV DO LS DR hQA hKA hVV hDO hLS hDR, hKA, ka_lo, hK, ← EReal.coe_mul]), ← EReal.coe_mul, Finset.sum_mul]
  exact congrArg _ (Finset.sum_congr rfl fun k _ => by ring)
include hQ hK hV hC hf hB hS hQA hKA hVV hDO hLS hDR in
theorem dk_eq (h : Fin 8) (k : Fin 16384) (y : Fin 64) : gK QA KA VV DO LS DR h k ⟨y.val, by omega⟩
    = ((∑ a, AttnZ.DS (Q h) (K h) (V h) (C h) (f h) a k * (1 / 8) * Q h a y : ℝ) : EReal) :=
  AttnZ.sum_coe fun a => by
    rw [gDS_eq QN KN FF B VA CT Q K V C f b hQ hK hV hC hf hB SS hS QA KA VV DO LS DR hQA hKA hVV hDO hLS hDR, hQA, qa_lo, hQ, ← EReal.coe_mul, ← EReal.coe_mul]
    exact congrArg _ (by ring)
include hQ hK hV hC hf hB hS hQA hKA hVV hDO hLS hDR in
theorem df_eq (h : Fin 8) (a : Fin 16384) : dif (gQ QA KA VV DO LS DR h a 64) (gK QA KA VV DO LS DR h a 67)
    = (((∑ j, -AttnZ.DS (Q h) (K h) (V h) (C h) (f h) j a) + ∑ k, AttnZ.DS (Q h) (K h) (V h) (C h) (f h) a k : ℝ) : EReal) := by
  have e1 : gQ QA KA VV DO LS DR h a 64 = ((∑ k, AttnZ.DS (Q h) (K h) (V h) (C h) (f h) a k : ℝ) : EReal) := AttnZ.sum_coe fun k => by
    rw [gDS_eq QN KN FF B VA CT Q K V C f b hQ hK hV hC hf hB SS hS QA KA VV DO LS DR hQA hKA hVV hDO hLS hDR, hKA]
    refine (congrArg _ (ka_hi KN FF f hf h k 0)).trans ?_
    rw [← EReal.coe_mul]; exact congrArg _ (by simp)
  have e2 : gK QA KA VV DO LS DR h a 67 = ((∑ j, AttnZ.DS (Q h) (K h) (V h) (C h) (f h) j a : ℝ) : EReal) := AttnZ.sum_coe fun j => by
    rw [gDS_eq QN KN FF B VA CT Q K V C f b hQ hK hV hC hf hB SS hS QA KA VV DO LS DR hQA hKA hVV hDO hLS hDR, hQA]
    refine (congrArg _ (qa_hi QN FF B f b hf hB h j 3)).trans ?_
    rw [← EReal.coe_mul]; exact congrArg _ (by simp)
  unfold dif
  rw [e1, e2, ← EReal.coe_sub, Finset.sum_neg_distrib]
  exact congrArg _ (by ring)
include hQ hK hC hf hB hS hQA hKA hDO hLS in
theorem dv_eq (h : Fin 8) (k : Fin 16384) (y : Fin 64) : gVal QA KA DO LS k (col h y) = ((∑ a, C h a y * AttnZ.P (Q h) (K h) (f h) a k : ℝ) : EReal) := by
  have hl : lh (col h y) = h := Fin.ext (by show (h.val * 64 + y.val) / 64 = h.val; omega)
  unfold gVal
  rw [hl]
  exact AttnZ.sum_coe fun a => by rw [gP_eq QN KN FF B Q K f b hQ hK hf hB SS hS QA KA LS hQA hKA hLS, hDO, hC, ← EReal.coe_mul, mul_comm]
end

end Cert.AttnK

end

end
-- ==== Proof.AttnKEnd.lean ====
module

public import proofs.«01_k».proof.Proof.AttnSpec
public import proofs.«01_k».proof.Proof.AttnKVal
public import proofs.«01_k».proof.Proof.AttnRun

@[expose] public section

set_option maxRecDepth 16384

noncomputable section

namespace Cert.AttnK

open Idealize.ShloMosaic Idealize.ShloMosaic.TcCoe Idealize.SL.Sem
open Cert.AttnIdeal Cert.AttnIdeal.Gen
open Cert.AttnI (V0 Wend hb dats pre0 post0 R0 G gP gV gDS gQ gK gVal hp he rtile rin hrow)
open Cert.AttnF (IsR qnv ffv Qr Fr Cr outQ outK outF outV Fin8 lsv cs gate rms shift qnv_eq ffv_eq c_eq shift_real)

section
variable (A : Valuation τ sig (Elt Ideal))
  (X0 X1 X2 X7 : FVec Ideal S16384x512 .f32) (X3 : FVec Ideal S16384x8 .f32) (X4 X5 : FVec Ideal S1x64 .f32) (X6 : FVec Ideal S1x8 .f32)
  (e0 : A (Proc.devRef .tc main_arg0) = X0) (e1 : A (Proc.devRef .tc main_arg1) = X1) (e2 : A (Proc.devRef .tc main_arg2) = X2) (e3 : A (Proc.devRef .tc main_arg3) = X3)
  (e4 : A (Proc.devRef .tc main_arg4) = X4) (e5 : A (Proc.devRef .tc main_arg5) = X5) (e6 : A (Proc.devRef .tc main_arg6) = X6) (e7 : A (Proc.devRef .tc main_arg7) = X7)
/-- The buffers after the first five lists, and after seven. -/
def V4 : Valuation τ sig (Elt Ideal) := StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) A))))
def V6 : Valuation τ sig (Elt Ideal) := StableHlo.after (hostOps0_6 (F := Ideal)) (StableHlo.after (hostOps0_5 (F := Ideal)) (V4 A))

include e0 e4 in
theorem e14 : V4 A (Proc.devRef .tc main_v14) = qnv X0 X4 :=
  (AttnF.k34 _ main_v14 (by decide)).trans (funext fun i => by idx_vars i; exact AttnF.f14 A X0 X4 e0 e4 i0 i1 i2)
include e1 e5 in
theorem e29 : V4 A (Proc.devRef .tc main_v29) = qnv X1 X5 :=
  (AttnF.k34 _ main_v29 (by decide)).trans (funext fun i => by idx_vars i; exact AttnF.f29 A X1 X5 e1 e5 i0 i1 i2)
include e3 e6 in
theorem e34 : V4 A (Proc.devRef .tc main_v34) = ffv X3 X6 := by
  refine (AttnF.k4 _ main_v34 (by decide)).trans (funext fun i => ?_)
  idx_vars i
  refine (AttnF.f34 _ _ rfl i0 i1).trans (congrFun (a := ix2 i1 i0) ((AttnF.f33 _ _ rfl).trans (congrArg cs (funext fun j => ?_))))
  idx_vars j
  exact (AttnF.f32 _ _ rfl j0 j1).trans (congrArg AttnF.ls (AttnF.f31 A X3 X6 e3 e6 j0 j1))
theorem u4 (r : Ref sig .tc) (hr : r ∈ [main_arg2, main_arg7]) : V4 A (Proc.devRef .tc r) = A (Proc.devRef .tc r) := by
  unfold V4
  simp only [List.mem_cons, List.not_mem_nil, or_false] at hr
  rcases hr with rfl | rfl <;> after_reads_simp
theorem u2 (r : Ref sig .tc) (hr : r ∈ [main_arg4, main_arg5]) : (StableHlo.after (hostOps0_2 (F := Ideal)) (StableHlo.after (hostOps0_1 (F := Ideal)) (StableHlo.after (hostOps0 (F := Ideal)) A))) (Proc.devRef .tc r) = A (Proc.devRef .tc r) := by
  simp only [List.mem_cons, List.not_mem_nil, or_false] at hr
  rcases hr with rfl | rfl <;> after_reads_simp
include e4 e5 in
theorem e46 : (V4 A (Proc.devRef .tc main_v46) : FVec Ideal S1x1 .f32) (ix2 0 0) = shift X4 X5 :=
  AttnF.f46 _ X4 X5 ((u2 A main_arg4 (by decide)).trans e4) ((u2 A main_arg5 (by decide)).trans e5)
include e0 e1 e3 e4 e5 e6 in
theorem e98 : ∀ h a k, (V6 A (Proc.devRef .tc main_v98) : FVec Ideal S8x16384x16384 .f32) (ix3 h a k) = AttnH.lg (qnv X0 X4) (qnv X1 X5) (ffv X3 X6) h a k :=
  AttnH.h98 _ _ _ _ (e14 A X0 X4 e0 e4) (e29 A X1 X5 e1 e5) (e34 A X3 X6 e3 e6)
include e2 in
theorem e2' : V6 A (Proc.devRef .tc main_arg2) = X2 := (AttnH.u56 _ _ (by decide)).trans ((u4 A main_arg2 (by decide)).trans e2)
include e7 in
theorem e7' : V6 A (Proc.devRef .tc main_arg7) = X7 := (AttnH.u56 _ _ (by decide)).trans ((u4 A main_arg7 (by decide)).trans e7)
theorem e46' : V6 A (Proc.devRef .tc main_v46) = V4 A (Proc.devRef .tc main_v46) := AttnH.u56 _ _ (by decide)
end

section
variable (m : (ℓ : Loc nD τ sig) → Buf (Elt Ideal) ℓ) (c : Dev nD)
abbrev AA : Valuation τ sig (Elt Ideal) := fun b => m (c, b)
theorem V0_eq : V0 m c = AttnH.aft7 (V6 (AA m c)) := by
  unfold V0 V6 V4 pre0
  simp only [List.flatten_cons, List.flatten_nil, List.append_nil, StableHlo.after_append]

variable (X0 X1 X2 X7 : FVec Ideal S16384x512 .f32) (X3 : FVec Ideal S16384x8 .f32) (X4 X5 : FVec Ideal S1x64 .f32) (X6 : FVec Ideal S1x8 .f32)
  (e0 : AA m c (Proc.devRef .tc main_arg0) = X0) (e1 : AA m c (Proc.devRef .tc main_arg1) = X1) (e2 : AA m c (Proc.devRef .tc main_arg2) = X2) (e3 : AA m c (Proc.devRef .tc main_arg3) = X3)
  (e4 : AA m c (Proc.devRef .tc main_arg4) = X4) (e5 : AA m c (Proc.devRef .tc main_arg5) = X5) (e6 : AA m c (Proc.devRef .tc main_arg6) = X6) (e7 : AA m c (Proc.devRef .tc main_arg7) = X7)
abbrev BB : FVec Ideal S1x1 .f32 := V4 (AA m c) (Proc.devRef .tc main_v46)
abbrev SSv : FVec Ideal S8x16384x16384 .f32 := V6 (AA m c) (Proc.devRef .tc main_v98)
include e0 e3 e4 e6 in
theorem w77 (h : Fin 8) (a : Fin 16384) (x : Fin 128) : (V0 m c (Proc.devRef .tc main_v77) : FVec Ideal S8x16384x128 .bf16) (ix3 h a x) = AttnH.qa (qnv X0 X4) (ffv X3 X6) (BB m c) h a x := by
  rw [V0_eq, AttnH.u710 _ _ (by decide)]
  unfold V6
  rw [AttnH.u6 _ _ (by decide)]
  exact AttnH.h77 _ _ _ _ (e14 _ X0 X4 e0 e4) (e34 _ X3 X6 e3 e6) rfl h a x
include e1 e3 e5 e6 in
theorem w80 (h : Fin 8) (a : Fin 16384) (x : Fin 128) : (V0 m c (Proc.devRef .tc main_v80) : FVec Ideal S8x16384x128 .bf16) (ix3 h a x) = AttnH.ka (qnv X1 X5) (ffv X3 X6) h a x := by
  rw [V0_eq, AttnH.u710 _ _ (by decide)]
  unfold V6
  rw [AttnH.u6 _ _ (by decide)]
  exact AttnH.h80 _ _ _ (BB m c) (e29 _ X1 X5 e1 e5) (e34 _ X3 X6 e3 e6) rfl h a x
include e2 in
theorem w120 (i) : (V0 m c (Proc.devRef .tc main_v120) : FVec Ideal S16384x512 .bf16) i = X2 i := by
  rw [V0_eq]
  exact AttnH.h120 _ _ (e2' _ X2 e2) i
include e7 in
theorem w121 (i) : (V0 m c (Proc.devRef .tc main_v121) : FVec Ideal S16384x512 .bf16) i = X7 i := by
  rw [V0_eq]
  exact AttnH.h121 _ _ (e7' _ X7 e7) i
theorem w124 (h : Fin 8) (a : Fin 16384) : (V0 m c (Proc.devRef .tc main_v124) : FVec Ideal S4x32x8x512 .f32) (ix4 (hp h) (rtile a) (hrow (he h)) (rin a)) = AttnH.lse (SSv m c) (BB m c) h a := by
  rw [V0_eq]
  unfold AttnH.aft7
  rw [AttnH.p124u]
  refine (AttnH.p124 _ (hp h) (rtile a) (hrow (he h)) (rin a) (he h).isLt).trans ((AttnH.p123 _ _).trans ((AttnH.tr _ h a (he h) rfl).trans ?_))
  exact AttnH.h110 _ _ _ rfl (e46' _) h a
include e2 e7 in
theorem w127 (h : Fin 8) (a : Fin 16384) : (V0 m c (Proc.devRef .tc main_v127) : FVec Ideal S4x32x8x512 .f32) (ix4 (hp h) (rtile a) (hrow (he h)) (rin a)) = AttnH.dr (SSv m c) X2 X7 h a := by
  rw [V0_eq]
  refine (AttnH.p127 _ (hp h) (rtile a) (hrow (he h)) (rin a) (he h).isLt).trans ((AttnH.p126 _ _).trans ((AttnH.tr _ h a (he h) rfl).trans ?_))
  rw [AttnH.p119]
  exact AttnH.h119 _ _ _ _ rfl (e2' _ X2 e2) (e7' _ X7 e7) h a

/-- The buffers after the region. -/
abbrev WA : Valuation τ sig (Elt Ideal) := Pipeline.withArrays spec0 c (Pipeline.withR (V0 m c) R0 c (G m c)) fun w => (dats m 0 c).arrAt w (cfg0 (F := Ideal)).N
theorem Wend_eq : Wend m c = StableHlo.after (hostOps1 (F := Ideal)) (WA m c) := by
  unfold Wend post0
  simp only [List.flatten_cons, List.flatten_nil, List.append_nil]
theorem wa_q : WA m c (Proc.devRef .tc main_v128_0) = hb m c (cfg0 (F := Ideal)).N := by
  refine (Pipeline.withArrays_of_ne spec0 c _ _ main_v128_0 (by decide)).trans ?_
  rw [Pipeline.withR_of_mem _ _ _ _ _ (show main_v128_0 ∈ R0 by decide)]
  exact Cert.AttnI.G_eq m c
theorem arr_inj : Function.Injective (Pipeline.arrRef spec0) := by decide
theorem wa_k : WA m c (Proc.devRef .tc main_v128_1) = (dats m 0 c).arrAt 9 (cfg0 (F := Ideal)).N :=
  Pipeline.withArrays_arr spec0 arr_inj c _ _ 9
variable (hf : Fin8 X0 X1 X2 X7 X3 X4 X5 X6)
include e0 e1 e2 e3 e4 e5 e6 e7 hf in
theorem k131 : Wend m c (Proc.devRef .tc main_v131) = fun i : S8x16384x64.Idx => outQ X0 X1 X2 X7 X3 X4 X5 X6 (i 0) (i 1) (i 2) := by
  funext i
  idx_vars i
  rw [Wend_eq]
  refine (AttnH.q131 _ i0 i1 i2).trans ?_
  rw [wa_q]
  refine (congrArg AttnH.sc8 (Cert.AttnI.reg_dqa m c _ _ _ _ _ _ rfl rfl rfl rfl rfl rfl i0 i1 _)).trans ?_
  exact dq_eq (qnv X0 X4) (qnv X1 X5) (ffv X3 X6) (BB m c) X2 X7 (Qr X0 X4) (Qr X1 X5) (Cr X2) (Cr X7) (Fr X3 X6) (shift X4 X5).toReal
    (qnv_eq X0 X4 hf.h0 hf.h4) (qnv_eq X1 X5 hf.h1 hf.h5) (c_eq X2 hf.h2) (c_eq X7 hf.h7) (ffv_eq X3 X6 hf.h3 hf.h6)
    ((e46 _ X4 X5 e4 e5).trans (shift_real X4 X5 hf.h4 hf.h5).eq) (SSv m c) (e98 _ X0 X1 X3 X4 X5 X6 e0 e1 e3 e4 e5 e6)
    _ _ _ _ _ _ (w77 m c X0 X3 X4 X6 e0 e3 e4 e6) (w80 m c X1 X3 X5 X6 e1 e3 e5 e6) (w120 m c X2 e2) (w121 m c X7 e7) (w124 m c) (w127 m c X2 X7 e2 e7) i0 i1 i2
include e0 e1 e2 e3 e4 e5 e6 e7 hf in
theorem k132 : Wend m c (Proc.devRef .tc main_v132) = fun i : S8x16384x64.Idx => outK X0 X1 X2 X7 X3 X4 X5 X6 (i 0) (i 1) (i 2) := by
  funext i
  idx_vars i
  rw [Wend_eq]
  refine (AttnH.q132 _ i0 i1 i2).trans ?_
  rw [wa_k, Cert.AttnI.reg_dka m c _ _ _ _ _ _ rfl rfl rfl rfl rfl rfl]
  exact dk_eq (qnv X0 X4) (qnv X1 X5) (ffv X3 X6) (BB m c) X2 X7 (Qr X0 X4) (Qr X1 X5) (Cr X2) (Cr X7) (Fr X3 X6) (shift X4 X5).toReal
    (qnv_eq X0 X4 hf.h0 hf.h4) (qnv_eq X1 X5 hf.h1 hf.h5) (c_eq X2 hf.h2) (c_eq X7 hf.h7) (ffv_eq X3 X6 hf.h3 hf.h6)
    ((e46 _ X4 X5 e4 e5).trans (shift_real X4 X5 hf.h4 hf.h5).eq) (SSv m c) (e98 _ X0 X1 X3 X4 X5 X6 e0 e1 e3 e4 e5 e6)
    _ _ _ _ _ _ (w77 m c X0 X3 X4 X6 e0 e3 e4 e6) (w80 m c X1 X3 X5 X6 e1 e3 e5 e6) (w120 m c X2 e2) (w121 m c X7 e7) (w124 m c) (w127 m c X2 X7 e2 e7) i0 i1 i2
include e0 e1 e2 e3 e4 e5 e6 e7 hf in
theorem k137 : Wend m c (Proc.devRef .tc main_v137) = fun i : S8x16384.Idx => outF X0 X1 X2 X7 X3 X4 X5 X6 (i 0) (i 1) := by
  funext i
  idx_vars i
  rw [Wend_eq]
  refine (AttnH.q137 _ i0 i1).trans ?_
  rw [wa_q, wa_k, Cert.AttnI.reg_dka m c _ _ _ _ _ _ rfl rfl rfl rfl rfl rfl]
  refine (congrArg (fun z => AttnH.dif z _) (Cert.AttnI.reg_dqa m c _ _ _ _ _ _ rfl rfl rfl rfl rfl rfl i0 i1 64)).trans ?_
  exact df_eq (qnv X0 X4) (qnv X1 X5) (ffv X3 X6) (BB m c) X2 X7 (Qr X0 X4) (Qr X1 X5) (Cr X2) (Cr X7) (Fr X3 X6) (shift X4 X5).toReal
    (qnv_eq X0 X4 hf.h0 hf.h4) (qnv_eq X1 X5 hf.h1 hf.h5) (c_eq X2 hf.h2) (c_eq X7 hf.h7) (ffv_eq X3 X6 hf.h3 hf.h6)
    ((e46 _ X4 X5 e4 e5).trans (shift_real X4 X5 hf.h4 hf.h5).eq) (SSv m c) (e98 _ X0 X1 X3 X4 X5 X6 e0 e1 e3 e4 e5 e6)
    _ _ _ _ _ _ (w77 m c X0 X3 X4 X6 e0 e3 e4 e6) (w80 m c X1 X3 X5 X6 e1 e3 e5 e6) (w120 m c X2 e2) (w121 m c X7 e7) (w124 m c) (w127 m c X2 X7 e2 e7) i0 i1
include e0 e1 e3 e4 e5 e6 e7 hf in
theorem k128 : (dats m 0 c).arrAt 10 (cfg0 (F := Ideal)).N = fun i : S16384x512.Idx => outV X0 X1 X7 X3 X4 X5 X6 (AttnF.ch (i 1)) (i 0) (AttnF.cy (i 1)) := by
  rw [Cert.AttnI.reg_dv m c _ _ _ _ rfl rfl rfl rfl]
  funext i
  refine (congrArg (gVal _ _ _ _ (i 0)) (AttnF.col_eta (i 1)).symm).trans ?_
  exact dv_eq (qnv X0 X4) (qnv X1 X5) (ffv X3 X6) (BB m c) X7 (Qr X0 X4) (Qr X1 X5) (Cr X7) (Fr X3 X6) (shift X4 X5).toReal
    (qnv_eq X0 X4 hf.h0 hf.h4) (qnv_eq X1 X5 hf.h1 hf.h5) (c_eq X7 hf.h7) (ffv_eq X3 X6 hf.h3 hf.h6)
    ((e46 _ X4 X5 e4 e5).trans (shift_real X4 X5 hf.h4 hf.h5).eq) (SSv m c) (e98 _ X0 X1 X3 X4 X5 X6 e0 e1 e3 e4 e5 e6)
    _ _ _ _ (w77 m c X0 X3 X4 X6 e0 e3 e4 e6) (w80 m c X1 X3 X5 X6 e1 e3 e5 e6) (w121 m c X7 e7) (w124 m c) _ (i 0) _
end

end Cert.AttnK

end

end
-- ==== Proof.AttnRefA.lean ====
module

public import proofs.«01_k».proof.Proof.Gen.AttnRefIdeal.Run
public import Idealize.ShloMosaic.Lib.Pointwise
public import Idealize.ShloMosaic.Lib.IdealHost
public import Idealize.ShloMosaic.Lib.StableHlo.ReadAt
public import Idealize.ShloMosaic.Lib.WordCmp

@[expose] public section

set_option maxRecDepth 16384

noncomputable section

namespace Cert.AttnR

open Idealize.ShloMosaic Idealize.ShloMosaic.TcCoe Idealize.SL.Sem
open Cert.AttnRefIdeal Cert.AttnRefIdeal.Gen Cert.AttnRefIdeal.Value

theorem c_eighth : Ideal.ofBits .f32 0x3E000000#32 = ((1 / 8 : ℝ) : EReal) := by
  simp [Ideal.ofBits, Ideal.ieee, -EReal.coe_mul]; norm_num
theorem c_bot : Ideal.ofBits .f32 0xFF800000#32 = ⊥ := by
  simp [Ideal.ofBits, Ideal.ieee]
theorem c_one : Ideal.ofBits .f32 0x3F800000#32 = 1 := by
  simp [Ideal.ofBits, Ideal.ieee, -EReal.coe_mul]; norm_num

/-- A choice by the causal comparison. -/
theorem sel_sle {α : Type} (a k : Fin 16384) (x y : α) :
    Scalar.select (IntOp.cmpi .sle (BitVec.ofNat 32 k.val) (BitVec.ofNat 32 a.val)) x y = if k ≤ a then x else y := by
  have ea : (BitVec.ofNat 32 k.val).toNat = k.val := by rw [BitVec.toNat_ofNat]; omega
  have eb : (BitVec.ofNat 32 a.val).toNat = a.val := by rw [BitVec.toNat_ofNat]; omega
  rw [WordCmp.cmpi_sle_of_lt (by rw [ea]; omega) (by rw [eb]; omega), WordCmp.select_ofBool, ea, eb]
  by_cases h : k.val ≤ a.val
  · rw [decide_eq_true h, if_pos (show k ≤ a from h)]; rfl
  · rw [decide_eq_false h, if_neg (show ¬ k ≤ a from h)]; rfl

/-- Column `y` of head `h`. -/
def col (h : Fin 8) (y : Fin 64) : Fin 512 := ⟨h.val * 64 + y.val, by omega⟩

section
variable (QN KN VT : FVec Ideal S8x16384x64 .f32) (FF : FVec Ideal S8x16384 .f32) (CT : FVec Ideal S16384x512 .f32)
/-- The causal logits. -/
def lg (h : Fin 8) (a k : Fin 16384) : EReal :=
  if k ≤ a then (∑ y : Fin 64, QN (ix3 h a y) * KN (ix3 h k y)) * ((1 / 8 : ℝ) : EReal) + FF (ix2 h a) - FF (ix2 h k) else ⊥
/-- A row's largest logit, the exponentials, their sum. -/
def tp (h : Fin 8) (a : Fin 16384) : EReal := Finset.fold max ⊥ (fun k => lg QN KN FF h a k) Finset.univ
def ex (h : Fin 8) (a k : Fin 16384) : EReal := Ideal.exp (lg QN KN FF h a k - tp QN KN FF h a)
def tot (h : Fin 8) (a : Fin 16384) : EReal := ∑ k : Fin 16384, ex QN KN FF h a k
/-- The gradient by the softmax weight. -/
def dP (h : Fin 8) (a k : Fin 16384) : EReal := ∑ y : Fin 64, CT (ix2 a (col h y)) * VT (ix3 h k y)
/-- The gradient by the logits, as the reference forms it. -/
def nrm (h : Fin 8) (a : Fin 16384) : EReal := -(∑ k : Fin 16384, dP VT CT h a k * Ideal.div 1 (tot QN KN FF h a * tot QN KN FF h a) * ex QN KN FF h a k)
def ds (h : Fin 8) (a k : Fin 16384) : EReal :=
  if k ≤ a then (Ideal.div (dP VT CT h a k) (tot QN KN FF h a) + nrm QN KN VT FF CT h a) * ex QN KN FF h a k else 0
end

section
variable (V : Valuation τ sig (Elt Ideal))
  (QN KN VT : FVec Ideal S8x16384x64 .f32) (FF : FVec Ideal S8x16384 .f32) (CT : FVec Ideal S16384x512 .f32)

section
variable (eQ : V (Proc.devRef .tc main_v14) = QN) (eK : V (Proc.devRef .tc main_v29) = KN) (eF : V (Proc.devRef .tc main_v34) = FF)
include eQ eK eF in
theorem r49 (h : Fin 8) (a k : Fin 16384) : (StableHlo.after (ops_part0_2 (F := Ideal)) V (Proc.devRef .tc main_v49_0) : FVec Ideal S8x16384x16384 .f32) (ix3 h a k) = lg QN KN FF h a k := by
  after_reads_at
  simp only [eQ, eK, eF, sel_sle, c_eighth]
  rw [show (id (constant (F := Ideal) S_ .f32 0xFF800000#32) ix0 : EReal) = ⊥ from c_bot]
  rfl
include eQ eK eF in
theorem r50 (h : Fin 8) (a : Fin 16384) : (StableHlo.after (ops_part0_2 (F := Ideal)) V (Proc.devRef .tc main_v50) : FVec Ideal S8x16384 .f32) (ix2 h a) = tp QN KN FF h a := by
  after_reads_at
  simp only [eQ, eK, eF, sel_sle, c_eighth, c_bot]
  rw [show (id (constant (F := Ideal) S_ .f32 0xFF800000#32) ix0 : EReal) = ⊥ from c_bot]
  rfl
theorem r48 (x y : EReal) (h : Fin 8) (a k : Fin 16384) :
    Scalar.select ((StableHlo.after (ops_part0_2 (F := Ideal)) V (Proc.devRef .tc main_v48) : IVec S8x16384x16384 1) (ix3 h a k)) x y = if k ≤ a then x else y := by
  after_reads_at
  exact sel_sle a k x y
theorem u2 (r : Ref sig .tc) (hr : r ∈ [main_v14, main_v29, main_v36, main_arg7]) : StableHlo.after (ops_part0_2 (F := Ideal)) V (Proc.devRef .tc r) = V (Proc.devRef .tc r) := by
  simp only [List.mem_cons, List.not_mem_nil, or_false] at hr
  rcases hr with rfl | rfl | rfl | rfl <;> after_reads_simp
end

section
variable (SS : FVec Ideal S8x16384x16384 .f32) (TT : FVec Ideal S8x16384 .f32)
  (eS : V (Proc.devRef .tc main_v49_0) = SS) (eT : V (Proc.devRef .tc main_v50) = TT)
  (eV : V (Proc.devRef .tc main_v36) = VT) (eC : V (Proc.devRef .tc main_arg7) = CT)
include eS eT in
theorem r59 (h : Fin 8) (a k : Fin 16384) : (StableHlo.after (ops_part1_0 (F := Ideal)) V (Proc.devRef .tc main_v59) : FVec Ideal S8x16384x16384 .f32) (ix3 h a k) = Ideal.exp (SS (ix3 h a k) - TT (ix2 h a)) := by
  after_reads_at
  simp only [eS, eT]
  done
include eS eT in
theorem r61 (h : Fin 8) (a : Fin 16384) : (StableHlo.after (ops_part1_0 (F := Ideal)) V (Proc.devRef .tc main_v61) : FVec Ideal S8x16384x1 .f32) (ix3 h a 0) = ∑ k : Fin 16384, Ideal.exp (SS (ix3 h a k) - TT (ix2 h a)) := by
  after_reads_at
  simp only [eS, eT]
  done
include eS eT eC in
theorem r71 (h : Fin 8) (k : Fin 16384) (y : Fin 64) : (StableHlo.after (ops_part1_0 (F := Ideal)) V (Proc.devRef .tc main_v71) : FVec Ideal S8x16384x64 .f32) (ix3 h k y)
    = ∑ a : Fin 16384, CT (ix2 a (col h y)) * Ideal.div (Ideal.exp (SS (ix3 h a k) - TT (ix2 h a))) (∑ k : Fin 16384, Ideal.exp (SS (ix3 h a k) - TT (ix2 h a))) := by
  after_reads_at
  simp only [eS, eT, eC]
  rfl
include eV eC in
theorem r72 (h : Fin 8) (a k : Fin 16384) : (StableHlo.after (ops_part1_0 (F := Ideal)) V (Proc.devRef .tc main_v72) : FVec Ideal S8x16384x16384 .f32) (ix3 h a k) = dP VT CT h a k := by
  after_reads_at
  simp only [eV, eC]
  rfl
include eS eT eV eC in
theorem r76 (h : Fin 8) (a : Fin 16384) : (StableHlo.after (ops_part1_0 (F := Ideal)) V (Proc.devRef .tc main_v76) : FVec Ideal S8x16384 .f32) (ix2 h a)
    = ∑ k : Fin 16384, dP VT CT h a k * Ideal.div 1 ((∑ k : Fin 16384, Ideal.exp (SS (ix3 h a k) - TT (ix2 h a))) * (∑ k : Fin 16384, Ideal.exp (SS (ix3 h a k) - TT (ix2 h a)))) * Ideal.exp (SS (ix3 h a k) - TT (ix2 h a)) := by
  after_reads_at
  simp only [eS, eT, eV, eC, c_one]
  rfl
theorem u3 (r : Ref sig .tc) (hr : r ∈ [main_v14, main_v29, main_v48]) : StableHlo.after (ops_part1_0 (F := Ideal)) V (Proc.devRef .tc r) = V (Proc.devRef .tc r) := by
  simp only [List.mem_cons, List.not_mem_nil, or_false] at hr
  rcases hr with rfl | rfl | rfl <;> after_reads_simp
end

section
variable (DPV EE : FVec Ideal S8x16384x16384 .f32) (TO : FVec Ideal S8x16384x1 .f32) (NN : FVec Ideal S8x16384 .f32) (DV : FVec Ideal S8x16384x64 .f32) (MK : IVec S8x16384x16384 1)
  (eQ : V (Proc.devRef .tc main_v14) = QN) (eK : V (Proc.devRef .tc main_v29) = KN)
  (eE : V (Proc.devRef .tc main_v59) = EE) (eO : V (Proc.devRef .tc main_v61) = TO) (eM : V (Proc.devRef .tc main_v48) = MK)
  (e1 : V (Proc.devRef .tc main_v71) = DV) (e2 : V (Proc.devRef .tc main_v72) = DPV) (e6 : V (Proc.devRef .tc main_v76) = NN)
  (hM : ∀ (x y : EReal) (h : Fin 8) (a k : Fin 16384), Scalar.select (MK (ix3 h a k)) x y = if k ≤ a then x else y)
/-- The masked gradient by the logits. -/
def dsv (h : Fin 8) (a k : Fin 16384) : EReal := if k ≤ a then (Ideal.div (DPV (ix3 h a k)) (TO (ix3 h a 0)) + -(NN (ix2 h a))) * EE (ix3 h a k) else 0
include eE eO eM e2 e6 hM eK in
theorem r97 (h : Fin 8) (a : Fin 16384) (y : Fin 64) : (StableHlo.after (ops_part1_1 (F := Ideal)) V (Proc.devRef .tc main_v97) : FVec Ideal S8x16384x64 .f32) (ix3 h a y)
    = ∑ k : Fin 16384, dsv DPV EE TO NN h a k * ((1 / 8 : ℝ) : EReal) * KN (ix3 h k y) := by
  after_reads_at
  simp only [eE, eO, eM, e2, e6, eK, hM, c_eighth, dsv, ite_mul, zero_mul, Finset.univ_unique, Finset.sum_singleton]
include eE eO eM e2 e6 hM eQ in
theorem r96 (h : Fin 8) (k : Fin 16384) (y : Fin 64) : (StableHlo.after (ops_part1_1 (F := Ideal)) V (Proc.devRef .tc main_v96) : FVec Ideal S8x16384x64 .f32) (ix3 h k y)
    = ∑ a : Fin 16384, dsv DPV EE TO NN h a k * ((1 / 8 : ℝ) : EReal) * QN (ix3 h a y) := by
  after_reads_at
  simp only [eE, eO, eM, e2, e6, eQ, hM, c_eighth, dsv, ite_mul, zero_mul, Finset.univ_unique, Finset.sum_singleton]
include eE eO eM e2 e6 hM in
theorem r93 (h : Fin 8) (k : Fin 16384) : (StableHlo.after (ops_part1_1 (F := Ideal)) V (Proc.devRef .tc main_v93) : FVec Ideal S8x16384 .f32) (ix2 h k)
    = (∑ a : Fin 16384, -(dsv DPV EE TO NN h a k)) + ∑ k' : Fin 16384, dsv DPV EE TO NN h k k' := by
  after_reads_at
  simp only [eE, eO, eM, e2, e6, hM, dsv, ite_mul, zero_mul, Finset.univ_unique, Finset.sum_singleton]
include e1 in
theorem r100 (s : Fin 16384) (h : Fin 8) (y : Fin 64) : (StableHlo.after (ops_part1_2 (F := Ideal)) (StableHlo.after (ops_part1_1 (F := Ideal)) V) (Proc.devRef .tc main_v100) : FVec Ideal S16384x512 .bf16) (ix2 s (col h y))
    = DV (ix3 h s y) := by
  after_reads_at
  simp only [e1]
  refine congrArg DV ?_
  have e1 : (⟨(col h y).val / 64, by omega⟩ : Fin 8) = h := Fin.ext (by show (h.val * 64 + y.val) / 64 = h.val; omega)
  have e2 : (⟨(col h y).val % 64, by omega⟩ : Fin 64) = y := Fin.ext (by show (h.val * 64 + y.val) % 64 = y.val; omega)
  rw [e1, e2]
end
end
end Cert.AttnR

end

end
-- ==== Proof.AttnRefFirst.lean ====
module

public import proofs.«01_k».proof.Proof.AttnFirst
public import proofs.«01_k».proof.Proof.Gen.AttnRefIdeal.Run
public import Idealize.ShloMosaic.Lib.Pointwise
public import Idealize.ShloMosaic.Lib.IdealHost
public import Idealize.ShloMosaic.Lib.StableHlo.ReadAt

@[expose] public section

set_option maxRecDepth 16384

noncomputable section

namespace Cert.AttnG

open Idealize.ShloMosaic Idealize.ShloMosaic.TcCoe Idealize.SL.Sem
open Cert.AttnRefIdeal Cert.AttnRefIdeal.Gen Cert.AttnRefIdeal.Value
open Cert.AttnF (col rms ls gate lsv cs ne_self)

section
variable (V : Valuation τ sig (Elt Ideal))
theorem g14 (X : FVec Ideal S16384x512 .f32) (G : FVec Ideal S1x64 .f32) (eX : V (Proc.devRef .tc main_arg0) = X) (eG : V (Proc.devRef .tc main_arg4) = G)
    (h : Fin 8) (a : Fin 16384) (y : Fin 64) : (StableHlo.after (ops_part0_1 (F := Ideal)) (StableHlo.after (ops_part0_0 (F := Ideal)) V) (Proc.devRef .tc main_v14) : FVec Ideal S8x16384x64 .f32) (ix3 h a y) = rms X G h a y := by
  after_reads_at
  simp only [eX, eG]
  rfl
theorem g29 (X : FVec Ideal S16384x512 .f32) (G : FVec Ideal S1x64 .f32) (eX : V (Proc.devRef .tc main_arg1) = X) (eG : V (Proc.devRef .tc main_arg5) = G)
    (h : Fin 8) (a : Fin 16384) (y : Fin 64) : (StableHlo.after (ops_part0_1 (F := Ideal)) (StableHlo.after (ops_part0_0 (F := Ideal)) V) (Proc.devRef .tc main_v29) : FVec Ideal S8x16384x64 .f32) (ix3 h a y) = rms X G h a y := by
  after_reads_at
  simp only [eX, eG]
  rfl
theorem g36 (h : Fin 8) (a : Fin 16384) (y : Fin 64) : (StableHlo.after (ops_part0_1 (F := Ideal)) (StableHlo.after (ops_part0_0 (F := Ideal)) V) (Proc.devRef .tc main_v36) : FVec Ideal S8x16384x64 .f32) (ix3 h a y) = (V (Proc.devRef .tc main_arg2) : FVec Ideal S16384x512 .f32) (ix2 a (col h y)) := by
  after_reads_at
  rfl
theorem k01 (r : Ref sig .tc) (hr : r ∈ [main_arg7]) : StableHlo.after (ops_part0_1 (F := Ideal)) (StableHlo.after (ops_part0_0 (F := Ideal)) V) (Proc.devRef .tc r) = V (Proc.devRef .tc r) := by
  simp only [List.mem_cons, List.not_mem_nil, or_false] at hr
  rcases hr with rfl <;> after_reads_simp
theorem g32 (X : FVec Ideal S16384x8 .f32) (Y : FVec Ideal S1x8 .f32) (eX : V (Proc.devRef .tc main_arg3) = X) (eY : V (Proc.devRef .tc main_arg6) = Y)
    (a : Fin 16384) (h : Fin 8) : (StableHlo.after (ops_part0_1 (F := Ideal)) V (Proc.devRef .tc main_v32) : FVec Ideal S16384x8 .f32) (ix2 a h) = ls (gate X Y a h) := by
  after_reads_at
  simp only [eX, eY, ne_self]
  rfl
theorem k0 (r : Ref sig .tc) (hr : r ∈ [main_arg3, main_arg6]) : StableHlo.after (ops_part0_0 (F := Ideal)) V (Proc.devRef .tc r) = V (Proc.devRef .tc r) := by
  simp only [List.mem_cons, List.not_mem_nil, or_false] at hr
  rcases hr with rfl | rfl <;> after_reads_simp
theorem g33 : (StableHlo.after (ops_part0_1 (F := Ideal)) V (Proc.devRef .tc main_v33) : FVec Ideal S16384x8 .f32) = cs (StableHlo.after (ops_part0_1 (F := Ideal)) V (Proc.devRef .tc main_v32)) := by
  after_reads_simp
  rfl
theorem tr2 (W : FVec Ideal S16384x8 .f32) (h : Fin 8) (a : Fin 16384) : transpose S8x16384 [1, 0] W transposes_S16384x8_S8x16384_1_0 (ix2 h a) = W (ix2 a h) := by
  pointwise
theorem g34 (h : Fin 8) (a : Fin 16384) : (StableHlo.after (ops_part0_1 (F := Ideal)) V (Proc.devRef .tc main_v34) : FVec Ideal S8x16384 .f32) (ix2 h a) = (StableHlo.after (ops_part0_1 (F := Ideal)) V (Proc.devRef .tc main_v33) : FVec Ideal S16384x8 .f32) (ix2 a h) := by
  refine Eq.trans ?_ (tr2 _ h a)
  after_reads_simp
end
end Cert.AttnG

end

end
-- ==== Proof.AttnRefEnd.lean ====
module

public import proofs.«01_k».proof.Proof.AttnSpec
public import proofs.«01_k».proof.Proof.AttnRefA
public import proofs.«01_k».proof.Proof.AttnRefFirst

@[expose] public section

set_option maxRecDepth 16384

noncomputable section

namespace Cert.AttnR

open Idealize.ShloMosaic Idealize.ShloMosaic.TcCoe Idealize.SL.Sem
open Cert.AttnRefIdeal Cert.AttnRefIdeal.Gen Cert.AttnRefIdeal.Value
open Cert.AttnF (IsR qnv ffv Qr Fr Cr outQ outK outF outV Fin8 lsv cs gate rms qnv_eq ffv_eq c_eq)

section
variable (QN KN VT : FVec Ideal S8x16384x64 .f32) (FF : FVec Ideal S8x16384 .f32) (CT : FVec Ideal S16384x512 .f32)
  (Q K W C : Fin 8 → Fin 16384 → Fin 64 → ℝ) (f : Fin 8 → Fin 16384 → ℝ)
  (hQ : ∀ h a y, QN (ix3 h a y) = (Q h a y : EReal)) (hK : ∀ h a y, KN (ix3 h a y) = (K h a y : EReal)) (hV : ∀ h a y, VT (ix3 h a y) = (W h a y : EReal))
  (hC : ∀ h a y, CT (ix2 a (col h y)) = (C h a y : EReal)) (hf : ∀ h a, FF (ix2 h a) = (f h a : EReal))
include hQ hK hf in
theorem lg_eq (h : Fin 8) (a k : Fin 16384) : lg QN KN FF h a k = AttnZ.lgr (Q h) (K h) (f h) a k := by
  unfold lg AttnZ.lgr
  rw [AttnZ.sum_coe (f := fun y => Q h a y * K h k y) (fun y => by rw [hQ, hK, ← EReal.coe_mul]), hf, hf, ← EReal.coe_mul, ← EReal.coe_add, ← EReal.coe_sub]
  rfl
include hQ hK hf in
theorem tp_eq (h : Fin 8) (a : Fin 16384) : tp QN KN FF h a = (AttnZ.T (Q h) (K h) (f h) a : EReal) :=
  (congrArg (fun g => Finset.fold max (⊥ : EReal) g Finset.univ) (funext fun k => lg_eq QN KN FF Q K f hQ hK hf h a k)).trans (AttnZ.T_eq (Q h) (K h) (f h) a)
include hV hC in
theorem dP_eq (h : Fin 8) (a k : Fin 16384) : dP VT CT h a k = (AttnZ.dP (W h) (C h) a k : EReal) :=
  AttnZ.sum_coe fun y => by rw [hC, hV, ← EReal.coe_mul]
end

section
variable (A : Valuation τ sig (Elt Ideal))
  (X0 X1 X2 X7 : FVec Ideal S16384x512 .f32) (X3 : FVec Ideal S16384x8 .f32) (X4 X5 : FVec Ideal S1x64 .f32) (X6 : FVec Ideal S1x8 .f32)
  (e0 : A (Proc.devRef .tc main_arg0) = X0) (e1 : A (Proc.devRef .tc main_arg1) = X1) (e2 : A (Proc.devRef .tc main_arg2) = X2) (e3 : A (Proc.devRef .tc main_arg3) = X3)
  (e4 : A (Proc.devRef .tc main_arg4) = X4) (e5 : A (Proc.devRef .tc main_arg5) = X5) (e6 : A (Proc.devRef .tc main_arg6) = X6) (e7 : A (Proc.devRef .tc main_arg7) = X7)
/-- The buffers after two, three and four of the reference's lists. -/
def L2 : Valuation τ sig (Elt Ideal) := StableHlo.after (ops_part0_1 (F := Ideal)) (StableHlo.after (ops_part0_0 (F := Ideal)) A)
def L3 : Valuation τ sig (Elt Ideal) := StableHlo.after (ops_part0_2 (F := Ideal)) (L2 A)
/-- The logits and their row maxima there. -/
def s49 : FVec Ideal S8x16384x16384 .f32 := L3 A (Proc.devRef .tc main_v49_0)
def t50 : FVec Ideal S8x16384 .f32 := L3 A (Proc.devRef .tc main_v50)
def L4 : Valuation τ sig (Elt Ideal) := StableHlo.after (ops_part1_0 (F := Ideal)) (L3 A)
include e0 e4 in
theorem m14 : L2 A (Proc.devRef .tc main_v14) = qnv X0 X4 := funext fun i => by idx_vars i; exact AttnG.g14 A X0 X4 e0 e4 i0 i1 i2
include e1 e5 in
theorem m29 : L2 A (Proc.devRef .tc main_v29) = qnv X1 X5 := funext fun i => by idx_vars i; exact AttnG.g29 A X1 X5 e1 e5 i0 i1 i2
/-- The values by heads. -/
def vt (X : FVec Ideal S16384x512 .f32) : FVec Ideal S8x16384x64 .f32 := fun i => X (ix2 (i 1) (AttnF.col (i 0) (i 2)))
include e2 in
theorem m36 : L2 A (Proc.devRef .tc main_v36) = vt X2 := funext fun i => by
  idx_vars i
  exact (AttnG.g36 A i0 i1 i2).trans (congrFun e2 _)
include e3 e6 in
theorem m34 : L2 A (Proc.devRef .tc main_v34) = ffv X3 X6 := funext fun i => by
  idx_vars i
  refine (AttnG.g34 _ i0 i1).trans (congrFun (a := ix2 i1 i0) ((AttnG.g33 _).trans (congrArg cs (funext fun j => ?_))))
  idx_vars j
  exact AttnG.g32 _ X3 X6 ((AttnG.k0 A main_arg3 (by decide)).trans e3) ((AttnG.k0 A main_arg6 (by decide)).trans e6) j0 j1
include e7 in
theorem m7 : L3 A (Proc.devRef .tc main_arg7) = X7 := (u2 _ main_arg7 (by decide)).trans ((AttnG.k01 A main_arg7 (by decide)).trans e7)

variable (hfin : Fin8 X0 X1 X2 X7 X3 X4 X5 X6)
include e0 e1 e3 e4 e5 e6 hfin in
theorem n49 (h : Fin 8) (a k : Fin 16384) : s49 A (ix3 h a k) = AttnZ.lgr (Qr X0 X4 h) (Qr X1 X5 h) (Fr X3 X6 h) a k :=
  (r49 _ _ _ _ (m14 A X0 X4 e0 e4) (m29 A X1 X5 e1 e5) (m34 A X3 X6 e3 e6) h a k).trans
    (lg_eq _ _ _ (Qr X0 X4) (Qr X1 X5) (Fr X3 X6) (qnv_eq X0 X4 hfin.h0 hfin.h4) (qnv_eq X1 X5 hfin.h1 hfin.h5) (ffv_eq X3 X6 hfin.h3 hfin.h6) h a k)
include e0 e1 e3 e4 e5 e6 hfin in
theorem n50 (h : Fin 8) (a : Fin 16384) : t50 A (ix2 h a) = (AttnZ.T (Qr X0 X4 h) (Qr X1 X5 h) (Fr X3 X6 h) a : EReal) :=
  (r50 _ _ _ _ (m14 A X0 X4 e0 e4) (m29 A X1 X5 e1 e5) (m34 A X3 X6 e3 e6) h a).trans
    (tp_eq _ _ _ (Qr X0 X4) (Qr X1 X5) (Fr X3 X6) (qnv_eq X0 X4 hfin.h0 hfin.h4) (qnv_eq X1 X5 hfin.h1 hfin.h5) (ffv_eq X3 X6 hfin.h3 hfin.h6) h a)
include e0 e1 e3 e4 e5 e6 hfin in
theorem nex (h : Fin 8) (a k : Fin 16384) : Ideal.exp (s49 A (ix3 h a k) - t50 A (ix2 h a))
    = (AttnZ.e (Qr X0 X4 h) (Qr X1 X5 h) (Fr X3 X6 h) a k : EReal) := by
  rw [n49 A X0 X1 X2 X7 X3 X4 X5 X6 e0 e1 e3 e4 e5 e6 hfin, n50 A X0 X1 X2 X7 X3 X4 X5 X6 e0 e1 e3 e4 e5 e6 hfin]
  exact AttnZ.exp_lgr _ _ _ a k
include e0 e1 e3 e4 e5 e6 hfin in
theorem ntot (h : Fin 8) (a : Fin 16384) : (∑ k : Fin 16384, Ideal.exp (s49 A (ix3 h a k) - t50 A (ix2 h a)))
    = (AttnZ.Z (Qr X0 X4 h) (Qr X1 X5 h) (Fr X3 X6 h) a : EReal) :=
  AttnZ.sum_coe fun k => nex A X0 X1 X2 X7 X3 X4 X5 X6 e0 e1 e3 e4 e5 e6 hfin h a k
include hfin in
theorem ndP (h : Fin 8) (a k : Fin 16384) : dP (vt X2) X7 h a k = (AttnZ.dP (Cr X2 h) (Cr X7 h) a k : EReal) :=
  dP_eq (vt X2) X7 (Cr X2) (Cr X7) (c_eq X2 hfin.h2) (c_eq X7 hfin.h7) h a k

include e0 e1 e2 e3 e4 e5 e6 e7 hfin in
theorem nds (h : Fin 8) (a k : Fin 16384) : dsv (L4 A (Proc.devRef .tc main_v72)) (L4 A (Proc.devRef .tc main_v59)) (L4 A (Proc.devRef .tc main_v61)) (L4 A (Proc.devRef .tc main_v76)) h a k
    = (AttnZ.DS (Qr X0 X4 h) (Qr X1 X5 h) (Cr X2 h) (Cr X7 h) (Fr X3 X6 h) a k : EReal) := by
  have eV : L3 A (Proc.devRef .tc main_v36) = vt X2 := (u2 _ main_v36 (by decide)).trans (m36 A X2 e2)
  have eC := m7 A X7 e7
  have hex := nex A X0 X1 X2 X7 X3 X4 X5 X6 e0 e1 e3 e4 e5 e6 hfin h
  have htot := ntot A X0 X1 X2 X7 X3 X4 X5 X6 e0 e1 e3 e4 e5 e6 hfin h
  have hdp := ndP X0 X1 X2 X7 X3 X4 X5 X6 hfin h
  have a72 : (L4 A (Proc.devRef .tc main_v72) : FVec Ideal S8x16384x16384 .f32) (ix3 h a k) = _ := (r72 (L3 A) (vt X2) X7 eV eC h a k).trans (hdp a k)
  have a59 : (L4 A (Proc.devRef .tc main_v59) : FVec Ideal S8x16384x16384 .f32) (ix3 h a k) = _ := (r59 (L3 A) (s49 A) (t50 A) rfl rfl h a k).trans (hex a k)
  have a61 : (L4 A (Proc.devRef .tc main_v61) : FVec Ideal S8x16384x1 .f32) (ix3 h a 0) = _ := (r61 (L3 A) (s49 A) (t50 A) rfl rfl h a).trans (htot a)
  have a76 : (L4 A (Proc.devRef .tc main_v76) : FVec Ideal S8x16384 .f32) (ix2 h a)
      = ((∑ j, AttnZ.dP (Cr X2 h) (Cr X7 h) a j * (1 / (AttnZ.Z (Qr X0 X4 h) (Qr X1 X5 h) (Fr X3 X6 h) a * AttnZ.Z (Qr X0 X4 h) (Qr X1 X5 h) (Fr X3 X6 h) a)) * AttnZ.e (Qr X0 X4 h) (Qr X1 X5 h) (Fr X3 X6 h) a j : ℝ) : EReal) := by
    refine (r76 (L3 A) (vt X2) X7 (s49 A) (t50 A) rfl rfl eV eC h a).trans (AttnZ.sum_coe fun j => ?_)
    have hz := (AttnZ.Z_pos (Qr X0 X4 h) (Qr X1 X5 h) (Fr X3 X6 h) a).ne'
    rw [htot a, hex a j, hdp a j, ← EReal.coe_mul, ← EReal.coe_one, AttnZ.div_real _ _ (mul_ne_zero hz hz), ← EReal.coe_mul, ← EReal.coe_mul]
  unfold dsv
  rw [a72, a59, a61, a76]
  exact AttnZ.ds_ref _ _ _ _ _ a k

theorem n48 (x y : EReal) (h : Fin 8) (a k : Fin 16384) : Scalar.select ((L4 A (Proc.devRef .tc main_v48) : IVec S8x16384x16384 1) (ix3 h a k)) x y = if k ≤ a then x else y := by
  unfold L4
  rw [u3 _ main_v48 (by decide)]
  exact r48 _ x y h a k
include e0 e4 in
theorem l14 : L4 A (Proc.devRef .tc main_v14) = qnv X0 X4 := (u3 _ main_v14 (by decide)).trans ((u2 _ main_v14 (by decide)).trans (m14 A X0 X4 e0 e4))
include e1 e5 in
theorem l29 : L4 A (Proc.devRef .tc main_v29) = qnv X1 X5 := (u3 _ main_v29 (by decide)).trans ((u2 _ main_v29 (by decide)).trans (m29 A X1 X5 e1 e5))
theorem u5 (V : Valuation τ sig (Elt Ideal)) (r : Ref sig .tc) (hr : r ∈ [main_v97, main_v96, main_v93]) : StableHlo.after (ops_part1_2 (F := Ideal)) V (Proc.devRef .tc r) = V (Proc.devRef .tc r) := by
  simp only [List.mem_cons, List.not_mem_nil, or_false] at hr
  rcases hr with rfl | rfl | rfl <;> after_reads_simp
theorem ops_eq : StableHlo.after (ops (F := Ideal)) A = StableHlo.after (ops_part1_2 (F := Ideal)) (StableHlo.after (ops_part1_1 (F := Ideal)) (L4 A)) := by
  unfold ops ops_part0 ops_part1 ops_part2
  simp only [StableHlo.after_append]
  rfl
include e0 e1 e2 e3 e4 e5 e6 e7 hfin in
theorem z97 : StableHlo.after (ops (F := Ideal)) A (Proc.devRef .tc main_v97) = fun i : S8x16384x64.Idx => outQ X0 X1 X2 X7 X3 X4 X5 X6 (i 0) (i 1) (i 2) := by
  funext i
  idx_vars i
  rw [ops_eq, u5 _ main_v97 (by decide)]
  refine (r97 (L4 A) _ _ _ _ _ _ (l29 A X1 X5 e1 e5) rfl rfl rfl rfl rfl (n48 A) i0 i1 i2).trans (AttnZ.sum_coe fun k => ?_)
  rw [nds A X0 X1 X2 X7 X3 X4 X5 X6 e0 e1 e2 e3 e4 e5 e6 e7 hfin, qnv_eq X1 X5 hfin.h1 hfin.h5, ← EReal.coe_mul, ← EReal.coe_mul]
include e0 e1 e2 e3 e4 e5 e6 e7 hfin in
theorem z96 : StableHlo.after (ops (F := Ideal)) A (Proc.devRef .tc main_v96) = fun i : S8x16384x64.Idx => outK X0 X1 X2 X7 X3 X4 X5 X6 (i 0) (i 1) (i 2) := by
  funext i
  idx_vars i
  rw [ops_eq, u5 _ main_v96 (by decide)]
  refine (r96 (L4 A) _ _ _ _ _ _ (l14 A X0 X4 e0 e4) rfl rfl rfl rfl rfl (n48 A) i0 i1 i2).trans (AttnZ.sum_coe fun k => ?_)
  rw [nds A X0 X1 X2 X7 X3 X4 X5 X6 e0 e1 e2 e3 e4 e5 e6 e7 hfin, qnv_eq X0 X4 hfin.h0 hfin.h4, ← EReal.coe_mul, ← EReal.coe_mul]
include e0 e1 e2 e3 e4 e5 e6 e7 hfin in
theorem z93 : StableHlo.after (ops (F := Ideal)) A (Proc.devRef .tc main_v93) = fun i : S8x16384.Idx => outF X0 X1 X2 X7 X3 X4 X5 X6 (i 0) (i 1) := by
  funext i
  idx_vars i
  rw [ops_eq, u5 _ main_v93 (by decide)]
  refine (r93 (L4 A) _ _ _ _ _ rfl rfl rfl rfl rfl (n48 A) i0 i1).trans ?_
  have hd := nds A X0 X1 X2 X7 X3 X4 X5 X6 e0 e1 e2 e3 e4 e5 e6 e7 hfin i0
  rw [AttnZ.sum_coe (fun j => (congrArg (fun z : EReal => -z) (hd j i1)).trans (EReal.coe_neg _).symm), AttnZ.sum_coe (fun k => hd i1 k), ← EReal.coe_add]
  rfl
include e0 e1 e3 e4 e5 e6 e7 hfin in
theorem z100 : StableHlo.after (ops (F := Ideal)) A (Proc.devRef .tc main_v100) = fun i : S16384x512.Idx => outV X0 X1 X7 X3 X4 X5 X6 (AttnF.ch (i 1)) (i 0) (AttnF.cy (i 1)) := by
  funext i
  idx_vars i
  rw [ops_eq]
  refine (congrArg (fun x => (StableHlo.after (ops_part1_2 (F := Ideal)) (StableHlo.after (ops_part1_1 (F := Ideal)) (L4 A)) (Proc.devRef .tc main_v100) : FVec Ideal S16384x512 .bf16) (ix2 i0 x)) (AttnF.col_eta i1).symm).trans ?_
  refine (r100 (L4 A) _ rfl i0 (AttnF.ch i1) (AttnF.cy i1)).trans ?_
  refine (r71 (L3 A) X7 (s49 A) (t50 A) rfl rfl (m7 A X7 e7) (AttnF.ch i1) i0 (AttnF.cy i1)).trans (AttnZ.sum_coe fun a => ?_)
  rw [ntot A X0 X1 X2 X7 X3 X4 X5 X6 e0 e1 e3 e4 e5 e6 hfin, nex A X0 X1 X2 X7 X3 X4 X5 X6 e0 e1 e3 e4 e5 e6 hfin, AttnZ.div_P]
  exact (congrArg (fun z : EReal => z * _) (c_eq X7 hfin.h7 (AttnF.ch i1) a (AttnF.cy i1))).trans (EReal.coe_mul _ _).symm
end

end Cert.AttnR

end

end
-- ==== Proof.AttnRefRun.lean ====
module

public import proofs.«01_k».proof.Proof.AttnRefEnd

@[expose] public section

set_option maxRecDepth 16384

noncomputable section

namespace Cert.AttnR

open Idealize.ShloMosaic Idealize.ShloMosaic.TcCoe Idealize.SL.Sem
open Cert.AttnRefIdeal Cert.AttnRefIdeal.Gen Cert.AttnRefIdeal.Value

/-- The buffers after the reference. -/
def RV (m : (ℓ : Loc nD τ sig) → Buf (Elt Ideal) ℓ) (c : Dev nD) : Valuation τ sig (Elt Ideal) := StableHlo.after (ops (F := Ideal)) fun b => m (c, b)

theorem run_r (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = RV m c (Proc.devRef .tc main_v97)
      ∧ r.2.mem ((c.tc : Thread nD τ).loc main_v96) = RV m c (Proc.devRef .tc main_v96)
      ∧ r.2.mem ((c.tc : Thread nD τ).loc main_v93) = RV m c (Proc.devRef .tc main_v93)
      ∧ r.2.mem ((c.tc : Thread nD τ).loc main_v100) = RV m c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v97, h c main_v96, h c main_v93, h c main_v100,
      (h c main_arg0).trans (by after_reads_simp), (h c main_arg1).trans (by after_reads_simp), (h c main_arg2).trans (by after_reads_simp),
      (h c main_arg3).trans (by after_reads_simp), (h c main_arg4).trans (by after_reads_simp), (h c main_arg5).trans (by after_reads_simp),
      (h c main_arg6).trans (by after_reads_simp), (h c main_arg7).trans (by after_reads_simp)⟩)
    (StableHlo.run_seq Value.scopedRefs_eq Value.scopedSems_eq defs main (fun _ => Value.ops) Value.main_eq (fun _ => Value.ops_sub) m ρ)

end Cert.AttnR

end

end
-- ==== Proof.AttnPair.lean ====
module

public import proofs.«01_k».proof.Proof.AttnClaims
public import proofs.«01_k».proof.Proof.AttnPre
public import proofs.«01_k».proof.Proof.AttnKEnd
public import proofs.«01_k».proof.Proof.AttnRefRun

@[expose] public section

set_option maxRecDepth 16384

noncomputable section

namespace Cert.AttnP

open Idealize.ShloMosaic Idealize.ShloMosaic.TcCoe Idealize.SL.Sem

instance hF : Cert.Pre_finite2.Facts := Cert.AttnE.pre_facts

/-- The reference's runs leave its arguments as launched. -/
theorem frame_ri : Cert.quiescent_AttnRefIdeal := by
  intro m g _
  refine (θ_run _ _ _).mono (fun r h => ⟨fun c => ?_, funext fun s => ?_⟩) (Cert.AttnR.run_r m g)
  · obtain ⟨-, -, -, -, ha⟩ := h c
    exact ha
  · exact congrFun (sem_eq_zero_of_no_sems (by decide) r.2) s
theorem frame_ri_pre : Cert.quiescent_AttnRefIdeal_pre_finite2 := fun m g _ => frame_ri m g trivial
theorem frame_pi_pre : Cert.quiescent_AttnIdeal_pre_finite2 := fun m g _ => frame_pi m g trivial

open Cert.AttnI in
/-- The kernel's runs end with its four results as computed and the arguments unchanged. -/
theorem run_k (m : (ℓ : Loc Cert.AttnIdeal.nD Cert.AttnIdeal.τ Cert.AttnIdeal.sig) → Buf (Elt Ideal) ℓ) (g : Dev Cert.AttnIdeal.nD → PrngReg) :
    θ_run (Cert.AttnIdeal.defs (F := Ideal)) (onTc (τ := Cert.AttnIdeal.τ) (Cert.AttnIdeal.main (F := Ideal))) ⟨m, fun _ => 0, g⟩
      (fun r => (∀ (c : Dev Cert.AttnIdeal.nD) (b : Ref Cert.AttnIdeal.sig .tc), b ∈ Pipeline.restRefs Cert.AttnIdeal.sig Cert.AttnIdeal.spec0 →
          r.2.mem ((c.tc : Thread Cert.AttnIdeal.nD Cert.AttnIdeal.τ).loc b) = Wend m c (Proc.devRef .tc b))
        ∧ (∀ c : Dev Cert.AttnIdeal.nD, r.2.mem ((c.tc : Thread Cert.AttnIdeal.nD Cert.AttnIdeal.τ).loc Cert.AttnIdeal.main_v128_2) = (dats m 0 c).arrAt 10 (Cert.AttnIdeal.cfg0 (F := Ideal)).N)
        ∧ ∀ (c : Dev Cert.AttnIdeal.nD), ∀ b ∈ argList, r.2.mem ((c.tc : Thread Cert.AttnIdeal.nD Cert.AttnIdeal.τ).loc b) = m ((c.tc : Thread Cert.AttnIdeal.nD Cert.AttnIdeal.τ).loc b)) :=
  (θ_run _ _ _).mono (fun r h => ⟨h.1, fun c => h.2.1 c 10, fun c b hb => (h.1 c b (args_rest b hb)).trans (Wend_args m c b hb)⟩) (run_main m g)

theorem algebraic : Cert.algebraic_AttnIdeal_AttnRefIdeal_pre_finite2 := by
  intro m g m' g' hp ag
  refine ⟨fun c => Cert.AttnI.Wend m c (Proc.devRef .tc Cert.AttnIdeal.main_v131), fun c => Cert.AttnI.Wend m c (Proc.devRef .tc Cert.AttnIdeal.main_v132),
    fun c => Cert.AttnI.Wend m c (Proc.devRef .tc Cert.AttnIdeal.main_v137), fun c => (Cert.AttnI.dats m 0 c).arrAt 10 (Cert.AttnIdeal.cfg0 (F := Ideal)).N, ?_, ?_⟩
  · refine (θ_run _ _ _).mono (fun r h c => ?_) (run_k m g)
    obtain ⟨h1, h2, h3⟩ := h
    exact ⟨h1 c _ (by decide), h1 c _ (by decide), h1 c _ (by decide), h2 c, h3 c _ (by decide), h3 c _ (by decide), h3 c _ (by decide), h3 c _ (by decide),
      h3 c _ (by decide), h3 c _ (by decide), h3 c _ (by decide), h3 c _ (by decide)⟩
  · refine (θ_run _ _ _).mono (fun r h c => ?_) (Cert.AttnR.run_r m' g')
    obtain ⟨h0, h1, h2, h3, ha⟩ := h c
    obtain ⟨a0, a1, a2, a3, a4, a5, a6, a7⟩ := ag c
    have hf := Cert.AttnE.fin8 _ _ _ _ _ _ _ _ (hp c)
    refine ⟨h0.trans ?_, h1.trans ?_, h2.trans ?_, h3.trans ?_, ha⟩
    · exact (Cert.AttnR.z97 _ _ _ _ _ _ _ _ _ a0 a1 a2 a3 a4 a5 a6 a7 hf).trans (Cert.AttnK.k131 m c _ _ _ _ _ _ _ _ rfl rfl rfl rfl rfl rfl rfl rfl hf).symm
    · exact (Cert.AttnR.z96 _ _ _ _ _ _ _ _ _ a0 a1 a2 a3 a4 a5 a6 a7 hf).trans (Cert.AttnK.k132 m c _ _ _ _ _ _ _ _ rfl rfl rfl rfl rfl rfl rfl rfl hf).symm
    · exact (Cert.AttnR.z93 _ _ _ _ _ _ _ _ _ a0 a1 a2 a3 a4 a5 a6 a7 hf).trans (Cert.AttnK.k137 m c _ _ _ _ _ _ _ _ rfl rfl rfl rfl rfl rfl rfl rfl hf).symm
    · exact (Cert.AttnR.z100 _ _ _ _ _ _ _ _ _ a0 a1 a3 a4 a5 a6 a7 hf).trans (Cert.AttnK.k128 m c _ _ _ _ _ _ _ _ rfl rfl rfl rfl rfl rfl rfl hf).symm

end Cert.AttnP

end

end
-- ==== Proof.BinFwd.lean ====
module

public import proofs.«01_k».proof.Proof.Gen.BwdInIdeal.Frame
public import Idealize.ShloMosaic.Lib.Pipeline.ValueKit
public import Idealize.ShloMosaic.Lib.Pointwise
public import Idealize.ShloMosaic.Lib.IdealHost

@[expose] public section

set_option maxRecDepth 16384

noncomputable section

namespace Cert.Bin

open Idealize.ShloMosaic Idealize.ShloMosaic.TcCoe Idealize.SL.Sem
open Idealize.ShloMosaic.Pipeline (Dat)
open Cert.BwdInIdeal Cert.BwdInIdeal.Gen

/-! ### What the call of the first norm's gradient leaves in its two results -/

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0]
    ∧ win0_11.index t = ![t.val, 0] ∧ win0_12.index t = ![0, 0, 0] :=
  (by decide +kernel : ∀ t : Fin grid0.N, _)

/-- The array row under row `a` of the block of point `t`. -/
def row (t : Fin cfg0.N) (a : Fin 512) : Fin 16384 := ⟨512 * t.val + a, by have := lt_of_lt_of_eq t.isLt N_0; omega⟩

section
variable (dq dk dv da dg : FVec Ideal S16384x512 .bf16) (df : FVec Ideal S16384x128 .bf16) (W : FVec Ideal S1024x2688 .bf16)
  (X D : FVec Ideal S16384x1024 .f32) (M : FVec Ideal S8x1024 .f32) (G : FVec Ideal S1x1024 .f32)

/-- The gradient by the modulated rows: six products over the column groups of the packed weight. -/
def kdh (s : Fin 16384) (d : Fin 1024) : EReal :=
  ∑ k : Fin 512, dq (ix2 s k) * W (ix2 d ⟨(k : ℕ), by omega⟩) + ∑ k : Fin 512, dk (ix2 s k) * W (ix2 d ⟨512 + (k : ℕ), by omega⟩)
    + ∑ k : Fin 512, dv (ix2 s k) * W (ix2 d ⟨1024 + (k : ℕ), by omega⟩) + ∑ k : Fin 512, da (ix2 s k) * W (ix2 d ⟨1536 + (k : ℕ), by omega⟩)
    + ∑ k : Fin 512, dg (ix2 s k) * W (ix2 d ⟨2048 + (k : ℕ), by omega⟩) + ∑ k : Fin 128, df (ix2 s k) * W (ix2 d ⟨2560 + (k : ℕ), by omega⟩)
/-- The mean square of a row, with the small constant added. -/
def ku (s : Fin 16384) : EReal := Ideal.div (∑ x : Fin 1024, X (ix2 s x) * X (ix2 s x)) (Ideal.ofBits .f32 0x44800000#32) + Ideal.ofBits .f32 0x358637BD#32
/-- The normalised row. -/
def kxn (s : Fin 16384) (d : Fin 1024) : EReal := X (ix2 s d) * Ideal.rsqrt (ku X s)
/-- The gradient by the normalised row. -/
def kdn (s : Fin 16384) (d : Fin 1024) : EReal := kdh dq dk dv da dg df W s d * (G (ix2 0 d) * (1 + M (ix2 1 d)))
/-- The gradient by the call's input row. -/
def kdx (s : Fin 16384) (d : Fin 1024) : EReal := D (ix2 s d) + Ideal.rsqrt (ku X s) * (kdn dq dk dv da dg df W M G s d
  - kxn X s d * Ideal.div (∑ x : Fin 1024, kdn dq dk dv da dg df W M G s x * kxn X s x) (Ideal.ofBits .f32 0x44800000#32))
/-- What one row adds to the gradients by the shift, the scale and the norm's gain. -/
def kadd (k : Fin 3) (s : Fin 16384) (d : Fin 1024) : EReal :=
  if (k : ℕ) = 0 then kdh dq dk dv da dg df W s d
  else if (k : ℕ) = 1 then kdh dq dk dv da dg df W s d * kxn X s d * G (ix2 0 d)
  else kdh dq dk dv da dg df W s d * kxn X s d * (1 + M (ix2 1 d))
/-- The gradients by shift, scale and gain over the rows that are `r` modulo eight. -/
def kacc (k : Fin 3) (r : Fin 8) (d : Fin 1024) : EReal := ∑ t : Fin 32, ∑ g : Fin 64,
  kadd dq dk dv da dg df W X M G k ⟨512 * (t : ℕ) + ((g : ℕ) * 8 + r), by omega⟩ d
end

/-- A piece that doesn't hold the index is passed over. -/
theorem canon_skip {S : Shape} {e : EltTy} (off size : Fin S.rank → ℕ) (inb : ∀ a, off a + size a ≤ S.size a)
    (w : (Rect.unit off size inb).shape.Idx → Elt Ideal e) (L : List (View.Piece (Elt Ideal) S e)) (y : S.Idx) (a : Fin S.rank)
    (h : (y a : ℕ) < off a ∨ off a + size a ≤ (y a : ℕ)) :
    View.canon ((⟨Rect.unit off size inb, w⟩ : View.Piece (Elt Ideal) S e) :: L) y = View.canon L y :=
  View.canon_cons_of_not_mem _ _ fun hm => by
    have hm' : y ∈ (Rect.unit off size inb).set := hm
    have := (Rect.mem_set_unit (inb := inb)).mp hm' a
    omega

/-- A piece behind pieces that hold the index is not seen. -/
theorem canon_front {S : Shape} {e : EltTy} : ∀ (L M : List (View.Piece (Elt Ideal) S e)) (y : S.Idx),
    (∃ p ∈ L, y ∈ p.1.set) → View.canon (L ++ M) y = View.canon L y
  | [], _, _, h => by obtain ⟨p, hp, _⟩ := h; exact absurd hp List.not_mem_nil
  | p :: L, M, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_front L M y ?_
      obtain ⟨q, hq, hy⟩ := h
      rcases List.mem_cons.mp hq with rfl | hq
      · exact absurd hy hm
      · exact ⟨q, hq, hy⟩

theorem zero_acc (j : S3x8x1024.Idx) : (k0_pay1 : FVec Ideal S3x8x1024 .f32) j = (0 : EReal) := by pointwise [k0_pay1]

/-- A piece of zeros that covers everything. -/
theorem canon_zero {S : Shape} {e : EltTy} (off size : Fin S.rank → ℕ) (inb : ∀ a, off a + size a ≤ S.size a) (z : Elt Ideal e)
    (w : (Rect.unit off size inb).shape.Idx → Elt Ideal e) (L : List (View.Piece (Elt Ideal) S e)) (y : S.Idx)
    (hw : ∀ x, w x = z) (h : ∀ a, off a = 0 ∧ size a = S.size a) :
    View.canon ((⟨Rect.unit off size inb, w⟩ : View.Piece (Elt Ideal) S e) :: L) y = z := by
  have hm : y ∈ (Rect.unit off size inb).set := Rect.mem_set_unit.mpr fun a => by
    have := (y a).isLt
    obtain ⟨h1, h2⟩ := h a
    omega
  obtain ⟨x, rfl⟩ := (Rect.unit off size inb).exists_idx_of_mem hm
  rw [show (Rect.unit off size inb).idx x = (Rect.unit off size inb).emb x from rfl, View.canon_cons_emb, hw]

section
variable (m : (ℓ : Loc nD τ sig) → Buf (Elt Ideal) ℓ) (c : Dev nD)
variable (dq dk dv da dg : FVec Ideal S16384x512 .bf16) (df : FVec Ideal S16384x128 .bf16) (W : FVec Ideal S1024x2688 .bf16)
  (X D : FVec Ideal S16384x1024 .f32) (M : FVec Ideal S8x1024 .f32) (G : FVec Ideal S1x1024 .f32)
  (edq : V m c main_v0 = dq) (edk : V m c main_v1 = dk) (edv : V m c main_v2 = dv) (eda : V m c main_v3 = da) (edg : V m c main_v4 = dg) (edf : V m c main_v6 = df) (eW : V m c main_v13 = W) (eX : V m c main_arg7 = X) (eD : V m c main_arg8 = D) (eM : V m c main_v15 = M) (eG : V m c main_arg10 = G)

include edq in
theorem b0 (t : Fin cfg0.N) (a : Fin 512) (b : Fin 512) : (iblk m c 0 t : FVec Ideal S512x512 .bf16) (ix2 a b) = dq (ix2 (row t a) b) := by
  rw [← edq]; blk_ext [iblk, idx0 t, row]
include edk in
theorem b1 (t : Fin cfg0.N) (a : Fin 512) (b : Fin 512) : (iblk m c 1 t : FVec Ideal S512x512 .bf16) (ix2 a b) = dk (ix2 (row t a) b) := by
  rw [← edk]; blk_ext [iblk, idx0 t, row]
include edv in
theorem b2 (t : Fin cfg0.N) (a : Fin 512) (b : Fin 512) : (iblk m c 2 t : FVec Ideal S512x512 .bf16) (ix2 a b) = dv (ix2 (row t a) b) := by
  rw [← edv]; blk_ext [iblk, idx0 t, row]
include eda in
theorem b3 (t : Fin cfg0.N) (a : Fin 512) (b : Fin 512) : (iblk m c 3 t : FVec Ideal S512x512 .bf16) (ix2 a b) = da (ix2 (row t a) b) := by
  rw [← eda]; blk_ext [iblk, idx0 t, row]
include edg in
theorem b4 (t : Fin cfg0.N) (a : Fin 512) (b : Fin 512) : (iblk m c 4 t : FVec Ideal S512x512 .bf16) (ix2 a b) = dg (ix2 (row t a) b) := by
  rw [← edg]; blk_ext [iblk, idx0 t, row]
include edf in
theorem b5 (t : Fin cfg0.N) (a : Fin 512) (b : Fin 128) : (iblk m c 5 t : FVec Ideal S512x128 .bf16) (ix2 a b) = df (ix2 (row t a) b) := by
  rw [← edf]; blk_ext [iblk, idx0 t, row]
include eW in
theorem b6 (t : Fin cfg0.N) : (iblk m c 6 t : FVec Ideal S1024x2688 .bf16) = W := by
  rw [← eW]; funext j; blk_ext [iblk, idx0 t]
include eX in
theorem b7 (t : Fin cfg0.N) (a : Fin 512) (b : Fin 1024) : (iblk m c 7 t : FVec Ideal S512x1024 .f32) (ix2 a b) = X (ix2 (row t a) b) := by
  rw [← eX]; blk_ext [iblk, idx0 t, row]
include eD in
theorem b8 (t : Fin cfg0.N) (a : Fin 512) (b : Fin 1024) : (iblk m c 8 t : FVec Ideal S512x1024 .f32) (ix2 a b) = D (ix2 (row t a) b) := by
  rw [← eD]; blk_ext [iblk, idx0 t, row]
include eM in
theorem b9 (t : Fin cfg0.N) : (iblk m c 9 t : FVec Ideal S8x1024 .f32) = M := by
  rw [← eM]; funext j; blk_ext [iblk, idx0 t]
include eG in
theorem b10 (t : Fin cfg0.N) : (iblk m c 10 t : FVec Ideal S1x1024 .f32) = G := by
  rw [← eG]; funext j; blk_ext [iblk, idx0 t]

include edq edk edv eda edg edf eW eX eD eM eG in
set_option maxHeartbeats 1000000 in
/-- The gradient by the call's input. -/
theorem out_dx : (dats m 0 c).arrAt 11 cfg0.N = fun i : S16384x1024.Idx => kdx dq dk dv da dg df W X D M G (i 0) (i 1) := by
  refine (dats m 0 c).arrAt_eq_of_covers 11 _ (by decide +kernel) fun t _ y => ?_
  blk_simp
  rw [after0_11]
  have hs (y0 : Fin 512) (y1 : Fin 1024) : kdx dq dk dv da dg df W X D M G (((View.whole main_v16_0).slice (win0_11.rect t)).emb (ix2 y0 y1) 0)
      (((View.whole main_v16_0).slice (win0_11.rect t)).emb (ix2 y0 y1) 1) = kdx dq dk dv da dg df W X D M G (row t y0) y1 := by
    congr 1
    · refine Fin.ext ?_
      show _ = 512 * t.val + y0.val
      blk_simp [idx0 t]
      omega
    · refine Fin.ext ?_
      blk_simp [idx0 t]
  by_cases h : t.val % 32 = 0
  · rw [outsAt0_A m c t h]; frame_out
    idx_vars y
    pointwise [k0_pay12, k0_pay2, k0_pay3, k0_pay4, k0_pay5, k0_pay6, k0_pay7]
    rw [hs]
    simp only [b0 m c dq edq, b1 m c dk edk, b2 m c dv edv, b3 m c da eda, b4 m c dg edg, b5 m c df edf, b6 m c W eW, b7 m c X eX, b8 m c D eD, b9 m c M eM, b10 m c G eG]
    rfl
  · rw [outsAt0_B m c t h]; frame_out
    idx_vars y
    pointwise [k0_pay12, k0_pay2, k0_pay3, k0_pay4, k0_pay5, k0_pay6, k0_pay7]
    rw [hs]
    simp only [b0 m c dq edq, b1 m c dk edk, b2 m c dv edv, b3 m c da eda, b4 m c dg edg, b5 m c df edf, b6 m c W eW, b7 m c X eX, b8 m c D eD, b9 m c M eM, b10 m c G eG]
    rfl

include edq edk edv eda edg edf eW eX eM eG

/-- The first block of a core's run leaves its own sums. -/
theorem acc_first (t : Fin cfg0.N) (hc : t.val % 32 = 0) (j : S3x8x1024.Idx) : ((outsAt0 m c t.val t.isLt).2 : FVec Ideal S3x8x1024 .f32) j
    = (0 : EReal) + ∑ g : Fin 64, kadd dq dk dv da dg df W X M G (j 0) (row t ⟨(g : ℕ) * 8 + (j 1 : ℕ), by have : (j 1 : ℕ) < 8 := (j 1).isLt; omega⟩) (j 2) := by
  rw [outsAt0_A m c t hc]; frame_out
  refine (canon_front [_, _, _] [_] j (View.cover_of_tiled_head _ _ _ rfl j)).trans ?_
  canon_tiles x h
  case piece0 =>
    idx_vars x
    idx_vars j
    obtain rfl : j0 = 2 := Fin.ext (by omega)
    obtain rfl : j1 = x1 := Fin.ext h1
    obtain rfl : j2 = x2 := Fin.ext h2
    simp only [View.readCov_eq_canon']
    pointwise [k0_pay11, k0_pay8, k0_pay2, k0_pay3, k0_pay4, k0_pay5, k0_pay6]
    rw [canon_skip _ _ _ _ _ _ 0 (Or.inr (by show 1 + 1 ≤ 2; omega)), canon_skip _ _ _ _ _ _ 0 (Or.inr (by show 0 + 1 ≤ 2; omega)),
      canon_zero _ _ _ _ _ _ _ zero_acc (by decide)]
    simp only [b0 m c dq edq, b1 m c dk edk, b2 m c dv edv, b3 m c da eda, b4 m c dg edg, b5 m c df edf, b6 m c W eW, b7 m c X eX, b9 m c M eM, b10 m c G eG]
    exact (zero_add (_ : EReal)).trans rfl
  case piece1 =>
    idx_vars x
    idx_vars j
    obtain rfl : j0 = 1 := Fin.ext (by omega)
    obtain rfl : j1 = x1 := Fin.ext h1
    obtain rfl : j2 = x2 := Fin.ext h2
    simp only [View.readCov_eq_canon']
    pointwise [k0_pay10, k0_pay8, k0_pay2, k0_pay3, k0_pay4, k0_pay5, k0_pay6]
    rw [canon_skip _ _ _ _ _ _ 0 (Or.inr (by show 0 + 1 ≤ 1; omega)),
      canon_zero _ _ _ _ _ _ _ zero_acc (by decide)]
    simp only [b0 m c dq edq, b1 m c dk edk, b2 m c dv edv, b3 m c da eda, b4 m c dg edg, b5 m c df edf, b6 m c W eW, b7 m c X eX, b9 m c M eM, b10 m c G eG]
    exact (zero_add (_ : EReal)).trans rfl
  case piece2 =>
    idx_vars x
    idx_vars j
    obtain rfl : j0 = 0 := Fin.ext (by omega)
    obtain rfl : j1 = x1 := Fin.ext h1
    obtain rfl : j2 = x2 := Fin.ext h2
    simp only [View.readCov_eq_canon']
    pointwise [k0_pay9, k0_pay2, k0_pay3, k0_pay4]
    rw [canon_zero _ _ _ _ _ _ _ zero_acc (by decide)]
    simp only [b0 m c dq edq, b1 m c dk edk, b2 m c dv edv, b3 m c da eda, b4 m c dg edg, b5 m c df edf, b6 m c W eW, b7 m c X eX, b9 m c M eM, b10 m c G eG]
    exact (zero_add (_ : EReal)).trans rfl

/-- Every later block adds its sums to what was left before it. -/
theorem acc_next (t : Fin cfg0.N) (hc : ¬t.val % 32 = 0) (j : S3x8x1024.Idx) : ((outsAt0 m c t.val t.isLt).2 : FVec Ideal S3x8x1024 .f32) j
    = (outsAt0 m c (t.val - 1) (Nat.lt_of_le_of_lt (Nat.sub_le _ _) t.isLt)).2 j
      + ∑ g : Fin 64, kadd dq dk dv da dg df W X M G (j 0) (row t ⟨(g : ℕ) * 8 + (j 1 : ℕ), by have : (j 1 : ℕ) < 8 := (j 1).isLt; omega⟩) (j 2) := by
  rw [outsAt0_B m c t hc]; frame_out
  canon_tiles x h
  case piece0 =>
    idx_vars x
    idx_vars j
    obtain rfl : j0 = 2 := Fin.ext (by omega)
    obtain rfl : j1 = x1 := Fin.ext h1
    obtain rfl : j2 = x2 := Fin.ext h2
    pointwise [k0_pay11, k0_pay8, k0_pay2, k0_pay3, k0_pay4, k0_pay5, k0_pay6]
    simp only [b0 m c dq edq, b1 m c dk edk, b2 m c dv edv, b3 m c da eda, b4 m c dg edg, b5 m c df edf, b6 m c W eW, b7 m c X eX, b9 m c M eM, b10 m c G eG]
    rfl
  case piece1 =>
    idx_vars x
    idx_vars j
    obtain rfl : j0 = 1 := Fin.ext (by omega)
    obtain rfl : j1 = x1 := Fin.ext h1
    obtain rfl : j2 = x2 := Fin.ext h2
    pointwise [k0_pay10, k0_pay8, k0_pay2, k0_pay3, k0_pay4, k0_pay5, k0_pay6]
    simp only [b0 m c dq edq, b1 m c dk edk, b2 m c dv edv, b3 m c da eda, b4 m c dg edg, b5 m c df edf, b6 m c W eW, b7 m c X eX, b9 m c M eM, b10 m c G eG]
    rfl
  case piece2 =>
    idx_vars x
    idx_vars j
    obtain rfl : j0 = 0 := Fin.ext (by omega)
    obtain rfl : j1 = x1 := Fin.ext h1
    obtain rfl : j2 = x2 := Fin.ext h2
    pointwise [k0_pay9, k0_pay2, k0_pay3, k0_pay4]
    simp only [b0 m c dq edq, b1 m c dk edk, b2 m c dv edv, b3 m c da eda, b4 m c dg edg, b5 m c df edf, b6 m c W eW, b7 m c X eX, b9 m c M eM, b10 m c G eG]
    rfl

/-- The three accumulated gradients, one partial sum for each residue of the row modulo eight. -/
theorem out_acc : (dats m 0 c).arrAt 12 cfg0.N = fun i : S3x8x1024.Idx => kacc dq dk dv da dg df W X M G (i 0) (i 1) (i 2) := by
  refine (dats m 0 c).arrAt_eq_of_covers 12 _ (by decide +kernel) fun t hf y => ?_
  blk_simp
  rw [after0_12, Pipeline.eq_sum_fin_of_reset_step_apply_of_flush (fun n h => (outsAt0 m c n h).2) 32 (fun _ => 0) _
    (fun t h j => acc_first m c dq dk dv da dg df W X M G edq edk edv eda edg edf eW eX eM eG t h j)
    (fun t h j => acc_next m c dq dk dv da dg df W X M G edq edk edv eda edg edf eW eX eM eG t h j)
    t ((flush0_12 t).mp hf) _, zero_add]
  have hs (y0 : Fin 3) (y1 : Fin 8) (y2 : Fin 1024) : kacc dq dk dv da dg df W X M G (((View.whole main_v16_1).slice (win0_12.rect t)).emb (ix3 y0 y1 y2) 0)
      (((View.whole main_v16_1).slice (win0_12.rect t)).emb (ix3 y0 y1 y2) 1) (((View.whole main_v16_1).slice (win0_12.rect t)).emb (ix3 y0 y1 y2) 2)
      = kacc dq dk dv da dg df W X M G y0 y1 y2 := by
    congr 1 <;> refine Fin.ext ?_ <;> blk_simp [idx0 t]
  idx_vars y
  rw [hs]
  refine Fin.sum_fin_congr fun s => ?_
  generalize hp : (⟨32 * (t.val / 32) + s.val, _⟩ : Fin cfg0.N) = p
  have hps : p.val = s.val := by
    have := lt_of_lt_of_eq t.isLt N_0
    rw [← hp]; show 32 * (t.val / 32) + s.val = s.val
    omega
  refine Fin.sum_fin_congr fun g => ?_
  have hr : (⟨512 * s.val + ((g : ℕ) * 8 + y1.val), by omega⟩ : Fin 16384) = row p ⟨(g : ℕ) * 8 + y1.val, by omega⟩ :=
    Fin.ext (by show _ = 512 * p.val + ((g : ℕ) * 8 + y1.val); rw [hps])
  rw [hr]
end
end Cert.Bin
-- ==== Proof.BinRun.lean ====
module

public import proofs.«01_k».proof.Proof.Gen.BwdInIdeal.Frame
public import Idealize.ShloMosaic.Lib.StableHlo.ReadAt
public import Idealize.ShloMosaic.Lib.Pipeline.ValueKit
public import Idealize.ShloMosaic.Lib.Pointwise
public import Idealize.ShloMosaic.Lib.IdealHost

@[expose] public section

set_option maxRecDepth 16384

noncomputable section

namespace Cert.Bin

open Idealize.ShloMosaic Idealize.ShloMosaic.TcCoe Idealize.SL.Sem Idealize.SL
open Idealize.ShloMosaic.Pipeline (Dat)
open Cert.BwdInIdeal Cert.BwdInIdeal.Gen

/-! ### What the call finds in its windows, and the results behind it -/

section
variable (m : (ℓ : Loc nD τ sig) → Buf (Elt Ideal) ℓ) (ρ : Dev nD → PrngReg)
variable (c : Dev nD)

theorem v0_eq (s : Fin 16384) (k : Fin 512) : (V m c main_v0 : FVec Ideal S16384x512 .bf16) (ix2 s k)
    = (m ((c : Thread nD τ).loc main_arg0) : FVec Ideal S16384x512 .f32) (ix2 s k) := by
  show (V0 m c (Proc.devRef .tc main_v0) : FVec Ideal S16384x512 .bf16) (ix2 s k) = _
  unfold V0
  after_reads_at
theorem v1_eq (s : Fin 16384) (k : Fin 512) : (V m c main_v1 : FVec Ideal S16384x512 .bf16) (ix2 s k)
    = (m ((c : Thread nD τ).loc main_arg1) : FVec Ideal S16384x512 .f32) (ix2 s k) := by
  show (V0 m c (Proc.devRef .tc main_v1) : FVec Ideal S16384x512 .bf16) (ix2 s k) = _
  unfold V0
  after_reads_at
theorem v2_eq (s : Fin 16384) (k : Fin 512) : (V m c main_v2 : FVec Ideal S16384x512 .bf16) (ix2 s k)
    = (m ((c : Thread nD τ).loc main_arg2) : FVec Ideal S16384x512 .f32) (ix2 s k) := by
  show (V0 m c (Proc.devRef .tc main_v2) : FVec Ideal S16384x512 .bf16) (ix2 s k) = _
  unfold V0
  after_reads_at
theorem v3_eq (s : Fin 16384) (k : Fin 512) : (V m c main_v3 : FVec Ideal S16384x512 .bf16) (ix2 s k)
    = (m ((c : Thread nD τ).loc main_arg4) : FVec Ideal S16384x512 .f32) (ix2 s k) := by
  show (V0 m c (Proc.devRef .tc main_v3) : FVec Ideal S16384x512 .bf16) (ix2 s k) = _
  unfold V0
  after_reads_at
theorem v4_eq (s : Fin 16384) (k : Fin 512) : (V m c main_v4 : FVec Ideal S16384x512 .bf16) (ix2 s k)
    = (m ((c : Thread nD τ).loc main_arg5) : FVec Ideal S16384x512 .f32) (ix2 s k) := by
  show (V0 m c (Proc.devRef .tc main_v4) : FVec Ideal S16384x512 .bf16) (ix2 s k) = _
  unfold V0
  after_reads_at
theorem v6_lo (s : Fin 16384) (k : Fin 8) : (V m c main_v6 : FVec Ideal S16384x128 .bf16) (ix2 s ⟨(k : ℕ), by omega⟩)
    = (m ((c : Thread nD τ).loc main_arg3) : FVec Ideal S16384x8 .f32) (ix2 s k) := by
  show (V0 m c (Proc.devRef .tc main_v6) : FVec Ideal S16384x128 .bf16) (ix2 s ⟨(k : ℕ), by omega⟩) = _
  unfold V0
  after_reads_at

theorem v6_hi (s : Fin 16384) (k : Fin 120) : (V m c main_v6 : FVec Ideal S16384x128 .bf16) (ix2 s ⟨8 + (k : ℕ), by omega⟩)
    = (0 : EReal) := by
  show (V0 m c (Proc.devRef .tc main_v6) : FVec Ideal S16384x128 .bf16) (ix2 s ⟨8 + (k : ℕ), by omega⟩) = _
  unfold V0
  after_reads_at
  show (((0#32 : BitVec 32).toInt : ℝ) : EReal) = 0
  simp

theorem v13_a (d : Fin 1024) (k : Fin 1536) : (V m c main_v13 : FVec Ideal S1024x2688 .bf16) (ix2 d ⟨(k : ℕ), by omega⟩)
    = (m ((c : Thread nD τ).loc main_arg6) : FVec Ideal S1x1024x2568 .f32) (ix3 0 d ⟨(k : ℕ), by omega⟩) := by
  show (V0 m c (Proc.devRef .tc main_v13) : FVec Ideal S1024x2688 .bf16) (ix2 d ⟨(k : ℕ), by omega⟩) = _
  unfold V0
  after_reads_at
  after_reads_at

theorem v13_b (d : Fin 1024) (k : Fin 1024) : (V m c main_v13 : FVec Ideal S1024x2688 .bf16) (ix2 d ⟨1536 + (k : ℕ), by omega⟩)
    = (m ((c : Thread nD τ).loc main_arg6) : FVec Ideal S1x1024x2568 .f32) (ix3 0 d ⟨1544 + (k : ℕ), by omega⟩) := by
  show (V0 m c (Proc.devRef .tc main_v13) : FVec Ideal S1024x2688 .bf16) (ix2 d ⟨1536 + (k : ℕ), by omega⟩) = _
  unfold V0
  after_reads_at
  after_reads_at

theorem v13_c (d : Fin 1024) (k : Fin 8) : (V m c main_v13 : FVec Ideal S1024x2688 .bf16) (ix2 d ⟨2560 + (k : ℕ), by omega⟩)
    = (m ((c : Thread nD τ).loc main_arg6) : FVec Ideal S1x1024x2568 .f32) (ix3 0 d ⟨1536 + (k : ℕ), by omega⟩) := by
  show (V0 m c (Proc.devRef .tc main_v13) : FVec Ideal S1024x2688 .bf16) (ix2 d ⟨2560 + (k : ℕ), by omega⟩) = _
  unfold V0
  after_reads_at
  rw [dif_neg (by omega), dif_neg (by omega), dif_pos (by omega)]
  after_reads_at
  exact congrArg (fun j : Fin 2568 => (m ((c : Thread nD τ).loc main_arg6) : FVec Ideal S1x1024x2568 .f32) (ix3 0 d j)) (Fin.ext (by show 1536 + (2560 + (k : ℕ) - 1536 - 1024) = 1536 + (k : ℕ); omega))

theorem v13_d (d : Fin 1024) (k : Fin 120) : (V m c main_v13 : FVec Ideal S1024x2688 .bf16) (ix2 d ⟨2568 + (k : ℕ), by omega⟩)
    = (0 : EReal) := by
  show (V0 m c (Proc.devRef .tc main_v13) : FVec Ideal S1024x2688 .bf16) (ix2 d ⟨2568 + (k : ℕ), by omega⟩) = _
  unfold V0
  after_reads_at
  rw [dif_neg (by omega), dif_neg (by omega), dif_neg (by omega)]
  after_reads_at

theorem v15_eq (d : Fin 1024) : (V m c main_v15 : FVec Ideal S8x1024 .f32) (ix2 1 d)
    = (m ((c : Thread nD τ).loc main_arg9) : FVec Ideal S1x6144 .f32) (ix2 0 ⟨1024 + (d : ℕ), by omega⟩) := by
  show (V0 m c (Proc.devRef .tc main_v15) : FVec Ideal S8x1024 .f32) (ix2 1 d) = _
  unfold V0
  after_reads_at

/-- The sum over the second axis of one page. -/
def page (k : Fin 3) (A : FVec Ideal S3x8x1024 .f32) (d : Fin 1024) : EReal := ∑ r : Fin 8, A (ix3 k r d)

theorem w_v20 (W : Valuation τ sig (Elt Ideal)) (d : Fin 1024) : (StableHlo.after [hostOps1].flatten W (Proc.devRef .tc main_v20) : FVec Ideal S1x1024 .f32) (ix2 0 d)
    = page 0 (W (Proc.devRef .tc main_v16_1)) d := by
  after_reads_at
  rfl
theorem w_v24 (W : Valuation τ sig (Elt Ideal)) (d : Fin 1024) : (StableHlo.after [hostOps1].flatten W (Proc.devRef .tc main_v24) : FVec Ideal S1x1024 .f32) (ix2 0 d)
    = page 1 (W (Proc.devRef .tc main_v16_1)) d := by
  after_reads_at
  rfl
theorem w_v28 (W : Valuation τ sig (Elt Ideal)) (d : Fin 1024) : (StableHlo.after [hostOps1].flatten W (Proc.devRef .tc main_v28) : FVec Ideal S1x1024 .f32) (ix2 0 d)
    = page 2 (W (Proc.devRef .tc main_v16_1)) d := by
  after_reads_at
  rfl

/-- The buffers behind the call: the call's arrays at what it leaves in them, every other buffer as before. -/
def WV : Valuation τ sig (Elt Ideal) := Pipeline.withArrays (cfgs 0).spec c (V0 m c) fun w => (dats m 0 c).arrAt w (cfgs 0).N

theorem wv_acc : WV m c (Proc.devRef .tc main_v16_1) = (dats m 0 c).arrAt 12 cfg0.N :=
  Pipeline.withArrays_arr (cfgs 0).spec (by decide) c (V0 m c) (fun w => (dats m 0 c).arrAt w (cfgs 0).N) 12

/-- The kernel's runs end with its four results at these contents, and the arguments unchanged. -/
theorem run_k : θ_run (defs (F := Ideal)) (onTc (τ := τ) (main (F := Ideal))) ⟨m, fun _ => 0, ρ⟩ (fun r => ∀ c : Dev nD,
      r.2.mem ((c.tc : Thread nD τ).loc main_v16_0) = (dats m 0 c).arrAt 11 cfg0.N
      ∧ r.2.mem ((c.tc : Thread nD τ).loc main_v20) = StableHlo.after [hostOps1].flatten (WV m c) (Proc.devRef .tc main_v20)
      ∧ r.2.mem ((c.tc : Thread nD τ).loc main_v24) = StableHlo.after [hostOps1].flatten (WV m c) (Proc.devRef .tc main_v24)
      ∧ r.2.mem ((c.tc : Thread nD τ).loc main_v28) = StableHlo.after [hostOps1].flatten (WV m c) (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => ⟨h.1.out_eq c 11, h.1.rest_eq c main_v20 (by decide), h.1.rest_eq c main_v24 (by decide), h.1.rest_eq c main_v28 (by decide), h.2 c⟩)
    (θ_run_and (run_main m ρ) (unchanged m ρ))
end
end Cert.Bin
-- ==== Proof.BinRef.lean ====
module

public import proofs.«01_k».proof.Proof.Gen.BwdInRefIdeal.Run
public import Idealize.ShloMosaic.Lib.Pointwise
public import Idealize.ShloMosaic.Lib.IdealHost
public import Idealize.ShloMosaic.Lib.StableHlo.ReadAt

@[expose] public section

set_option maxRecDepth 16384

noncomputable section

namespace Cert.Bin

open Idealize.ShloMosaic Idealize.ShloMosaic.TcCoe Idealize.SL.Sem
open Cert.BwdInRefIdeal Cert.BwdInRefIdeal.Gen

/-! ### The gradient of the norm, its modulation and the input product, over the extended reals -/

section Spec
variable (Q K V : FVec Ideal S16384x512 .f32) (F : FVec Ideal S16384x8 .f32) (A B : FVec Ideal S16384x512 .f32)
  (W : FVec Ideal S1x1024x2568 .f32) (X D : FVec Ideal S16384x1024 .f32) (M : FVec Ideal S1x6144 .f32) (G : FVec Ideal S1x1024 .f32)

/-- The gradient by the modulated rows: the six cotangents, each times its columns of the input weight. -/
def dh (s : Fin 16384) (d : Fin 1024) : EReal :=
  ∑ k : Fin 512, Q (ix2 s k) * W (ix3 0 d ⟨(k : ℕ), by omega⟩) + ∑ k : Fin 512, K (ix2 s k) * W (ix3 0 d ⟨512 + (k : ℕ), by omega⟩)
    + ∑ k : Fin 512, V (ix2 s k) * W (ix3 0 d ⟨1024 + (k : ℕ), by omega⟩) + ∑ k : Fin 8, F (ix2 s k) * W (ix3 0 d ⟨1536 + (k : ℕ), by omega⟩)
    + ∑ k : Fin 512, A (ix2 s k) * W (ix3 0 d ⟨1544 + (k : ℕ), by omega⟩) + ∑ k : Fin 512, B (ix2 s k) * W (ix3 0 d ⟨2056 + (k : ℕ), by omega⟩)
/-- The scale of the modulation. -/
def sc (d : Fin 1024) : EReal := M (ix2 0 ⟨1024 + (d : ℕ), by omega⟩)
/-- The mean square of a row, with the small constant added. -/
def ru (s : Fin 16384) : EReal := Ideal.div (∑ x : Fin 1024, X (ix2 s x) * X (ix2 s x)) (Ideal.ofBits .f32 0x44800000#32) + Ideal.ofBits .f32 0x358637BD#32
/-- The normalised row. -/
def xn (s : Fin 16384) (d : Fin 1024) : EReal := X (ix2 s d) * Ideal.rsqrt (ru X s)
/-- The gradient by the normalised row. -/
def dn (s : Fin 16384) (d : Fin 1024) : EReal := dh Q K V F A B W s d * (1 + sc M d) * G (ix2 0 d)
/-- The gradient by the row's sum of squares. -/
def rA (s : Fin 16384) : EReal := Ideal.div ((∑ x : Fin 1024, X (ix2 s x) * dn Q K V F A B W M G s x)
  * (Ideal.ofBits .f32 0xBF000000#32 * Ideal.div (Ideal.rsqrt (ru X s)) (ru X s))) (Ideal.ofBits .f32 0x44800000#32)
/-- The gradient by the rows. -/
def dx (s : Fin 16384) (d : Fin 1024) : EReal := D (ix2 s d) + dn Q K V F A B W M G s d * Ideal.rsqrt (ru X s)
  + X (ix2 s d) * rA Q K V F A B W X M G s + rA Q K V F A B W X M G s * X (ix2 s d)
/-- The gradient by the shift. -/
def dsh (d : Fin 1024) : EReal := ∑ s : Fin 16384, dh Q K V F A B W s d
/-- The gradient by the scale. -/
def dsc (d : Fin 1024) : EReal := ∑ s : Fin 16384, xn X s d * G (ix2 0 d) * dh Q K V F A B W s d
/-- The gradient by the norm's gain. -/
def dgn (d : Fin 1024) : EReal := ∑ s : Fin 16384, xn X s d * (dh Q K V F A B W s d * (1 + sc M d))
end Spec

/-! ### The reference's results are these -/

/-- A sum over the 2568 columns, group by group. -/
theorem sum_cols (f : Fin 2568 → EReal) : ∑ j, f j = ∑ k : Fin 512, f ⟨(k : ℕ), by omega⟩ + ∑ k : Fin 512, f ⟨512 + (k : ℕ), by omega⟩
    + ∑ k : Fin 512, f ⟨1024 + (k : ℕ), by omega⟩ + ∑ k : Fin 8, f ⟨1536 + (k : ℕ), by omega⟩
    + ∑ k : Fin 512, f ⟨1544 + (k : ℕ), by omega⟩ + ∑ k : Fin 512, f ⟨2056 + (k : ℕ), by omega⟩ := by
  refine (Fin.sum_univ_add (a := 2056) (b := 512) f).trans (congrArg₂ (· + ·) ?_ rfl)
  refine (Fin.sum_univ_add (a := 1544) (b := 512) _).trans (congrArg₂ (· + ·) ?_ rfl)
  refine (Fin.sum_univ_add (a := 1536) (b := 8) _).trans (congrArg₂ (· + ·) ?_ rfl)
  refine (Fin.sum_univ_add (a := 1024) (b := 512) _).trans (congrArg₂ (· + ·) ?_ rfl)
  exact (Fin.sum_univ_add (a := 512) (b := 512) _)

section Cat
variable (Q K V : FVec Ideal S16384x512 .f32) (F : FVec Ideal S16384x8 .f32) (A B : FVec Ideal S16384x512 .f32) (s : Fin 16384)
/-- The cotangents side by side. -/
def cat : FVec Ideal S16384x2568 .f32 := Value.fn_main_v37 (F := Ideal) Q K V F (Value.fn_main_v36 (F := Ideal) A B)
theorem cat_q (k : Fin 512) : cat Q K V F A B (ix2 s ⟨(k : ℕ), by omega⟩) = Q (ix2 s k) := by
  unfold cat Value.fn_main_v37 Value.fn_main_v36
  pointwise
theorem cat_k (k : Fin 512) : cat Q K V F A B (ix2 s ⟨512 + (k : ℕ), by omega⟩) = K (ix2 s k) := by
  unfold cat Value.fn_main_v37 Value.fn_main_v36
  pointwise
theorem cat_v (k : Fin 512) : cat Q K V F A B (ix2 s ⟨1024 + (k : ℕ), by omega⟩) = V (ix2 s k) := by
  unfold cat Value.fn_main_v37 Value.fn_main_v36
  pointwise
  rw [dif_neg (by omega), dif_neg (by omega), dif_pos (by omega)]
  exact congrArg (fun j : Fin 512 => V (ix2 s j)) (Fin.ext (by show 1024 + (k : ℕ) - 512 - 512 = (k : ℕ); omega))
theorem cat_f (k : Fin 8) : cat Q K V F A B (ix2 s ⟨1536 + (k : ℕ), by omega⟩) = F (ix2 s k) := by
  unfold cat Value.fn_main_v37 Value.fn_main_v36
  pointwise
  rw [dif_neg (by omega), dif_neg (by omega), dif_neg (by omega), dif_pos (by omega)]
  exact congrArg (fun j : Fin 8 => F (ix2 s j)) (Fin.ext (by show 1536 + (k : ℕ) - 512 - 512 - 512 = (k : ℕ); omega))
theorem cat_a (k : Fin 512) : cat Q K V F A B (ix2 s ⟨1544 + (k : ℕ), by omega⟩) = A (ix2 s k) := by
  unfold cat Value.fn_main_v37 Value.fn_main_v36
  pointwise
  rw [dif_neg (by omega), dif_neg (by omega), dif_neg (by omega), dif_neg (by omega), dif_pos (by omega)]
  exact congrArg (fun j : Fin 512 => A (ix2 s j)) (Fin.ext (by show 1544 + (k : ℕ) - 512 - 512 - 512 - 8 = (k : ℕ); omega))
theorem cat_b (k : Fin 512) : cat Q K V F A B (ix2 s ⟨2056 + (k : ℕ), by omega⟩) = B (ix2 s k) := by
  unfold cat Value.fn_main_v37 Value.fn_main_v36
  pointwise
  rw [dif_neg (by omega), dif_neg (by omega), dif_neg (by omega), dif_neg (by omega), dif_neg (by omega)]
  exact congrArg (fun j : Fin 512 => B (ix2 s j)) (Fin.ext (by show 2056 + (k : ℕ) - 512 - 512 - 512 - 8 - 512 = (k : ℕ); omega))
theorem cat_dh (W : FVec Ideal S1x1024x2568 .f32) (d : Fin 1024) : ∑ j : Fin 2568, cat Q K V F A B (ix2 s j) * W (ix3 0 d j) = dh Q K V F A B W s d := by
  rw [sum_cols]
  simp only [cat_q, cat_k, cat_v, cat_f, cat_a, cat_b]
  rfl
end Cat

section Ref
variable (m : (ℓ : Loc nD τ sig) → Buf (Elt Ideal) ℓ) (c : Dev nD)

/-- The reference's buffers after its run. -/
abbrev RV (b : Ref sig .tc) := StableHlo.after (Cert.BwdInRefIdeal.Value.ops (F := Ideal)) (fun b => m (c, b)) (Proc.devRef .tc b)

variable (Q K V : FVec Ideal S16384x512 .f32) (F : FVec Ideal S16384x8 .f32) (A B : FVec Ideal S16384x512 .f32)
  (W : FVec Ideal S1x1024x2568 .f32) (X D : FVec Ideal S16384x1024 .f32) (M : FVec Ideal S1x6144 .f32) (G : FVec Ideal S1x1024 .f32)
  (e0 : m (c, Proc.devRef .tc main_arg0) = Q) (e1 : m (c, Proc.devRef .tc main_arg1) = K) (e2 : m (c, Proc.devRef .tc main_arg2) = V)
  (e3 : m (c, Proc.devRef .tc main_arg3) = F) (e4 : m (c, Proc.devRef .tc main_arg4) = A) (e5 : m (c, Proc.devRef .tc main_arg5) = B)
  (e6 : m (c, Proc.devRef .tc main_arg6) = W) (e7 : m (c, Proc.devRef .tc main_arg7) = X) (e8 : m (c, Proc.devRef .tc main_arg8) = D)
  (e9 : m (c, Proc.devRef .tc main_arg9) = M) (e10 : m (c, Proc.devRef .tc main_arg10) = G)
include e0 e1 e2 e3 e4 e5 e6 e7 e8 e9 e10

omit e0 e1 e2 e3 e5 e6 e7 e8 e9 e10 in
theorem u4 : StableHlo.upto (Value.ops (F := Ideal)) (fun b => m (c, b)) 41 (Proc.devRef .tc main_arg4) = A := by
  rw [← e4]; first | after_reads_at | (unfold StableHlo.upto; after_reads_simp)
omit e0 e1 e2 e3 e4 e6 e7 e8 e9 e10 in
theorem u5 : StableHlo.upto (Value.ops (F := Ideal)) (fun b => m (c, b)) 41 (Proc.devRef .tc main_arg5) = B := by
  rw [← e5]; first | after_reads_at | (unfold StableHlo.upto; after_reads_simp)

theorem ref_dsh (d : Fin 1024) : (RV m c main_v40 : FVec Ideal S1x1024 .f32) (ix2 0 d) = dsh Q K V F A B W d := by
  after_reads_at
  simp only [StableHlo.binary_result', u4 m c A e4, u5 m c B e5, e0, e1, e2, e3, e6, e7, e8, e9, e10]
  simp only [← cat.eq_1, cat_dh, Fin.sum_univ_one]
  rfl

theorem ref_dsc (d : Fin 1024) : (RV m c main_v43 : FVec Ideal S1x1024 .f32) (ix2 0 d) = dsc Q K V F A B W X G d := by
  after_reads_at
  simp only [StableHlo.binary_result', u4 m c A e4, u5 m c B e5, e0, e1, e2, e3, e6, e7, e8, e9, e10]
  simp only [← cat.eq_1, cat_dh, Fin.sum_univ_one]
  rfl

theorem ref_dgn (d : Fin 1024) : (RV m c main_v48 : FVec Ideal S1x1024 .f32) (ix2 0 d) = dgn Q K V F A B W X M d := by
  after_reads_at
  simp only [StableHlo.binary_result', u4 m c A e4, u5 m c B e5, e0, e1, e2, e3, e6, e7, e8, e9, e10]
  simp only [← cat.eq_1, cat_dh, Fin.sum_univ_one]
  rfl

theorem ref_dx (s : Fin 16384) (d : Fin 1024) : (RV m c main_v65 : FVec Ideal S16384x1024 .f32) (ix2 s d) = dx Q K V F A B W X D M G s d := by
  after_reads_at
  simp only [StableHlo.binary_result', u4 m c A e4, u5 m c B e5, e0, e1, e2, e3, e6, e7, e8, e9, e10]
  simp only [← cat.eq_1, cat_dh, Fin.sum_univ_one]
  rfl
end Ref

/-- The reference's runs end with each result at the contents its operations leave, and the arguments unchanged. -/
theorem run_r (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65) = RV m c main_v65
      ∧ r.2.mem ((c.tc : Thread nD τ).loc main_v40) = RV m c main_v40
      ∧ r.2.mem ((c.tc : Thread nD τ).loc main_v43) = RV m c main_v43
      ∧ r.2.mem ((c.tc : Thread nD τ).loc main_v48) = RV m c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v65, h c main_v40, h c main_v43, h c main_v48,
      (h c main_arg0).trans (by after_reads_simp),
      (h c main_arg1).trans (by after_reads_simp),
      (h c main_arg2).trans (by after_reads_simp),
      (h c main_arg3).trans (by after_reads_simp),
      (h c main_arg4).trans (by after_reads_simp),
      (h c main_arg5).trans (by after_reads_simp),
      (h c main_arg6).trans (by after_reads_simp),
      (h c main_arg7).trans (by after_reads_simp),
      (h c main_arg8).trans (by after_reads_simp),
      (h c main_arg9).trans (by after_reads_simp),
      (h c main_arg10).trans (by after_reads_simp)⟩)
    (StableHlo.run_seq Value.scopedRefs_eq Value.scopedSems_eq defs main (fun _ => Value.ops) Value.main_eq (fun _ => Value.ops_sub) m ρ)
end Cert.Bin
-- ==== Proof.BinFinal.lean ====
module

public import proofs.«01_k».proof.Proof.BinFwd
public import proofs.«01_k».proof.Proof.BinRun
public import proofs.«01_k».proof.Proof.BinRef
public import proofs.«01_k».proof.Proof.FfnRef
public import proofs.«01_k».proof.Proof.AttnReals

@[expose] public section

set_option maxRecDepth 16384

noncomputable section

namespace Cert.Bin

open Idealize.ShloMosaic Idealize.ShloMosaic.TcCoe Idealize.SL.Sem
open Cert.BwdInIdeal Cert.BwdInIdeal.Gen

/-! ### The norm's gradient, row by row, for arguments that may be infinite -/

theorem c_mhalf : Ideal.ofBits .f32 0xBF000000#32 = ((-(1 / 2) : ℝ) : EReal) := by
  simp [Ideal.ofBits, Ideal.ieee, -EReal.coe_mul]; norm_num

theorem sq_nonneg' (x : EReal) : 0 ≤ x * x := by
  induction x with
  | bot => simp
  | top => simp
  | coe r => rw [← EReal.coe_mul]; exact_mod_cast mul_self_nonneg r

theorem twice (y : EReal) : y + y = y * ((2 : ℝ) : EReal) := by
  induction y with
  | bot => rw [EReal.bot_mul_coe_of_pos (by norm_num)]; rfl
  | top => rw [EReal.top_mul_coe_of_pos (by norm_num)]; rfl
  | coe r => rw [← EReal.coe_add, ← EReal.coe_mul]; exact congrArg _ (by ring)

/-- The mean square with the small constant is positive: real, or infinite. -/
theorem ru_pos (X : FVec Ideal S16384x1024 .f32) (s : Fin 16384) : ru X s = ⊤ ∨ ∃ v : ℝ, 0 < v ∧ ru X s = v := by
  unfold ru
  obtain ⟨e, he, ee⟩ := Cert.AttnF.ceps
  have h : (0 : EReal) ≤ ∑ x : Fin 1024, X (ix2 s x) * X (ix2 s x) := Finset.sum_nonneg fun x _ => sq_nonneg' _
  generalize (∑ x : Fin 1024, X (ix2 s x) * X (ix2 s x)) = S at h ⊢
  rw [ee, Cert.Ffn.c_1024, Ideal.div_coe (by norm_num)]
  induction S using EReal.rec with
  | bot => simp at h
  | top => left; rw [EReal.top_mul_coe_of_pos (by norm_num)]; exact EReal.top_add_coe e
  | coe r =>
    right
    refine ⟨r * (1 / (1024 : ℝ)) + e, ?_, ?_⟩
    · have : 0 ≤ r := by exact_mod_cast h
      positivity
    · rw [EReal.coe_add, EReal.coe_mul]

/-- One row: the call's expression for the gradient is the derivative's. -/
theorem dx_core (X Y : Fin 1024 → EReal) (u D : EReal) (d : Fin 1024) (hu : u = ⊤ ∨ ∃ v : ℝ, 0 < v ∧ u = v) :
    D + Ideal.rsqrt u * (Y d - X d * Ideal.rsqrt u * Ideal.div (∑ x, Y x * (X x * Ideal.rsqrt u)) (Ideal.ofBits .f32 0x44800000#32))
    = D + Y d * Ideal.rsqrt u
      + X d * Ideal.div ((∑ x, X x * Y x) * (Ideal.ofBits .f32 0xBF000000#32 * Ideal.div (Ideal.rsqrt u) u)) (Ideal.ofBits .f32 0x44800000#32)
      + Ideal.div ((∑ x, X x * Y x) * (Ideal.ofBits .f32 0xBF000000#32 * Ideal.div (Ideal.rsqrt u) u)) (Ideal.ofBits .f32 0x44800000#32) * X d := by
  rw [Cert.Ffn.c_1024, c_mhalf]
  rcases hu with rfl | ⟨v, hv, rfl⟩
  · rw [Ideal.rsqrt_top, show Ideal.div 0 ⊤ = 0 by simp [Ideal.div], Ideal.div_coe (by norm_num)]
    simp
    rw [Ideal.div_coe (by norm_num)]
    simp
  · rw [Ideal.rsqrt_coe, if_neg (not_lt.2 hv.le), if_neg hv.ne']
    have hq : 0 < (Real.sqrt v)⁻¹ := inv_pos.2 (Real.sqrt_pos.2 hv)
    have hqq : (Real.sqrt v)⁻¹ * (Real.sqrt v)⁻¹ = v⁻¹ := by rw [← mul_inv, Real.mul_self_sqrt hv.le]
    generalize (Real.sqrt v)⁻¹ = q at hq hqq ⊢
    rw [Cert.AttnZ.div_real _ _ hv.ne', show (∑ x, Y x * (X x * (q : EReal))) = (∑ x, X x * Y x) * (q : EReal) by
      rw [Cert.Ffn.sum_mul_coe _ _ hq.le]
      exact Finset.sum_congr rfl fun x _ => by rw [← mul_assoc, mul_comm (Y x)]]
    generalize (∑ x, X x * Y x) = S
    rw [Ideal.div_coe (by norm_num), Ideal.div_coe (by norm_num)]
    generalize X d = x
    generalize Y d = y
    have hA : S * (((-(1 / 2) : ℝ) : EReal) * ((q / v : ℝ) : EReal)) * ((1 / (1024 : ℝ) : ℝ) : EReal) = S * ((-(1 / 2) * (q / v) * (1 / (1024 : ℝ)) : ℝ) : EReal) := by
      rw [mul_assoc, ← EReal.coe_mul, ← EReal.coe_mul]
    have hK : x * (q : EReal) * (S * (q : EReal) * ((1 / (1024 : ℝ) : ℝ) : EReal)) = x * S * ((q * q * (1 / (1024 : ℝ)) : ℝ) : EReal) := by
      rw [mul_assoc S, ← EReal.coe_mul, mul_assoc x, mul_left_comm (q : EReal) S, ← EReal.coe_mul, ← mul_assoc, mul_assoc q]
    rw [hA, hK, mul_comm _ x, ← mul_assoc x, add_assoc, twice, mul_assoc (x * S), ← EReal.coe_mul, add_assoc, sub_eq_add_neg,
      EReal.left_distrib_of_nonneg_of_ne_top (by exact_mod_cast hq.le) (EReal.coe_ne_top q), mul_comm (q : EReal) y, mul_neg, mul_left_comm, ← EReal.coe_mul,
      ← mul_neg, ← EReal.coe_neg]
    refine congrArg (fun z : ℝ => D + (y * (q : EReal) + x * S * (z : EReal))) ?_
    rw [hqq]
    field_simp

/-! ### The kernel's elements are the derivative's -/

section
variable (Q K V : FVec Ideal S16384x512 .f32) (F : FVec Ideal S16384x8 .f32) (A B : FVec Ideal S16384x512 .f32)
  (W : FVec Ideal S1x1024x2568 .f32) (X D : FVec Ideal S16384x1024 .f32) (M : FVec Ideal S1x6144 .f32) (G : FVec Ideal S1x1024 .f32)
  (dq dk dv da dg : FVec Ideal S16384x512 .bf16) (df : FVec Ideal S16384x128 .bf16) (w : FVec Ideal S1024x2688 .bf16) (M8 : FVec Ideal S8x1024 .f32)
  (hq : ∀ s k, dq (ix2 s k) = Q (ix2 s k)) (hk : ∀ s k, dk (ix2 s k) = K (ix2 s k)) (hv : ∀ s k, dv (ix2 s k) = V (ix2 s k))
  (ha : ∀ s k, da (ix2 s k) = A (ix2 s k)) (hg : ∀ s k, dg (ix2 s k) = B (ix2 s k))
  (hf : ∀ s (k : Fin 8), df (ix2 s ⟨(k : ℕ), by omega⟩) = F (ix2 s k)) (hz : ∀ s (k : Fin 120), df (ix2 s ⟨8 + (k : ℕ), by omega⟩) = (0 : EReal))
  (wa : ∀ d (k : Fin 1536), w (ix2 d ⟨(k : ℕ), by omega⟩) = W (ix3 0 d ⟨(k : ℕ), by omega⟩))
  (wb : ∀ d (k : Fin 1024), w (ix2 d ⟨1536 + (k : ℕ), by omega⟩) = W (ix3 0 d ⟨1544 + (k : ℕ), by omega⟩))
  (wc : ∀ d (k : Fin 8), w (ix2 d ⟨2560 + (k : ℕ), by omega⟩) = W (ix3 0 d ⟨1536 + (k : ℕ), by omega⟩))
  (hM : ∀ d : Fin 1024, M8 (ix2 1 d) = M (ix2 0 ⟨1024 + (d : ℕ), by omega⟩))

include hq hk hv ha hg hf hz wa wb wc in
theorem kdh_eq (s : Fin 16384) (d : Fin 1024) : kdh dq dk dv da dg df w s d = dh Q K V F A B W s d := by
  have w1 (k : Fin 512) : w (ix2 d ⟨(k : ℕ), by omega⟩) = W (ix3 0 d ⟨(k : ℕ), by omega⟩) := wa d ⟨k, by omega⟩
  have w2 (k : Fin 512) : w (ix2 d ⟨512 + (k : ℕ), by omega⟩) = W (ix3 0 d ⟨512 + (k : ℕ), by omega⟩) := wa d ⟨512 + k, by omega⟩
  have w3 (k : Fin 512) : w (ix2 d ⟨1024 + (k : ℕ), by omega⟩) = W (ix3 0 d ⟨1024 + (k : ℕ), by omega⟩) := wa d ⟨1024 + k, by omega⟩
  have w4 (k : Fin 512) : w (ix2 d ⟨1536 + (k : ℕ), by omega⟩) = W (ix3 0 d ⟨1544 + (k : ℕ), by omega⟩) := wb d ⟨k, by omega⟩
  have w5 (k : Fin 512) : w (ix2 d ⟨2048 + (k : ℕ), by omega⟩) = W (ix3 0 d ⟨2056 + (k : ℕ), by omega⟩) := by
    have h1 : (⟨2048 + (k : ℕ), by omega⟩ : Fin 2688) = ⟨1536 + (512 + (k : ℕ)), by omega⟩ := Fin.ext (by show 2048 + (k : ℕ) = 1536 + (512 + (k : ℕ)); omega)
    have h2 : (⟨2056 + (k : ℕ), by omega⟩ : Fin 2568) = ⟨1544 + (512 + (k : ℕ)), by omega⟩ := Fin.ext (by show 2056 + (k : ℕ) = 1544 + (512 + (k : ℕ)); omega)
    rw [h1, h2]
    exact wb d ⟨512 + k, by omega⟩
  have w6 : ∑ k : Fin 128, df (ix2 s k) * w (ix2 d ⟨2560 + (k : ℕ), by omega⟩) = ∑ k : Fin 8, F (ix2 s k) * W (ix3 0 d ⟨1536 + (k : ℕ), by omega⟩) := by
    refine (Fin.sum_univ_add (a := 8) (b := 120) (fun k : Fin 128 => df (ix2 s k) * w (ix2 d ⟨2560 + (k : ℕ), by omega⟩))).trans ?_
    have h0 : ∑ k : Fin 120, (fun k : Fin 128 => (df (ix2 s k) * w (ix2 d ⟨2560 + (k : ℕ), by omega⟩) : EReal)) (Fin.natAdd 8 k) = 0 :=
      Finset.sum_eq_zero fun k _ => by
        refine Eq.trans (congrArg (· * _) (hz s k)) ?_
        exact zero_mul _
    refine (congrArg₂ (· + ·) ?_ h0).trans (add_zero _)
    refine Finset.sum_congr rfl fun k _ => ?_
    exact congrArg₂ (· * ·) (hf s k) (wc d k)
  unfold kdh dh
  simp only [hq, hk, hv, ha, hg, w1, w2, w3, w4, w5, w6]
  simp only [add_assoc]
  refine congrArg (_ + ·) (congrArg (_ + ·) (congrArg (_ + ·) ?_))
  rw [← add_assoc, add_comm]

include hq hk hv ha hg hf hz wa wb wc hM in
theorem kdn_eq (s : Fin 16384) (d : Fin 1024) : kdn dq dk dv da dg df w M8 G s d = dn Q K V F A B W M G s d := by
  unfold kdn dn sc
  rw [kdh_eq Q K V F A B W dq dk dv da dg df w hq hk hv ha hg hf hz wa wb wc, hM, mul_comm (G _), mul_assoc]

include hq hk hv ha hg hf hz wa wb wc hM in
theorem kdx_eq (s : Fin 16384) (d : Fin 1024) : kdx dq dk dv da dg df w X D M8 G s d = dx Q K V F A B W X D M G s d := by
  unfold kdx dx rA
  simp only [kdn_eq Q K V F A B W M G dq dk dv da dg df w M8 hq hk hv ha hg hf hz wa wb wc hM]
  exact dx_core (fun x => X (ix2 s x)) (fun x => dn Q K V F A B W M G s x) (ru X s) (D (ix2 s d)) d (ru_pos X s)

include hq hk hv ha hg hf hz wa wb wc in
theorem kacc_sh (d : Fin 1024) : ∑ r : Fin 8, kacc dq dk dv da dg df w X M8 G 0 r d = dsh Q K V F A B W d := by
  unfold kacc dsh
  rw [Fin.sum_univ_tiles 32 512 rfl, Finset.sum_comm]
  refine Finset.sum_congr rfl fun t _ => ?_
  rw [Fin.sum_univ_tiles 64 8 rfl, Finset.sum_comm]
  simp only [← kdh_eq Q K V F A B W dq dk dv da dg df w hq hk hv ha hg hf hz wa wb wc, mul_comm 512]
  rfl

include hq hk hv ha hg hf hz wa wb wc in
theorem kacc_sc (d : Fin 1024) : ∑ r : Fin 8, kacc dq dk dv da dg df w X M8 G 1 r d = dsc Q K V F A B W X G d := by
  have h (s : Fin 16384) : xn X s d * G (ix2 0 d) * dh Q K V F A B W s d = kadd dq dk dv da dg df w X M8 G 1 s d := by
    rw [← kdh_eq Q K V F A B W dq dk dv da dg df w hq hk hv ha hg hf hz wa wb wc, mul_comm, ← mul_assoc]
    rfl
  unfold kacc dsc
  rw [Fin.sum_univ_tiles 32 512 rfl, Finset.sum_comm]
  refine Finset.sum_congr rfl fun t _ => ?_
  rw [Fin.sum_univ_tiles 64 8 rfl, Finset.sum_comm]
  simp only [h, mul_comm 512]

include hq hk hv ha hg hf hz wa wb wc hM in
theorem kacc_gn (d : Fin 1024) : ∑ r : Fin 8, kacc dq dk dv da dg df w X M8 G 2 r d = dgn Q K V F A B W X M d := by
  have h (s : Fin 16384) : xn X s d * (dh Q K V F A B W s d * (1 + sc M d)) = kadd dq dk dv da dg df w X M8 G 2 s d := by
    unfold sc
    rw [← kdh_eq Q K V F A B W dq dk dv da dg df w hq hk hv ha hg hf hz wa wb wc, ← hM, ← mul_assoc, mul_comm (xn X s d)]
    rfl
  unfold kacc dgn
  rw [Fin.sum_univ_tiles 32 512 rfl, Finset.sum_comm]
  refine Finset.sum_congr rfl fun t _ => ?_
  rw [Fin.sum_univ_tiles 64 8 rfl, Finset.sum_comm]
  simp only [h, mul_comm 512]
end

/-! ### The four results of the kernel -/

section
variable (m : (ℓ : Loc nD τ sig) → Buf (Elt Ideal) ℓ) (c : Dev nD)

/-- The kernel's argument arrays. -/
abbrev aQ : FVec Ideal S16384x512 .f32 := m ((c : Thread nD τ).loc main_arg0)
abbrev aK : FVec Ideal S16384x512 .f32 := m ((c : Thread nD τ).loc main_arg1)
abbrev aV : FVec Ideal S16384x512 .f32 := m ((c : Thread nD τ).loc main_arg2)
abbrev aF : FVec Ideal S16384x8 .f32 := m ((c : Thread nD τ).loc main_arg3)
abbrev aA : FVec Ideal S16384x512 .f32 := m ((c : Thread nD τ).loc main_arg4)
abbrev aB : FVec Ideal S16384x512 .f32 := m ((c : Thread nD τ).loc main_arg5)
abbrev aW : FVec Ideal S1x1024x2568 .f32 := m ((c : Thread nD τ).loc main_arg6)
abbrev aX : FVec Ideal S16384x1024 .f32 := m ((c : Thread nD τ).loc main_arg7)
abbrev aD : FVec Ideal S16384x1024 .f32 := m ((c : Thread nD τ).loc main_arg8)
abbrev aM : FVec Ideal S1x6144 .f32 := m ((c : Thread nD τ).loc main_arg9)
abbrev aG : FVec Ideal S1x1024 .f32 := m ((c : Thread nD τ).loc main_arg10)

/-- The first result: the gradient by the rows. -/
theorem k_dx : ((dats m 0 c).arrAt 11 cfg0.N : FVec Ideal S16384x1024 .f32) = fun i => dx (aQ m c) (aK m c) (aV m c) (aF m c) (aA m c) (aB m c) (aW m c) (aX m c) (aD m c) (aM m c) (aG m c) (i 0) (i 1) := by
  refine (out_dx m c _ _ _ _ _ _ _ _ _ _ _ rfl rfl rfl rfl rfl rfl rfl (V_main_arg7 m c) (V_main_arg8 m c) rfl (V_main_arg10 m c)).trans ?_
  funext i
  exact kdx_eq (aQ m c) (aK m c) (aV m c) (aF m c) (aA m c) (aB m c) (aW m c) (aX m c) (aD m c) (aM m c) (aG m c) _ _ _ _ _ _ _ _ (v0_eq m c) (v1_eq m c) (v2_eq m c) (v3_eq m c) (v4_eq m c) (v6_lo m c) (v6_hi m c) (v13_a m c) (v13_b m c) (v13_c m c) (v15_eq m c) (i 0) (i 1)

/-- What the call leaves in its accumulator. -/
theorem k_acc : (WV m c (Proc.devRef .tc main_v16_1) : FVec Ideal S3x8x1024 .f32) = fun i => kacc (V m c main_v0) (V m c main_v1) (V m c main_v2) (V m c main_v3)
    (V m c main_v4) (V m c main_v6) (V m c main_v13) (aX m c) (V m c main_v15) (aG m c) (i 0) (i 1) (i 2) :=
  (wv_acc m c).trans (out_acc m c _ _ _ _ _ _ _ _ _ _ rfl rfl rfl rfl rfl rfl rfl (V_main_arg7 m c) rfl (V_main_arg10 m c))

/-- The second result: the gradient by the shift. -/
theorem k_dsh : (StableHlo.after [hostOps1].flatten (WV m c) (Proc.devRef .tc main_v20) : FVec Ideal S1x1024 .f32) = fun i => dsh (aQ m c) (aK m c) (aV m c) (aF m c) (aA m c) (aB m c) (aW m c) (i 1) := by
  funext i
  idx_vars i
  rw [show i0 = 0 from Subsingleton.elim _ _, w_v20, k_acc]
  exact kacc_sh (aQ m c) (aK m c) (aV m c) (aF m c) (aA m c) (aB m c) (aW m c) (aX m c) (aG m c) _ _ _ _ _ _ _ _ (v0_eq m c) (v1_eq m c) (v2_eq m c) (v3_eq m c) (v4_eq m c) (v6_lo m c) (v6_hi m c) (v13_a m c) (v13_b m c) (v13_c m c) i1

/-- The third result: the gradient by the scale. -/
theorem k_dsc : (StableHlo.after [hostOps1].flatten (WV m c) (Proc.devRef .tc main_v24) : FVec Ideal S1x1024 .f32) = fun i => dsc (aQ m c) (aK m c) (aV m c) (aF m c) (aA m c) (aB m c) (aW m c) (aX m c) (aG m c) (i 1) := by
  funext i
  idx_vars i
  rw [show i0 = 0 from Subsingleton.elim _ _, w_v24, k_acc]
  exact kacc_sc (aQ m c) (aK m c) (aV m c) (aF m c) (aA m c) (aB m c) (aW m c) (aX m c) (aG m c) _ _ _ _ _ _ _ _ (v0_eq m c) (v1_eq m c) (v2_eq m c) (v3_eq m c) (v4_eq m c) (v6_lo m c) (v6_hi m c) (v13_a m c) (v13_b m c) (v13_c m c) i1

/-- The fourth result: the gradient by the norm's gain. -/
theorem k_dgn : (StableHlo.after [hostOps1].flatten (WV m c) (Proc.devRef .tc main_v28) : FVec Ideal S1x1024 .f32) = fun i => dgn (aQ m c) (aK m c) (aV m c) (aF m c) (aA m c) (aB m c) (aW m c) (aX m c) (aM m c) (i 1) := by
  funext i
  idx_vars i
  rw [show i0 = 0 from Subsingleton.elim _ _, w_v28, k_acc]
  exact kacc_gn (aQ m c) (aK m c) (aV m c) (aF m c) (aA m c) (aB m c) (aW m c) (aX m c) (aM m c) (aG m c) _ _ _ _ _ _ _ _ (v0_eq m c) (v1_eq m c) (v2_eq m c) (v3_eq m c) (v4_eq m c) (v6_lo m c) (v6_hi m c) (v13_a m c) (v13_b m c) (v13_c m c) (v15_eq m c) i1
end
end Cert.Bin
-- ==== Proof.BinPair.lean ====
module

public import proofs.«01_k».proof.Defs
public import proofs.«01_k».proof.Proof.BinFinal
public import Idealize.ShloMosaic.Lib.Claim

@[expose] public section

set_option maxRecDepth 16384

noncomputable section

namespace Cert.Bin

open Idealize.ShloMosaic Idealize.ShloMosaic.TcCoe Idealize.SL.Sem

instance hK : Cert.BwdInIdeal.Facts := Cert.BwdInIdeal.Gen.facts
instance hR : Cert.BwdInRefIdeal.Facts := Cert.BwdInRefIdeal.Gen.facts

theorem algebraic : Cert.algebraic_BwdInIdeal_BwdInRefIdeal := by
  intro m g m' g' _ ag
  refine ⟨fun c => (Cert.BwdInIdeal.Gen.dats m 0 c).arrAt 11 Cert.BwdInIdeal.cfg0.N,
    fun c => StableHlo.after [Cert.BwdInIdeal.Gen.hostOps1].flatten (WV m c) (Proc.devRef .tc Cert.BwdInIdeal.main_v20),
    fun c => StableHlo.after [Cert.BwdInIdeal.Gen.hostOps1].flatten (WV m c) (Proc.devRef .tc Cert.BwdInIdeal.main_v24),
    fun c => StableHlo.after [Cert.BwdInIdeal.Gen.hostOps1].flatten (WV m c) (Proc.devRef .tc Cert.BwdInIdeal.main_v28), ?_, ?_⟩
  · exact run_k m g
  · refine (θ_run _ _ _).mono (fun r h c => ?_) (run_r m' g')
    obtain ⟨h0, h1, h2, h3, ha⟩ := h c
    obtain ⟨a0, a1, a2, a3, a4, a5, a6, a7, a8, a9, a10⟩ := ag c
    refine ⟨h0.trans ?_, h1.trans ?_, h2.trans ?_, h3.trans ?_, ha⟩
    · refine Eq.trans ?_ (k_dx m c).symm
      funext i; idx_vars i; exact ref_dx m' c _ _ _ _ _ _ _ _ _ _ _ a0 a1 a2 a3 a4 a5 a6 a7 a8 a9 a10 i0 i1
    · refine Eq.trans ?_ (k_dsh m c).symm
      funext i; idx_vars i; rw [show i0 = 0 from Subsingleton.elim _ _]; exact ref_dsh m' c _ _ _ _ _ _ _ _ _ _ _ a0 a1 a2 a3 a4 a5 a6 a7 a8 a9 a10 i1
    · refine Eq.trans ?_ (k_dsc m c).symm
      funext i; idx_vars i; rw [show i0 = 0 from Subsingleton.elim _ _]; exact ref_dsc m' c _ _ _ _ _ _ _ _ _ _ _ a0 a1 a2 a3 a4 a5 a6 a7 a8 a9 a10 i1
    · refine Eq.trans ?_ (k_dgn m c).symm
      funext i; idx_vars i; rw [show i0 = 0 from Subsingleton.elim _ _]; exact ref_dgn m' c _ _ _ _ _ _ _ _ _ _ _ a0 a1 a2 a3 a4 a5 a6 a7 a8 a9 a10 i1

/-- The reference's runs leave its arguments as launched. -/
theorem frame_r : Cert.quiescent_BwdInRefIdeal := by
  intro m g _
  refine (θ_run _ _ _).mono (fun r h => ⟨fun c => ?_, funext fun s => ?_⟩) (run_r m g)
  · obtain ⟨-, -, -, -, ha⟩ := h c
    exact ha
  · exact congrFun (sem_eq_zero_of_no_sems (by decide) r.2) s

end Cert.Bin
-- ==== Proof.MidBlk.lean ====
module

public import proofs.«01_k».proof.Proof.Gen.BwdMidIdeal.Skeleton
public import Idealize.ShloMosaic.Lib.Pipeline.ValueKit
public import Idealize.ShloMosaic.Lib.Pointwise
public import Idealize.ShloMosaic.Lib.IdealHost

@[expose] public section

set_option maxRecDepth 16384

noncomputable section

namespace Cert.Mid

open Idealize.ShloMosaic Idealize.ShloMosaic.TcCoe Idealize.SL.Sem
open Cert.BwdMidIdeal Cert.BwdMidIdeal.Gen

/-! ### What the body computes from one block, row by row -/

/-- The inverse root of a row's mean square, `c` being the row's length. -/
def rs {n : ℕ} (c : BitVec 32) (X : Fin n → EReal) : EReal :=
  Ideal.rsqrt (Ideal.div (∑ x, X x * X x) (Ideal.ofBits .f32 c) + Ideal.ofBits .f32 0x358637BD#32)
/-- The norm's gradient by its row `X`, from the gradient `Y` by the normalised row. -/
def gradR {n : ℕ} (c : BitVec 32) (X Y : Fin n → EReal) (d : Fin n) : EReal :=
  rs c X * (Y d - X d * rs c X * Ideal.div (∑ x, Y x * (X x * rs c X)) (Ideal.ofBits .f32 c))
/-- A row without its mean. -/
def cen {n : ℕ} (c : BitVec 32) (U : Fin n → EReal) (x : Fin n) : EReal := U x - Ideal.div (∑ y, U y) (Ideal.ofBits .f32 c)
/-- The layer norm of a row. -/
def lay {n : ℕ} (c : BitVec 32) (U g b : Fin n → EReal) (x : Fin n) : EReal := cen c U x * rs c (cen c U) * g x + b x
/-- The swish of a number. -/
def swi (z : EReal) : EReal := z * Ideal.div 1 (1 + Ideal.exp (-z))

theorem pay7_at (v3 v4 v23 : FVec Ideal S256x1024 .f32) (v15 v16 : FVec Ideal S1x1024 .f32) (a : Fin 256) (b : Fin 1024) :
    (k0_pay7 v3 v4 v15 v16 v23 : FVec Ideal S256x1024 .f32) (ix2 a b) = v23 (ix2 a b)
      + gradR 0x44800000#32 (fun x : Fin 1024 => v3 (ix2 a x)) (fun x => v4 (ix2 a x) * (v15 (ix2 0 x) * (1 + v16 (ix2 0 x)))) b := by
  pointwise [k0_pay7, k0_pay6, k0_pay5, k0_pay4]
  rfl

theorem pay8_at (v3 v4 : FVec Ideal S256x1024 .f32) (a : Fin 256) (b : Fin 1024) :
    (k0_pay8 v4 (k0_pay6 v3) : FVec Ideal S256x1024 .f32) (ix2 a b) = v4 (ix2 a b) * (v3 (ix2 a b) * rs 0x44800000#32 (fun x : Fin 1024 => v3 (ix2 a x))) := by
  pointwise [k0_pay8, k0_pay6, k0_pay5, k0_pay4]
  rfl

theorem pay15_at (v34 : FVec Ideal S256x1024 .f32) (v82 : FVec Ideal S1x1024 .f32) (v88 : FVec Ideal S512x1024 .bf16) (a : Fin 256) (k : Fin 512) :
    (k0_pay15 v34 v82 v88 : FVec Ideal S256x512 .f32) (ix2 a k) = ∑ d : Fin 1024, v34 (ix2 a d) * v82 (ix2 0 d) * v88 (ix2 k d) := by
  pointwise [k0_pay15, k0_pay14]

theorem pay16_at (v34 : FVec Ideal S256x1024 .f32) (v82 : FVec Ideal S1x1024 .f32) (v88 : FVec Ideal S512x1024 .bf16) (a : Fin 256) (k : Fin 512) :
    (k0_pay16 v34 v82 v88 : FVec Ideal S256x512 .f32) (ix2 a k) = ∑ d : Fin 1024, v34 (ix2 a d) * v82 (ix2 0 d) * v88 (ix2 k d) := by
  pointwise [k0_pay16, k0_pay14]

theorem pay20_at (v94 : FVec Ideal S256x512 .f32) (a : Fin 256) (k : Fin 512) :
    (k0_pay20 v94 (k0_pay17 v94) k0_pay18 : FVec Ideal S256x512 .f32) (ix2 a k) = v94 (ix2 a k) * rs 0x44000000#32 (fun x : Fin 512 => v94 (ix2 a x)) := by
  pointwise [k0_pay20, k0_pay19, k0_pay17, k0_pay18]
  rfl

theorem pay22_at (v90 v94 : FVec Ideal S256x512 .f32) (v114 : FVec Ideal S1x512 .f32) (a : Fin 256) (k : Fin 512) :
    (k0_pay22 v90 v94 (k0_pay17 v94) k0_pay18 v114 : FVec Ideal S256x512 .bf16) (ix2 a k)
      = gradR 0x44000000#32 (fun x : Fin 512 => v94 (ix2 a x)) (fun x => v90 (ix2 a x) * v114 (ix2 0 x)) k := by
  pointwise [k0_pay22, k0_pay20, k0_pay19, k0_pay17, k0_pay18]
  rfl

theorem pay29_at (v : FVec Ideal S256x512 .f32) (a : Fin 256) (k : Fin 512) :
    (k0_pay29 v : FVec Ideal S256x512 .f32) (ix2 a k) = cen 0x44000000#32 (fun x : Fin 512 => v (ix2 a x)) k := by
  pointwise [k0_pay29]
  rfl

theorem pay31_at (v : FVec Ideal S256x512 .f32) (a : Fin 256) (k : Fin 512) :
    (k0_pay31 v : FVec Ideal S256x512 .f32) (ix2 a k)
      = cen 0x44000000#32 (fun x : Fin 512 => v (ix2 a x)) k * rs 0x44000000#32 (cen 0x44000000#32 (fun x : Fin 512 => v (ix2 a x))) := by
  pointwise [k0_pay31, k0_pay30]
  simp only [pay29_at]
  rfl

theorem pay34_at (v : FVec Ideal S256x512 .f32) (g b : FVec Ideal S1x512 .f32) (a : Fin 256) (k : Fin 512) :
    (k0_pay34 (k0_pay31 v) g b : FVec Ideal S256x512 .f32) (ix2 a k)
      = swi (lay 0x44000000#32 (fun x : Fin 512 => v (ix2 a x)) (fun x => g (ix2 0 x)) (fun x => b (ix2 0 x)) k) := by
  pointwise [k0_pay34, k0_pay33, k0_pay32]
  simp only [pay31_at, sub_eq_add_neg, zero_add]
  rfl

theorem pay36_at (v : FVec Ideal S256x512 .f32) (g b : FVec Ideal S1x512 .f32) (a : Fin 256) (k : Fin 512) :
    (k0_pay36 (k0_pay31 v) g b : FVec Ideal S256x512 .f32) (ix2 a k)
      = swi (lay 0x44000000#32 (fun x : Fin 512 => v (ix2 a x)) (fun x => g (ix2 0 x)) (fun x => b (ix2 0 x)) k)
        * rs 0x44000000#32 (fun y => swi (lay 0x44000000#32 (fun x : Fin 512 => v (ix2 a x)) (fun x => g (ix2 0 x)) (fun x => b (ix2 0 x)) y)) := by
  pointwise [k0_pay36, k0_pay35]
  simp only [pay34_at]
  rfl

/-! The eight-row sums that a block adds -/

/-- The row of a block that is `r` modulo eight. -/
abbrev sub (g : Fin 32) (r : Fin 8) : Fin 256 := ⟨(g : ℕ) * 8 + r, by omega⟩

theorem pay9_at (v4 : FVec Ideal S256x1024 .f32) (v : FVec Ideal S1x8x1024 .f32) (r : Fin 8) (d : Fin 1024) :
    (k0_pay9 v4 v : FVec Ideal S1x8x1024 .f32) (ix3 0 r d) = v (ix3 0 r d) + ∑ g : Fin 32, v4 (ix2 (sub g r) d) := by
  pointwise [k0_pay9]
theorem pay10_at (v3 v4 : FVec Ideal S256x1024 .f32) (v : FVec Ideal S1x8x1024 .f32) (w : FVec Ideal S1x1024 .f32) (r : Fin 8) (d : Fin 1024) :
    (k0_pay10 v4 (k0_pay6 v3) v w : FVec Ideal S1x8x1024 .f32) (ix3 0 r d) = v (ix3 0 r d) + ∑ g : Fin 32, (k0_pay8 v4 (k0_pay6 v3) : FVec Ideal S256x1024 .f32) (ix2 (sub g r) d) * w (ix2 0 d) := by
  pointwise [k0_pay10]
theorem pay12_at (v3 v4 : FVec Ideal S256x1024 .f32) (v : FVec Ideal S1x8x1024 .f32) (w : FVec Ideal S1x1024 .f32) (r : Fin 8) (d : Fin 1024) :
    (k0_pay12 (k0_pay11 v4 (k0_pay6 v3) v w) : FVec Ideal S1x8x1024 .f32) (ix3 0 r d) = v (ix3 0 r d) + ∑ g : Fin 32, (k0_pay8 v4 (k0_pay6 v3) : FVec Ideal S256x1024 .f32) (ix2 (sub g r) d) * (1 + w (ix2 0 d)) := by
  pointwise [k0_pay12, k0_pay11]
theorem pay13_at (v34 : FVec Ideal S256x1024 .f32) (v : FVec Ideal S1x8x1024 .f32) (w : FVec Ideal S256x1024 .bf16) (r : Fin 8) (d : Fin 1024) :
    (k0_pay13 v34 v w : FVec Ideal S1x8x1024 .f32) (ix3 0 r d) = v (ix3 0 r d) + ∑ g : Fin 32, v34 (ix2 (sub g r) d) * w (ix2 (sub g r) d) := by
  pointwise [k0_pay13]
theorem pay21_at (v90 v94 : FVec Ideal S256x512 .f32) (v : FVec Ideal S1x8x512 .f32) (r : Fin 8) (d : Fin 512) :
    (k0_pay21 v90 v94 (k0_pay17 v94) k0_pay18 v : FVec Ideal S1x8x512 .f32) (ix3 0 r d) = v (ix3 0 r d)
      + ∑ g : Fin 32, v90 (ix2 (sub g r) d) * (v94 (ix2 (sub g r) d) * rs 0x44000000#32 (fun x : Fin 512 => v94 (ix2 (sub g r) x))) := by
  pointwise [k0_pay21]
  simp only [pay20_at]
theorem pay37_at (v93 u : FVec Ideal S256x512 .f32) (ga b : FVec Ideal S1x512 .f32) (v : FVec Ideal S1x8x512 .f32) (r : Fin 8) (d : Fin 512) :
    (k0_pay37 v93 (k0_pay31 u) ga b v : FVec Ideal S1x8x512 .f32) (ix3 0 r d) = v (ix3 0 r d)
      + ∑ g : Fin 32, v93 (ix2 (sub g r) d) * (k0_pay36 (k0_pay31 u) ga b : FVec Ideal S256x512 .f32) (ix2 (sub g r) d) := by
  pointwise [k0_pay37]
end Cert.Mid
-- ==== Proof.MidFwd.lean ====
module

public import proofs.«01_k».proof.Proof.Gen.BwdMidIdeal.Frame
public import proofs.«01_k».proof.Proof.MidBlk
public import proofs.«01_k».proof.Proof.BinFwd

@[expose] public section

set_option maxRecDepth 16384

noncomputable section

namespace Cert.Mid

open Idealize.ShloMosaic Idealize.ShloMosaic.TcCoe Idealize.SL.Sem
open Idealize.ShloMosaic.Pipeline (Dat)
open Cert.BwdMidIdeal Cert.BwdMidIdeal.Gen

/-! ### What the call leaves in its results -/

theorem idx0 : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_14.index t = ![t.val, 0]
    ∧ win0_16.index t = ![t.val, 0]
    ∧ win0_18.index t = ![0, 0, 0]
    ∧ win0_19.index t = ![0, 0, 0] :=
  (by decide +kernel : ∀ t : Fin grid0.N, _)

/-- The array row under row `a` of the block of point `t`. -/
def row (t : Fin cfg0.N) (a : Fin 256) : Fin 16384 := ⟨256 * t.val + a, by have := lt_of_lt_of_eq t.isLt N_0; omega⟩

section
variable (Dh Dy X : FVec Ideal S16384x1024 .f32) (OB : FVec Ideal S16384x1024 .bf16) (O U : FVec Ideal S16384x512 .f32)
  (M : FVec Ideal S8x1024 .f32) (G : FVec Ideal S1x1024 .f32) (ba lg lb : FVec Ideal S1x512 .f32) (W : FVec Ideal S1024x1024 .bf16)

/-- The gradient by the residual stream. -/
def kdx (s : Fin 16384) (d : Fin 1024) : EReal := Dy (ix2 s d)
  + gradR 0x44800000#32 (fun x : Fin 1024 => X (ix2 s x)) (fun x => Dh (ix2 s x) * (G (ix2 0 x) * (1 + M (ix2 4 x)))) d
/-- The gradient by the attention's normalised and scaled output. -/
def kma (s : Fin 16384) (k : Fin 512) : EReal := ∑ d : Fin 1024, kdx Dh Dy X M G s d * M (ix2 2 d) * W (ix2 ⟨(k : ℕ), by omega⟩ d)
/-- The gradient by the convolution's normalised and scaled output. -/
def kmc (s : Fin 16384) (k : Fin 512) : EReal := ∑ d : Fin 1024, kdx Dh Dy X M G s d * M (ix2 2 d) * W (ix2 ⟨512 + (k : ℕ), by omega⟩ d)
/-- The gradient by the attention's output. -/
def kdo (s : Fin 16384) (k : Fin 512) : EReal :=
  gradR 0x44000000#32 (fun x : Fin 512 => O (ix2 s x)) (fun x => kma Dh Dy X M G W s x * ba (ix2 0 x)) k
/-- The swish of the convolution's layer norm. -/
def ksw (s : Fin 16384) (k : Fin 512) : EReal := swi (lay 0x44000000#32 (fun x : Fin 512 => U (ix2 s x)) (fun x => lg (ix2 0 x)) (fun x => lb (ix2 0 x)) k)
/-- What one row adds to the gradients by shift, scale, the norm's gain and the gate. -/
def addD (k : Fin 4) (s : Fin 16384) (d : Fin 1024) : EReal :=
  if (k : ℕ) = 0 then Dh (ix2 s d)
  else if (k : ℕ) = 1 then Dh (ix2 s d) * (X (ix2 s d) * rs 0x44800000#32 (fun x : Fin 1024 => X (ix2 s x))) * G (ix2 0 d)
  else if (k : ℕ) = 2 then Dh (ix2 s d) * (X (ix2 s d) * rs 0x44800000#32 (fun x : Fin 1024 => X (ix2 s x))) * (1 + M (ix2 4 d))
  else kdx Dh Dy X M G s d * OB (ix2 s d)
/-- What one row adds to the gradients by the two groups' gains. -/
def addH (k : Fin 4) (s : Fin 16384) (d : Fin 512) : EReal :=
  if (k : ℕ) = 0 then kma Dh Dy X M G W s d * (O (ix2 s d) * rs 0x44000000#32 (fun x : Fin 512 => O (ix2 s x)))
  else kmc Dh Dy X M G W s d * (ksw U lg lb s d * rs 0x44000000#32 (ksw U lg lb s))
/-- The first gradients over the rows that are `r` modulo eight. -/
def accD (k : Fin 4) (r : Fin 8) (d : Fin 1024) : EReal := ∑ t : Fin 64, ∑ g : Fin 32,
  addD Dh Dy X OB M G k ⟨256 * (t : ℕ) + ((g : ℕ) * 8 + r), by omega⟩ d
/-- The gains' gradients over the rows that are `r` modulo eight. -/
def accH (k : Fin 4) (r : Fin 8) (d : Fin 512) : EReal := ∑ t : Fin 64, ∑ g : Fin 32,
  addH Dh Dy X O U M G lg lb W k ⟨256 * (t : ℕ) + ((g : ℕ) * 8 + r), by omega⟩ d
end

theorem zeroD (j : S4x8x1024.Idx) : (k0_pay2 : FVec Ideal S4x8x1024 .f32) j = (0 : EReal) := by pointwise [k0_pay2]
theorem zeroH (j : S4x8x512.Idx) : (k0_pay3 : FVec Ideal S4x8x512 .f32) j = (0 : EReal) := by pointwise [k0_pay3]

section
variable (m : (ℓ : Loc nD τ sig) → Buf (Elt Ideal) ℓ) (c : Dev nD)
variable (Dh Dy X : FVec Ideal S16384x1024 .f32) (OB : FVec Ideal S16384x1024 .bf16) (O U : FVec Ideal S16384x512 .f32)
  (M : FVec Ideal S8x1024 .f32) (G : FVec Ideal S1x1024 .f32) (ba lg lb : FVec Ideal S1x512 .f32) (W : FVec Ideal S1024x1024 .bf16)
  (eDh : V m c main_arg0 = Dh) (eDy : V m c main_arg1 = Dy) (eX : V m c main_v53 = X) (eOB : V m c main_v67 = OB) (eO : V m c main_arg3 = O) (eU : V m c main_arg4 = U) (eM : V m c main_v69 = M) (eG : V m c main_arg6 = G) (eba : V m c main_arg7 = ba) (elg : V m c main_arg9 = lg) (elb : V m c main_arg10 = lb) (eW : V m c main_v71 = W)

include eDh in
theorem b0 (t : Fin cfg0.N) (a : Fin 256) (b : Fin 1024) : (iblk m c 0 t : FVec Ideal S256x1024 .f32) (ix2 a b) = Dh (ix2 (row t a) b) := by
  rw [← eDh]; blk_ext [iblk, idx0 t, row]
include eDy in
theorem b1 (t : Fin cfg0.N) (a : Fin 256) (b : Fin 1024) : (iblk m c 1 t : FVec Ideal S256x1024 .f32) (ix2 a b) = Dy (ix2 (row t a) b) := by
  rw [← eDy]; blk_ext [iblk, idx0 t, row]
include eX in
theorem b2 (t : Fin cfg0.N) (a : Fin 256) (b : Fin 1024) : (iblk m c 2 t : FVec Ideal S256x1024 .f32) (ix2 a b) = X (ix2 (row t a) b) := by
  rw [← eX]; blk_ext [iblk, idx0 t, row]
include eOB in
theorem b3 (t : Fin cfg0.N) (a : Fin 256) (b : Fin 1024) : (iblk m c 3 t : FVec Ideal S256x1024 .bf16) (ix2 a b) = OB (ix2 (row t a) b) := by
  rw [← eOB]; blk_ext [iblk, idx0 t, row]
include eO in
theorem b4 (t : Fin cfg0.N) (a : Fin 256) (b : Fin 512) : (iblk m c 4 t : FVec Ideal S256x512 .f32) (ix2 a b) = O (ix2 (row t a) b) := by
  rw [← eO]; blk_ext [iblk, idx0 t, row]
include eU in
theorem b5 (t : Fin cfg0.N) (a : Fin 256) (b : Fin 512) : (iblk m c 5 t : FVec Ideal S256x512 .f32) (ix2 a b) = U (ix2 (row t a) b) := by
  rw [← eU]; blk_ext [iblk, idx0 t, row]
include eM in
theorem b6 (t : Fin cfg0.N) : (iblk m c 6 t : FVec Ideal S8x1024 .f32) = M := by
  rw [← eM]; funext j; blk_ext [iblk, idx0 t]
include eG in
theorem b7 (t : Fin cfg0.N) : (iblk m c 7 t : FVec Ideal S1x1024 .f32) = G := by
  rw [← eG]; funext j; blk_ext [iblk, idx0 t]
include eba in
theorem b8 (t : Fin cfg0.N) : (iblk m c 8 t : FVec Ideal S1x512 .f32) = ba := by
  rw [← eba]; funext j; blk_ext [iblk, idx0 t]
include elg in
theorem b10 (t : Fin cfg0.N) : (iblk m c 10 t : FVec Ideal S1x512 .f32) = lg := by
  rw [← elg]; funext j; blk_ext [iblk, idx0 t]
include elb in
theorem b11 (t : Fin cfg0.N) : (iblk m c 11 t : FVec Ideal S1x512 .f32) = lb := by
  rw [← elb]; funext j; blk_ext [iblk, idx0 t]
include eW in
theorem b12 (t : Fin cfg0.N) : (iblk m c 12 t : FVec Ideal S1024x1024 .bf16) = W := by
  rw [← eW]; funext j; blk_ext [iblk, idx0 t]

include eDh eDy eX eM eG in
set_option maxHeartbeats 1000000 in
/-- The gradient by the residual stream. -/
theorem out_dx : (dats m 0 c).arrAt 14 cfg0.N = fun i : S16384x1024.Idx => kdx Dh Dy X M G (i 0) (i 1) := by
  refine (dats m 0 c).arrAt_eq_of_covers 14 _ (by decide +kernel) fun t _ y => ?_
  blk_simp
  rw [after0_14]
  have hs (y0 : Fin 256) (y1 : Fin 1024) : kdx Dh Dy X M G (((View.whole main_v72_0).slice (win0_14.rect t)).emb (ix2 y0 y1) 0)
      (((View.whole main_v72_0).slice (win0_14.rect t)).emb (ix2 y0 y1) 1) = kdx Dh Dy X M G (row t y0) y1 := by
    congr 1
    · refine Fin.ext ?_
      show _ = 256 * t.val + y0.val
      blk_simp [idx0 t]
      omega
    · refine Fin.ext ?_
      blk_simp [idx0 t]
  by_cases h : t.val % 64 = 0
  · rw [outsAt0_A m c t h]; frame_out
    idx_vars y
    rw [hs]
    refine (pay7_at _ _ _ _ _ _ _).trans ?_
    skip
    pointwise
    simp only [b0 m c Dh eDh, b1 m c Dy eDy, b2 m c X eX, b6 m c M eM, b7 m c G eG]
    rfl
  · rw [outsAt0_B m c t h]; frame_out
    idx_vars y
    rw [hs]
    refine (pay7_at _ _ _ _ _ _ _).trans ?_
    skip
    pointwise
    simp only [b0 m c Dh eDh, b1 m c Dy eDy, b2 m c X eX, b6 m c M eM, b7 m c G eG]
    rfl

include eDh eDy eX eO eM eG eba eW in
set_option maxHeartbeats 1000000 in
/-- The gradient by the attention's output. -/
theorem out_do : (dats m 0 c).arrAt 16 cfg0.N = fun i : S16384x512.Idx => kdo Dh Dy X O M G ba W (i 0) (i 1) := by
  refine (dats m 0 c).arrAt_eq_of_covers 16 _ (by decide +kernel) fun t _ y => ?_
  blk_simp
  rw [after0_16]
  have hs (y0 : Fin 256) (y1 : Fin 512) : kdo Dh Dy X O M G ba W (((View.whole main_v72_2).slice (win0_16.rect t)).emb (ix2 y0 y1) 0)
      (((View.whole main_v72_2).slice (win0_16.rect t)).emb (ix2 y0 y1) 1) = kdo Dh Dy X O M G ba W (row t y0) y1 := by
    congr 1
    · refine Fin.ext ?_
      show _ = 256 * t.val + y0.val
      blk_simp [idx0 t]
      omega
    · refine Fin.ext ?_
      blk_simp [idx0 t]
  by_cases h : t.val % 64 = 0
  · rw [outsAt0_A m c t h]; frame_out
    idx_vars y
    rw [hs]
    refine (pay22_at _ _ _ _ _).trans ?_
    simp only [pay15_at, pay7_at]
    pointwise
    simp only [b0 m c Dh eDh, b1 m c Dy eDy, b2 m c X eX, b4 m c O eO, b6 m c M eM, b7 m c G eG, b8 m c ba eba, b12 m c W eW]
    rfl
  · rw [outsAt0_B m c t h]; frame_out
    idx_vars y
    rw [hs]
    refine (pay22_at _ _ _ _ _).trans ?_
    simp only [pay15_at, pay7_at]
    pointwise
    simp only [b0 m c Dh eDh, b1 m c Dy eDy, b2 m c X eX, b4 m c O eO, b6 m c M eM, b7 m c G eG, b8 m c ba eba, b12 m c W eW]
    rfl

include eDh eDy eX eOB eM eG in
set_option maxHeartbeats 2000000 in
/-- The first block leaves its own sums. -/
theorem accD_first (t : Fin cfg0.N) (hc : t.val % 64 = 0) (j : S4x8x1024.Idx) : ((outsAt0 m c t.val t.isLt).2.2.2.2.1 : FVec Ideal S4x8x1024 .f32) j
    = (0 : EReal) + ∑ g : Fin 32, addD Dh Dy X OB M G (j 0) (row t ⟨(g : ℕ) * 8 + (j 1 : ℕ), by have : (j 1 : ℕ) < 8 := (j 1).isLt; omega⟩) (j 2) := by
  rw [outsAt0_A m c t hc]; frame_out
  refine (Cert.Bin.canon_front [_, _, _, _] [_] j (View.cover_of_tiled_head _ _ _ rfl j)).trans ?_
  canon_tiles x h
  case piece0 =>
    idx_vars x
    idx_vars j
    obtain rfl : j0 = 3 := Fin.ext (by omega)
    obtain rfl : x0 = 0 := Subsingleton.elim _ _
    obtain rfl : j1 = x1 := Fin.ext h1
    obtain rfl : j2 = x2 := Fin.ext h2
    refine (pay13_at _ _ _ _ _).trans ?_
    simp only [pay7_at]
    simp only [View.readCov_eq_canon']
    pointwise
    rw [Cert.Bin.canon_skip _ _ _ _ _ _ 0 (Or.inr (by show 2 + 1 ≤ 3; omega)), Cert.Bin.canon_skip _ _ _ _ _ _ 0 (Or.inr (by show 1 + 1 ≤ 3; omega)), Cert.Bin.canon_skip _ _ _ _ _ _ 0 (Or.inr (by show 0 + 1 ≤ 3; omega)), Cert.Bin.canon_zero _ _ _ _ _ _ _ zeroD (by decide)]
    simp only [b0 m c Dh eDh, b1 m c Dy eDy, b2 m c X eX, b3 m c OB eOB, b6 m c M eM, b7 m c G eG]
    exact (zero_add (_ : EReal)).trans rfl
  case piece1 =>
    idx_vars x
    idx_vars j
    obtain rfl : j0 = 2 := Fin.ext (by omega)
    obtain rfl : x0 = 0 := Subsingleton.elim _ _
    obtain rfl : j1 = x1 := Fin.ext h1
    obtain rfl : j2 = x2 := Fin.ext h2
    refine (pay12_at _ _ _ _ _ _).trans ?_
    simp only [pay8_at]
    simp only [View.readCov_eq_canon']
    pointwise
    rw [Cert.Bin.canon_skip _ _ _ _ _ _ 0 (Or.inr (by show 1 + 1 ≤ 2; omega)), Cert.Bin.canon_skip _ _ _ _ _ _ 0 (Or.inr (by show 0 + 1 ≤ 2; omega)), Cert.Bin.canon_zero _ _ _ _ _ _ _ zeroD (by decide)]
    simp only [b0 m c Dh eDh, b1 m c Dy eDy, b2 m c X eX, b3 m c OB eOB, b6 m c M eM, b7 m c G eG]
    exact (zero_add (_ : EReal)).trans rfl
  case piece2 =>
    idx_vars x
    idx_vars j
    obtain rfl : j0 = 1 := Fin.ext (by omega)
    obtain rfl : x0 = 0 := Subsingleton.elim _ _
    obtain rfl : j1 = x1 := Fin.ext h1
    obtain rfl : j2 = x2 := Fin.ext h2
    refine (pay10_at _ _ _ _ _ _).trans ?_
    simp only [pay8_at]
    simp only [View.readCov_eq_canon']
    pointwise
    rw [Cert.Bin.canon_skip _ _ _ _ _ _ 0 (Or.inr (by show 0 + 1 ≤ 1; omega)), Cert.Bin.canon_zero _ _ _ _ _ _ _ zeroD (by decide)]
    simp only [b0 m c Dh eDh, b1 m c Dy eDy, b2 m c X eX, b3 m c OB eOB, b6 m c M eM, b7 m c G eG]
    exact (zero_add (_ : EReal)).trans rfl
  case piece3 =>
    idx_vars x
    idx_vars j
    obtain rfl : j0 = 0 := Fin.ext (by omega)
    obtain rfl : x0 = 0 := Subsingleton.elim _ _
    obtain rfl : j1 = x1 := Fin.ext h1
    obtain rfl : j2 = x2 := Fin.ext h2
    refine (pay9_at _ _ _ _).trans ?_
    simp only [View.readCov_eq_canon']
    pointwise
    rw [Cert.Bin.canon_zero _ _ _ _ _ _ _ zeroD (by decide)]
    simp only [b0 m c Dh eDh, b1 m c Dy eDy, b2 m c X eX, b3 m c OB eOB, b6 m c M eM, b7 m c G eG]
    exact (zero_add (_ : EReal)).trans rfl

include eDh eDy eX eOB eM eG in
set_option maxHeartbeats 2000000 in
/-- Every later block adds its sums to what was left before it. -/
theorem accD_next (t : Fin cfg0.N) (hc : ¬t.val % 64 = 0) (j : S4x8x1024.Idx) : ((outsAt0 m c t.val t.isLt).2.2.2.2.1 : FVec Ideal S4x8x1024 .f32) j
    = (outsAt0 m c (t.val - 1) (Nat.lt_of_le_of_lt (Nat.sub_le _ _) t.isLt)).2.2.2.2.1 j
      + ∑ g : Fin 32, addD Dh Dy X OB M G (j 0) (row t ⟨(g : ℕ) * 8 + (j 1 : ℕ), by have : (j 1 : ℕ) < 8 := (j 1).isLt; omega⟩) (j 2) := by
  rw [outsAt0_B m c t hc]; frame_out
  canon_tiles x h
  case piece0 =>
    idx_vars x
    idx_vars j
    obtain rfl : j0 = 3 := Fin.ext (by omega)
    obtain rfl : x0 = 0 := Subsingleton.elim _ _
    obtain rfl : j1 = x1 := Fin.ext h1
    obtain rfl : j2 = x2 := Fin.ext h2
    refine (pay13_at _ _ _ _ _).trans ?_
    simp only [pay7_at]
    pointwise
    simp only [b0 m c Dh eDh, b1 m c Dy eDy, b2 m c X eX, b3 m c OB eOB, b6 m c M eM, b7 m c G eG]
    rfl
  case piece1 =>
    idx_vars x
    idx_vars j
    obtain rfl : j0 = 2 := Fin.ext (by omega)
    obtain rfl : x0 = 0 := Subsingleton.elim _ _
    obtain rfl : j1 = x1 := Fin.ext h1
    obtain rfl : j2 = x2 := Fin.ext h2
    refine (pay12_at _ _ _ _ _ _).trans ?_
    simp only [pay8_at]
    pointwise
    simp only [b0 m c Dh eDh, b1 m c Dy eDy, b2 m c X eX, b3 m c OB eOB, b6 m c M eM, b7 m c G eG]
    rfl
  case piece2 =>
    idx_vars x
    idx_vars j
    obtain rfl : j0 = 1 := Fin.ext (by omega)
    obtain rfl : x0 = 0 := Subsingleton.elim _ _
    obtain rfl : j1 = x1 := Fin.ext h1
    obtain rfl : j2 = x2 := Fin.ext h2
    refine (pay10_at _ _ _ _ _ _).trans ?_
    simp only [pay8_at]
    pointwise
    simp only [b0 m c Dh eDh, b1 m c Dy eDy, b2 m c X eX, b3 m c OB eOB, b6 m c M eM, b7 m c G eG]
    rfl
  case piece3 =>
    idx_vars x
    idx_vars j
    obtain rfl : j0 = 0 := Fin.ext (by omega)
    obtain rfl : x0 = 0 := Subsingleton.elim _ _
    obtain rfl : j1 = x1 := Fin.ext h1
    obtain rfl : j2 = x2 := Fin.ext h2
    refine (pay9_at _ _ _ _).trans ?_
    pointwise
    simp only [b0 m c Dh eDh, b1 m c Dy eDy, b2 m c X eX, b3 m c OB eOB, b6 m c M eM, b7 m c G eG]
    rfl

include eDh eDy eX eO eU eM eG elg elb eW in
set_option maxHeartbeats 2000000 in
/-- The first block leaves its own sums. -/
theorem accH_first (t : Fin cfg0.N) (hc : t.val % 64 = 0) (j : S4x8x512.Idx) (hj : (j 0 : ℕ) < 2) : ((outsAt0 m c t.val t.isLt).2.2.2.2.2.1 : FVec Ideal S4x8x512 .f32) j
    = (0 : EReal) + ∑ g : Fin 32, addH Dh Dy X O U M G lg lb W (j 0) (row t ⟨(g : ℕ) * 8 + (j 1 : ℕ), by have : (j 1 : ℕ) < 8 := (j 1).isLt; omega⟩) (j 2) := by
  rw [outsAt0_A m c t hc]; frame_out
  refine (Cert.Bin.canon_front [_, _, _, _] [_] j (View.cover_of_tiled_head _ _ _ rfl j)).trans ?_
  canon_tiles x h
  case piece0 =>
    idx_vars x
    idx_vars j
    exfalso
    have hj' : (j0 : ℕ) < 2 := hj
    omega
  case piece1 =>
    idx_vars x
    idx_vars j
    exfalso
    have hj' : (j0 : ℕ) < 2 := hj
    omega
  case piece2 =>
    idx_vars x
    idx_vars j
    obtain rfl : j0 = 1 := Fin.ext (by omega)
    obtain rfl : x0 = 0 := Subsingleton.elim _ _
    obtain rfl : j1 = x1 := Fin.ext h1
    obtain rfl : j2 = x2 := Fin.ext h2
    refine (pay37_at _ _ _ _ _ _ _).trans ?_
    simp only [pay36_at, pay16_at, pay7_at]
    simp only [View.readCov_eq_canon']
    pointwise
    rw [Cert.Bin.canon_skip _ _ _ _ _ _ 0 (Or.inr (by show 0 + 1 ≤ 1; omega)), Cert.Bin.canon_zero _ _ _ _ _ _ _ zeroH (by decide)]
    simp only [b0 m c Dh eDh, b1 m c Dy eDy, b2 m c X eX, b4 m c O eO, b5 m c U eU, b6 m c M eM, b7 m c G eG, b10 m c lg elg, b11 m c lb elb, b12 m c W eW]
    exact (zero_add (_ : EReal)).trans rfl
  case piece3 =>
    idx_vars x
    idx_vars j
    obtain rfl : j0 = 0 := Fin.ext (by omega)
    obtain rfl : x0 = 0 := Subsingleton.elim _ _
    obtain rfl : j1 = x1 := Fin.ext h1
    obtain rfl : j2 = x2 := Fin.ext h2
    refine (pay21_at _ _ _ _ _).trans ?_
    simp only [pay15_at, pay7_at]
    simp only [View.readCov_eq_canon']
    pointwise
    rw [Cert.Bin.canon_zero _ _ _ _ _ _ _ zeroH (by decide)]
    simp only [b0 m c Dh eDh, b1 m c Dy eDy, b2 m c X eX, b4 m c O eO, b5 m c U eU, b6 m c M eM, b7 m c G eG, b10 m c lg elg, b11 m c lb elb, b12 m c W eW]
    exact (zero_add (_ : EReal)).trans rfl

include eDh eDy eX eO eU eM eG elg elb eW in
set_option maxHeartbeats 2000000 in
/-- Every later block adds its sums to what was left before it. -/
theorem accH_next (t : Fin cfg0.N) (hc : ¬t.val % 64 = 0) (j : S4x8x512.Idx) (hj : (j 0 : ℕ) < 2) : ((outsAt0 m c t.val t.isLt).2.2.2.2.2.1 : FVec Ideal S4x8x512 .f32) j
    = (outsAt0 m c (t.val - 1) (Nat.lt_of_le_of_lt (Nat.sub_le _ _) t.isLt)).2.2.2.2.2.1 j
      + ∑ g : Fin 32, addH Dh Dy X O U M G lg lb W (j 0) (row t ⟨(g : ℕ) * 8 + (j 1 : ℕ), by have : (j 1 : ℕ) < 8 := (j 1).isLt; omega⟩) (j 2) := by
  rw [outsAt0_B m c t hc]; frame_out
  canon_tiles x h
  case piece0 =>
    idx_vars x
    idx_vars j
    exfalso
    have hj' : (j0 : ℕ) < 2 := hj
    omega
  case piece1 =>
    idx_vars x
    idx_vars j
    exfalso
    have hj' : (j0 : ℕ) < 2 := hj
    omega
  case piece2 =>
    idx_vars x
    idx_vars j
    obtain rfl : j0 = 1 := Fin.ext (by omega)
    obtain rfl : x0 = 0 := Subsingleton.elim _ _
    obtain rfl : j1 = x1 := Fin.ext h1
    obtain rfl : j2 = x2 := Fin.ext h2
    refine (pay37_at _ _ _ _ _ _ _).trans ?_
    simp only [pay36_at, pay16_at, pay7_at]
    pointwise
    simp only [b0 m c Dh eDh, b1 m c Dy eDy, b2 m c X eX, b4 m c O eO, b5 m c U eU, b6 m c M eM, b7 m c G eG, b10 m c lg elg, b11 m c lb elb, b12 m c W eW]
    rfl
  case piece3 =>
    idx_vars x
    idx_vars j
    obtain rfl : j0 = 0 := Fin.ext (by omega)
    obtain rfl : x0 = 0 := Subsingleton.elim _ _
    obtain rfl : j1 = x1 := Fin.ext h1
    obtain rfl : j2 = x2 := Fin.ext h2
    refine (pay21_at _ _ _ _ _).trans ?_
    simp only [pay15_at, pay7_at]
    pointwise
    simp only [b0 m c Dh eDh, b1 m c Dy eDy, b2 m c X eX, b4 m c O eO, b5 m c U eU, b6 m c M eM, b7 m c G eG, b10 m c lg elg, b11 m c lb elb, b12 m c W eW]
    rfl

end
end Cert.Mid
-- ==== Proof.MidAcc.lean ====
module

public import proofs.«01_k».proof.Proof.MidFwd

@[expose] public section

set_option maxRecDepth 16384

noncomputable section

namespace Cert.Mid

open Idealize.ShloMosaic Idealize.ShloMosaic.TcCoe Idealize.SL.Sem
open Idealize.ShloMosaic.Pipeline (Dat)
open Cert.BwdMidIdeal Cert.BwdMidIdeal.Gen

section
variable (m : (ℓ : Loc nD τ sig) → Buf (Elt Ideal) ℓ) (c : Dev nD)
variable (Dh Dy X : FVec Ideal S16384x1024 .f32) (OB : FVec Ideal S16384x1024 .bf16) (O U : FVec Ideal S16384x512 .f32)
  (M : FVec Ideal S8x1024 .f32) (G : FVec Ideal S1x1024 .f32) (ba lg lb : FVec Ideal S1x512 .f32) (W : FVec Ideal S1024x1024 .bf16)
  (eDh : V m c main_arg0 = Dh) (eDy : V m c main_arg1 = Dy) (eX : V m c main_v53 = X) (eOB : V m c main_v67 = OB) (eO : V m c main_arg3 = O) (eU : V m c main_arg4 = U) (eM : V m c main_v69 = M) (eG : V m c main_arg6 = G) (eba : V m c main_arg7 = ba) (elg : V m c main_arg9 = lg) (elb : V m c main_arg10 = lb) (eW : V m c main_v71 = W)

include eDh eDy eX eOB eM eG in
set_option maxHeartbeats 4000000 in
/-- The four accumulated gradients, one partial sum for each residue of the row modulo eight. -/
theorem out_accD : (dats m 0 c).arrAt 18 cfg0.N = fun i : S4x8x1024.Idx => accD Dh Dy X OB M G (i 0) (i 1) (i 2) := by
  refine (dats m 0 c).arrAt_eq_of_covers 18 _ (by decide +kernel) fun t hf y => ?_
  blk_simp
  rw [after0_18, Pipeline.eq_sum_fin_of_reset_step_apply_of_flush (fun n h => (outsAt0 m c n h).2.2.2.2.1) 64 (fun _ => 0) _
    (fun t h j => accD_first m c Dh Dy X OB M G eDh eDy eX eOB eM eG t h j)
    (fun t h j => accD_next m c Dh Dy X OB M G eDh eDy eX eOB eM eG t h j)
    t ((flush0_18 t).mp hf) _, zero_add]
  have hs (y0 : Fin 4) (y1 : Fin 8) (y2 : Fin 1024) : accD Dh Dy X OB M G (((View.whole main_v72_4).slice (win0_18.rect t)).emb (ix3 y0 y1 y2) 0)
      (((View.whole main_v72_4).slice (win0_18.rect t)).emb (ix3 y0 y1 y2) 1) (((View.whole main_v72_4).slice (win0_18.rect t)).emb (ix3 y0 y1 y2) 2)
      = accD Dh Dy X OB M G y0 y1 y2 := by
    congr 1 <;> refine Fin.ext ?_ <;> blk_simp [idx0 t]
  idx_vars y
  rw [hs]
  refine Fin.sum_fin_congr fun s => ?_
  generalize hp : (⟨64 * (t.val / 64) + s.val, _⟩ : Fin cfg0.N) = p
  have hps : p.val = s.val := by
    have := lt_of_lt_of_eq t.isLt N_0
    rw [← hp]; show 64 * (t.val / 64) + s.val = s.val
    omega
  refine Fin.sum_fin_congr fun g => ?_
  have hr : (⟨256 * s.val + ((g : ℕ) * 8 + y1.val), by omega⟩ : Fin 16384) = row p ⟨(g : ℕ) * 8 + y1.val, by omega⟩ :=
    Fin.ext (by show _ = 256 * p.val + ((g : ℕ) * 8 + y1.val); rw [hps])
  rw [hr]

/-- The last grid point. -/
def tl : Fin cfg0.N := ⟨63, lt_of_lt_of_eq (by omega : 63 < 64) N_0.symm⟩

include eDh eDy eX eO eU eM eG elg elb eW in
set_option maxHeartbeats 4000000 in
/-- The gains' accumulated gradients: the first two pages of the call's second accumulator. -/
theorem out_accH (k : Fin 4) (hk : (k : ℕ) < 2) (r : Fin 8) (d : Fin 512) :
    ((dats m 0 c).arrAt 19 cfg0.N : FVec Ideal S4x8x512 .f32) (ix3 k r d) = accH Dh Dy X O U M G lg lb W k r d := by
  have h : (dats m 0 c).arrAt 19 cfg0.N = fun i : S4x8x512.Idx =>
      if (i 0 : ℕ) < 2 then accH Dh Dy X O U M G lg lb W (i 0) (i 1) (i 2) else ((outsAt0 m c tl.val tl.isLt).2.2.2.2.2.1 : FVec Ideal S4x8x512 .f32) i := by
    refine (dats m 0 c).arrAt_eq_of_covers 19 _ (by decide +kernel) fun t hf y => ?_
    blk_simp
    rw [after0_19]
    have e (y : S4x8x512.Idx) : ((View.whole main_v72_5).slice (win0_19.rect t)).emb y = y := by
      idx_vars y
      funext a
      refine Fin.ext ?_
      fin_cases a <;> blk_simp [idx0 t]
    rw [e y]
    have ht : t = tl := by
      have := lt_of_lt_of_eq t.isLt N_0
      have := (flush0_19 t).mp hf
      exact Fin.ext (by show t.val = 63; omega)
    split
    case isFalse => rw [ht]
    case isTrue hy0 =>
      have hy : (y 0 : ℕ) < 2 := Nat.lt_of_le_of_lt (Nat.le_add_left _ _) hy0
      refine (Pipeline.eq_sum_fin_of_reset_step_apply_of_flush
        (fun n h (j : {j : S4x8x512.Idx // (j 0 : ℕ) < 2}) => ((outsAt0 m c n h).2.2.2.2.2.1 : FVec Ideal S4x8x512 .f32) j.1) 64 (fun _ => (0 : EReal))
        (fun t j => ∑ g : Fin 32, addH Dh Dy X O U M G lg lb W (j.1 0) (row t ⟨(g : ℕ) * 8 + (j.1 1 : ℕ), by have : (j.1 1 : ℕ) < 8 := (j.1 1).isLt; omega⟩) (j.1 2))
        (fun t h j => accH_first m c Dh Dy X O U M G lg lb W eDh eDy eX eO eU eM eG elg elb eW t h j.1 j.2)
        (fun t h j => accH_next m c Dh Dy X O U M G lg lb W eDh eDy eX eO eU eM eG elg elb eW t h j.1 j.2)
        t ((flush0_19 t).mp hf) ⟨y, hy⟩).trans ?_
      rw [zero_add]
      idx_vars y
      refine Fin.sum_fin_congr fun s => ?_
      generalize hp : (⟨64 * (t.val / 64) + s.val, _⟩ : Fin cfg0.N) = p
      have hps : p.val = s.val := by
        have := lt_of_lt_of_eq t.isLt N_0
        rw [← hp]; show 64 * (t.val / 64) + s.val = s.val
        omega
      refine Fin.sum_fin_congr fun g => ?_
      have hr : (⟨256 * s.val + ((g : ℕ) * 8 + y1.val), by omega⟩ : Fin 16384) = row p ⟨(g : ℕ) * 8 + y1.val, by omega⟩ :=
        Fin.ext (by show _ = 256 * p.val + ((g : ℕ) * 8 + y1.val); rw [hps])
      rw [hr]
  rw [h]
  exact if_pos hk
end
end Cert.Mid
-- ==== Proof.MidRun.lean ====
module

public import proofs.«01_k».proof.Proof.Gen.BwdMidIdeal.Frame
public import Idealize.ShloMosaic.Lib.StableHlo.ReadAt
public import Idealize.ShloMosaic.Lib.Pipeline.ValueKit
public import Idealize.ShloMosaic.Lib.Pointwise
public import Idealize.ShloMosaic.Lib.IdealHost

@[expose] public section

set_option maxRecDepth 16384

noncomputable section

namespace Cert.Mid

open Idealize.ShloMosaic Idealize.ShloMosaic.TcCoe Idealize.SL.Sem Idealize.SL
open Idealize.ShloMosaic.Pipeline (Dat)
open Cert.BwdMidIdeal Cert.BwdMidIdeal.Gen

/-! ### What the call finds in its windows, and the results behind it -/

section
variable (m : (ℓ : Loc nD τ sig) → Buf (Elt Ideal) ℓ) (ρ : Dev nD → PrngReg)
variable (c : Dev nD)

theorem v69_2 (d : Fin 1024) : (V m c main_v69 : FVec Ideal S8x1024 .f32) (ix2 2 d)
    = (m ((c : Thread nD τ).loc main_arg5) : FVec Ideal S1x6144 .f32) (ix2 0 ⟨2048 + (d : ℕ), by omega⟩) := by
  show (V0 m c (Proc.devRef .tc main_v69) : FVec Ideal S8x1024 .f32) (ix2 2 d) = _
  unfold V0
  after_reads_at
theorem v69_4 (d : Fin 1024) : (V m c main_v69 : FVec Ideal S8x1024 .f32) (ix2 4 d)
    = (m ((c : Thread nD τ).loc main_arg5) : FVec Ideal S1x6144 .f32) (ix2 0 ⟨4096 + (d : ℕ), by omega⟩) := by
  show (V0 m c (Proc.devRef .tc main_v69) : FVec Ideal S8x1024 .f32) (ix2 4 d) = _
  unfold V0
  after_reads_at
theorem v71_eq (k d : Fin 1024) : (V m c main_v71 : FVec Ideal S1024x1024 .bf16) (ix2 k d)
    = (m ((c : Thread nD τ).loc main_arg11) : FVec Ideal S1x1024x1024 .f32) (ix3 0 k d) := by
  show (V0 m c (Proc.devRef .tc main_v71) : FVec Ideal S1024x1024 .bf16) (ix2 k d) = _
  unfold V0
  after_reads_at

/-- The sum over the second axis of one page. -/
def pageD (k : Fin 4) (A : FVec Ideal S4x8x1024 .f32) (d : Fin 1024) : EReal := ∑ r : Fin 8, A (ix3 k r d)
@[inherit_doc pageD] def pageH (k : Fin 4) (A : FVec Ideal S4x8x512 .f32) (d : Fin 512) : EReal := ∑ r : Fin 8, A (ix3 k r d)

theorem w_v76 (W : Valuation τ sig (Elt Ideal)) (d : Fin 1024) : (StableHlo.after [hostOps1].flatten W (Proc.devRef .tc main_v76) : FVec Ideal S1x1024 .f32) (ix2 0 d)
    = pageD 0 (W (Proc.devRef .tc main_v72_4)) d := by
  after_reads_at
  rfl
theorem w_v80 (W : Valuation τ sig (Elt Ideal)) (d : Fin 1024) : (StableHlo.after [hostOps1].flatten W (Proc.devRef .tc main_v80) : FVec Ideal S1x1024 .f32) (ix2 0 d)
    = pageD 1 (W (Proc.devRef .tc main_v72_4)) d := by
  after_reads_at
  rfl
theorem w_v84 (W : Valuation τ sig (Elt Ideal)) (d : Fin 1024) : (StableHlo.after [hostOps1].flatten W (Proc.devRef .tc main_v84) : FVec Ideal S1x1024 .f32) (ix2 0 d)
    = pageD 2 (W (Proc.devRef .tc main_v72_4)) d := by
  after_reads_at
  rfl
theorem w_v88 (W : Valuation τ sig (Elt Ideal)) (d : Fin 1024) : (StableHlo.after [hostOps1].flatten W (Proc.devRef .tc main_v88) : FVec Ideal S1x1024 .f32) (ix2 0 d)
    = pageD 3 (W (Proc.devRef .tc main_v72_4)) d := by
  after_reads_at
  rfl
theorem w_v92 (W : Valuation τ sig (Elt Ideal)) (d : Fin 512) : (StableHlo.after [hostOps1].flatten W (Proc.devRef .tc main_v92) : FVec Ideal S1x512 .f32) (ix2 0 d)
    = pageH 0 (W (Proc.devRef .tc main_v72_5)) d := by
  after_reads_at
  rfl
theorem w_v96 (W : Valuation τ sig (Elt Ideal)) (d : Fin 512) : (StableHlo.after [hostOps1].flatten W (Proc.devRef .tc main_v96) : FVec Ideal S1x512 .f32) (ix2 0 d)
    = pageH 1 (W (Proc.devRef .tc main_v72_5)) d := by
  after_reads_at
  rfl

/-- The buffers behind the call: the call's arrays at what it leaves in them, every other buffer as before. -/
def WV : Valuation τ sig (Elt Ideal) := Pipeline.withArrays (cfgs 0).spec c (V0 m c) fun w => (dats m 0 c).arrAt w (cfgs 0).N

theorem wv_d : WV m c (Proc.devRef .tc main_v72_4) = (dats m 0 c).arrAt 18 cfg0.N :=
  Pipeline.withArrays_arr (cfgs 0).spec (by decide) c (V0 m c) (fun w => (dats m 0 c).arrAt w (cfgs 0).N) 18
theorem wv_h : WV m c (Proc.devRef .tc main_v72_5) = (dats m 0 c).arrAt 19 cfg0.N :=
  Pipeline.withArrays_arr (cfgs 0).spec (by decide) c (V0 m c) (fun w => (dats m 0 c).arrAt w (cfgs 0).N) 19

/-- The kernel's runs end with its eight results at these contents, and the arguments unchanged. -/
theorem run_k : θ_run (defs (F := Ideal)) (onTc (τ := τ) (main (F := Ideal))) ⟨m, fun _ => 0, ρ⟩ (fun r => ∀ c : Dev nD,
      r.2.mem ((c.tc : Thread nD τ).loc main_v72_0) = (dats m 0 c).arrAt 14 cfg0.N
      ∧ r.2.mem ((c.tc : Thread nD τ).loc main_v72_2) = (dats m 0 c).arrAt 16 cfg0.N
      ∧ r.2.mem ((c.tc : Thread nD τ).loc main_v76) = StableHlo.after [hostOps1].flatten (WV m c) (Proc.devRef .tc main_v76)
      ∧ r.2.mem ((c.tc : Thread nD τ).loc main_v80) = StableHlo.after [hostOps1].flatten (WV m c) (Proc.devRef .tc main_v80)
      ∧ r.2.mem ((c.tc : Thread nD τ).loc main_v84) = StableHlo.after [hostOps1].flatten (WV m c) (Proc.devRef .tc main_v84)
      ∧ r.2.mem ((c.tc : Thread nD τ).loc main_v88) = StableHlo.after [hostOps1].flatten (WV m c) (Proc.devRef .tc main_v88)
      ∧ r.2.mem ((c.tc : Thread nD τ).loc main_v92) = StableHlo.after [hostOps1].flatten (WV m c) (Proc.devRef .tc main_v92)
      ∧ r.2.mem ((c.tc : Thread nD τ).loc main_v96) = StableHlo.after [hostOps1].flatten (WV m c) (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c => ⟨h.1.out_eq c 14, h.1.out_eq c 16, h.1.rest_eq c main_v76 (by decide), h.1.rest_eq c main_v80 (by decide), h.1.rest_eq c main_v84 (by decide), h.1.rest_eq c main_v88 (by decide), h.1.rest_eq c main_v92 (by decide), h.1.rest_eq c main_v96 (by decide), h.2 c⟩)
    (θ_run_and (run_main m ρ) (unchanged m ρ))
end
end Cert.Mid
-- ==== Proof.MidRef.lean ====
module

public import proofs.«01_k».proof.Proof.Gen.BwdMidRefIdeal.Run
public import proofs.«01_k».proof.Proof.MidBlk
public import Idealize.ShloMosaic.Lib.StableHlo.ReadAt
public import Idealize.ShloMosaic.Lib.Pipeline.ValueKit
public import Idealize.ShloMosaic.Lib.Pointwise
public import Idealize.ShloMosaic.Lib.IdealHost

@[expose] public section

set_option maxRecDepth 16384

noncomputable section

namespace Cert.Mid

open Idealize.ShloMosaic Idealize.ShloMosaic.TcCoe Idealize.SL.Sem
open Cert.BwdMidRefIdeal Cert.BwdMidRefIdeal.Gen

/-! ### The gradients of the norms and the output product, over the extended reals -/

/-- The mean square of a row, with the small constant added. -/
def msq {n : ℕ} (c : BitVec 32) (X : Fin n → EReal) : EReal := Ideal.div (∑ x, X x * X x) (Ideal.ofBits .f32 c) + Ideal.ofBits .f32 0x358637BD#32
/-- The gradient by the row's mean square. -/
def refA {n : ℕ} (c : BitVec 32) (X Y : Fin n → EReal) : EReal := Ideal.div ((∑ x, X x * Y x)
  * (Ideal.ofBits .f32 0xBF000000#32 * Ideal.div (Ideal.rsqrt (msq c X)) (msq c X))) (Ideal.ofBits .f32 c)

section Spec
variable (Dh Dy X : FVec Ideal S16384x1024 .f32) (O U : FVec Ideal S16384x512 .f32) (M : FVec Ideal S1x6144 .f32) (G : FVec Ideal S1x1024 .f32)
  (ba bc lg lb : FVec Ideal S1x512 .f32) (W : FVec Ideal S1x1024x1024 .f32)
/-- The scale of the modulation. -/
def sc (d : Fin 1024) : EReal := M (ix2 0 ⟨4096 + (d : ℕ), by omega⟩)
/-- The gate of the modulation. -/
def gt (d : Fin 1024) : EReal := M (ix2 0 ⟨2048 + (d : ℕ), by omega⟩)
/-- The normalised row of the stream. -/
def xn (s : Fin 16384) (d : Fin 1024) : EReal := X (ix2 s d) * Ideal.rsqrt (msq 0x44800000#32 fun x : Fin 1024 => X (ix2 s x))
/-- The gradient by it. -/
def dn (s : Fin 16384) (d : Fin 1024) : EReal := Dh (ix2 s d) * (1 + sc M d) * G (ix2 0 d)
/-- The gradient by the stream. -/
def dx (s : Fin 16384) (d : Fin 1024) : EReal := Dy (ix2 s d)
  + dn Dh M G s d * Ideal.rsqrt (msq 0x44800000#32 fun x : Fin 1024 => X (ix2 s x))
  + X (ix2 s d) * refA 0x44800000#32 (fun x : Fin 1024 => X (ix2 s x)) (fun x => dn Dh M G s x)
  + refA 0x44800000#32 (fun x : Fin 1024 => X (ix2 s x)) (fun x => dn Dh M G s x) * X (ix2 s d)
/-- The gradient by the shift. -/
def dsh (d : Fin 1024) : EReal := ∑ s : Fin 16384, Dh (ix2 s d)
/-- The gradient by the scale. -/
def dsc (d : Fin 1024) : EReal := ∑ s : Fin 16384, xn X s d * G (ix2 0 d) * Dh (ix2 s d)
/-- The gradient by the norm's gain. -/
def dgn (d : Fin 1024) : EReal := ∑ s : Fin 16384, xn X s d * (Dh (ix2 s d) * (1 + sc M d))
/-- The gradient by the gate. -/
def dgt (P : FVec Ideal S16384x1024 .f32) (d : Fin 1024) : EReal := ∑ s : Fin 16384, dx Dh Dy X M G s d * P (ix2 s d)
/-- The gradient by the two groups side by side. -/
def dm (s : Fin 16384) (k : Fin 1024) : EReal := ∑ d : Fin 1024, gt M d * dx Dh Dy X M G s d * W (ix3 0 k d)
/-- The gradient by the attention's output. -/
def doa (s : Fin 16384) (k : Fin 512) : EReal :=
  dm Dh Dy X M G W s ⟨(k : ℕ), by omega⟩ * ba (ix2 0 k) * Ideal.rsqrt (msq 0x44000000#32 fun x : Fin 512 => O (ix2 s x))
  + O (ix2 s k) * refA 0x44000000#32 (fun x : Fin 512 => O (ix2 s x)) (fun x => dm Dh Dy X M G W s ⟨(x : ℕ), by omega⟩ * ba (ix2 0 x))
  + refA 0x44000000#32 (fun x : Fin 512 => O (ix2 s x)) (fun x => dm Dh Dy X M G W s ⟨(x : ℕ), by omega⟩ * ba (ix2 0 x)) * O (ix2 s k)
/-- The gradient by the attention's gain. -/
def dba (k : Fin 512) : EReal := ∑ s : Fin 16384, O (ix2 s k) * Ideal.rsqrt (msq 0x44000000#32 fun x : Fin 512 => O (ix2 s x)) * dm Dh Dy X M G W s ⟨(k : ℕ), by omega⟩
/-- The convolution's swish. -/
def sw (s : Fin 16384) (k : Fin 512) : EReal := swi (lay 0x44000000#32 (fun x : Fin 512 => U (ix2 s x)) (fun x => lg (ix2 0 x)) (fun x => lb (ix2 0 x)) k)
/-- The gradient by the convolution's gain. -/
def dbc (k : Fin 512) : EReal := ∑ s : Fin 16384, sw U lg lb s k * Ideal.rsqrt (msq 0x44000000#32 (sw U lg lb s)) * dm Dh Dy X M G W s ⟨512 + (k : ℕ), by omega⟩
end Spec

/-! ### The reference's results are these -/

section Ref
variable (m : (ℓ : Loc nD τ sig) → Buf (Elt Ideal) ℓ) (c : Dev nD)

/-- The reference's operations behind the stream that leaves the block. -/
abbrev back : List (HloOp τ sig (Elt Ideal)) := List.drop 82 (Cert.BwdMidRefIdeal.Value.ops (F := Ideal))
/-- The contents before them. -/
abbrev RW (b : Ref sig .tc) := StableHlo.upto (Cert.BwdMidRefIdeal.Value.ops (F := Ideal)) (fun b => m (c, b)) 82 (Proc.devRef .tc b)
/-- The reference's buffers after its run. -/
abbrev RV (b : Ref sig .tc) := StableHlo.after (Cert.BwdMidRefIdeal.Value.ops (F := Ideal)) (fun b => m (c, b)) (Proc.devRef .tc b)

theorem cut (l : List (HloOp τ sig (Elt Ideal))) (n : ℕ) (V : Valuation τ sig (Elt Ideal)) : StableHlo.after l V = StableHlo.after (List.drop n l) (StableHlo.upto l V n) := by
  induction n generalizing l V with
  | zero => rfl
  | succ n ih =>
    cases l with
    | nil => rfl
    | cons op l => exact ih l _

variable (Dh Dy X P : FVec Ideal S16384x1024 .f32) (O U : FVec Ideal S16384x512 .f32) (M : FVec Ideal S1x6144 .f32) (G : FVec Ideal S1x1024 .f32)
  (ba bc lg lb : FVec Ideal S1x512 .f32) (W : FVec Ideal S1x1024x1024 .f32)

section
variable (R : Valuation τ sig (Elt Ideal))
  (e0 : R (Proc.devRef .tc main_arg0) = Dh) (e1 : R (Proc.devRef .tc main_arg1) = Dy) (e3 : R (Proc.devRef .tc main_arg3) = O)
  (e6 : R (Proc.devRef .tc main_arg6) = G) (e7 : R (Proc.devRef .tc main_arg7) = ba)
  (eX : R (Proc.devRef .tc main_v61) = X) (eP : R (Proc.devRef .tc main_v58) = P)
  (e2 : (R (Proc.devRef .tc main_v2) : FVec Ideal S1x1024 .f32) = fun i => gt M (i 1)) (e4 : (R (Proc.devRef .tc main_v4) : FVec Ideal S1x1024 .f32) = fun i => sc M (i 1))
  (e36 : (R (Proc.devRef .tc main_v36) : FVec Ideal S16384x1 .f32) = fun i => Ideal.rsqrt (msq 0x44000000#32 fun x : Fin 512 => O (ix2 (i 0) x)))
  (e39 : (R (Proc.devRef .tc main_v39) : FVec Ideal S16384x1 .f32) = fun i => Ideal.ofBits .f32 0xBF000000#32
    * Ideal.div (Ideal.rsqrt (msq 0x44000000#32 fun x : Fin 512 => O (ix2 (i 0) x))) (msq 0x44000000#32 fun x : Fin 512 => O (ix2 (i 0) x)))
  (e41 : (R (Proc.devRef .tc main_v41) : FVec Ideal S16384x512 .f32) = fun i => O (ix2 (i 0) (i 1)) * Ideal.rsqrt (msq 0x44000000#32 fun x : Fin 512 => O (ix2 (i 0) x)))
  (e53 : (R (Proc.devRef .tc main_v53) : FVec Ideal S16384x512 .f32) = fun i => sw U lg lb (i 0) (i 1) * Ideal.rsqrt (msq 0x44000000#32 (sw U lg lb (i 0))))
  (e57 : (R (Proc.devRef .tc main_v57) : FVec Ideal S1024x1024 .f32) = fun i => W (ix3 0 (i 0) (i 1)))
include e0 e1 e3 e6 e7 eX eP e2 e4 e36 e39 e41 e53 e57

theorem b_dx (s : Fin 16384) (d : Fin 1024) : (StableHlo.after back R (Proc.devRef .tc main_v110) : FVec Ideal S16384x1024 .f32) (ix2 s d) = dx Dh Dy X M G s d := by
  after_reads_at
  simp only [StableHlo.binary_result', e0, e1, e3, e6, e7, eX, eP, e2, e4, e36, e39, e41, e53, e57, Fin.sum_univ_one]
  rfl

theorem b_dsh (d : Fin 1024) : (StableHlo.after back R (Proc.devRef .tc main_v85) : FVec Ideal S1x1024 .f32) (ix2 0 d) = dsh Dh d := by
  after_reads_at
  simp only [StableHlo.binary_result', e0, e1, e3, e6, e7, eX, eP, e2, e4, e36, e39, e41, e53, e57, Fin.sum_univ_one]
  rfl

theorem b_dsc (d : Fin 1024) : (StableHlo.after back R (Proc.devRef .tc main_v88) : FVec Ideal S1x1024 .f32) (ix2 0 d) = dsc Dh X G d := by
  after_reads_at
  simp only [StableHlo.binary_result', e0, e1, e3, e6, e7, eX, eP, e2, e4, e36, e39, e41, e53, e57, Fin.sum_univ_one]
  rfl

theorem b_dgn (d : Fin 1024) : (StableHlo.after back R (Proc.devRef .tc main_v93) : FVec Ideal S1x1024 .f32) (ix2 0 d) = dgn Dh X M d := by
  after_reads_at
  simp only [StableHlo.binary_result', e0, e1, e3, e6, e7, eX, eP, e2, e4, e36, e39, e41, e53, e57, Fin.sum_univ_one]
  rfl

theorem b_dgt (d : Fin 1024) : (StableHlo.after back R (Proc.devRef .tc main_v116) : FVec Ideal S1x1024 .f32) (ix2 0 d) = dgt Dh Dy X M G P d := by
  after_reads_at
  simp only [StableHlo.binary_result', e0, e1, e3, e6, e7, eX, eP, e2, e4, e36, e39, e41, e53, e57, Fin.sum_univ_one]
  rfl

theorem b_dba (d : Fin 512) : (StableHlo.after back R (Proc.devRef .tc main_v125) : FVec Ideal S1x512 .f32) (ix2 0 d) = dba Dh Dy X O M G W d := by
  after_reads_at
  simp only [StableHlo.binary_result', e0, e1, e3, e6, e7, eX, eP, e2, e4, e36, e39, e41, e53, e57, Fin.sum_univ_one]
  rfl

theorem b_dbc (d : Fin 512) : (StableHlo.after back R (Proc.devRef .tc main_v122) : FVec Ideal S1x512 .f32) (ix2 0 d) = dbc Dh Dy X U M G lg lb W d := by
  after_reads_at
  simp only [StableHlo.binary_result', e0, e1, e3, e6, e7, eX, eP, e2, e4, e36, e39, e41, e53, e57, Fin.sum_univ_one]
  rfl

theorem b_doa (s : Fin 16384) (d : Fin 512) : (StableHlo.after back R (Proc.devRef .tc main_v142) : FVec Ideal S16384x512 .bf16) (ix2 s d) = doa Dh Dy X O M G ba W s d := by
  after_reads_at
  simp only [StableHlo.binary_result', e0, e1, e3, e6, e7, eX, eP, e2, e4, e36, e39, e41, e53, e57, Fin.sum_univ_one]
  rfl

end

section
variable (e0 : m (c, Proc.devRef .tc main_arg0) = Dh) (e1 : m (c, Proc.devRef .tc main_arg1) = Dy) (e3 : m (c, Proc.devRef .tc main_arg3) = O) (e4 : m (c, Proc.devRef .tc main_arg4) = U) (e5 : m (c, Proc.devRef .tc main_arg5) = M) (e6 : m (c, Proc.devRef .tc main_arg6) = G) (e7 : m (c, Proc.devRef .tc main_arg7) = ba) (e9 : m (c, Proc.devRef .tc main_arg9) = lg) (e10 : m (c, Proc.devRef .tc main_arg10) = lb) (e11 : m (c, Proc.devRef .tc main_arg11) = W)

include e5 in
theorem f_2 : (RW m c main_v2 : FVec Ideal S1x1024 .f32) = fun i => gt M (i 1) := by
  funext i
  idx_vars i
  rw [show i0 = 0 from Subsingleton.elim _ _]
  after_reads_at
  simp only [StableHlo.binary_result', e5]
  rfl

include e5 in
theorem f_4 : (RW m c main_v4 : FVec Ideal S1x1024 .f32) = fun i => sc M (i 1) := by
  funext i
  idx_vars i
  rw [show i0 = 0 from Subsingleton.elim _ _]
  after_reads_at
  simp only [StableHlo.binary_result', e5]
  rfl

include e3 in
theorem f_36 : (RW m c main_v36 : FVec Ideal S16384x1 .f32) = fun i => Ideal.rsqrt (msq 0x44000000#32 fun x : Fin 512 => O (ix2 (i 0) x)) := by
  funext i
  idx_vars i
  after_reads_at
  simp only [StableHlo.binary_result', e3]
  rfl

include e3 in
theorem f_39 : (RW m c main_v39 : FVec Ideal S16384x1 .f32) = fun i => Ideal.ofBits .f32 0xBF000000#32 * Ideal.div (Ideal.rsqrt (msq 0x44000000#32 fun x : Fin 512 => O (ix2 (i 0) x))) (msq 0x44000000#32 fun x : Fin 512 => O (ix2 (i 0) x)) := by
  funext i
  idx_vars i
  after_reads_at
  simp only [StableHlo.binary_result', e3]
  rfl

include e3 in
theorem f_41 : (RW m c main_v41 : FVec Ideal S16384x512 .f32) = fun i => O (ix2 (i 0) (i 1)) * Ideal.rsqrt (msq 0x44000000#32 fun x : Fin 512 => O (ix2 (i 0) x)) := by
  funext i
  idx_vars i
  after_reads_at
  simp only [StableHlo.binary_result', e3]
  rfl

include e4 e9 e10 in
theorem f_53 : (RW m c main_v53 : FVec Ideal S16384x512 .f32) = fun i => sw U lg lb (i 0) (i 1) * Ideal.rsqrt (msq 0x44000000#32 (sw U lg lb (i 0))) := by
  funext i
  idx_vars i
  after_reads_at
  simp only [StableHlo.binary_result', e4, e9, e10]
  rfl

include e11 in
theorem f_57 : (RW m c main_v57 : FVec Ideal S1024x1024 .f32) = fun i => W (ix3 0 (i 0) (i 1)) := by
  funext i
  idx_vars i
  after_reads_at
  rw [e11]

end

section
variable (e0 : m (c, Proc.devRef .tc main_arg0) = Dh) (e1 : m (c, Proc.devRef .tc main_arg1) = Dy) (e3 : m (c, Proc.devRef .tc main_arg3) = O) (e4 : m (c, Proc.devRef .tc main_arg4) = U) (e5 : m (c, Proc.devRef .tc main_arg5) = M) (e6 : m (c, Proc.devRef .tc main_arg6) = G) (e7 : m (c, Proc.devRef .tc main_arg7) = ba) (e9 : m (c, Proc.devRef .tc main_arg9) = lg) (e10 : m (c, Proc.devRef .tc main_arg10) = lb) (e11 : m (c, Proc.devRef .tc main_arg11) = W)
  (eX : RW m c main_v61 = X) (eP : RW m c main_v58 = P)
include e0 e1 e3 e4 e5 e6 e7 e9 e10 e11 eX eP

theorem ref_dx (s : Fin 16384) (d : Fin 1024) : (RV m c main_v110 : FVec Ideal S16384x1024 .f32) (ix2 s d) = dx Dh Dy X M G s d := by
  unfold RV
  rw [cut _ 82]
  exact b_dx Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) s d

theorem ref_dsh (d : Fin 1024) : (RV m c main_v85 : FVec Ideal S1x1024 .f32) (ix2 0 d) = dsh Dh d := by
  unfold RV
  rw [cut _ 82]
  exact b_dsh Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) d

theorem ref_dsc (d : Fin 1024) : (RV m c main_v88 : FVec Ideal S1x1024 .f32) (ix2 0 d) = dsc Dh X G d := by
  unfold RV
  rw [cut _ 82]
  exact b_dsc Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) d

theorem ref_dgn (d : Fin 1024) : (RV m c main_v93 : FVec Ideal S1x1024 .f32) (ix2 0 d) = dgn Dh X M d := by
  unfold RV
  rw [cut _ 82]
  exact b_dgn Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) d

theorem ref_dgt (d : Fin 1024) : (RV m c main_v116 : FVec Ideal S1x1024 .f32) (ix2 0 d) = dgt Dh Dy X M G P d := by
  unfold RV
  rw [cut _ 82]
  exact b_dgt Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) d

theorem ref_dba (d : Fin 512) : (RV m c main_v125 : FVec Ideal S1x512 .f32) (ix2 0 d) = dba Dh Dy X O M G W d := by
  unfold RV
  rw [cut _ 82]
  exact b_dba Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) d

theorem ref_dbc (d : Fin 512) : (RV m c main_v122 : FVec Ideal S1x512 .f32) (ix2 0 d) = dbc Dh Dy X U M G lg lb W d := by
  unfold RV
  rw [cut _ 82]
  exact b_dbc Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) d

theorem ref_doa (s : Fin 16384) (d : Fin 512) : (RV m c main_v142 : FVec Ideal S16384x512 .bf16) (ix2 s d) = doa Dh Dy X O M G ba W s d := by
  unfold RV
  rw [cut _ 82]
  exact b_doa Dh Dy X P O U M G ba lg lb W _ ((by after_reads_simp : RW m c main_arg0 = _).trans e0) ((by after_reads_simp : RW m c main_arg1 = _).trans e1) ((by after_reads_simp : RW m c main_arg3 = _).trans e3) ((by after_reads_simp : RW m c main_arg6 = _).trans e6) ((by after_reads_simp : RW m c main_arg7 = _).trans e7)
    eX eP (f_2 m c M e5) (f_4 m c M e5) (f_36 m c O e3) (f_39 m c O e3) (f_41 m c O e3) (f_53 m c U lg lb e4 e9 e10) (f_57 m c W e11) s d

end

end Ref

/-- The reference's runs end with each result at the contents its operations leave, and the arguments unchanged. -/
theorem run_r (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v110) = RV m c main_v110
      ∧ r.2.mem ((c.tc : Thread nD τ).loc main_v142) = RV m c main_v142
      ∧ r.2.mem ((c.tc : Thread nD τ).loc main_v85) = RV m c main_v85
      ∧ r.2.mem ((c.tc : Thread nD τ).loc main_v88) = RV m c main_v88
      ∧ r.2.mem ((c.tc : Thread nD τ).loc main_v93) = RV m c main_v93
      ∧ r.2.mem ((c.tc : Thread nD τ).loc main_v116) = RV m c main_v116
      ∧ r.2.mem ((c.tc : Thread nD τ).loc main_v125) = RV m c main_v125
      ∧ r.2.mem ((c.tc : Thread nD τ).loc main_v122) = RV m c main_v122
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v110, h c main_v142, h c main_v85, h c main_v88, h c main_v93, h c main_v116, h c main_v125, h c main_v122,
      (h c main_arg0).trans (by after_reads_simp),
      (h c main_arg1).trans (by after_reads_simp),
      (h c main_arg2).trans (by after_reads_simp),
      (h c main_arg3).trans (by after_reads_simp),
      (h c main_arg4).trans (by after_reads_simp),
      (h c main_arg5).trans (by after_reads_simp),
      (h c main_arg6).trans (by after_reads_simp),
      (h c main_arg7).trans (by after_reads_simp),
      (h c main_arg8).trans (by after_reads_simp),
      (h c main_arg9).trans (by after_reads_simp),
      (h c main_arg10).trans (by after_reads_simp),
      (h c main_arg11).trans (by after_reads_simp)⟩)
    (StableHlo.run_seq Value.scopedRefs_eq Value.scopedSems_eq defs main (fun _ => Value.ops) Value.main_eq (fun _ => Value.ops_sub) m ρ)
end Cert.Mid
-- ==== Proof.MidCore.lean ====
module

public import proofs.«01_k».proof.Proof.MidRef
public import proofs.«01_k».proof.Proof.BinFinal

@[expose] public section

set_option maxRecDepth 16384

noncomputable section

namespace Cert.Mid

open Idealize.ShloMosaic Idealize.ShloMosaic.TcCoe Idealize.SL.Sem

/-! ### A norm's gradient, for rows of any length that may hold infinities -/

theorem c_512 : Ideal.ofBits .f32 0x44000000#32 = ((512 : ℝ) : EReal) := by
  simp [Ideal.ofBits, Ideal.ieee, -EReal.coe_mul]; norm_num

/-- The mean square with the small constant is positive: real, or infinite. -/
theorem msq_pos {n : ℕ} (c : BitVec 32) (N : ℝ) (hN : 0 < N) (hc : Ideal.ofBits .f32 c = (N : EReal)) (X : Fin n → EReal) :
    msq c X = ⊤ ∨ ∃ v : ℝ, 0 < v ∧ msq c X = v := by
  unfold msq
  obtain ⟨e, he, ee⟩ := Cert.AttnF.ceps
  have h : (0 : EReal) ≤ ∑ x, X x * X x := Finset.sum_nonneg fun x _ => Cert.Bin.sq_nonneg' _
  generalize (∑ x, X x * X x) = S at h ⊢
  rw [ee, hc, Ideal.div_coe hN.ne']
  induction S using EReal.rec with
  | bot => simp at h
  | top => left; rw [EReal.top_mul_coe_of_pos (by positivity)]; exact EReal.top_add_coe e
  | coe r =>
    right
    refine ⟨r * (1 / N) + e, ?_, ?_⟩
    · have : 0 ≤ r := by exact_mod_cast h
      positivity
    · rw [EReal.coe_add, EReal.coe_mul]

/-- One row: the call's expression for the gradient is the derivative's. -/
theorem core {n : ℕ} (c : BitVec 32) (N : ℝ) (hN : 0 < N) (hc : Ideal.ofBits .f32 c = (N : EReal)) (X Y : Fin n → EReal) (D : EReal) (d : Fin n) :
    D + gradR c X Y d = D + Y d * Ideal.rsqrt (msq c X) + X d * refA c X Y + refA c X Y * X d := by
  unfold gradR refA
  rw [show rs c X = Ideal.rsqrt (msq c X) from rfl]
  have hu := msq_pos c N hN hc X
  generalize msq c X = u at hu ⊢
  rw [hc, Cert.Bin.c_mhalf]
  rcases hu with rfl | ⟨v, hv, rfl⟩
  · rw [Ideal.rsqrt_top, show Ideal.div 0 ⊤ = 0 by simp [Ideal.div], Ideal.div_coe hN.ne']
    simp
    rw [Ideal.div_coe hN.ne']
    simp
  · rw [Ideal.rsqrt_coe, if_neg (not_lt.2 hv.le), if_neg hv.ne']
    have hq : 0 < (Real.sqrt v)⁻¹ := inv_pos.2 (Real.sqrt_pos.2 hv)
    have hqq : (Real.sqrt v)⁻¹ * (Real.sqrt v)⁻¹ = v⁻¹ := by rw [← mul_inv, Real.mul_self_sqrt hv.le]
    generalize (Real.sqrt v)⁻¹ = q at hq hqq ⊢
    rw [Cert.AttnZ.div_real _ _ hv.ne', show (∑ x, Y x * (X x * (q : EReal))) = (∑ x, X x * Y x) * (q : EReal) by
      rw [Cert.Ffn.sum_mul_coe _ _ hq.le]
      exact Finset.sum_congr rfl fun x _ => by rw [← mul_assoc, mul_comm (Y x)]]
    generalize (∑ x, X x * Y x) = S
    rw [Ideal.div_coe hN.ne', Ideal.div_coe hN.ne']
    generalize X d = x
    generalize Y d = y
    have hA : S * (((-(1 / 2) : ℝ) : EReal) * ((q / v : ℝ) : EReal)) * ((1 / N : ℝ) : EReal) = S * ((-(1 / 2) * (q / v) * (1 / N) : ℝ) : EReal) := by
      rw [mul_assoc, ← EReal.coe_mul, ← EReal.coe_mul]
    have hK : x * (q : EReal) * (S * (q : EReal) * ((1 / N : ℝ) : EReal)) = x * S * ((q * q * (1 / N) : ℝ) : EReal) := by
      rw [mul_assoc S, ← EReal.coe_mul, mul_assoc x, mul_left_comm (q : EReal) S, ← EReal.coe_mul, ← mul_assoc, mul_assoc q]
    rw [hA, hK, mul_comm _ x, ← mul_assoc x, add_assoc, Cert.Bin.twice, mul_assoc (x * S), ← EReal.coe_mul, add_assoc, sub_eq_add_neg,
      EReal.left_distrib_of_nonneg_of_ne_top (by exact_mod_cast hq.le) (EReal.coe_ne_top q), mul_comm (q : EReal) y, mul_neg, mul_left_comm, ← EReal.coe_mul,
      ← mul_neg, ← EReal.coe_neg]
    refine congrArg (fun z : ℝ => D + (y * (q : EReal) + x * S * (z : EReal))) ?_
    rw [hqq]
    field_simp

/-- The sums of the blocks, residue by residue, are the sum over all rows. -/
theorem acc_sum (f : Fin 16384 → EReal) :
    ∑ r : Fin 8, ∑ t : Fin 64, ∑ g : Fin 32, f ⟨256 * (t : ℕ) + ((g : ℕ) * 8 + (r : ℕ)), by omega⟩ = ∑ s, f s := by
  rw [Fin.sum_univ_tiles 64 256 rfl, Finset.sum_comm]
  refine Finset.sum_congr rfl fun t _ => ?_
  rw [Fin.sum_univ_tiles 32 8 rfl, Finset.sum_comm]
  simp only [mul_comm 256]

end Cert.Mid
-- ==== Proof.MidFinal.lean ====
module

public import proofs.«01_k».proof.Proof.MidAcc
public import proofs.«01_k».proof.Proof.MidRun
public import proofs.«01_k».proof.Proof.MidCore

@[expose] public section

set_option maxRecDepth 16384

noncomputable section

namespace Cert.Mid

open Idealize.ShloMosaic Idealize.ShloMosaic.TcCoe Idealize.SL.Sem
open Cert.BwdMidIdeal Cert.BwdMidIdeal.Gen

/-! ### The kernel's elements are the derivative's -/

section
variable (Dh Dy X : FVec Ideal S16384x1024 .f32) (OB : FVec Ideal S16384x1024 .bf16) (O U : FVec Ideal S16384x512 .f32) (M : FVec Ideal S1x6144 .f32)
  (G : FVec Ideal S1x1024 .f32) (ba bc lg lb : FVec Ideal S1x512 .f32) (W : FVec Ideal S1x1024x1024 .f32)
  (M8 : FVec Ideal S8x1024 .f32) (w : FVec Ideal S1024x1024 .bf16)
  (h2 : ∀ d : Fin 1024, M8 (ix2 2 d) = M (ix2 0 ⟨2048 + (d : ℕ), by omega⟩))
  (h4 : ∀ d : Fin 1024, M8 (ix2 4 d) = M (ix2 0 ⟨4096 + (d : ℕ), by omega⟩))
  (hw : ∀ k d : Fin 1024, w (ix2 k d) = W (ix3 0 k d))

include h4 in
theorem kdx_eq (s : Fin 16384) (d : Fin 1024) : kdx Dh Dy X M8 G s d = dx Dh Dy X M G s d := by
  have hY : (fun x : Fin 1024 => (Dh (ix2 s x) * (G (ix2 0 x) * (1 + M8 (ix2 4 x))) : EReal)) = fun x => dn Dh M G s x := by
    funext x
    rw [h4, mul_comm (G _), ← mul_assoc]
    rfl
  unfold kdx
  rw [hY]
  exact core _ 1024 (by norm_num) Cert.Ffn.c_1024 (fun x : Fin 1024 => X (ix2 s x)) (fun x => dn Dh M G s x) (Dy (ix2 s d)) d

include h2 h4 hw in
theorem kma_eq (s : Fin 16384) (k : Fin 512) : kma Dh Dy X M8 G w s k = dm Dh Dy X M G W s ⟨(k : ℕ), by omega⟩ := by
  unfold kma dm
  refine Finset.sum_congr rfl fun d _ => ?_
  rw [kdx_eq Dh Dy X M G M8 h4, h2, hw, mul_comm (dx _ _ _ _ _ _ _)]
  rfl

include h2 h4 hw in
theorem kmc_eq (s : Fin 16384) (k : Fin 512) : kmc Dh Dy X M8 G w s k = dm Dh Dy X M G W s ⟨512 + (k : ℕ), by omega⟩ := by
  unfold kmc dm
  refine Finset.sum_congr rfl fun d _ => ?_
  rw [kdx_eq Dh Dy X M G M8 h4, h2, hw, mul_comm (dx _ _ _ _ _ _ _)]
  rfl

include h2 h4 hw in
theorem kdo_eq (s : Fin 16384) (k : Fin 512) : kdo Dh Dy X O M8 G ba w s k = doa Dh Dy X O M G ba W s k := by
  unfold kdo doa
  simp only [kma_eq Dh Dy X M G W M8 w h2 h4 hw]
  have h := core _ 512 (by norm_num) c_512 (fun x : Fin 512 => O (ix2 s x)) (fun x => dm Dh Dy X M G W s ⟨(x : ℕ), by omega⟩ * ba (ix2 0 x)) 0 k
  simp only [zero_add] at h
  exact h

theorem sum_sh (d : Fin 1024) : ∑ r : Fin 8, accD Dh Dy X OB M8 G 0 r d = dsh Dh d :=
  acc_sum (fun s => addD Dh Dy X OB M8 G 0 s d)

theorem sum_sc (d : Fin 1024) : ∑ r : Fin 8, accD Dh Dy X OB M8 G 1 r d = dsc Dh X G d := by
  refine (acc_sum (fun s => addD Dh Dy X OB M8 G 1 s d)).trans (Finset.sum_congr rfl fun s _ => ?_)
  rw [mul_comm, ← mul_assoc]
  rfl

include h4 in
theorem sum_gn (d : Fin 1024) : ∑ r : Fin 8, accD Dh Dy X OB M8 G 2 r d = dgn Dh X M d := by
  refine (acc_sum (fun s => addD Dh Dy X OB M8 G 2 s d)).trans (Finset.sum_congr rfl fun s _ => ?_)
  unfold sc
  rw [← h4, ← mul_assoc, mul_comm (xn X s d)]
  rfl

include h4 in
theorem sum_gt (P : FVec Ideal S16384x1024 .f32) (hP : ∀ s d, (OB (ix2 s d) : EReal) = P (ix2 s d)) (d : Fin 1024) :
    ∑ r : Fin 8, accD Dh Dy X OB M8 G 3 r d = dgt Dh Dy X M G P d := by
  refine (acc_sum (fun s => addD Dh Dy X OB M8 G 3 s d)).trans (Finset.sum_congr rfl fun s _ => ?_)
  rw [← kdx_eq Dh Dy X M G M8 h4, ← hP]
  rfl

include h2 h4 hw in
theorem sum_ba (d : Fin 512) : ∑ r : Fin 8, accH Dh Dy X O U M8 G lg lb w 0 r d = dba Dh Dy X O M G W d := by
  refine (acc_sum (fun s => addH Dh Dy X O U M8 G lg lb w 0 s d)).trans (Finset.sum_congr rfl fun s _ => ?_)
  rw [← kma_eq Dh Dy X M G W M8 w h2 h4 hw, mul_comm]
  rfl

include h2 h4 hw in
theorem sum_bc (d : Fin 512) : ∑ r : Fin 8, accH Dh Dy X O U M8 G lg lb w 1 r d = dbc Dh Dy X U M G lg lb W d := by
  refine (acc_sum (fun s => addH Dh Dy X O U M8 G lg lb w 1 s d)).trans (Finset.sum_congr rfl fun s _ => ?_)
  rw [← kmc_eq Dh Dy X M G W M8 w h2 h4 hw, mul_comm]
  rfl
end

theorem pageH_eq (k : Fin 4) (A : FVec Ideal S4x8x512 .f32) (f : Fin 8 → EReal) (d : Fin 512) (h : ∀ r, A (ix3 k r d) = f r) : pageH k A d = ∑ r, f r :=
  Finset.sum_congr rfl fun r _ => h r

/-! ### The eight results of the kernel -/

section
variable (m : (ℓ : Loc nD τ sig) → Buf (Elt Ideal) ℓ) (c : Dev nD)

/-! The kernel's argument arrays, the stream that leaves the block and the output product -/
abbrev aDh : FVec Ideal S16384x1024 .f32 := m ((c : Thread nD τ).loc main_arg0)
abbrev aDy : FVec Ideal S16384x1024 .f32 := m ((c : Thread nD τ).loc main_arg1)
abbrev aX : FVec Ideal S16384x1024 .f32 := V m c main_v53
abbrev aP : FVec Ideal S16384x1024 .f32 := fun i => (V m c main_v67 : FVec Ideal S16384x1024 .bf16) i
abbrev aO : FVec Ideal S16384x512 .f32 := m ((c : Thread nD τ).loc main_arg3)
abbrev aU : FVec Ideal S16384x512 .f32 := m ((c : Thread nD τ).loc main_arg4)
abbrev aM : FVec Ideal S1x6144 .f32 := m ((c : Thread nD τ).loc main_arg5)
abbrev aG : FVec Ideal S1x1024 .f32 := m ((c : Thread nD τ).loc main_arg6)
abbrev aba : FVec Ideal S1x512 .f32 := m ((c : Thread nD τ).loc main_arg7)
abbrev abc : FVec Ideal S1x512 .f32 := m ((c : Thread nD τ).loc main_arg8)
abbrev alg : FVec Ideal S1x512 .f32 := m ((c : Thread nD τ).loc main_arg9)
abbrev alb : FVec Ideal S1x512 .f32 := m ((c : Thread nD τ).loc main_arg10)
abbrev aW : FVec Ideal S1x1024x1024 .f32 := m ((c : Thread nD τ).loc main_arg11)

theorem k_dx : ((dats m 0 c).arrAt 14 cfg0.N : FVec Ideal S16384x1024 .f32) = fun i => dx (aDh m c) (aDy m c) (aX m c) (aM m c) (aG m c) (i 0) (i 1) := by
  refine (out_dx m c _ _ _ _ _ (V_main_arg0 m c) (V_main_arg1 m c) rfl rfl (V_main_arg6 m c)).trans ?_
  funext i
  exact kdx_eq (aDh m c) (aDy m c) (aX m c) (aM m c) (aG m c) _ (v69_4 m c) (i 0) (i 1)

theorem k_doa : ((dats m 0 c).arrAt 16 cfg0.N : FVec Ideal S16384x512 .bf16) = fun i => doa (aDh m c) (aDy m c) (aX m c) (aO m c) (aM m c) (aG m c) (aba m c) (aW m c) (i 0) (i 1) := by
  refine (out_do m c _ _ _ _ _ _ _ _ (V_main_arg0 m c) (V_main_arg1 m c) rfl (V_main_arg3 m c) rfl (V_main_arg6 m c) (V_main_arg7 m c) rfl).trans ?_
  funext i
  exact kdo_eq (aDh m c) (aDy m c) (aX m c) (aO m c) (aM m c) (aG m c) (aba m c) (aW m c) _ _ (v69_2 m c) (v69_4 m c) (v71_eq m c) (i 0) (i 1)

/-- What the call leaves in its first accumulator. -/
theorem k_accD : (WV m c (Proc.devRef .tc main_v72_4) : FVec Ideal S4x8x1024 .f32) = fun i =>
    accD (aDh m c) (aDy m c) (aX m c) (V m c main_v67) (V m c main_v69) (aG m c) (i 0) (i 1) (i 2) :=
  (wv_d m c).trans (out_accD m c _ _ _ _ _ _ (V_main_arg0 m c) (V_main_arg1 m c) rfl rfl rfl (V_main_arg6 m c))

/-- What the call leaves in its second accumulator's first two pages. -/
theorem k_accH (k : Fin 4) (hk : (k : ℕ) < 2) (r : Fin 8) (d : Fin 512) : (WV m c (Proc.devRef .tc main_v72_5) : FVec Ideal S4x8x512 .f32) (ix3 k r d)
    = accH (aDh m c) (aDy m c) (aX m c) (aO m c) (aU m c) (V m c main_v69) (aG m c) (alg m c) (alb m c) (V m c main_v71) k r d :=
  (congrFun (wv_h m c) (ix3 k r d)).trans (out_accH m c _ _ _ _ _ _ _ _ _ _ (V_main_arg0 m c) (V_main_arg1 m c) rfl (V_main_arg3 m c) (V_main_arg4 m c) rfl (V_main_arg6 m c) (V_main_arg9 m c) (V_main_arg10 m c) rfl k hk r d)

theorem k_dsh : (StableHlo.after [hostOps1].flatten (WV m c) (Proc.devRef .tc main_v76) : FVec Ideal S1x1024 .f32) = fun i => dsh (aDh m c) (i 1) := by
  funext i
  idx_vars i
  rw [show i0 = 0 from Subsingleton.elim _ _, w_v76, k_accD]
  exact sum_sh (aDh m c) (aDy m c) (aX m c) _ (aG m c) _ i1

theorem k_dsc : (StableHlo.after [hostOps1].flatten (WV m c) (Proc.devRef .tc main_v80) : FVec Ideal S1x1024 .f32) = fun i => dsc (aDh m c) (aX m c) (aG m c) (i 1) := by
  funext i
  idx_vars i
  rw [show i0 = 0 from Subsingleton.elim _ _, w_v80, k_accD]
  exact sum_sc (aDh m c) (aDy m c) (aX m c) _ (aG m c) _ i1

theorem k_dgn : (StableHlo.after [hostOps1].flatten (WV m c) (Proc.devRef .tc main_v84) : FVec Ideal S1x1024 .f32) = fun i => dgn (aDh m c) (aX m c) (aM m c) (i 1) := by
  funext i
  idx_vars i
  rw [show i0 = 0 from Subsingleton.elim _ _, w_v84, k_accD]
  exact sum_gn (aDh m c) (aDy m c) (aX m c) _ (aM m c) (aG m c) _ (v69_4 m c) i1

theorem k_dgt : (StableHlo.after [hostOps1].flatten (WV m c) (Proc.devRef .tc main_v88) : FVec Ideal S1x1024 .f32) = fun i => dgt (aDh m c) (aDy m c) (aX m c) (aM m c) (aG m c) (aP m c) (i 1) := by
  funext i
  idx_vars i
  rw [show i0 = 0 from Subsingleton.elim _ _, w_v88, k_accD]
  exact sum_gt (aDh m c) (aDy m c) (aX m c) _ (aM m c) (aG m c) _ (v69_4 m c) (aP m c) (fun _ _ => rfl) i1

theorem k_dba : (StableHlo.after [hostOps1].flatten (WV m c) (Proc.devRef .tc main_v92) : FVec Ideal S1x512 .f32) = fun i => dba (aDh m c) (aDy m c) (aX m c) (aO m c) (aM m c) (aG m c) (aW m c) (i 1) := by
  funext i
  idx_vars i
  rw [show i0 = 0 from Subsingleton.elim _ _, w_v92]
  refine (pageH_eq 0 _ _ i1 fun r => k_accH m c 0 (by decide) r i1).trans ?_
  exact sum_ba (aDh m c) (aDy m c) (aX m c) (aO m c) (aU m c) (aM m c) (aG m c) (alg m c) (alb m c) (aW m c) _ _ (v69_2 m c) (v69_4 m c) (v71_eq m c) i1

theorem k_dbc : (StableHlo.after [hostOps1].flatten (WV m c) (Proc.devRef .tc main_v96) : FVec Ideal S1x512 .f32) = fun i => dbc (aDh m c) (aDy m c) (aX m c) (aU m c) (aM m c) (aG m c) (alg m c) (alb m c) (aW m c) (i 1) := by
  funext i
  idx_vars i
  rw [show i0 = 0 from Subsingleton.elim _ _, w_v96]
  refine (pageH_eq 1 _ _ i1 fun r => k_accH m c 1 (by decide) r i1).trans ?_
  exact sum_bc (aDh m c) (aDy m c) (aX m c) (aO m c) (aU m c) (aM m c) (aG m c) (alg m c) (alb m c) (aW m c) _ _ (v69_2 m c) (v69_4 m c) (v71_eq m c) i1
end
end Cert.Mid
-- ==== Proof.MidPair.lean ====
module

public import proofs.«01_k».proof.Defs
public import proofs.«01_k».proof.Proof.MidFinal
public import Idealize.ShloMosaic.Lib.Claim

@[expose] public section

set_option maxRecDepth 16384

noncomputable section

namespace Cert.Mid

open Idealize.ShloMosaic Idealize.ShloMosaic.TcCoe Idealize.SL.Sem

instance hK : Cert.BwdMidIdeal.Facts := Cert.BwdMidIdeal.Gen.facts
instance hR : Cert.BwdMidRefIdeal.Facts := Cert.BwdMidRefIdeal.Gen.facts

section
variable (m : (ℓ : Loc Cert.BwdMidIdeal.nD Cert.BwdMidIdeal.τ Cert.BwdMidIdeal.sig) → Buf (Elt Ideal) ℓ)
  (m' : (ℓ : Loc Cert.BwdMidRefIdeal.nD Cert.BwdMidRefIdeal.τ Cert.BwdMidRefIdeal.sig) → Buf (Elt Ideal) ℓ) (c : Dev Cert.BwdMidIdeal.nD)
  (a2 : m' (c, Proc.devRef .tc Cert.BwdMidRefIdeal.main_arg2) = m ((c.tc : Thread Cert.BwdMidIdeal.nD Cert.BwdMidIdeal.τ).loc Cert.BwdMidIdeal.main_arg2))
  (a3 : m' (c, Proc.devRef .tc Cert.BwdMidRefIdeal.main_arg3) = m ((c.tc : Thread Cert.BwdMidIdeal.nD Cert.BwdMidIdeal.τ).loc Cert.BwdMidIdeal.main_arg3))
  (a4 : m' (c, Proc.devRef .tc Cert.BwdMidRefIdeal.main_arg4) = m ((c.tc : Thread Cert.BwdMidIdeal.nD Cert.BwdMidIdeal.τ).loc Cert.BwdMidIdeal.main_arg4))
  (a5 : m' (c, Proc.devRef .tc Cert.BwdMidRefIdeal.main_arg5) = m ((c.tc : Thread Cert.BwdMidIdeal.nD Cert.BwdMidIdeal.τ).loc Cert.BwdMidIdeal.main_arg5))
  (a7 : m' (c, Proc.devRef .tc Cert.BwdMidRefIdeal.main_arg7) = m ((c.tc : Thread Cert.BwdMidIdeal.nD Cert.BwdMidIdeal.τ).loc Cert.BwdMidIdeal.main_arg7))
  (a8 : m' (c, Proc.devRef .tc Cert.BwdMidRefIdeal.main_arg8) = m ((c.tc : Thread Cert.BwdMidIdeal.nD Cert.BwdMidIdeal.τ).loc Cert.BwdMidIdeal.main_arg8))
  (a9 : m' (c, Proc.devRef .tc Cert.BwdMidRefIdeal.main_arg9) = m ((c.tc : Thread Cert.BwdMidIdeal.nD Cert.BwdMidIdeal.τ).loc Cert.BwdMidIdeal.main_arg9))
  (a10 : m' (c, Proc.devRef .tc Cert.BwdMidRefIdeal.main_arg10) = m ((c.tc : Thread Cert.BwdMidIdeal.nD Cert.BwdMidIdeal.τ).loc Cert.BwdMidIdeal.main_arg10))
  (a11 : m' (c, Proc.devRef .tc Cert.BwdMidRefIdeal.main_arg11) = m ((c.tc : Thread Cert.BwdMidIdeal.nD Cert.BwdMidIdeal.τ).loc Cert.BwdMidIdeal.main_arg11))

include a2 a3 a4 a5 a7 a8 a9 a10 a11 in
/-- The two programs compute one stream. -/
theorem x2_eq : RW m' c Cert.BwdMidRefIdeal.main_v61 = aX m c := by
  show _ = Cert.BwdMidIdeal.Gen.V0 m c (Proc.devRef .tc Cert.BwdMidIdeal.main_v53)
  unfold Cert.BwdMidIdeal.Gen.V0
  after_reads_simp
  simp only [a2, a3, a4, a5, a7, a8, a9, a10, a11]
  rfl

include a3 a4 a7 a8 a9 a10 a11 in
/-- The two programs compute one output product. -/
theorem ob_eq : RW m' c Cert.BwdMidRefIdeal.main_v58 = aP m c := by
  show _ = fun i => (Cert.BwdMidIdeal.Gen.V0 m c (Proc.devRef .tc Cert.BwdMidIdeal.main_v67) : FVec Ideal Cert.BwdMidIdeal.S16384x1024 .bf16) i
  unfold Cert.BwdMidIdeal.Gen.V0
  after_reads_simp
  simp only [a3, a4, a7, a8, a9, a10, a11]
  rfl
end

theorem algebraic : Cert.algebraic_BwdMidIdeal_BwdMidRefIdeal := by
  intro m g m' g' _ ag
  refine ⟨fun c => (Cert.BwdMidIdeal.Gen.dats m 0 c).arrAt 14 Cert.BwdMidIdeal.cfg0.N,
    fun c => (Cert.BwdMidIdeal.Gen.dats m 0 c).arrAt 16 Cert.BwdMidIdeal.cfg0.N,
    fun c => StableHlo.after [Cert.BwdMidIdeal.Gen.hostOps1].flatten (WV m c) (Proc.devRef .tc Cert.BwdMidIdeal.main_v76),
    fun c => StableHlo.after [Cert.BwdMidIdeal.Gen.hostOps1].flatten (WV m c) (Proc.devRef .tc Cert.BwdMidIdeal.main_v80),
    fun c => StableHlo.after [Cert.BwdMidIdeal.Gen.hostOps1].flatten (WV m c) (Proc.devRef .tc Cert.BwdMidIdeal.main_v84),
    fun c => StableHlo.after [Cert.BwdMidIdeal.Gen.hostOps1].flatten (WV m c) (Proc.devRef .tc Cert.BwdMidIdeal.main_v88),
    fun c => StableHlo.after [Cert.BwdMidIdeal.Gen.hostOps1].flatten (WV m c) (Proc.devRef .tc Cert.BwdMidIdeal.main_v92),
    fun c => StableHlo.after [Cert.BwdMidIdeal.Gen.hostOps1].flatten (WV m c) (Proc.devRef .tc Cert.BwdMidIdeal.main_v96), ?_, ?_⟩
  · exact run_k m g
  · refine (θ_run _ _ _).mono (fun r h c => ?_) (run_r m' g')
    obtain ⟨h0, h1, h2, h3, h4, h5, h6, h7, ha⟩ := h c
    obtain ⟨a0, a1, a2, a3, a4, a5, a6, a7, a8, a9, a10, a11⟩ := ag c
    have x2 := x2_eq m m' c a2 a3 a4 a5 a7 a8 a9 a10 a11
    have ob := ob_eq m m' c a3 a4 a7 a8 a9 a10 a11
    refine ⟨h0.trans ?_, h1.trans ?_, h2.trans ?_, h3.trans ?_, h4.trans ?_, h5.trans ?_, h6.trans ?_, h7.trans ?_, ha⟩
    · refine Eq.trans ?_ (k_dx m c).symm
      funext i; idx_vars i; exact ref_dx m' c _ _ _ _ _ _ _ _ _ _ _ _ a0 a1 a3 a4 a5 a6 a7 a9 a10 a11 x2 ob i0 i1
    · refine Eq.trans ?_ (k_doa m c).symm
      funext i; idx_vars i; exact ref_doa m' c _ _ _ _ _ _ _ _ _ _ _ _ a0 a1 a3 a4 a5 a6 a7 a9 a10 a11 x2 ob i0 i1
    · refine Eq.trans ?_ (k_dsh m c).symm
      funext i; idx_vars i; rw [show i0 = 0 from Subsingleton.elim _ _]; exact ref_dsh m' c _ _ _ _ _ _ _ _ _ _ _ _ a0 a1 a3 a4 a5 a6 a7 a9 a10 a11 x2 ob i1
    · refine Eq.trans ?_ (k_dsc m c).symm
      funext i; idx_vars i; rw [show i0 = 0 from Subsingleton.elim _ _]; exact ref_dsc m' c _ _ _ _ _ _ _ _ _ _ _ _ a0 a1 a3 a4 a5 a6 a7 a9 a10 a11 x2 ob i1
    · refine Eq.trans ?_ (k_dgn m c).symm
      funext i; idx_vars i; rw [show i0 = 0 from Subsingleton.elim _ _]; exact ref_dgn m' c _ _ _ _ _ _ _ _ _ _ _ _ a0 a1 a3 a4 a5 a6 a7 a9 a10 a11 x2 ob i1
    · refine Eq.trans ?_ (k_dgt m c).symm
      funext i; idx_vars i; rw [show i0 = 0 from Subsingleton.elim _ _]; exact ref_dgt m' c _ _ _ _ _ _ _ _ _ _ _ _ a0 a1 a3 a4 a5 a6 a7 a9 a10 a11 x2 ob i1
    · refine Eq.trans ?_ (k_dba m c).symm
      funext i; idx_vars i; rw [show i0 = 0 from Subsingleton.elim _ _]; exact ref_dba m' c _ _ _ _ _ _ _ _ _ _ _ _ a0 a1 a3 a4 a5 a6 a7 a9 a10 a11 x2 ob i1
    · refine Eq.trans ?_ (k_dbc m c).symm
      funext i; idx_vars i; rw [show i0 = 0 from Subsingleton.elim _ _]; exact ref_dbc m' c _ _ _ _ _ _ _ _ _ _ _ _ a0 a1 a3 a4 a5 a6 a7 a9 a10 a11 x2 ob i1

/-- The reference's runs leave its arguments as launched. -/
theorem frame_r : Cert.quiescent_BwdMidRefIdeal := by
  intro m g _
  refine (θ_run _ _ _).mono (fun r h => ⟨fun c => ?_, funext fun s => ?_⟩) (run_r m g)
  · obtain ⟨-, -, -, -, -, -, -, -, ha⟩ := h c
    exact ha
  · exact congrFun (sem_eq_zero_of_no_sems (by decide) r.2) s

end Cert.Mid
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Run
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdIn.Frame
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInRefIdeal
public import proofs.«01_k».proof.Proof.Gen.BwdInRefIdeal.Run
public import proofs.«01_k».proof.Proof.Gen.BwdMid
public import proofs.«01_k».proof.Proof.Gen.BwdMid.Skeleton
public import proofs.«01_k».proof.Proof.Gen.BwdMid.Launch
public import proofs.«01_k».proof.Proof.Gen.BwdMid.Points
public import proofs.«01_k».proof.Proof.Gen.BwdMid.Frame
public import proofs.«01_k».proof.Proof.Gen.BwdMidIdeal
public import proofs.«01_k».proof.Proof.Gen.BwdMidIdeal.Skeleton
public import proofs.«01_k».proof.Proof.Gen.BwdMidIdeal.Launch
public import proofs.«01_k».proof.Proof.Gen.BwdMidIdeal.Points
public import proofs.«01_k».proof.Proof.Gen.BwdMidIdeal.Frame
public import proofs.«01_k».proof.Proof.Gen.BwdMidRefIdeal
public import proofs.«01_k».proof.Proof.Gen.BwdMidRefIdeal.Run
public import proofs.«01_k».proof.Proof.FfnPair
public import proofs.«01_k».proof.Proof.AttnPair
public import proofs.«01_k».proof.Proof.BinPair
public import proofs.«01_k».proof.Proof.MidPair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.Gen.facts, Cert.AttnIdeal.Gen.facts, Cert.AttnRefIdeal.Gen.facts,
  Cert.BwdIn.Gen.facts, Cert.BwdInIdeal.Gen.facts, Cert.BwdInRefIdeal.Gen.facts,
  Cert.BwdMid.Gen.facts, Cert.BwdMidIdeal.Gen.facts, Cert.BwdMidRefIdeal.Gen.facts, Cert.AttnE.pre_facts,
  fun m ρ _ => Cert.Kernel.Gen.frame m ρ, fun m ρ _ => Cert.KernelIdeal.Gen.frame m ρ, Cert.Ffn.frame_r,
  Cert.AttnP.frame_p, Cert.AttnP.frame_pi, Cert.AttnP.frame_pi_pre, Cert.AttnP.frame_ri, Cert.AttnP.frame_ri_pre,
  fun m ρ _ => Cert.BwdIn.Gen.frame m ρ, fun m ρ _ => Cert.BwdInIdeal.Gen.frame m ρ, Cert.Bin.frame_r,
  fun m ρ _ => Cert.BwdMid.Gen.frame m ρ, fun m ρ _ => Cert.BwdMidIdeal.Gen.frame m ρ, Cert.Mid.frame_r,
  trivial, Cert.Ffn.algebraic, Cert.AttnP.preserves, Cert.AttnP.algebraic,
  trivial, Cert.Bin.algebraic,
  trivial, Cert.Mid.algebraic⟩

end Cert.Proof

end
